-- ==== Defs.lean ====
def Pre_S5Step (m : (ℓ : Loc Cert.S5Step.nD Cert.S5Step.τ Cert.S5Step.sig) → Buf (Elt Bits) ℓ) : Prop :=
  True

def Pre_S5StepIdeal (m : (ℓ : Loc Cert.S5StepIdeal.nD Cert.S5StepIdeal.τ Cert.S5StepIdeal.sig) → Buf (Elt Ideal) ℓ) : Prop :=
  True

def Pre_S5StepRefIdeal (m : (ℓ : Loc Cert.S5StepRefIdeal.nD Cert.S5StepRefIdeal.τ Cert.S5StepRefIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_KProjRefIdeal (m : (ℓ : Loc Cert.KProjRefIdeal.nD Cert.KProjRefIdeal.τ Cert.KProjRefIdeal.sig) → Buf (Elt Ideal) ℓ) : Prop :=
  True

def Pre_VProj (m : (ℓ : Loc Cert.VProj.nD Cert.VProj.τ Cert.VProj.sig) → Buf (Elt Bits) ℓ) : Prop :=
  True

def Pre_VProjIdeal (m : (ℓ : Loc Cert.VProjIdeal.nD Cert.VProjIdeal.τ Cert.VProjIdeal.sig) → Buf (Elt Ideal) ℓ) : Prop :=
  True

def Pre_VProjRefIdeal (m : (ℓ : Loc Cert.VProjRefIdeal.nD Cert.VProjRefIdeal.τ Cert.VProjRefIdeal.sig) → Buf (Elt Ideal) ℓ) : Prop :=
  True

def Pre_KNew (m : (ℓ : Loc Cert.KNew.nD Cert.KNew.τ Cert.KNew.sig) → Buf (Elt Bits) ℓ) : Prop :=
  True

def Pre_KNewIdeal (m : (ℓ : Loc Cert.KNewIdeal.nD Cert.KNewIdeal.τ Cert.KNewIdeal.sig) → Buf (Elt Ideal) ℓ) : Prop :=
  True

def Pre_KNewRefIdeal (m : (ℓ : Loc Cert.KNewRefIdeal.nD Cert.KNewRefIdeal.τ Cert.KNewRefIdeal.sig) → Buf (Elt Ideal) ℓ) : Prop :=
  True

def Pre_VNew (m : (ℓ : Loc Cert.VNew.nD Cert.VNew.τ Cert.VNew.sig) → Buf (Elt Bits) ℓ) : Prop :=
  True

def Pre_VNewIdeal (m : (ℓ : Loc Cert.VNewIdeal.nD Cert.VNewIdeal.τ Cert.VNewIdeal.sig) → Buf (Elt Ideal) ℓ) : Prop :=
  True

def Pre_VNewRefIdeal (m : (ℓ : Loc Cert.VNewRefIdeal.nD Cert.VNewRefIdeal.τ Cert.VNewRefIdeal.sig) → Buf (Elt Ideal) ℓ) : Prop :=
  True

def Pre_UProj (m : (ℓ : Loc Cert.UProj.nD Cert.UProj.τ Cert.UProj.sig) → Buf (Elt Bits) ℓ) : Prop :=
  True

def Pre_UProjIdeal (m : (ℓ : Loc Cert.UProjIdeal.nD Cert.UProjIdeal.τ Cert.UProjIdeal.sig) → Buf (Elt Ideal) ℓ) : Prop :=
  True

def Pre_UProjRefIdeal (m : (ℓ : Loc Cert.UProjRefIdeal.nD Cert.UProjRefIdeal.τ Cert.UProjRefIdeal.sig) → Buf (Elt Ideal) ℓ) : Prop :=
  True

def Pre_GaProj (m : (ℓ : Loc Cert.GaProj.nD Cert.GaProj.τ Cert.GaProj.sig) → Buf (Elt Bits) ℓ) : Prop :=
  True

def Pre_GaProjIdeal (m : (ℓ : Loc Cert.GaProjIdeal.nD Cert.GaProjIdeal.τ Cert.GaProjIdeal.sig) → Buf (Elt Ideal) ℓ) : Prop :=
  True

def Pre_GaProjRefIdeal (m : (ℓ : Loc Cert.GaProjRefIdeal.nD Cert.GaProjRefIdeal.τ Cert.GaProjRefIdeal.sig) → Buf (Elt Ideal) ℓ) : Prop :=
  True

def Pre_GbProj (m : (ℓ : Loc Cert.GbProj.nD Cert.GbProj.τ Cert.GbProj.sig) → Buf (Elt Bits) ℓ) : Prop :=
  True

def Pre_GbProjIdeal (m : (ℓ : Loc Cert.GbProjIdeal.nD Cert.GbProjIdeal.τ Cert.GbProjIdeal.sig) → Buf (Elt Ideal) ℓ) : Prop :=
  True

def Pre_GbProjRefIdeal (m : (ℓ : Loc Cert.GbProjRefIdeal.nD Cert.GbProjRefIdeal.τ Cert.GbProjRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Down [hPre_in_range : Cert.Pre_in_range.Facts] (m : (ℓ : Loc Cert.Down.nD Cert.Down.τ Cert.Down.sig) → Buf (Elt Bits) ℓ) : Prop :=
  ∀ c : Dev Cert.Down.nD,
    (Cert.Pre_in_range.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_in_range : Cert.Pre_in_range.Facts] (m : (ℓ : Loc Cert.DownIdeal.nD Cert.DownIdeal.τ Cert.DownIdeal.sig) → Buf (Elt Ideal) ℓ) : Prop :=
  ∀ c : Dev Cert.DownIdeal.nD,
    (Cert.Pre_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal [hPre_in_range : Cert.Pre_in_range.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_in_range.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_Gate [hPre_in_range_gate : Cert.Pre_in_range_gate.Facts] (m : (ℓ : Loc Cert.Gate.nD Cert.Gate.τ Cert.Gate.sig) → Buf (Elt Bits) ℓ) : Prop :=
  ∀ c : Dev Cert.Gate.nD,
    (Cert.Pre_in_range_gate.fn (F := Bits) (m ((c.tc : Thread Cert.Gate.nD Cert.Gate.τ).loc Cert.Gate.main_arg0)) (m ((c.tc : Thread Cert.Gate.nD Cert.Gate.τ).loc Cert.Gate.main_arg1)) (m ((c.tc : Thread Cert.Gate.nD Cert.Gate.τ).loc Cert.Gate.main_arg2)) (m ((c.tc : Thread Cert.Gate.nD Cert.Gate.τ).loc Cert.Gate.main_arg3)) (m ((c.tc : Thread Cert.Gate.nD Cert.Gate.τ).loc Cert.Gate.main_arg4)) (m ((c.tc : Thread Cert.Gate.nD Cert.Gate.τ).loc Cert.Gate.main_arg5)) (m ((c.tc : Thread Cert.Gate.nD Cert.Gate.τ).loc Cert.Gate.main_arg6))) = (fun _ => 1#1)

def Pre_GateIdeal [hPre_in_range_gate : Cert.Pre_in_range_gate.Facts] (m : (ℓ : Loc Cert.GateIdeal.nD Cert.GateIdeal.τ Cert.GateIdeal.sig) → Buf (Elt Ideal) ℓ) : Prop :=
  ∀ c : Dev Cert.GateIdeal.nD,
    (Cert.Pre_in_range_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6))) = (fun _ => 1#1)

def Pre_GateRefIdeal [hPre_in_range_gate : Cert.Pre_in_range_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_in_range_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6))) = (fun _ => 1#1)

def quiescent_S5Step [hS5Step : Cert.S5Step.Facts] : Prop :=
  ∀ (m : (ℓ : Loc Cert.S5Step.nD Cert.S5Step.τ Cert.S5Step.sig) → Buf (Elt Bits) ℓ) (g : Dev Cert.S5Step.nD → PrngReg), Pre_S5Step m →
    θ_run (Cert.S5Step.defs (F := Bits)) (onTc (τ := Cert.S5Step.τ) (Cert.S5Step.main (F := Bits))) ⟨m, fun _ => 0, g⟩ (fun r => (∀ c : Dev Cert.S5Step.nD,
      r.2.mem ((c.tc : Thread Cert.S5Step.nD Cert.S5Step.τ).loc Cert.S5Step.main_arg0) = m ((c.tc : Thread Cert.S5Step.nD Cert.S5Step.τ).loc Cert.S5Step.main_arg0)
      ∧ r.2.mem ((c.tc : Thread Cert.S5Step.nD Cert.S5Step.τ).loc Cert.S5Step.main_arg1) = m ((c.tc : Thread Cert.S5Step.nD Cert.S5Step.τ).loc Cert.S5Step.main_arg1)
      ∧ r.2.mem ((c.tc : Thread Cert.S5Step.nD Cert.S5Step.τ).loc Cert.S5Step.main_arg2) = m ((c.tc : Thread Cert.S5Step.nD Cert.S5Step.τ).loc Cert.S5Step.main_arg2)
      ∧ r.2.mem ((c.tc : Thread Cert.S5Step.nD Cert.S5Step.τ).loc Cert.S5Step.main_arg3) = m ((c.tc : Thread Cert.S5Step.nD Cert.S5Step.τ).loc Cert.S5Step.main_arg3)
      ∧ r.2.mem ((c.tc : Thread Cert.S5Step.nD Cert.S5Step.τ).loc Cert.S5Step.main_arg4) = m ((c.tc : Thread Cert.S5Step.nD Cert.S5Step.τ).loc Cert.S5Step.main_arg4)
      ∧ r.2.mem ((c.tc : Thread Cert.S5Step.nD Cert.S5Step.τ).loc Cert.S5Step.main_arg5) = m ((c.tc : Thread Cert.S5Step.nD Cert.S5Step.τ).loc Cert.S5Step.main_arg5)
      ∧ r.2.mem ((c.tc : Thread Cert.S5Step.nD Cert.S5Step.τ).loc Cert.S5Step.main_arg6) = m ((c.tc : Thread Cert.S5Step.nD Cert.S5Step.τ).loc Cert.S5Step.main_arg6)
      ∧ r.2.mem ((c.tc : Thread Cert.S5Step.nD Cert.S5Step.τ).loc Cert.S5Step.main_arg7) = m ((c.tc : Thread Cert.S5Step.nD Cert.S5Step.τ).loc Cert.S5Step.main_arg7)
      ∧ r.2.mem ((c.tc : Thread Cert.S5Step.nD Cert.S5Step.τ).loc Cert.S5Step.main_arg8) = m ((c.tc : Thread Cert.S5Step.nD Cert.S5Step.τ).loc Cert.S5Step.main_arg8)
      ∧ r.2.mem ((c.tc : Thread Cert.S5Step.nD Cert.S5Step.τ).loc Cert.S5Step.main_arg9) = m ((c.tc : Thread Cert.S5Step.nD Cert.S5Step.τ).loc Cert.S5Step.main_arg9)
      ∧ r.2.mem ((c.tc : Thread Cert.S5Step.nD Cert.S5Step.τ).loc Cert.S5Step.main_arg10) = m ((c.tc : Thread Cert.S5Step.nD Cert.S5Step.τ).loc Cert.S5Step.main_arg10))
      ∧ r.2.sem = fun _ => 0)

def quiescent_S5StepIdeal [hS5StepIdeal : Cert.S5StepIdeal.Facts] : Prop :=
  ∀ (m : (ℓ : Loc Cert.S5StepIdeal.nD Cert.S5StepIdeal.τ Cert.S5StepIdeal.sig) → Buf (Elt Ideal) ℓ) (g : Dev Cert.S5StepIdeal.nD → PrngReg), Pre_S5StepIdeal m →
    θ_run (Cert.S5StepIdeal.defs (F := Ideal)) (onTc (τ := Cert.S5StepIdeal.τ) (Cert.S5StepIdeal.main (F := Ideal))) ⟨m, fun _ => 0, g⟩ (fun r => (∀ c : Dev Cert.S5StepIdeal.nD,
      r.2.mem ((c.tc : Thread Cert.S5StepIdeal.nD Cert.S5StepIdeal.τ).loc Cert.S5StepIdeal.main_arg0) = m ((c.tc : Thread Cert.S5StepIdeal.nD Cert.S5StepIdeal.τ).loc Cert.S5StepIdeal.main_arg0)
      ∧ r.2.mem ((c.tc : Thread Cert.S5StepIdeal.nD Cert.S5StepIdeal.τ).loc Cert.S5StepIdeal.main_arg1) = m ((c.tc : Thread Cert.S5StepIdeal.nD Cert.S5StepIdeal.τ).loc Cert.S5StepIdeal.main_arg1)
      ∧ r.2.mem ((c.tc : Thread Cert.S5StepIdeal.nD Cert.S5StepIdeal.τ).loc Cert.S5StepIdeal.main_arg2) = m ((c.tc : Thread Cert.S5StepIdeal.nD Cert.S5StepIdeal.τ).loc Cert.S5StepIdeal.main_arg2)
      ∧ r.2.mem ((c.tc : Thread Cert.S5StepIdeal.nD Cert.S5StepIdeal.τ).loc Cert.S5StepIdeal.main_arg3) = m ((c.tc : Thread Cert.S5StepIdeal.nD Cert.S5StepIdeal.τ).loc Cert.S5StepIdeal.main_arg3)
      ∧ r.2.mem ((c.tc : Thread Cert.S5StepIdeal.nD Cert.S5StepIdeal.τ).loc Cert.S5StepIdeal.main_arg4) = m ((c.tc : Thread Cert.S5StepIdeal.nD Cert.S5StepIdeal.τ).loc Cert.S5StepIdeal.main_arg4)
      ∧ r.2.mem ((c.tc : Thread Cert.S5StepIdeal.nD Cert.S5StepIdeal.τ).loc Cert.S5StepIdeal.main_arg5) = m ((c.tc : Thread Cert.S5StepIdeal.nD Cert.S5StepIdeal.τ).loc Cert.S5StepIdeal.main_arg5)
      ∧ r.2.mem ((c.tc : Thread Cert.S5StepIdeal.nD Cert.S5StepIdeal.τ).loc Cert.S5StepIdeal.main_arg6) = m ((c.tc : Thread Cert.S5StepIdeal.nD Cert.S5StepIdeal.τ).loc Cert.S5StepIdeal.main_arg6)
      ∧ r.2.mem ((c.tc : Thread Cert.S5StepIdeal.nD Cert.S5StepIdeal.τ).loc Cert.S5StepIdeal.main_arg7) = m ((c.tc : Thread Cert.S5StepIdeal.nD Cert.S5StepIdeal.τ).loc Cert.S5StepIdeal.main_arg7)
      ∧ r.2.mem ((c.tc : Thread Cert.S5StepIdeal.nD Cert.S5StepIdeal.τ).loc Cert.S5StepIdeal.main_arg8) = m ((c.tc : Thread Cert.S5StepIdeal.nD Cert.S5StepIdeal.τ).loc Cert.S5StepIdeal.main_arg8)
      ∧ r.2.mem ((c.tc : Thread Cert.S5StepIdeal.nD Cert.S5StepIdeal.τ).loc Cert.S5StepIdeal.main_arg9) = m ((c.tc : Thread Cert.S5StepIdeal.nD Cert.S5StepIdeal.τ).loc Cert.S5StepIdeal.main_arg9)
      ∧ r.2.mem ((c.tc : Thread Cert.S5StepIdeal.nD Cert.S5StepIdeal.τ).loc Cert.S5StepIdeal.main_arg10) = m ((c.tc : Thread Cert.S5StepIdeal.nD Cert.S5StepIdeal.τ).loc Cert.S5StepIdeal.main_arg10))
      ∧ r.2.sem = fun _ => 0)

def quiescent_S5StepRefIdeal [hS5StepRefIdeal : Cert.S5StepRefIdeal.Facts] : Prop :=
  ∀ (m : (ℓ : Loc Cert.S5StepRefIdeal.nD Cert.S5StepRefIdeal.τ Cert.S5StepRefIdeal.sig) → Buf (Elt Ideal) ℓ) (g : Dev Cert.S5StepRefIdeal.nD → PrngReg), Pre_S5StepRefIdeal m →
    θ_run (Cert.S5StepRefIdeal.defs (F := Ideal)) (onTc (τ := Cert.S5StepRefIdeal.τ) (Cert.S5StepRefIdeal.main (F := Ideal))) ⟨m, fun _ => 0, g⟩ (fun r => (∀ c : Dev Cert.S5StepRefIdeal.nD,
      r.2.mem ((c.tc : Thread Cert.S5StepRefIdeal.nD Cert.S5StepRefIdeal.τ).loc Cert.S5StepRefIdeal.main_arg0) = m ((c.tc : Thread Cert.S5StepRefIdeal.nD Cert.S5StepRefIdeal.τ).loc Cert.S5StepRefIdeal.main_arg0)
      ∧ r.2.mem ((c.tc : Thread Cert.S5StepRefIdeal.nD Cert.S5StepRefIdeal.τ).loc Cert.S5StepRefIdeal.main_arg1) = m ((c.tc : Thread Cert.S5StepRefIdeal.nD Cert.S5StepRefIdeal.τ).loc Cert.S5StepRefIdeal.main_arg1)
      ∧ r.2.mem ((c.tc : Thread Cert.S5StepRefIdeal.nD Cert.S5StepRefIdeal.τ).loc Cert.S5StepRefIdeal.main_arg2) = m ((c.tc : Thread Cert.S5StepRefIdeal.nD Cert.S5StepRefIdeal.τ).loc Cert.S5StepRefIdeal.main_arg2)
      ∧ r.2.mem ((c.tc : Thread Cert.S5StepRefIdeal.nD Cert.S5StepRefIdeal.τ).loc Cert.S5StepRefIdeal.main_arg3) = m ((c.tc : Thread Cert.S5StepRefIdeal.nD Cert.S5StepRefIdeal.τ).loc Cert.S5StepRefIdeal.main_arg3)
      ∧ r.2.mem ((c.tc : Thread Cert.S5StepRefIdeal.nD Cert.S5StepRefIdeal.τ).loc Cert.S5StepRefIdeal.main_arg4) = m ((c.tc : Thread Cert.S5StepRefIdeal.nD Cert.S5StepRefIdeal.τ).loc Cert.S5StepRefIdeal.main_arg4)
      ∧ r.2.mem ((c.tc : Thread Cert.S5StepRefIdeal.nD Cert.S5StepRefIdeal.τ).loc Cert.S5StepRefIdeal.main_arg5) = m ((c.tc : Thread Cert.S5StepRefIdeal.nD Cert.S5StepRefIdeal.τ).loc Cert.S5StepRefIdeal.main_arg5)
      ∧ r.2.mem ((c.tc : Thread Cert.S5StepRefIdeal.nD Cert.S5StepRefIdeal.τ).loc Cert.S5StepRefIdeal.main_arg6) = m ((c.tc : Thread Cert.S5StepRefIdeal.nD Cert.S5StepRefIdeal.τ).loc Cert.S5StepRefIdeal.main_arg6)
      ∧ r.2.mem ((c.tc : Thread Cert.S5StepRefIdeal.nD Cert.S5StepRefIdeal.τ).loc Cert.S5StepRefIdeal.main_arg7) = m ((c.tc : Thread Cert.S5StepRefIdeal.nD Cert.S5StepRefIdeal.τ).loc Cert.S5StepRefIdeal.main_arg7)
      ∧ r.2.mem ((c.tc : Thread Cert.S5StepRefIdeal.nD Cert.S5StepRefIdeal.τ).loc Cert.S5StepRefIdeal.main_arg8) = m ((c.tc : Thread Cert.S5StepRefIdeal.nD Cert.S5StepRefIdeal.τ).loc Cert.S5StepRefIdeal.main_arg8)
      ∧ r.2.mem ((c.tc : Thread Cert.S5StepRefIdeal.nD Cert.S5StepRefIdeal.τ).loc Cert.S5StepRefIdeal.main_arg9) = m ((c.tc : Thread Cert.S5StepRefIdeal.nD Cert.S5StepRefIdeal.τ).loc Cert.S5StepRefIdeal.main_arg9)
      ∧ r.2.mem ((c.tc : Thread Cert.S5StepRefIdeal.nD Cert.S5StepRefIdeal.τ).loc Cert.S5StepRefIdeal.main_arg10) = m ((c.tc : Thread Cert.S5StepRefIdeal.nD Cert.S5StepRefIdeal.τ).loc Cert.S5StepRefIdeal.main_arg10))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1))
      ∧ r.2.sem = fun _ => 0)

def quiescent_KProjRefIdeal [hKProjRefIdeal : Cert.KProjRefIdeal.Facts] : Prop :=
  ∀ (m : (ℓ : Loc Cert.KProjRefIdeal.nD Cert.KProjRefIdeal.τ Cert.KProjRefIdeal.sig) → Buf (Elt Ideal) ℓ) (g : Dev Cert.KProjRefIdeal.nD → PrngReg), Pre_KProjRefIdeal m →
    θ_run (Cert.KProjRefIdeal.defs (F := Ideal)) (onTc (τ := Cert.KProjRefIdeal.τ) (Cert.KProjRefIdeal.main (F := Ideal))) ⟨m, fun _ => 0, g⟩ (fun r => (∀ c : Dev Cert.KProjRefIdeal.nD,
      r.2.mem ((c.tc : Thread Cert.KProjRefIdeal.nD Cert.KProjRefIdeal.τ).loc Cert.KProjRefIdeal.main_arg0) = m ((c.tc : Thread Cert.KProjRefIdeal.nD Cert.KProjRefIdeal.τ).loc Cert.KProjRefIdeal.main_arg0)
      ∧ r.2.mem ((c.tc : Thread Cert.KProjRefIdeal.nD Cert.KProjRefIdeal.τ).loc Cert.KProjRefIdeal.main_arg1) = m ((c.tc : Thread Cert.KProjRefIdeal.nD Cert.KProjRefIdeal.τ).loc Cert.KProjRefIdeal.main_arg1))
      ∧ r.2.sem = fun _ => 0)

def quiescent_VProj [hVProj : Cert.VProj.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1))
      ∧ r.2.sem = fun _ => 0)

def quiescent_VProjIdeal [hVProjIdeal : Cert.VProjIdeal.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ r.2.sem = fun _ => 0)

def quiescent_VProjRefIdeal [hVProjRefIdeal : Cert.VProjRefIdeal.Facts] : Prop :=
  ∀ (m : (ℓ : Loc Cert.VProjRefIdeal.nD Cert.VProjRefIdeal.τ Cert.VProjRefIdeal.sig) → Buf (Elt Ideal) ℓ) (g : Dev Cert.VProjRefIdeal.nD → PrngReg), Pre_VProjRefIdeal m →
    θ_run (Cert.VProjRefIdeal.defs (F := Ideal)) (onTc (τ := Cert.VProjRefIdeal.τ) (Cert.VProjRefIdeal.main (F := Ideal))) ⟨m, fun _ => 0, g⟩ (fun r => (∀ c : Dev Cert.VProjRefIdeal.nD,
      r.2.mem ((c.tc : Thread Cert.VProjRefIdeal.nD Cert.VProjRefIdeal.τ).loc Cert.VProjRefIdeal.main_arg0) = m ((c.tc : Thread Cert.VProjRefIdeal.nD Cert.VProjRefIdeal.τ).loc Cert.VProjRefIdeal.main_arg0)
      ∧ r.2.mem ((c.tc : Thread Cert.VProjRefIdeal.nD Cert.VProjRefIdeal.τ).loc Cert.VProjRefIdeal.main_arg1) = m ((c.tc : Thread Cert.VProjRefIdeal.nD Cert.VProjRefIdeal.τ).loc Cert.VProjRefIdeal.main_arg1))
      ∧ r.2.sem = fun _ => 0)

def quiescent_KNew [hKNew : Cert.KNew.Facts] : Prop :=
  ∀ (m : (ℓ : Loc Cert.KNew.nD Cert.KNew.τ Cert.KNew.sig) → Buf (Elt Bits) ℓ) (g : Dev Cert.KNew.nD → PrngReg), Pre_KNew m →
    θ_run (Cert.KNew.defs (F := Bits)) (onTc (τ := Cert.KNew.τ) (Cert.KNew.main (F := Bits))) ⟨m, fun _ => 0, g⟩ (fun r => (∀ c : Dev Cert.KNew.nD,
      r.2.mem ((c.tc : Thread Cert.KNew.nD Cert.KNew.τ).loc Cert.KNew.main_arg0) = m ((c.tc : Thread Cert.KNew.nD Cert.KNew.τ).loc Cert.KNew.main_arg0)
      ∧ r.2.mem ((c.tc : Thread Cert.KNew.nD Cert.KNew.τ).loc Cert.KNew.main_arg1) = m ((c.tc : Thread Cert.KNew.nD Cert.KNew.τ).loc Cert.KNew.main_arg1))
      ∧ r.2.sem = fun _ => 0)

def quiescent_KNewIdeal [hKNewIdeal : Cert.KNewIdeal.Facts] : Prop :=
  ∀ (m : (ℓ : Loc Cert.KNewIdeal.nD Cert.KNewIdeal.τ Cert.KNewIdeal.sig) → Buf (Elt Ideal) ℓ) (g : Dev Cert.KNewIdeal.nD → PrngReg), Pre_KNewIdeal m →
    θ_run (Cert.KNewIdeal.defs (F := Ideal)) (onTc (τ := Cert.KNewIdeal.τ) (Cert.KNewIdeal.main (F := Ideal))) ⟨m, fun _ => 0, g⟩ (fun r => (∀ c : Dev Cert.KNewIdeal.nD,
      r.2.mem ((c.tc : Thread Cert.KNewIdeal.nD Cert.KNewIdeal.τ).loc Cert.KNewIdeal.main_arg0) = m ((c.tc : Thread Cert.KNewIdeal.nD Cert.KNewIdeal.τ).loc Cert.KNewIdeal.main_arg0)
      ∧ r.2.mem ((c.tc : Thread Cert.KNewIdeal.nD Cert.KNewIdeal.τ).loc Cert.KNewIdeal.main_arg1) = m ((c.tc : Thread Cert.KNewIdeal.nD Cert.KNewIdeal.τ).loc Cert.KNewIdeal.main_arg1))
      ∧ r.2.sem = fun _ => 0)

def quiescent_KNewRefIdeal [hKNewRefIdeal : Cert.KNewRefIdeal.Facts] : Prop :=
  ∀ (m : (ℓ : Loc Cert.KNewRefIdeal.nD Cert.KNewRefIdeal.τ Cert.KNewRefIdeal.sig) → Buf (Elt Ideal) ℓ) (g : Dev Cert.KNewRefIdeal.nD → PrngReg), Pre_KNewRefIdeal m →
    θ_run (Cert.KNewRefIdeal.defs (F := Ideal)) (onTc (τ := Cert.KNewRefIdeal.τ) (Cert.KNewRefIdeal.main (F := Ideal))) ⟨m, fun _ => 0, g⟩ (fun r => (∀ c : Dev Cert.KNewRefIdeal.nD,
      r.2.mem ((c.tc : Thread Cert.KNewRefIdeal.nD Cert.KNewRefIdeal.τ).loc Cert.KNewRefIdeal.main_arg0) = m ((c.tc : Thread Cert.KNewRefIdeal.nD Cert.KNewRefIdeal.τ).loc Cert.KNewRefIdeal.main_arg0)
      ∧ r.2.mem ((c.tc : Thread Cert.KNewRefIdeal.nD Cert.KNewRefIdeal.τ).loc Cert.KNewRefIdeal.main_arg1) = m ((c.tc : Thread Cert.KNewRefIdeal.nD Cert.KNewRefIdeal.τ).loc Cert.KNewRefIdeal.main_arg1))
      ∧ r.2.sem = fun _ => 0)

def quiescent_VNew [hVNew : Cert.VNew.Facts] : Prop :=
  ∀ (m : (ℓ : Loc Cert.VNew.nD Cert.VNew.τ Cert.VNew.sig) → Buf (Elt Bits) ℓ) (g : Dev Cert.VNew.nD → PrngReg), Pre_VNew m →
    θ_run (Cert.VNew.defs (F := Bits)) (onTc (τ := Cert.VNew.τ) (Cert.VNew.main (F := Bits))) ⟨m, fun _ => 0, g⟩ (fun r => (∀ c : Dev Cert.VNew.nD,
      r.2.mem ((c.tc : Thread Cert.VNew.nD Cert.VNew.τ).loc Cert.VNew.main_arg0) = m ((c.tc : Thread Cert.VNew.nD Cert.VNew.τ).loc Cert.VNew.main_arg0)
      ∧ r.2.mem ((c.tc : Thread Cert.VNew.nD Cert.VNew.τ).loc Cert.VNew.main_arg1) = m ((c.tc : Thread Cert.VNew.nD Cert.VNew.τ).loc Cert.VNew.main_arg1))
      ∧ r.2.sem = fun _ => 0)

def quiescent_VNewIdeal [hVNewIdeal : Cert.VNewIdeal.Facts] : Prop :=
  ∀ (m : (ℓ : Loc Cert.VNewIdeal.nD Cert.VNewIdeal.τ Cert.VNewIdeal.sig) → Buf (Elt Ideal) ℓ) (g : Dev Cert.VNewIdeal.nD → PrngReg), Pre_VNewIdeal m →
    θ_run (Cert.VNewIdeal.defs (F := Ideal)) (onTc (τ := Cert.VNewIdeal.τ) (Cert.VNewIdeal.main (F := Ideal))) ⟨m, fun _ => 0, g⟩ (fun r => (∀ c : Dev Cert.VNewIdeal.nD,
      r.2.mem ((c.tc : Thread Cert.VNewIdeal.nD Cert.VNewIdeal.τ).loc Cert.VNewIdeal.main_arg0) = m ((c.tc : Thread Cert.VNewIdeal.nD Cert.VNewIdeal.τ).loc Cert.VNewIdeal.main_arg0)
      ∧ r.2.mem ((c.tc : Thread Cert.VNewIdeal.nD Cert.VNewIdeal.τ).loc Cert.VNewIdeal.main_arg1) = m ((c.tc : Thread Cert.VNewIdeal.nD Cert.VNewIdeal.τ).loc Cert.VNewIdeal.main_arg1))
      ∧ r.2.sem = fun _ => 0)

def quiescent_VNewRefIdeal [hVNewRefIdeal : Cert.VNewRefIdeal.Facts] : Prop :=
  ∀ (m : (ℓ : Loc Cert.VNewRefIdeal.nD Cert.VNewRefIdeal.τ Cert.VNewRefIdeal.sig) → Buf (Elt Ideal) ℓ) (g : Dev Cert.VNewRefIdeal.nD → PrngReg), Pre_VNewRefIdeal m →
    θ_run (Cert.VNewRefIdeal.defs (F := Ideal)) (onTc (τ := Cert.VNewRefIdeal.τ) (Cert.VNewRefIdeal.main (F := Ideal))) ⟨m, fun _ => 0, g⟩ (fun r => (∀ c : Dev Cert.VNewRefIdeal.nD,
      r.2.mem ((c.tc : Thread Cert.VNewRefIdeal.nD Cert.VNewRefIdeal.τ).loc Cert.VNewRefIdeal.main_arg0) = m ((c.tc : Thread Cert.VNewRefIdeal.nD Cert.VNewRefIdeal.τ).loc Cert.VNewRefIdeal.main_arg0)
      ∧ r.2.mem ((c.tc : Thread Cert.VNewRefIdeal.nD Cert.VNewRefIdeal.τ).loc Cert.VNewRefIdeal.main_arg1) = m ((c.tc : Thread Cert.VNewRefIdeal.nD Cert.VNewRefIdeal.τ).loc Cert.VNewRefIdeal.main_arg1))
      ∧ r.2.sem = fun _ => 0)

def quiescent_UProj [hUProj : Cert.UProj.Facts] : Prop :=
  ∀ (m : (ℓ : Loc Cert.UProj.nD Cert.UProj.τ Cert.UProj.sig) → Buf (Elt Bits) ℓ) (g : Dev Cert.UProj.nD → PrngReg), Pre_UProj m →
    θ_run (Cert.UProj.defs (F := Bits)) (onTc (τ := Cert.UProj.τ) (Cert.UProj.main (F := Bits))) ⟨m, fun _ => 0, g⟩ (fun r => (∀ c : Dev Cert.UProj.nD,
      r.2.mem ((c.tc : Thread Cert.UProj.nD Cert.UProj.τ).loc Cert.UProj.main_arg0) = m ((c.tc : Thread Cert.UProj.nD Cert.UProj.τ).loc Cert.UProj.main_arg0)
      ∧ r.2.mem ((c.tc : Thread Cert.UProj.nD Cert.UProj.τ).loc Cert.UProj.main_arg1) = m ((c.tc : Thread Cert.UProj.nD Cert.UProj.τ).loc Cert.UProj.main_arg1))
      ∧ r.2.sem = fun _ => 0)

def quiescent_UProjIdeal [hUProjIdeal : Cert.UProjIdeal.Facts] : Prop :=
  ∀ (m : (ℓ : Loc Cert.UProjIdeal.nD Cert.UProjIdeal.τ Cert.UProjIdeal.sig) → Buf (Elt Ideal) ℓ) (g : Dev Cert.UProjIdeal.nD → PrngReg), Pre_UProjIdeal m →
    θ_run (Cert.UProjIdeal.defs (F := Ideal)) (onTc (τ := Cert.UProjIdeal.τ) (Cert.UProjIdeal.main (F := Ideal))) ⟨m, fun _ => 0, g⟩ (fun r => (∀ c : Dev Cert.UProjIdeal.nD,
      r.2.mem ((c.tc : Thread Cert.UProjIdeal.nD Cert.UProjIdeal.τ).loc Cert.UProjIdeal.main_arg0) = m ((c.tc : Thread Cert.UProjIdeal.nD Cert.UProjIdeal.τ).loc Cert.UProjIdeal.main_arg0)
      ∧ r.2.mem ((c.tc : Thread Cert.UProjIdeal.nD Cert.UProjIdeal.τ).loc Cert.UProjIdeal.main_arg1) = m ((c.tc : Thread Cert.UProjIdeal.nD Cert.UProjIdeal.τ).loc Cert.UProjIdeal.main_arg1))
      ∧ r.2.sem = fun _ => 0)

def quiescent_UProjRefIdeal [hUProjRefIdeal : Cert.UProjRefIdeal.Facts] : Prop :=
  ∀ (m : (ℓ : Loc Cert.UProjRefIdeal.nD Cert.UProjRefIdeal.τ Cert.UProjRefIdeal.sig) → Buf (Elt Ideal) ℓ) (g : Dev Cert.UProjRefIdeal.nD → PrngReg), Pre_UProjRefIdeal m →
    θ_run (Cert.UProjRefIdeal.defs (F := Ideal)) (onTc (τ := Cert.UProjRefIdeal.τ) (Cert.UProjRefIdeal.main (F := Ideal))) ⟨m, fun _ => 0, g⟩ (fun r => (∀ c : Dev Cert.UProjRefIdeal.nD,
      r.2.mem ((c.tc : Thread Cert.UProjRefIdeal.nD Cert.UProjRefIdeal.τ).loc Cert.UProjRefIdeal.main_arg0) = m ((c.tc : Thread Cert.UProjRefIdeal.nD Cert.UProjRefIdeal.τ).loc Cert.UProjRefIdeal.main_arg0)
      ∧ r.2.mem ((c.tc : Thread Cert.UProjRefIdeal.nD Cert.UProjRefIdeal.τ).loc Cert.UProjRefIdeal.main_arg1) = m ((c.tc : Thread Cert.UProjRefIdeal.nD Cert.UProjRefIdeal.τ).loc Cert.UProjRefIdeal.main_arg1))
      ∧ r.2.sem = fun _ => 0)

def quiescent_GaProj [hGaProj : Cert.GaProj.Facts] : Prop :=
  ∀ (m : (ℓ : Loc Cert.GaProj.nD Cert.GaProj.τ Cert.GaProj.sig) → Buf (Elt Bits) ℓ) (g : Dev Cert.GaProj.nD → PrngReg), Pre_GaProj m →
    θ_run (Cert.GaProj.defs (F := Bits)) (onTc (τ := Cert.GaProj.τ) (Cert.GaProj.main (F := Bits))) ⟨m, fun _ => 0, g⟩ (fun r => (∀ c : Dev Cert.GaProj.nD,
      r.2.mem ((c.tc : Thread Cert.GaProj.nD Cert.GaProj.τ).loc Cert.GaProj.main_arg0) = m ((c.tc : Thread Cert.GaProj.nD Cert.GaProj.τ).loc Cert.GaProj.main_arg0)
      ∧ r.2.mem ((c.tc : Thread Cert.GaProj.nD Cert.GaProj.τ).loc Cert.GaProj.main_arg1) = m ((c.tc : Thread Cert.GaProj.nD Cert.GaProj.τ).loc Cert.GaProj.main_arg1))
      ∧ r.2.sem = fun _ => 0)

def quiescent_GaProjIdeal [hGaProjIdeal : Cert.GaProjIdeal.Facts] : Prop :=
  ∀ (m : (ℓ : Loc Cert.GaProjIdeal.nD Cert.GaProjIdeal.τ Cert.GaProjIdeal.sig) → Buf (Elt Ideal) ℓ) (g : Dev Cert.GaProjIdeal.nD → PrngReg), Pre_GaProjIdeal m →
    θ_run (Cert.GaProjIdeal.defs (F := Ideal)) (onTc (τ := Cert.GaProjIdeal.τ) (Cert.GaProjIdeal.main (F := Ideal))) ⟨m, fun _ => 0, g⟩ (fun r => (∀ c : Dev Cert.GaProjIdeal.nD,
      r.2.mem ((c.tc : Thread Cert.GaProjIdeal.nD Cert.GaProjIdeal.τ).loc Cert.GaProjIdeal.main_arg0) = m ((c.tc : Thread Cert.GaProjIdeal.nD Cert.GaProjIdeal.τ).loc Cert.GaProjIdeal.main_arg0)
      ∧ r.2.mem ((c.tc : Thread Cert.GaProjIdeal.nD Cert.GaProjIdeal.τ).loc Cert.GaProjIdeal.main_arg1) = m ((c.tc : Thread Cert.GaProjIdeal.nD Cert.GaProjIdeal.τ).loc Cert.GaProjIdeal.main_arg1))
      ∧ r.2.sem = fun _ => 0)

def quiescent_GaProjRefIdeal [hGaProjRefIdeal : Cert.GaProjRefIdeal.Facts] : Prop :=
  ∀ (m : (ℓ : Loc Cert.GaProjRefIdeal.nD Cert.GaProjRefIdeal.τ Cert.GaProjRefIdeal.sig) → Buf (Elt Ideal) ℓ) (g : Dev Cert.GaProjRefIdeal.nD → PrngReg), Pre_GaProjRefIdeal m →
    θ_run (Cert.GaProjRefIdeal.defs (F := Ideal)) (onTc (τ := Cert.GaProjRefIdeal.τ) (Cert.GaProjRefIdeal.main (F := Ideal))) ⟨m, fun _ => 0, g⟩ (fun r => (∀ c : Dev Cert.GaProjRefIdeal.nD,
      r.2.mem ((c.tc : Thread Cert.GaProjRefIdeal.nD Cert.GaProjRefIdeal.τ).loc Cert.GaProjRefIdeal.main_arg0) = m ((c.tc : Thread Cert.GaProjRefIdeal.nD Cert.GaProjRefIdeal.τ).loc Cert.GaProjRefIdeal.main_arg0)
      ∧ r.2.mem ((c.tc : Thread Cert.GaProjRefIdeal.nD Cert.GaProjRefIdeal.τ).loc Cert.GaProjRefIdeal.main_arg1) = m ((c.tc : Thread Cert.GaProjRefIdeal.nD Cert.GaProjRefIdeal.τ).loc Cert.GaProjRefIdeal.main_arg1))
      ∧ r.2.sem = fun _ => 0)

def quiescent_GbProj [hGbProj : Cert.GbProj.Facts] : Prop :=
  ∀ (m : (ℓ : Loc Cert.GbProj.nD Cert.GbProj.τ Cert.GbProj.sig) → Buf (Elt Bits) ℓ) (g : Dev Cert.GbProj.nD → PrngReg), Pre_GbProj m →
    θ_run (Cert.GbProj.defs (F := Bits)) (onTc (τ := Cert.GbProj.τ) (Cert.GbProj.main (F := Bits))) ⟨m, fun _ => 0, g⟩ (fun r => (∀ c : Dev Cert.GbProj.nD,
      r.2.mem ((c.tc : Thread Cert.GbProj.nD Cert.GbProj.τ).loc Cert.GbProj.main_arg0) = m ((c.tc : Thread Cert.GbProj.nD Cert.GbProj.τ).loc Cert.GbProj.main_arg0)
      ∧ r.2.mem ((c.tc : Thread Cert.GbProj.nD Cert.GbProj.τ).loc Cert.GbProj.main_arg1) = m ((c.tc : Thread Cert.GbProj.nD Cert.GbProj.τ).loc Cert.GbProj.main_arg1))
      ∧ r.2.sem = fun _ => 0)

def quiescent_GbProjIdeal [hGbProjIdeal : Cert.GbProjIdeal.Facts] : Prop :=
  ∀ (m : (ℓ : Loc Cert.GbProjIdeal.nD Cert.GbProjIdeal.τ Cert.GbProjIdeal.sig) → Buf (Elt Ideal) ℓ) (g : Dev Cert.GbProjIdeal.nD → PrngReg), Pre_GbProjIdeal m →
    θ_run (Cert.GbProjIdeal.defs (F := Ideal)) (onTc (τ := Cert.GbProjIdeal.τ) (Cert.GbProjIdeal.main (F := Ideal))) ⟨m, fun _ => 0, g⟩ (fun r => (∀ c : Dev Cert.GbProjIdeal.nD,
      r.2.mem ((c.tc : Thread Cert.GbProjIdeal.nD Cert.GbProjIdeal.τ).loc Cert.GbProjIdeal.main_arg0) = m ((c.tc : Thread Cert.GbProjIdeal.nD Cert.GbProjIdeal.τ).loc Cert.GbProjIdeal.main_arg0)
      ∧ r.2.mem ((c.tc : Thread Cert.GbProjIdeal.nD Cert.GbProjIdeal.τ).loc Cert.GbProjIdeal.main_arg1) = m ((c.tc : Thread Cert.GbProjIdeal.nD Cert.GbProjIdeal.τ).loc Cert.GbProjIdeal.main_arg1))
      ∧ r.2.sem = fun _ => 0)

def quiescent_GbProjRefIdeal [hGbProjRefIdeal : Cert.GbProjRefIdeal.Facts] : Prop :=
  ∀ (m : (ℓ : Loc Cert.GbProjRefIdeal.nD Cert.GbProjRefIdeal.τ Cert.GbProjRefIdeal.sig) → Buf (Elt Ideal) ℓ) (g : Dev Cert.GbProjRefIdeal.nD → PrngReg), Pre_GbProjRefIdeal m →
    θ_run (Cert.GbProjRefIdeal.defs (F := Ideal)) (onTc (τ := Cert.GbProjRefIdeal.τ) (Cert.GbProjRefIdeal.main (F := Ideal))) ⟨m, fun _ => 0, g⟩ (fun r => (∀ c : Dev Cert.GbProjRefIdeal.nD,
      r.2.mem ((c.tc : Thread Cert.GbProjRefIdeal.nD Cert.GbProjRefIdeal.τ).loc Cert.GbProjRefIdeal.main_arg0) = m ((c.tc : Thread Cert.GbProjRefIdeal.nD Cert.GbProjRefIdeal.τ).loc Cert.GbProjRefIdeal.main_arg0)
      ∧ r.2.mem ((c.tc : Thread Cert.GbProjRefIdeal.nD Cert.GbProjRefIdeal.τ).loc Cert.GbProjRefIdeal.main_arg1) = m ((c.tc : Thread Cert.GbProjRefIdeal.nD Cert.GbProjRefIdeal.τ).loc Cert.GbProjRefIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_Down [hDown : Cert.Down.Facts] [hPre_in_range : Cert.Pre_in_range.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_in_range : Cert.Pre_in_range.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] [hPre_in_range : Cert.Pre_in_range.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Gate [hGate : Cert.Gate.Facts] [hPre_in_range_gate : Cert.Pre_in_range_gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] [hPre_in_range_gate : Cert.Pre_in_range_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateRefIdeal [hGateRefIdeal : Cert.GateRefIdeal.Facts] [hPre_in_range_gate : Cert.Pre_in_range_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def preserves_S5Step_S5StepIdeal : Prop :=
  True

def algebraic_S5StepIdeal_S5StepRefIdeal [hS5StepIdeal : Cert.S5StepIdeal.Facts] [hS5StepRefIdeal : Cert.S5StepRefIdeal.Facts] : Prop :=
  ∀ (m : (ℓ : Loc Cert.S5StepIdeal.nD Cert.S5StepIdeal.τ Cert.S5StepIdeal.sig) → Buf (Elt Ideal) ℓ) (g : Dev Cert.S5StepIdeal.nD → PrngReg)
    (m' : (ℓ : Loc Cert.S5StepRefIdeal.nD Cert.S5StepRefIdeal.τ Cert.S5StepRefIdeal.sig) → Buf (Elt Ideal) ℓ) (g' : Dev Cert.S5StepRefIdeal.nD → PrngReg), Pre_S5StepIdeal m →
    (∀ c : Dev Cert.S5StepIdeal.nD,
      m' ((c.tc : Thread Cert.S5StepRefIdeal.nD Cert.S5StepRefIdeal.τ).loc Cert.S5StepRefIdeal.main_arg0) = m ((c.tc : Thread Cert.S5StepIdeal.nD Cert.S5StepIdeal.τ).loc Cert.S5StepIdeal.main_arg0)
      ∧ m' ((c.tc : Thread Cert.S5StepRefIdeal.nD Cert.S5StepRefIdeal.τ).loc Cert.S5StepRefIdeal.main_arg1) = m ((c.tc : Thread Cert.S5StepIdeal.nD Cert.S5StepIdeal.τ).loc Cert.S5StepIdeal.main_arg1)
      ∧ m' ((c.tc : Thread Cert.S5StepRefIdeal.nD Cert.S5StepRefIdeal.τ).loc Cert.S5StepRefIdeal.main_arg2) = m ((c.tc : Thread Cert.S5StepIdeal.nD Cert.S5StepIdeal.τ).loc Cert.S5StepIdeal.main_arg2)
      ∧ m' ((c.tc : Thread Cert.S5StepRefIdeal.nD Cert.S5StepRefIdeal.τ).loc Cert.S5StepRefIdeal.main_arg3) = m ((c.tc : Thread Cert.S5StepIdeal.nD Cert.S5StepIdeal.τ).loc Cert.S5StepIdeal.main_arg3)
      ∧ m' ((c.tc : Thread Cert.S5StepRefIdeal.nD Cert.S5StepRefIdeal.τ).loc Cert.S5StepRefIdeal.main_arg4) = m ((c.tc : Thread Cert.S5StepIdeal.nD Cert.S5StepIdeal.τ).loc Cert.S5StepIdeal.main_arg4)
      ∧ m' ((c.tc : Thread Cert.S5StepRefIdeal.nD Cert.S5StepRefIdeal.τ).loc Cert.S5StepRefIdeal.main_arg5) = m ((c.tc : Thread Cert.S5StepIdeal.nD Cert.S5StepIdeal.τ).loc Cert.S5StepIdeal.main_arg5)
      ∧ m' ((c.tc : Thread Cert.S5StepRefIdeal.nD Cert.S5StepRefIdeal.τ).loc Cert.S5StepRefIdeal.main_arg6) = m ((c.tc : Thread Cert.S5StepIdeal.nD Cert.S5StepIdeal.τ).loc Cert.S5StepIdeal.main_arg6)
      ∧ m' ((c.tc : Thread Cert.S5StepRefIdeal.nD Cert.S5StepRefIdeal.τ).loc Cert.S5StepRefIdeal.main_arg7) = m ((c.tc : Thread Cert.S5StepIdeal.nD Cert.S5StepIdeal.τ).loc Cert.S5StepIdeal.main_arg7)
      ∧ m' ((c.tc : Thread Cert.S5StepRefIdeal.nD Cert.S5StepRefIdeal.τ).loc Cert.S5StepRefIdeal.main_arg8) = m ((c.tc : Thread Cert.S5StepIdeal.nD Cert.S5StepIdeal.τ).loc Cert.S5StepIdeal.main_arg8)
      ∧ m' ((c.tc : Thread Cert.S5StepRefIdeal.nD Cert.S5StepRefIdeal.τ).loc Cert.S5StepRefIdeal.main_arg9) = m ((c.tc : Thread Cert.S5StepIdeal.nD Cert.S5StepIdeal.τ).loc Cert.S5StepIdeal.main_arg9)
      ∧ m' ((c.tc : Thread Cert.S5StepRefIdeal.nD Cert.S5StepRefIdeal.τ).loc Cert.S5StepRefIdeal.main_arg10) = m ((c.tc : Thread Cert.S5StepIdeal.nD Cert.S5StepIdeal.τ).loc Cert.S5StepIdeal.main_arg10)) →
    ∃ (v0 : (c : Dev Cert.S5StepIdeal.nD) → Buf (Elt Ideal) ((c.tc : Thread Cert.S5StepIdeal.nD Cert.S5StepIdeal.τ).loc Cert.S5StepIdeal.main_v97_1)) (v1 : (c : Dev Cert.S5StepIdeal.nD) → Buf (Elt Ideal) ((c.tc : Thread Cert.S5StepIdeal.nD Cert.S5StepIdeal.τ).loc Cert.S5StepIdeal.main_v97_2)),
      θ_run (Cert.S5StepIdeal.defs (F := Ideal)) (onTc (τ := Cert.S5StepIdeal.τ) (Cert.S5StepIdeal.main (F := Ideal))) ⟨m, fun _ => 0, g⟩ (fun r => ∀ c : Dev Cert.S5StepIdeal.nD,
          r.2.mem ((c.tc : Thread Cert.S5StepIdeal.nD Cert.S5StepIdeal.τ).loc Cert.S5StepIdeal.main_v97_1) = v0 c
          ∧ r.2.mem ((c.tc : Thread Cert.S5StepIdeal.nD Cert.S5StepIdeal.τ).loc Cert.S5StepIdeal.main_v97_2) = v1 c
          ∧ r.2.mem ((c.tc : Thread Cert.S5StepIdeal.nD Cert.S5StepIdeal.τ).loc Cert.S5StepIdeal.main_arg0) = m ((c.tc : Thread Cert.S5StepIdeal.nD Cert.S5StepIdeal.τ).loc Cert.S5StepIdeal.main_arg0)
          ∧ r.2.mem ((c.tc : Thread Cert.S5StepIdeal.nD Cert.S5StepIdeal.τ).loc Cert.S5StepIdeal.main_arg1) = m ((c.tc : Thread Cert.S5StepIdeal.nD Cert.S5StepIdeal.τ).loc Cert.S5StepIdeal.main_arg1)
          ∧ r.2.mem ((c.tc : Thread Cert.S5StepIdeal.nD Cert.S5StepIdeal.τ).loc Cert.S5StepIdeal.main_arg2) = m ((c.tc : Thread Cert.S5StepIdeal.nD Cert.S5StepIdeal.τ).loc Cert.S5StepIdeal.main_arg2)
          ∧ r.2.mem ((c.tc : Thread Cert.S5StepIdeal.nD Cert.S5StepIdeal.τ).loc Cert.S5StepIdeal.main_arg3) = m ((c.tc : Thread Cert.S5StepIdeal.nD Cert.S5StepIdeal.τ).loc Cert.S5StepIdeal.main_arg3)
          ∧ r.2.mem ((c.tc : Thread Cert.S5StepIdeal.nD Cert.S5StepIdeal.τ).loc Cert.S5StepIdeal.main_arg4) = m ((c.tc : Thread Cert.S5StepIdeal.nD Cert.S5StepIdeal.τ).loc Cert.S5StepIdeal.main_arg4)
          ∧ r.2.mem ((c.tc : Thread Cert.S5StepIdeal.nD Cert.S5StepIdeal.τ).loc Cert.S5StepIdeal.main_arg5) = m ((c.tc : Thread Cert.S5StepIdeal.nD Cert.S5StepIdeal.τ).loc Cert.S5StepIdeal.main_arg5)
          ∧ r.2.mem ((c.tc : Thread Cert.S5StepIdeal.nD Cert.S5StepIdeal.τ).loc Cert.S5StepIdeal.main_arg6) = m ((c.tc : Thread Cert.S5StepIdeal.nD Cert.S5StepIdeal.τ).loc Cert.S5StepIdeal.main_arg6)
          ∧ r.2.mem ((c.tc : Thread Cert.S5StepIdeal.nD Cert.S5StepIdeal.τ).loc Cert.S5StepIdeal.main_arg7) = m ((c.tc : Thread Cert.S5StepIdeal.nD Cert.S5StepIdeal.τ).loc Cert.S5StepIdeal.main_arg7)
          ∧ r.2.mem ((c.tc : Thread Cert.S5StepIdeal.nD Cert.S5StepIdeal.τ).loc Cert.S5StepIdeal.main_arg8) = m ((c.tc : Thread Cert.S5StepIdeal.nD Cert.S5StepIdeal.τ).loc Cert.S5StepIdeal.main_arg8)
          ∧ r.2.mem ((c.tc : Thread Cert.S5StepIdeal.nD Cert.S5StepIdeal.τ).loc Cert.S5StepIdeal.main_arg9) = m ((c.tc : Thread Cert.S5StepIdeal.nD Cert.S5StepIdeal.τ).loc Cert.S5StepIdeal.main_arg9)
          ∧ r.2.mem ((c.tc : Thread Cert.S5StepIdeal.nD Cert.S5StepIdeal.τ).loc Cert.S5StepIdeal.main_arg10) = m ((c.tc : Thread Cert.S5StepIdeal.nD Cert.S5StepIdeal.τ).loc Cert.S5StepIdeal.main_arg10))
      ∧ θ_run (Cert.S5StepRefIdeal.defs (F := Ideal)) (onTc (τ := Cert.S5StepRefIdeal.τ) (Cert.S5StepRefIdeal.main (F := Ideal))) ⟨m', fun _ => 0, g'⟩ (fun r => ∀ c : Dev Cert.S5StepRefIdeal.nD,
          r.2.mem ((c.tc : Thread Cert.S5StepRefIdeal.nD Cert.S5StepRefIdeal.τ).loc Cert.S5StepRefIdeal.main_v59) = v0 c
          ∧ r.2.mem ((c.tc : Thread Cert.S5StepRefIdeal.nD Cert.S5StepRefIdeal.τ).loc Cert.S5StepRefIdeal.main_v60) = v1 c
          ∧ r.2.mem ((c.tc : Thread Cert.S5StepRefIdeal.nD Cert.S5StepRefIdeal.τ).loc Cert.S5StepRefIdeal.main_arg0) = m' ((c.tc : Thread Cert.S5StepRefIdeal.nD Cert.S5StepRefIdeal.τ).loc Cert.S5StepRefIdeal.main_arg0)
          ∧ r.2.mem ((c.tc : Thread Cert.S5StepRefIdeal.nD Cert.S5StepRefIdeal.τ).loc Cert.S5StepRefIdeal.main_arg1) = m' ((c.tc : Thread Cert.S5StepRefIdeal.nD Cert.S5StepRefIdeal.τ).loc Cert.S5StepRefIdeal.main_arg1)
          ∧ r.2.mem ((c.tc : Thread Cert.S5StepRefIdeal.nD Cert.S5StepRefIdeal.τ).loc Cert.S5StepRefIdeal.main_arg2) = m' ((c.tc : Thread Cert.S5StepRefIdeal.nD Cert.S5StepRefIdeal.τ).loc Cert.S5StepRefIdeal.main_arg2)
          ∧ r.2.mem ((c.tc : Thread Cert.S5StepRefIdeal.nD Cert.S5StepRefIdeal.τ).loc Cert.S5StepRefIdeal.main_arg3) = m' ((c.tc : Thread Cert.S5StepRefIdeal.nD Cert.S5StepRefIdeal.τ).loc Cert.S5StepRefIdeal.main_arg3)
          ∧ r.2.mem ((c.tc : Thread Cert.S5StepRefIdeal.nD Cert.S5StepRefIdeal.τ).loc Cert.S5StepRefIdeal.main_arg4) = m' ((c.tc : Thread Cert.S5StepRefIdeal.nD Cert.S5StepRefIdeal.τ).loc Cert.S5StepRefIdeal.main_arg4)
          ∧ r.2.mem ((c.tc : Thread Cert.S5StepRefIdeal.nD Cert.S5StepRefIdeal.τ).loc Cert.S5StepRefIdeal.main_arg5) = m' ((c.tc : Thread Cert.S5StepRefIdeal.nD Cert.S5StepRefIdeal.τ).loc Cert.S5StepRefIdeal.main_arg5)
          ∧ r.2.mem ((c.tc : Thread Cert.S5StepRefIdeal.nD Cert.S5StepRefIdeal.τ).loc Cert.S5StepRefIdeal.main_arg6) = m' ((c.tc : Thread Cert.S5StepRefIdeal.nD Cert.S5StepRefIdeal.τ).loc Cert.S5StepRefIdeal.main_arg6)
          ∧ r.2.mem ((c.tc : Thread Cert.S5StepRefIdeal.nD Cert.S5StepRefIdeal.τ).loc Cert.S5StepRefIdeal.main_arg7) = m' ((c.tc : Thread Cert.S5StepRefIdeal.nD Cert.S5StepRefIdeal.τ).loc Cert.S5StepRefIdeal.main_arg7)
          ∧ r.2.mem ((c.tc : Thread Cert.S5StepRefIdeal.nD Cert.S5StepRefIdeal.τ).loc Cert.S5StepRefIdeal.main_arg8) = m' ((c.tc : Thread Cert.S5StepRefIdeal.nD Cert.S5StepRefIdeal.τ).loc Cert.S5StepRefIdeal.main_arg8)
          ∧ r.2.mem ((c.tc : Thread Cert.S5StepRefIdeal.nD Cert.S5StepRefIdeal.τ).loc Cert.S5StepRefIdeal.main_arg9) = m' ((c.tc : Thread Cert.S5StepRefIdeal.nD Cert.S5StepRefIdeal.τ).loc Cert.S5StepRefIdeal.main_arg9)
          ∧ r.2.mem ((c.tc : Thread Cert.S5StepRefIdeal.nD Cert.S5StepRefIdeal.τ).loc Cert.S5StepRefIdeal.main_arg10) = m' ((c.tc : Thread Cert.S5StepRefIdeal.nD Cert.S5StepRefIdeal.τ).loc Cert.S5StepRefIdeal.main_arg10))

def preserves_KProj_KProjIdeal : Prop :=
  True

def algebraic_KProjIdeal_KProjRefIdeal [hKProjIdeal : Cert.KProjIdeal.Facts] [hKProjRefIdeal : Cert.KProjRefIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.KProjRefIdeal.nD Cert.KProjRefIdeal.τ Cert.KProjRefIdeal.sig) → Buf (Elt Ideal) ℓ) (g' : Dev Cert.KProjRefIdeal.nD → PrngReg), Pre_KProjIdeal m →
    (∀ c : Dev Cert.KProjIdeal.nD,
      m' ((c.tc : Thread Cert.KProjRefIdeal.nD Cert.KProjRefIdeal.τ).loc Cert.KProjRefIdeal.main_arg0) = m ((c.tc : Thread Cert.KProjIdeal.nD Cert.KProjIdeal.τ).loc Cert.KProjIdeal.main_arg0)
      ∧ m' ((c.tc : Thread Cert.KProjRefIdeal.nD Cert.KProjRefIdeal.τ).loc Cert.KProjRefIdeal.main_arg1) = m ((c.tc : Thread Cert.KProjIdeal.nD Cert.KProjIdeal.τ).loc Cert.KProjIdeal.main_arg1)) →
    ∃ (v0 : (c : Dev Cert.KProjIdeal.nD) → Buf (Elt Ideal) ((c.tc : Thread Cert.KProjIdeal.nD Cert.KProjIdeal.τ).loc Cert.KProjIdeal.main_v31)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v31) = v0 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1))
      ∧ θ_run (Cert.KProjRefIdeal.defs (F := Ideal)) (onTc (τ := Cert.KProjRefIdeal.τ) (Cert.KProjRefIdeal.main (F := Ideal))) ⟨m', fun _ => 0, g'⟩ (fun r => ∀ c : Dev Cert.KProjRefIdeal.nD,
          r.2.mem ((c.tc : Thread Cert.KProjRefIdeal.nD Cert.KProjRefIdeal.τ).loc Cert.KProjRefIdeal.main_v36) = v0 c
          ∧ r.2.mem ((c.tc : Thread Cert.KProjRefIdeal.nD Cert.KProjRefIdeal.τ).loc Cert.KProjRefIdeal.main_arg0) = m' ((c.tc : Thread Cert.KProjRefIdeal.nD Cert.KProjRefIdeal.τ).loc Cert.KProjRefIdeal.main_arg0)
          ∧ r.2.mem ((c.tc : Thread Cert.KProjRefIdeal.nD Cert.KProjRefIdeal.τ).loc Cert.KProjRefIdeal.main_arg1) = m' ((c.tc : Thread Cert.KProjRefIdeal.nD Cert.KProjRefIdeal.τ).loc Cert.KProjRefIdeal.main_arg1))

def preserves_VProj_VProjIdeal : Prop :=
  True

def algebraic_VProjIdeal_VProjRefIdeal [hVProjIdeal : Cert.VProjIdeal.Facts] [hVProjRefIdeal : Cert.VProjRefIdeal.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.VProjRefIdeal.nD Cert.VProjRefIdeal.τ Cert.VProjRefIdeal.sig) → Buf (Elt Ideal) ℓ) (g' : Dev Cert.VProjRefIdeal.nD → PrngReg), Pre_VProjIdeal m →
    (∀ c : Dev Cert.VProjIdeal.nD,
      m' ((c.tc : Thread Cert.VProjRefIdeal.nD Cert.VProjRefIdeal.τ).loc Cert.VProjRefIdeal.main_arg0) = m ((c.tc : Thread Cert.VProjIdeal.nD Cert.VProjIdeal.τ).loc Cert.VProjIdeal.main_arg0)
      ∧ m' ((c.tc : Thread Cert.VProjRefIdeal.nD Cert.VProjRefIdeal.τ).loc Cert.VProjRefIdeal.main_arg1) = m ((c.tc : Thread Cert.VProjIdeal.nD Cert.VProjIdeal.τ).loc Cert.VProjIdeal.main_arg1)) →
    ∃ (v0 : (c : Dev Cert.VProjIdeal.nD) → Buf (Elt Ideal) ((c.tc : Thread Cert.VProjIdeal.nD Cert.VProjIdeal.τ).loc Cert.VProjIdeal.main_v3)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v3) = v0 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ θ_run (Cert.VProjRefIdeal.defs (F := Ideal)) (onTc (τ := Cert.VProjRefIdeal.τ) (Cert.VProjRefIdeal.main (F := Ideal))) ⟨m', fun _ => 0, g'⟩ (fun r => ∀ c : Dev Cert.VProjRefIdeal.nD,
          r.2.mem ((c.tc : Thread Cert.VProjRefIdeal.nD Cert.VProjRefIdeal.τ).loc Cert.VProjRefIdeal.main_v2) = v0 c
          ∧ r.2.mem ((c.tc : Thread Cert.VProjRefIdeal.nD Cert.VProjRefIdeal.τ).loc Cert.VProjRefIdeal.main_arg0) = m' ((c.tc : Thread Cert.VProjRefIdeal.nD Cert.VProjRefIdeal.τ).loc Cert.VProjRefIdeal.main_arg0)
          ∧ r.2.mem ((c.tc : Thread Cert.VProjRefIdeal.nD Cert.VProjRefIdeal.τ).loc Cert.VProjRefIdeal.main_arg1) = m' ((c.tc : Thread Cert.VProjRefIdeal.nD Cert.VProjRefIdeal.τ).loc Cert.VProjRefIdeal.main_arg1))

def preserves_KNew_KNewIdeal : Prop :=
  True

def algebraic_KNewIdeal_KNewRefIdeal [hKNewIdeal : Cert.KNewIdeal.Facts] [hKNewRefIdeal : Cert.KNewRefIdeal.Facts] : Prop :=
  ∀ (m : (ℓ : Loc Cert.KNewIdeal.nD Cert.KNewIdeal.τ Cert.KNewIdeal.sig) → Buf (Elt Ideal) ℓ) (g : Dev Cert.KNewIdeal.nD → PrngReg)
    (m' : (ℓ : Loc Cert.KNewRefIdeal.nD Cert.KNewRefIdeal.τ Cert.KNewRefIdeal.sig) → Buf (Elt Ideal) ℓ) (g' : Dev Cert.KNewRefIdeal.nD → PrngReg), Pre_KNewIdeal m →
    (∀ c : Dev Cert.KNewIdeal.nD,
      m' ((c.tc : Thread Cert.KNewRefIdeal.nD Cert.KNewRefIdeal.τ).loc Cert.KNewRefIdeal.main_arg0) = m ((c.tc : Thread Cert.KNewIdeal.nD Cert.KNewIdeal.τ).loc Cert.KNewIdeal.main_arg0)
      ∧ m' ((c.tc : Thread Cert.KNewRefIdeal.nD Cert.KNewRefIdeal.τ).loc Cert.KNewRefIdeal.main_arg1) = m ((c.tc : Thread Cert.KNewIdeal.nD Cert.KNewIdeal.τ).loc Cert.KNewIdeal.main_arg1)) →
    ∃ (v0 : (c : Dev Cert.KNewIdeal.nD) → Buf (Elt Ideal) ((c.tc : Thread Cert.KNewIdeal.nD Cert.KNewIdeal.τ).loc Cert.KNewIdeal.main_v30)),
      θ_run (Cert.KNewIdeal.defs (F := Ideal)) (onTc (τ := Cert.KNewIdeal.τ) (Cert.KNewIdeal.main (F := Ideal))) ⟨m, fun _ => 0, g⟩ (fun r => ∀ c : Dev Cert.KNewIdeal.nD,
          r.2.mem ((c.tc : Thread Cert.KNewIdeal.nD Cert.KNewIdeal.τ).loc Cert.KNewIdeal.main_v30) = v0 c
          ∧ r.2.mem ((c.tc : Thread Cert.KNewIdeal.nD Cert.KNewIdeal.τ).loc Cert.KNewIdeal.main_arg0) = m ((c.tc : Thread Cert.KNewIdeal.nD Cert.KNewIdeal.τ).loc Cert.KNewIdeal.main_arg0)
          ∧ r.2.mem ((c.tc : Thread Cert.KNewIdeal.nD Cert.KNewIdeal.τ).loc Cert.KNewIdeal.main_arg1) = m ((c.tc : Thread Cert.KNewIdeal.nD Cert.KNewIdeal.τ).loc Cert.KNewIdeal.main_arg1))
      ∧ θ_run (Cert.KNewRefIdeal.defs (F := Ideal)) (onTc (τ := Cert.KNewRefIdeal.τ) (Cert.KNewRefIdeal.main (F := Ideal))) ⟨m', fun _ => 0, g'⟩ (fun r => ∀ c : Dev Cert.KNewRefIdeal.nD,
          r.2.mem ((c.tc : Thread Cert.KNewRefIdeal.nD Cert.KNewRefIdeal.τ).loc Cert.KNewRefIdeal.main_v37) = v0 c
          ∧ r.2.mem ((c.tc : Thread Cert.KNewRefIdeal.nD Cert.KNewRefIdeal.τ).loc Cert.KNewRefIdeal.main_arg0) = m' ((c.tc : Thread Cert.KNewRefIdeal.nD Cert.KNewRefIdeal.τ).loc Cert.KNewRefIdeal.main_arg0)
          ∧ r.2.mem ((c.tc : Thread Cert.KNewRefIdeal.nD Cert.KNewRefIdeal.τ).loc Cert.KNewRefIdeal.main_arg1) = m' ((c.tc : Thread Cert.KNewRefIdeal.nD Cert.KNewRefIdeal.τ).loc Cert.KNewRefIdeal.main_arg1))

def preserves_VNew_VNewIdeal : Prop :=
  True

def algebraic_VNewIdeal_VNewRefIdeal [hVNewIdeal : Cert.VNewIdeal.Facts] [hVNewRefIdeal : Cert.VNewRefIdeal.Facts] : Prop :=
  ∀ (m : (ℓ : Loc Cert.VNewIdeal.nD Cert.VNewIdeal.τ Cert.VNewIdeal.sig) → Buf (Elt Ideal) ℓ) (g : Dev Cert.VNewIdeal.nD → PrngReg)
    (m' : (ℓ : Loc Cert.VNewRefIdeal.nD Cert.VNewRefIdeal.τ Cert.VNewRefIdeal.sig) → Buf (Elt Ideal) ℓ) (g' : Dev Cert.VNewRefIdeal.nD → PrngReg), Pre_VNewIdeal m →
    (∀ c : Dev Cert.VNewIdeal.nD,
      m' ((c.tc : Thread Cert.VNewRefIdeal.nD Cert.VNewRefIdeal.τ).loc Cert.VNewRefIdeal.main_arg0) = m ((c.tc : Thread Cert.VNewIdeal.nD Cert.VNewIdeal.τ).loc Cert.VNewIdeal.main_arg0)
      ∧ m' ((c.tc : Thread Cert.VNewRefIdeal.nD Cert.VNewRefIdeal.τ).loc Cert.VNewRefIdeal.main_arg1) = m ((c.tc : Thread Cert.VNewIdeal.nD Cert.VNewIdeal.τ).loc Cert.VNewIdeal.main_arg1)) →
    ∃ (v0 : (c : Dev Cert.VNewIdeal.nD) → Buf (Elt Ideal) ((c.tc : Thread Cert.VNewIdeal.nD Cert.VNewIdeal.τ).loc Cert.VNewIdeal.main_v3)),
      θ_run (Cert.VNewIdeal.defs (F := Ideal)) (onTc (τ := Cert.VNewIdeal.τ) (Cert.VNewIdeal.main (F := Ideal))) ⟨m, fun _ => 0, g⟩ (fun r => ∀ c : Dev Cert.VNewIdeal.nD,
          r.2.mem ((c.tc : Thread Cert.VNewIdeal.nD Cert.VNewIdeal.τ).loc Cert.VNewIdeal.main_v3) = v0 c
          ∧ r.2.mem ((c.tc : Thread Cert.VNewIdeal.nD Cert.VNewIdeal.τ).loc Cert.VNewIdeal.main_arg0) = m ((c.tc : Thread Cert.VNewIdeal.nD Cert.VNewIdeal.τ).loc Cert.VNewIdeal.main_arg0)
          ∧ r.2.mem ((c.tc : Thread Cert.VNewIdeal.nD Cert.VNewIdeal.τ).loc Cert.VNewIdeal.main_arg1) = m ((c.tc : Thread Cert.VNewIdeal.nD Cert.VNewIdeal.τ).loc Cert.VNewIdeal.main_arg1))
      ∧ θ_run (Cert.VNewRefIdeal.defs (F := Ideal)) (onTc (τ := Cert.VNewRefIdeal.τ) (Cert.VNewRefIdeal.main (F := Ideal))) ⟨m', fun _ => 0, g'⟩ (fun r => ∀ c : Dev Cert.VNewRefIdeal.nD,
          r.2.mem ((c.tc : Thread Cert.VNewRefIdeal.nD Cert.VNewRefIdeal.τ).loc Cert.VNewRefIdeal.main_v2) = v0 c
          ∧ r.2.mem ((c.tc : Thread Cert.VNewRefIdeal.nD Cert.VNewRefIdeal.τ).loc Cert.VNewRefIdeal.main_arg0) = m' ((c.tc : Thread Cert.VNewRefIdeal.nD Cert.VNewRefIdeal.τ).loc Cert.VNewRefIdeal.main_arg0)
          ∧ r.2.mem ((c.tc : Thread Cert.VNewRefIdeal.nD Cert.VNewRefIdeal.τ).loc Cert.VNewRefIdeal.main_arg1) = m' ((c.tc : Thread Cert.VNewRefIdeal.nD Cert.VNewRefIdeal.τ).loc Cert.VNewRefIdeal.main_arg1))

def preserves_UProj_UProjIdeal : Prop :=
  True

def algebraic_UProjIdeal_UProjRefIdeal [hUProjIdeal : Cert.UProjIdeal.Facts] [hUProjRefIdeal : Cert.UProjRefIdeal.Facts] : Prop :=
  ∀ (m : (ℓ : Loc Cert.UProjIdeal.nD Cert.UProjIdeal.τ Cert.UProjIdeal.sig) → Buf (Elt Ideal) ℓ) (g : Dev Cert.UProjIdeal.nD → PrngReg)
    (m' : (ℓ : Loc Cert.UProjRefIdeal.nD Cert.UProjRefIdeal.τ Cert.UProjRefIdeal.sig) → Buf (Elt Ideal) ℓ) (g' : Dev Cert.UProjRefIdeal.nD → PrngReg), Pre_UProjIdeal m →
    (∀ c : Dev Cert.UProjIdeal.nD,
      m' ((c.tc : Thread Cert.UProjRefIdeal.nD Cert.UProjRefIdeal.τ).loc Cert.UProjRefIdeal.main_arg0) = m ((c.tc : Thread Cert.UProjIdeal.nD Cert.UProjIdeal.τ).loc Cert.UProjIdeal.main_arg0)
      ∧ m' ((c.tc : Thread Cert.UProjRefIdeal.nD Cert.UProjRefIdeal.τ).loc Cert.UProjRefIdeal.main_arg1) = m ((c.tc : Thread Cert.UProjIdeal.nD Cert.UProjIdeal.τ).loc Cert.UProjIdeal.main_arg1)) →
    ∃ (v0 : (c : Dev Cert.UProjIdeal.nD) → Buf (Elt Ideal) ((c.tc : Thread Cert.UProjIdeal.nD Cert.UProjIdeal.τ).loc Cert.UProjIdeal.main_v3)),
      θ_run (Cert.UProjIdeal.defs (F := Ideal)) (onTc (τ := Cert.UProjIdeal.τ) (Cert.UProjIdeal.main (F := Ideal))) ⟨m, fun _ => 0, g⟩ (fun r => ∀ c : Dev Cert.UProjIdeal.nD,
          r.2.mem ((c.tc : Thread Cert.UProjIdeal.nD Cert.UProjIdeal.τ).loc Cert.UProjIdeal.main_v3) = v0 c
          ∧ r.2.mem ((c.tc : Thread Cert.UProjIdeal.nD Cert.UProjIdeal.τ).loc Cert.UProjIdeal.main_arg0) = m ((c.tc : Thread Cert.UProjIdeal.nD Cert.UProjIdeal.τ).loc Cert.UProjIdeal.main_arg0)
          ∧ r.2.mem ((c.tc : Thread Cert.UProjIdeal.nD Cert.UProjIdeal.τ).loc Cert.UProjIdeal.main_arg1) = m ((c.tc : Thread Cert.UProjIdeal.nD Cert.UProjIdeal.τ).loc Cert.UProjIdeal.main_arg1))
      ∧ θ_run (Cert.UProjRefIdeal.defs (F := Ideal)) (onTc (τ := Cert.UProjRefIdeal.τ) (Cert.UProjRefIdeal.main (F := Ideal))) ⟨m', fun _ => 0, g'⟩ (fun r => ∀ c : Dev Cert.UProjRefIdeal.nD,
          r.2.mem ((c.tc : Thread Cert.UProjRefIdeal.nD Cert.UProjRefIdeal.τ).loc Cert.UProjRefIdeal.main_v2) = v0 c
          ∧ r.2.mem ((c.tc : Thread Cert.UProjRefIdeal.nD Cert.UProjRefIdeal.τ).loc Cert.UProjRefIdeal.main_arg0) = m' ((c.tc : Thread Cert.UProjRefIdeal.nD Cert.UProjRefIdeal.τ).loc Cert.UProjRefIdeal.main_arg0)
          ∧ r.2.mem ((c.tc : Thread Cert.UProjRefIdeal.nD Cert.UProjRefIdeal.τ).loc Cert.UProjRefIdeal.main_arg1) = m' ((c.tc : Thread Cert.UProjRefIdeal.nD Cert.UProjRefIdeal.τ).loc Cert.UProjRefIdeal.main_arg1))

def preserves_GaProj_GaProjIdeal : Prop :=
  True

def algebraic_GaProjIdeal_GaProjRefIdeal [hGaProjIdeal : Cert.GaProjIdeal.Facts] [hGaProjRefIdeal : Cert.GaProjRefIdeal.Facts] : Prop :=
  ∀ (m : (ℓ : Loc Cert.GaProjIdeal.nD Cert.GaProjIdeal.τ Cert.GaProjIdeal.sig) → Buf (Elt Ideal) ℓ) (g : Dev Cert.GaProjIdeal.nD → PrngReg)
    (m' : (ℓ : Loc Cert.GaProjRefIdeal.nD Cert.GaProjRefIdeal.τ Cert.GaProjRefIdeal.sig) → Buf (Elt Ideal) ℓ) (g' : Dev Cert.GaProjRefIdeal.nD → PrngReg), Pre_GaProjIdeal m →
    (∀ c : Dev Cert.GaProjIdeal.nD,
      m' ((c.tc : Thread Cert.GaProjRefIdeal.nD Cert.GaProjRefIdeal.τ).loc Cert.GaProjRefIdeal.main_arg0) = m ((c.tc : Thread Cert.GaProjIdeal.nD Cert.GaProjIdeal.τ).loc Cert.GaProjIdeal.main_arg0)
      ∧ m' ((c.tc : Thread Cert.GaProjRefIdeal.nD Cert.GaProjRefIdeal.τ).loc Cert.GaProjRefIdeal.main_arg1) = m ((c.tc : Thread Cert.GaProjIdeal.nD Cert.GaProjIdeal.τ).loc Cert.GaProjIdeal.main_arg1)) →
    ∃ (v0 : (c : Dev Cert.GaProjIdeal.nD) → Buf (Elt Ideal) ((c.tc : Thread Cert.GaProjIdeal.nD Cert.GaProjIdeal.τ).loc Cert.GaProjIdeal.main_v3)),
      θ_run (Cert.GaProjIdeal.defs (F := Ideal)) (onTc (τ := Cert.GaProjIdeal.τ) (Cert.GaProjIdeal.main (F := Ideal))) ⟨m, fun _ => 0, g⟩ (fun r => ∀ c : Dev Cert.GaProjIdeal.nD,
          r.2.mem ((c.tc : Thread Cert.GaProjIdeal.nD Cert.GaProjIdeal.τ).loc Cert.GaProjIdeal.main_v3) = v0 c
          ∧ r.2.mem ((c.tc : Thread Cert.GaProjIdeal.nD Cert.GaProjIdeal.τ).loc Cert.GaProjIdeal.main_arg0) = m ((c.tc : Thread Cert.GaProjIdeal.nD Cert.GaProjIdeal.τ).loc Cert.GaProjIdeal.main_arg0)
          ∧ r.2.mem ((c.tc : Thread Cert.GaProjIdeal.nD Cert.GaProjIdeal.τ).loc Cert.GaProjIdeal.main_arg1) = m ((c.tc : Thread Cert.GaProjIdeal.nD Cert.GaProjIdeal.τ).loc Cert.GaProjIdeal.main_arg1))
      ∧ θ_run (Cert.GaProjRefIdeal.defs (F := Ideal)) (onTc (τ := Cert.GaProjRefIdeal.τ) (Cert.GaProjRefIdeal.main (F := Ideal))) ⟨m', fun _ => 0, g'⟩ (fun r => ∀ c : Dev Cert.GaProjRefIdeal.nD,
          r.2.mem ((c.tc : Thread Cert.GaProjRefIdeal.nD Cert.GaProjRefIdeal.τ).loc Cert.GaProjRefIdeal.main_v2) = v0 c
          ∧ r.2.mem ((c.tc : Thread Cert.GaProjRefIdeal.nD Cert.GaProjRefIdeal.τ).loc Cert.GaProjRefIdeal.main_arg0) = m' ((c.tc : Thread Cert.GaProjRefIdeal.nD Cert.GaProjRefIdeal.τ).loc Cert.GaProjRefIdeal.main_arg0)
          ∧ r.2.mem ((c.tc : Thread Cert.GaProjRefIdeal.nD Cert.GaProjRefIdeal.τ).loc Cert.GaProjRefIdeal.main_arg1) = m' ((c.tc : Thread Cert.GaProjRefIdeal.nD Cert.GaProjRefIdeal.τ).loc Cert.GaProjRefIdeal.main_arg1))

def preserves_GbProj_GbProjIdeal : Prop :=
  True

def algebraic_GbProjIdeal_GbProjRefIdeal [hGbProjIdeal : Cert.GbProjIdeal.Facts] [hGbProjRefIdeal : Cert.GbProjRefIdeal.Facts] : Prop :=
  ∀ (m : (ℓ : Loc Cert.GbProjIdeal.nD Cert.GbProjIdeal.τ Cert.GbProjIdeal.sig) → Buf (Elt Ideal) ℓ) (g : Dev Cert.GbProjIdeal.nD → PrngReg)
    (m' : (ℓ : Loc Cert.GbProjRefIdeal.nD Cert.GbProjRefIdeal.τ Cert.GbProjRefIdeal.sig) → Buf (Elt Ideal) ℓ) (g' : Dev Cert.GbProjRefIdeal.nD → PrngReg), Pre_GbProjIdeal m →
    (∀ c : Dev Cert.GbProjIdeal.nD,
      m' ((c.tc : Thread Cert.GbProjRefIdeal.nD Cert.GbProjRefIdeal.τ).loc Cert.GbProjRefIdeal.main_arg0) = m ((c.tc : Thread Cert.GbProjIdeal.nD Cert.GbProjIdeal.τ).loc Cert.GbProjIdeal.main_arg0)
      ∧ m' ((c.tc : Thread Cert.GbProjRefIdeal.nD Cert.GbProjRefIdeal.τ).loc Cert.GbProjRefIdeal.main_arg1) = m ((c.tc : Thread Cert.GbProjIdeal.nD Cert.GbProjIdeal.τ).loc Cert.GbProjIdeal.main_arg1)) →
    ∃ (v0 : (c : Dev Cert.GbProjIdeal.nD) → Buf (Elt Ideal) ((c.tc : Thread Cert.GbProjIdeal.nD Cert.GbProjIdeal.τ).loc Cert.GbProjIdeal.main_v3)),
      θ_run (Cert.GbProjIdeal.defs (F := Ideal)) (onTc (τ := Cert.GbProjIdeal.τ) (Cert.GbProjIdeal.main (F := Ideal))) ⟨m, fun _ => 0, g⟩ (fun r => ∀ c : Dev Cert.GbProjIdeal.nD,
          r.2.mem ((c.tc : Thread Cert.GbProjIdeal.nD Cert.GbProjIdeal.τ).loc Cert.GbProjIdeal.main_v3) = v0 c
          ∧ r.2.mem ((c.tc : Thread Cert.GbProjIdeal.nD Cert.GbProjIdeal.τ).loc Cert.GbProjIdeal.main_arg0) = m ((c.tc : Thread Cert.GbProjIdeal.nD Cert.GbProjIdeal.τ).loc Cert.GbProjIdeal.main_arg0)
          ∧ r.2.mem ((c.tc : Thread Cert.GbProjIdeal.nD Cert.GbProjIdeal.τ).loc Cert.GbProjIdeal.main_arg1) = m ((c.tc : Thread Cert.GbProjIdeal.nD Cert.GbProjIdeal.τ).loc Cert.GbProjIdeal.main_arg1))
      ∧ θ_run (Cert.GbProjRefIdeal.defs (F := Ideal)) (onTc (τ := Cert.GbProjRefIdeal.τ) (Cert.GbProjRefIdeal.main (F := Ideal))) ⟨m', fun _ => 0, g'⟩ (fun r => ∀ c : Dev Cert.GbProjRefIdeal.nD,
          r.2.mem ((c.tc : Thread Cert.GbProjRefIdeal.nD Cert.GbProjRefIdeal.τ).loc Cert.GbProjRefIdeal.main_v2) = v0 c
          ∧ r.2.mem ((c.tc : Thread Cert.GbProjRefIdeal.nD Cert.GbProjRefIdeal.τ).loc Cert.GbProjRefIdeal.main_arg0) = m' ((c.tc : Thread Cert.GbProjRefIdeal.nD Cert.GbProjRefIdeal.τ).loc Cert.GbProjRefIdeal.main_arg0)
          ∧ r.2.mem ((c.tc : Thread Cert.GbProjRefIdeal.nD Cert.GbProjRefIdeal.τ).loc Cert.GbProjRefIdeal.main_arg1) = m' ((c.tc : Thread Cert.GbProjRefIdeal.nD Cert.GbProjRefIdeal.τ).loc Cert.GbProjRefIdeal.main_arg1))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v31)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v31) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v37) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v16_0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v16_0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v53) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_Down_DownIdeal : Prop :=
  True

def algebraic_DownIdeal_DownRefIdeal [hDownIdeal : Cert.DownIdeal.Facts] [hDownRefIdeal : Cert.DownRefIdeal.Facts] [hPre_in_range : Cert.Pre_in_range.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v26) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Gate_GateIdeal : Prop :=
  True

def algebraic_GateIdeal_GateRefIdeal [hGateIdeal : Cert.GateIdeal.Facts] [hGateRefIdeal : Cert.GateRefIdeal.Facts] [hPre_in_range_gate : Cert.Pre_in_range_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v59) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6))

def Claim : Prop :=
  ∃ (hS5Step : Cert.S5Step.Facts) (hS5StepIdeal : Cert.S5StepIdeal.Facts) (hS5StepRefIdeal : Cert.S5StepRefIdeal.Facts) (hKProj : Cert.KProj.Facts) (hKProjIdeal : Cert.KProjIdeal.Facts) (hKProjRefIdeal : Cert.KProjRefIdeal.Facts) (hVProj : Cert.VProj.Facts) (hVProjIdeal : Cert.VProjIdeal.Facts) (hVProjRefIdeal : Cert.VProjRefIdeal.Facts) (hKNew : Cert.KNew.Facts) (hKNewIdeal : Cert.KNewIdeal.Facts) (hKNewRefIdeal : Cert.KNewRefIdeal.Facts) (hVNew : Cert.VNew.Facts) (hVNewIdeal : Cert.VNewIdeal.Facts) (hVNewRefIdeal : Cert.VNewRefIdeal.Facts) (hUProj : Cert.UProj.Facts) (hUProjIdeal : Cert.UProjIdeal.Facts) (hUProjRefIdeal : Cert.UProjRefIdeal.Facts) (hGaProj : Cert.GaProj.Facts) (hGaProjIdeal : Cert.GaProjIdeal.Facts) (hGaProjRefIdeal : Cert.GaProjRefIdeal.Facts) (hGbProj : Cert.GbProj.Facts) (hGbProjIdeal : Cert.GbProjIdeal.Facts) (hGbProjRefIdeal : Cert.GbProjRefIdeal.Facts) (hQProj : Cert.QProj.Facts) (hQProjIdeal : Cert.QProjIdeal.Facts) (hQProjRefIdeal : Cert.QProjRefIdeal.Facts) (hMix : Cert.Mix.Facts) (hMixIdeal : Cert.MixIdeal.Facts) (hMixRefIdeal : Cert.MixRefIdeal.Facts) (hDown : Cert.Down.Facts) (hDownIdeal : Cert.DownIdeal.Facts) (hDownRefIdeal : Cert.DownRefIdeal.Facts) (hGate : Cert.Gate.Facts) (hGateIdeal : Cert.GateIdeal.Facts) (hGateRefIdeal : Cert.GateRefIdeal.Facts) (hPre_in_range : Cert.Pre_in_range.Facts) (hPre_in_range_gate : Cert.Pre_in_range_gate.Facts),
    quiescent_S5Step (hS5Step := hS5Step)
    ∧ quiescent_S5StepIdeal (hS5StepIdeal := hS5StepIdeal)
    ∧ quiescent_S5StepRefIdeal (hS5StepRefIdeal := hS5StepRefIdeal)
    ∧ quiescent_KProj (hKProj := hKProj)
    ∧ quiescent_KProjIdeal (hKProjIdeal := hKProjIdeal)
    ∧ quiescent_KProjRefIdeal (hKProjRefIdeal := hKProjRefIdeal)
    ∧ quiescent_VProj (hVProj := hVProj)
    ∧ quiescent_VProjIdeal (hVProjIdeal := hVProjIdeal)
    ∧ quiescent_VProjRefIdeal (hVProjRefIdeal := hVProjRefIdeal)
    ∧ quiescent_KNew (hKNew := hKNew)
    ∧ quiescent_KNewIdeal (hKNewIdeal := hKNewIdeal)
    ∧ quiescent_KNewRefIdeal (hKNewRefIdeal := hKNewRefIdeal)
    ∧ quiescent_VNew (hVNew := hVNew)
    ∧ quiescent_VNewIdeal (hVNewIdeal := hVNewIdeal)
    ∧ quiescent_VNewRefIdeal (hVNewRefIdeal := hVNewRefIdeal)
    ∧ quiescent_UProj (hUProj := hUProj)
    ∧ quiescent_UProjIdeal (hUProjIdeal := hUProjIdeal)
    ∧ quiescent_UProjRefIdeal (hUProjRefIdeal := hUProjRefIdeal)
    ∧ quiescent_GaProj (hGaProj := hGaProj)
    ∧ quiescent_GaProjIdeal (hGaProjIdeal := hGaProjIdeal)
    ∧ quiescent_GaProjRefIdeal (hGaProjRefIdeal := hGaProjRefIdeal)
    ∧ quiescent_GbProj (hGbProj := hGbProj)
    ∧ quiescent_GbProjIdeal (hGbProjIdeal := hGbProjIdeal)
    ∧ quiescent_GbProjRefIdeal (hGbProjRefIdeal := hGbProjRefIdeal)
    ∧ quiescent_QProj (hQProj := hQProj)
    ∧ quiescent_QProjIdeal (hQProjIdeal := hQProjIdeal)
    ∧ quiescent_QProjRefIdeal (hQProjRefIdeal := hQProjRefIdeal)
    ∧ quiescent_Mix (hMix := hMix)
    ∧ quiescent_MixIdeal (hMixIdeal := hMixIdeal)
    ∧ quiescent_MixRefIdeal (hMixRefIdeal := hMixRefIdeal)
    ∧ quiescent_Down (hDown := hDown) (hPre_in_range := hPre_in_range)
    ∧ quiescent_DownIdeal (hDownIdeal := hDownIdeal) (hPre_in_range := hPre_in_range)
    ∧ quiescent_DownRefIdeal (hDownRefIdeal := hDownRefIdeal) (hPre_in_range := hPre_in_range)
    ∧ quiescent_Gate (hGate := hGate) (hPre_in_range_gate := hPre_in_range_gate)
    ∧ quiescent_GateIdeal (hGateIdeal := hGateIdeal) (hPre_in_range_gate := hPre_in_range_gate)
    ∧ quiescent_GateRefIdeal (hGateRefIdeal := hGateRefIdeal) (hPre_in_range_gate := hPre_in_range_gate)
    ∧ preserves_S5Step_S5StepIdeal
    ∧ algebraic_S5StepIdeal_S5StepRefIdeal (hS5StepIdeal := hS5StepIdeal) (hS5StepRefIdeal := hS5StepRefIdeal)
    ∧ preserves_KProj_KProjIdeal
    ∧ algebraic_KProjIdeal_KProjRefIdeal (hKProjIdeal := hKProjIdeal) (hKProjRefIdeal := hKProjRefIdeal)
    ∧ preserves_VProj_VProjIdeal
    ∧ algebraic_VProjIdeal_VProjRefIdeal (hVProjIdeal := hVProjIdeal) (hVProjRefIdeal := hVProjRefIdeal)
    ∧ preserves_KNew_KNewIdeal
    ∧ algebraic_KNewIdeal_KNewRefIdeal (hKNewIdeal := hKNewIdeal) (hKNewRefIdeal := hKNewRefIdeal)
    ∧ preserves_VNew_VNewIdeal
    ∧ algebraic_VNewIdeal_VNewRefIdeal (hVNewIdeal := hVNewIdeal) (hVNewRefIdeal := hVNewRefIdeal)
    ∧ preserves_UProj_UProjIdeal
    ∧ algebraic_UProjIdeal_UProjRefIdeal (hUProjIdeal := hUProjIdeal) (hUProjRefIdeal := hUProjRefIdeal)
    ∧ preserves_GaProj_GaProjIdeal
    ∧ algebraic_GaProjIdeal_GaProjRefIdeal (hGaProjIdeal := hGaProjIdeal) (hGaProjRefIdeal := hGaProjRefIdeal)
    ∧ preserves_GbProj_GbProjIdeal
    ∧ algebraic_GbProjIdeal_GbProjRefIdeal (hGbProjIdeal := hGbProjIdeal) (hGbProjRefIdeal := hGbProjRefIdeal)
    ∧ preserves_QProj_QProjIdeal
    ∧ algebraic_QProjIdeal_QProjRefIdeal (hQProjIdeal := hQProjIdeal) (hQProjRefIdeal := hQProjRefIdeal)
    ∧ preserves_Mix_MixIdeal
    ∧ algebraic_MixIdeal_MixRefIdeal (hMixIdeal := hMixIdeal) (hMixRefIdeal := hMixRefIdeal)
    ∧ preserves_Down_DownIdeal
    ∧ algebraic_DownIdeal_DownRefIdeal (hDownIdeal := hDownIdeal) (hDownRefIdeal := hDownRefIdeal) (hPre_in_range := hPre_in_range)
    ∧ preserves_Gate_GateIdeal
    ∧ algebraic_GateIdeal_GateRefIdeal (hGateIdeal := hGateIdeal) (hGateRefIdeal := hGateRefIdeal) (hPre_in_range_gate := hPre_in_range_gate)
-- ==== Pre_in_range.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x2048 : Shape := ⟨2, ![32, 2048]⟩
abbrev S_ : Shape := ⟨0, ![]⟩

class Facts : Prop where
  bcast_S_S161 : S_.BroadcastsInDim S161 (![] : Fin 0 → Fin S161.rank)
  bcast_S_S1 : S_.BroadcastsInDim S1 (![] : Fin 0 → Fin S1.rank)
  bcast_S1_S161_0 : S1.BroadcastsInDim S161 (![0] : Fin 1 → Fin S161.rank)

variable [Facts]

def fn {F : FTy → Type} [FloatOps F] (main_arg0 : IVec S161 32) (main_arg1 : IVec S1 32) (main_arg2 : FVec F S82432x2048 .bf16) (main_arg3 : FVec F S32x2048x2048 .f32) (main_arg4 : FVec F S32x2048 .f32) : IVec S161 1 :=
  let main_c : IVec S_ 32 := constantI S_ 32 0#32
  let main_v0 : IVec S161 32 := broadcastInDim S161 ![] bcast_S_S161 main_c
  let main_v1 : IVec S161 1 := cmpi .sge main_arg0 main_v0
  let main_c_0 : IVec S_ 32 := constantI S_ 32 32#32
  let main_v2 : IVec S161 32 := broadcastInDim S161 ![] bcast_S_S161 main_c_0
  let main_v3 : IVec S161 1 := cmpi .slt main_arg0 main_v2
  let main_v4 : IVec S161 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S161 1 := broadcastInDim S161 ![0] bcast_S1_S161_0 main_v6
  let main_v8 : IVec S161 1 := andi main_v4 main_v7
  main_v8
-- ==== Pre_in_range_gate.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x2048 : Shape := ⟨2, ![32, 2048]⟩
abbrev S_ : Shape := ⟨0, ![]⟩

class Facts : Prop where
  bcast_S_S161 : S_.BroadcastsInDim S161 (![] : Fin 0 → Fin S161.rank)
  bcast_S_S1 : S_.BroadcastsInDim S1 (![] : Fin 0 → Fin S1.rank)
  bcast_S1_S161_0 : S1.BroadcastsInDim S161 (![0] : Fin 1 → Fin S161.rank)

variable [Facts]

def fn {F : FTy → Type} [FloatOps F] (main_arg0 : IVec S161 32) (main_arg1 : IVec S1 32) (main_arg2 : FVec F S82432x2048 .f32) (main_arg3 : FVec F S32x2048x2048 .f32) (main_arg4 : FVec F S32x2048 .f32) (main_arg5 : FVec F S32x2048x2048 .f32) (main_arg6 : FVec F S32x2048 .f32) : IVec S161 1 :=
  let main_c : IVec S_ 32 := constantI S_ 32 0#32
  let main_v0 : IVec S161 32 := broadcastInDim S161 ![] bcast_S_S161 main_c
  let main_v1 : IVec S161 1 := cmpi .sge main_arg0 main_v0
  let main_c_0 : IVec S_ 32 := constantI S_ 32 32#32
  let main_v2 : IVec S161 32 := broadcastInDim S161 ![] bcast_S_S161 main_c_0
  let main_v3 : IVec S161 1 := cmpi .slt main_arg0 main_v2
  let main_v4 : IVec S161 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S161 1 := broadcastInDim S161 ![0] bcast_S1_S161_0 main_v6
  let main_v8 : IVec S161 1 := andi main_v4 main_v7
  main_v8
-- ==== S5Step.lean ====
abbrev S32x1024 : Shape := ⟨2, ![32, 1024]⟩
abbrev S32x64x64 : Shape := ⟨3, ![32, 64, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S64x1 : Shape := ⟨2, ![64, 1]⟩
abbrev S_ : Shape := ⟨0, ![]⟩
abbrev S64x64x1 : Shape := ⟨3, ![64, 64, 1]⟩
abbrev S16x16 : Shape := ⟨2, ![16, 16]⟩
abbrev S4x16x64x16 : Shape := ⟨4, ![4, 16, 64, 16]⟩
abbrev S4x16x16x64 : Shape := ⟨4, ![4, 16, 16, 64]⟩
abbrev S4x16x16x1x64 : Shape := ⟨5, ![4, 16, 16, 1, 64]⟩
abbrev S1x16x1x16x1 : Shape := ⟨5, ![1, 16, 1, 16, 1]⟩
abbrev S4x16x16x16x64 : Shape := ⟨5, ![4, 16, 16, 16, 64]⟩
abbrev S4x256x1024 : Shape := ⟨3, ![4, 256, 1024]⟩
abbrev S1x4x256x1024 : Shape := ⟨4, ![1, 4, 256, 1024]⟩
abbrev S2x4x256x1024 : Shape := ⟨4, ![2, 4, 256, 1024]⟩
abbrev S4x16x64x1x16 : Shape := ⟨5, ![4, 16, 64, 1, 16]⟩
abbrev S4x16x64x16x16 : Shape := ⟨5, ![4, 16, 64, 16, 16]⟩
abbrev S4x1024x256 : Shape := ⟨3, ![4, 1024, 256]⟩
abbrev S4x2048x256 : Shape := ⟨3, ![4, 2048, 256]⟩
abbrev S2x2048 : Shape := ⟨2, ![2, 2048]⟩
abbrev S1x2x2048 : Shape := ⟨3, ![1, 2, 2048]⟩
abbrev S2x2x2048 : Shape := ⟨3, ![2, 2, 2048]⟩
abbrev S2x2x4x2048 : Shape := ⟨4, ![2, 2, 4, 2048]⟩
abbrev S2x8x2048 : Shape := ⟨3, ![2, 8, 2048]⟩
abbrev S2x8x16x128 : Shape := ⟨4, ![2, 8, 16, 128]⟩
abbrev S2x16x8x128 : Shape := ⟨4, ![2, 16, 8, 128]⟩
abbrev S1x1024 : Shape := ⟨2, ![1, 1024]⟩
abbrev S32x4096 : Shape := ⟨2, ![32, 4096]⟩
abbrev S1x4096 : Shape := ⟨2, ![1, 4096]⟩
abbrev S32x256 : Shape := ⟨2, ![32, 256]⟩
abbrev S1x1x256x1024 : Shape := ⟨4, ![1, 1, 256, 1024]⟩
abbrev S256x1024 : Shape := ⟨2, ![256, 1024]⟩
abbrev S32x2048 : Shape := ⟨2, ![32, 2048]⟩
abbrev S1x2048x256 : Shape := ⟨3, ![1, 2048, 256]⟩
abbrev S2048x256 : Shape := ⟨2, ![2048, 256]⟩
abbrev S1x256 : Shape := ⟨2, ![1, 256]⟩

abbrev nBuf : Space → Nat
  | .hbm => 113
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S32x64x64, .f32⟩
  | .hbm, ⟨2, _⟩ => ⟨S32x64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64x16, .f32⟩
  | .hbm, ⟨7, _⟩ => ⟨S64x64x16, .f32⟩
  | .hbm, ⟨8, _⟩ => ⟨S64x16x64, .f32⟩
  | .hbm, ⟨9, _⟩ => ⟨S64x16x64, .f32⟩
  | .hbm, ⟨10, _⟩ => ⟨S1024, .f32⟩
  | .hbm, ⟨11, _⟩ => ⟨S64, .f32⟩
  | .hbm, ⟨12, _⟩ => ⟨S64x1, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64x1, .f32⟩
  | .hbm, ⟨37, _⟩ => ⟨S64x64x16, .f32⟩
  | .hbm, ⟨38, _⟩ => ⟨S64x64x16, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x1, .f32⟩
  | .hbm, ⟨44, _⟩ => ⟨S64x64x16, .f32⟩
  | .hbm, ⟨45, _⟩ => ⟨S64x64x16, .f32⟩
  | .hbm, ⟨46, _⟩ => ⟨S64x64x1, .f32⟩
  | .hbm, ⟨47, _⟩ => ⟨S64x64x16, .f32⟩
  | .hbm, ⟨48, _⟩ => ⟨S64x64x16, .f32⟩
  | .hbm, ⟨49, _⟩ => ⟨S64x64x16, .f32⟩
  | .hbm, ⟨50, _⟩ => ⟨S16x16, .i32⟩
  | .hbm, ⟨51, _⟩ => ⟨S16x16, .i32⟩
  | .hbm, ⟨52, _⟩ => ⟨S_, .i32⟩
  | .hbm, ⟨53, _⟩ => ⟨S16x16, .i32⟩
  | .hbm, ⟨54, _⟩ => ⟨S16x16, .i32⟩
  | .hbm, ⟨55, _⟩ => ⟨S16x16, .i1⟩
  | .hbm, ⟨56, _⟩ => ⟨S16x16, .f32⟩
  | .hbm, ⟨57, _⟩ => ⟨S4x16x64x16, .f32⟩
  | .hbm, ⟨58, _⟩ => ⟨S4x16x16x64, .f32⟩
  | .hbm, ⟨59, _⟩ => ⟨S4x16x16x1x64, .f32⟩
  | .hbm, ⟨60, _⟩ => ⟨S1x16x1x16x1, .f32⟩
  | .hbm, ⟨61, _⟩ => ⟨S4x16x16x16x64, .f32⟩
  | .hbm, ⟨62, _⟩ => ⟨S4x16x16x16x64, .f32⟩
  | .hbm, ⟨63, _⟩ => ⟨S4x16x16x16x64, .f32⟩
  | .hbm, ⟨64, _⟩ => ⟨S4x256x1024, .f32⟩
  | .hbm, ⟨65, _⟩ => ⟨S4x16x64x16, .f32⟩
  | .hbm, ⟨66, _⟩ => ⟨S4x16x16x64, .f32⟩
  | .hbm, ⟨67, _⟩ => ⟨S4x16x16x1x64, .f32⟩
  | .hbm, ⟨68, _⟩ => ⟨S1x16x1x16x1, .f32⟩
  | .hbm, ⟨69, _⟩ => ⟨S4x16x16x16x64, .f32⟩
  | .hbm, ⟨70, _⟩ => ⟨S4x16x16x16x64, .f32⟩
  | .hbm, ⟨71, _⟩ => ⟨S4x16x16x16x64, .f32⟩
  | .hbm, ⟨72, _⟩ => ⟨S4x256x1024, .f32⟩
  | .hbm, ⟨73, _⟩ => ⟨S1x4x256x1024, .f32⟩
  | .hbm, ⟨74, _⟩ => ⟨S1x4x256x1024, .f32⟩
  | .hbm, ⟨75, _⟩ => ⟨S2x4x256x1024, .f32⟩
  | .hbm, ⟨76, _⟩ => ⟨S2x4x256x1024, .bf16⟩
  | .hbm, ⟨77, _⟩ => ⟨S4x16x16x64, .f32⟩
  | .hbm, ⟨78, _⟩ => ⟨S4x16x64x16, .f32⟩
  | .hbm, ⟨79, _⟩ => ⟨S4x16x64x1x16, .f32⟩
  | .hbm, ⟨80, _⟩ => ⟨S1x16x1x16x1, .f32⟩
  | .hbm, ⟨81, _⟩ => ⟨S4x16x64x16x16, .f32⟩
  | .hbm, ⟨82, _⟩ => ⟨S4x16x64x16x16, .f32⟩
  | .hbm, ⟨83, _⟩ => ⟨S4x16x64x16x16, .f32⟩
  | .hbm, ⟨84, _⟩ => ⟨S4x1024x256, .f32⟩
  | .hbm, ⟨85, _⟩ => ⟨S4x16x16x64, .f32⟩
  | .hbm, ⟨86, _⟩ => ⟨S4x16x64x16, .f32⟩
  | .hbm, ⟨87, _⟩ => ⟨S4x16x64x1x16, .f32⟩
  | .hbm, ⟨88, _⟩ => ⟨S1x16x1x16x1, .f32⟩
  | .hbm, ⟨89, _⟩ => ⟨S4x16x64x16x16, .f32⟩
  | .hbm, ⟨90, _⟩ => ⟨S4x16x64x16x16, .f32⟩
  | .hbm, ⟨91, _⟩ => ⟨S4x16x64x16x16, .f32⟩
  | .hbm, ⟨92, _⟩ => ⟨S4x1024x256, .f32⟩
  | .hbm, ⟨93, _⟩ => ⟨S4x1024x256, .f32⟩
  | .hbm, ⟨94, _⟩ => ⟨S4x2048x256, .f32⟩
  | .hbm, ⟨95, _⟩ => ⟨S4x2048x256, .bf16⟩
  | .hbm, ⟨96, _⟩ => ⟨S2x2048, .f32⟩
  | .hbm, ⟨97, _⟩ => ⟨S2x2048, .f32⟩
  | .hbm, ⟨98, _⟩ => ⟨S1x2x2048, .f32⟩
  | .hbm, ⟨99, _⟩ => ⟨S1x2x2048, .f32⟩
  | .hbm, ⟨100, _⟩ => ⟨S2x2x2048, .f32⟩
  | .hbm, ⟨101, _⟩ => ⟨S2x2x4x2048, .f32⟩
  | .hbm, ⟨102, _⟩ => ⟨S2x8x2048, .f32⟩
  | .hbm, ⟨103, _⟩ => ⟨S2x8x16x128, .f32⟩
  | .hbm, ⟨104, _⟩ => ⟨S2x16x8x128, .f32⟩
  | .hbm, ⟨105, _⟩ => ⟨S1x1024, .f32⟩
  | .hbm, ⟨106, _⟩ => ⟨S32x4096, .f32⟩
  | .hbm, ⟨107, _⟩ => ⟨S32x4096, .f32⟩
  | .hbm, ⟨108, _⟩ => ⟨S1x4096, .f32⟩
  | .hbm, ⟨109, _⟩ => ⟨S1x4096, .f32⟩
  | .hbm, ⟨110, _⟩ => ⟨S32x1024, .bf16⟩
  | .hbm, ⟨111, _⟩ => ⟨S32x4096, .f32⟩
  | .hbm, ⟨112, _⟩ => ⟨S32x4096, .f32⟩
  | .local _ .vmem, ⟨0, _⟩ => ⟨S32x1024, .f32⟩
  | .local _ .vmem, ⟨1, _⟩ => ⟨S32x4096, .f32⟩
  | .local _ .vmem, ⟨2, _⟩ => ⟨S32x4096, .f32⟩
  | .local _ .vmem, ⟨3, _⟩ => ⟨S2x4x256x1024, .bf16⟩
  | .local _ .vmem, ⟨4, _⟩ => ⟨S4x2048x256, .bf16⟩
  | .local _ .vmem, ⟨5, _⟩ => ⟨S1x4096, .f32⟩
  | .local _ .vmem, ⟨6, _⟩ => ⟨S1x4096, .f32⟩
  | .local _ .vmem, ⟨7, _⟩ => ⟨S1x1024, .f32⟩
  | .local _ .vmem, ⟨8, _⟩ => ⟨S32x1024, .bf16⟩
  | .local _ .vmem, ⟨9, _⟩ => ⟨S32x4096, .f32⟩
  | .local _ .vmem, ⟨10, _⟩ => ⟨S32x4096, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97_0 : Ref sig .tc := ⟨.hbm, 110, rfl⟩
abbrev main_v97_1 : Ref sig .tc := ⟨.hbm, 111, rfl⟩
abbrev main_v97_2 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== S5StepRefIdeal.lean ====
abbrev S32x1024 : Shape := ⟨2, ![32, 1024]⟩
abbrev S32x64x64 : Shape := ⟨3, ![32, 64, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S32x64x16 : Shape := ⟨3, ![32, 64, 16]⟩
abbrev S64x1 : Shape := ⟨2, ![64, 1]⟩
abbrev S_ : Shape := ⟨0, ![]⟩
abbrev S64x64x1 : Shape := ⟨3, ![64, 64, 1]⟩
abbrev S64x32x64 : Shape := ⟨3, ![64, 32, 64]⟩
abbrev S1x64x64 : Shape := ⟨3, ![1, 64, 64]⟩
abbrev S32x4096 : Shape := ⟨2, ![32, 4096]⟩

abbrev nBuf : Space → Nat
  | .hbm => 73
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x64x64, .f32⟩
  | .hbm, ⟨2, _⟩ => ⟨S32x64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64x16, .f32⟩
  | .hbm, ⟨7, _⟩ => ⟨S64x64x16, .f32⟩
  | .hbm, ⟨8, _⟩ => ⟨S64x16x64, .f32⟩
  | .hbm, ⟨9, _⟩ => ⟨S64x16x64, .f32⟩
  | .hbm, ⟨10, _⟩ => ⟨S1024, .f32⟩
  | .hbm, ⟨11, _⟩ => ⟨S32x64x16, .f32⟩
  | .hbm, ⟨12, _⟩ => ⟨S64, .f32⟩
  | .hbm, ⟨13, _⟩ => ⟨S64x1, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64x1, .f32⟩
  | .hbm, ⟨38, _⟩ => ⟨S64x64x16, .f32⟩
  | .hbm, ⟨39, _⟩ => ⟨S64x64x16, .f32⟩
  | .hbm, ⟨40, _⟩ => ⟨S64x64x1, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x64x1, .f32⟩
  | .hbm, ⟨45, _⟩ => ⟨S64x64x16, .f32⟩
  | .hbm, ⟨46, _⟩ => ⟨S64x64x16, .f32⟩
  | .hbm, ⟨47, _⟩ => ⟨S64x64x1, .f32⟩
  | .hbm, ⟨48, _⟩ => ⟨S64x64x16, .f32⟩
  | .hbm, ⟨49, _⟩ => ⟨S64x64x16, .f32⟩
  | .hbm, ⟨50, _⟩ => ⟨S64x64x16, .f32⟩
  | .hbm, ⟨51, _⟩ => ⟨S64x32x64, .f32⟩
  | .hbm, ⟨52, _⟩ => ⟨S32x64x64, .f32⟩
  | .hbm, ⟨53, _⟩ => ⟨S64x32x64, .f32⟩
  | .hbm, ⟨54, _⟩ => ⟨S32x64x64, .f32⟩
  | .hbm, ⟨55, _⟩ => ⟨S1x64x64, .f32⟩
  | .hbm, ⟨56, _⟩ => ⟨S32x64x64, .f32⟩
  | .hbm, ⟨57, _⟩ => ⟨S32x64x64, .f32⟩
  | .hbm, ⟨58, _⟩ => ⟨S1x64x64, .f32⟩
  | .hbm, ⟨59, _⟩ => ⟨S32x64x64, .f32⟩
  | .hbm, ⟨60, _⟩ => ⟨S32x64x64, .f32⟩
  | .hbm, ⟨61, _⟩ => ⟨S32x64x64, .f32⟩
  | .hbm, ⟨62, _⟩ => ⟨S32x64x64, .f32⟩
  | .hbm, ⟨63, _⟩ => ⟨S1x64x64, .f32⟩
  | .hbm, ⟨64, _⟩ => ⟨S32x64x64, .f32⟩
  | .hbm, ⟨65, _⟩ => ⟨S32x64x64, .f32⟩
  | .hbm, ⟨66, _⟩ => ⟨S1x64x64, .f32⟩
  | .hbm, ⟨67, _⟩ => ⟨S32x64x64, .f32⟩
  | .hbm, ⟨68, _⟩ => ⟨S32x64x64, .f32⟩
  | .hbm, ⟨69, _⟩ => ⟨S32x64x64, .f32⟩
  | .hbm, ⟨70, _⟩ => ⟨S32x64x64, .f32⟩
  | .hbm, ⟨71, _⟩ => ⟨S32x4096, .f32⟩
  | .hbm, ⟨72, _⟩ => ⟨S32x4096, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== KProj.lean ====
abbrev S4x4096x2048 : Shape := ⟨3, ![4, 4096, 2048]⟩
abbrev S2048x8192 : Shape := ⟨2, ![2048, 8192]⟩
abbrev S16384x2048 : Shape := ⟨2, ![16384, 2048]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S4x4096x1x128 : Shape := ⟨4, ![4, 4096, 1, 128]⟩
abbrev S16384x128 : Shape := ⟨2, ![16384, 128]⟩
abbrev S16384x1024 : Shape := ⟨2, ![16384, 1024]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 39
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S16384x2048, .f32⟩
  | .hbm, ⟨3, _⟩ => ⟨S16384x2048, .bf16⟩
  | .hbm, ⟨4, _⟩ => ⟨S4096, .i32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S4096, .f32⟩
  | .hbm, ⟨17, _⟩ => ⟨S4096x1, .f32⟩
  | .hbm, ⟨18, _⟩ => ⟨S1x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S_, .f32⟩
  | .hbm, ⟨25, _⟩ => ⟨S4096x96, .f32⟩
  | .hbm, ⟨26, _⟩ => ⟨S4096x128, .f32⟩
  | .hbm, ⟨27, _⟩ => ⟨S4096x16, .f32⟩
  | .hbm, ⟨28, _⟩ => ⟨S_, .f32⟩
  | .hbm, ⟨29, _⟩ => ⟨S4096x96, .f32⟩
  | .hbm, ⟨30, _⟩ => ⟨S4096x128, .f32⟩
  | .hbm, ⟨31, _⟩ => ⟨S1x4096x1x128, .f32⟩
  | .hbm, ⟨32, _⟩ => ⟨S4x4096x1x128, .f32⟩
  | .hbm, ⟨33, _⟩ => ⟨S16384x128, .f32⟩
  | .hbm, ⟨34, _⟩ => ⟨S1x4096x1x128, .f32⟩
  | .hbm, ⟨35, _⟩ => ⟨S4x4096x1x128, .f32⟩
  | .hbm, ⟨36, _⟩ => ⟨S16384x128, .f32⟩
  | .hbm, ⟨37, _⟩ => ⟨S2048x8192, .bf16⟩
  | .hbm, ⟨38, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .f32⟩
  | .local _ .vmem, ⟨8, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KProjRefIdeal.lean ====
abbrev S4x4096x2048 : Shape := ⟨3, ![4, 4096, 2048]⟩
abbrev S2048x8192 : Shape := ⟨2, ![2048, 8192]⟩
abbrev S4x4096x8192 : Shape := ⟨3, ![4, 4096, 8192]⟩
abbrev S4x4096x1024 : Shape := ⟨3, ![4, 4096, 1024]⟩
abbrev S4x4096x8x128 : Shape := ⟨4, ![4, 4096, 8, 128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x16 : Shape := ⟨4, ![4, 4096, 8, 16]⟩
abbrev S4x4096x8x96 : Shape := ⟨4, ![4, 4096, 8, 96]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4x4096x8192, .f32⟩
  | .hbm, ⟨3, _⟩ => ⟨S4x4096x1024, .f32⟩
  | .hbm, ⟨4, _⟩ => ⟨S4x4096x8x128, .f32⟩
  | .hbm, ⟨5, _⟩ => ⟨S4096, .i32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S1x4096x1x16, .f32⟩
  | .hbm, ⟨25, _⟩ => ⟨S4096x16, .f32⟩
  | .hbm, ⟨26, _⟩ => ⟨S1x4096x1x16, .f32⟩
  | .hbm, ⟨27, _⟩ => ⟨S4x4096x8x16, .f32⟩
  | .hbm, ⟨28, _⟩ => ⟨S4x4096x8x16, .f32⟩
  | .hbm, ⟨29, _⟩ => ⟨S4x4096x8x16, .f32⟩
  | .hbm, ⟨30, _⟩ => ⟨S4x4096x8x16, .f32⟩
  | .hbm, ⟨31, _⟩ => ⟨S4x4096x8x16, .f32⟩
  | .hbm, ⟨32, _⟩ => ⟨S4x4096x8x16, .f32⟩
  | .hbm, ⟨33, _⟩ => ⟨S4x4096x8x16, .f32⟩
  | .hbm, ⟨34, _⟩ => ⟨S4x4096x8x16, .f32⟩
  | .hbm, ⟨35, _⟩ => ⟨S4x4096x8x16, .f32⟩
  | .hbm, ⟨36, _⟩ => ⟨S4x4096x8x16, .f32⟩
  | .hbm, ⟨37, _⟩ => ⟨S4x4096x8x16, .f32⟩
  | .hbm, ⟨38, _⟩ => ⟨S4x4096x8x16, .f32⟩
  | .hbm, ⟨39, _⟩ => ⟨S4x4096x8x96, .f32⟩
  | .hbm, ⟨40, _⟩ => ⟨S4x4096x8x128, .f32⟩
  | .hbm, ⟨41, _⟩ => ⟨S16384x1024, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== VProj.lean ====
abbrev S4x4096x2048 : Shape := ⟨3, ![4, 4096, 2048]⟩
abbrev S2048x8192 : Shape := ⟨2, ![2048, 8192]⟩
abbrev S16384x2048 : Shape := ⟨2, ![16384, 2048]⟩
abbrev S16384x1024 : Shape := ⟨2, ![16384, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S16384x2048, .f32⟩
  | .hbm, ⟨3, _⟩ => ⟨S16384x2048, .bf16⟩
  | .hbm, ⟨4, _⟩ => ⟨S2048x8192, .bf16⟩
  | .hbm, ⟨5, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VProjRefIdeal.lean ====
abbrev S4x4096x2048 : Shape := ⟨3, ![4, 4096, 2048]⟩
abbrev S2048x8192 : Shape := ⟨2, ![2048, 8192]⟩
abbrev S4x4096x8192 : Shape := ⟨3, ![4, 4096, 8192]⟩
abbrev S4x4096x1024 : Shape := ⟨3, ![4, 4096, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4x4096x8192, .f32⟩
  | .hbm, ⟨3, _⟩ => ⟨S4x4096x1024, .f32⟩
  | .hbm, ⟨4, _⟩ => ⟨S16384x1024, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KNew.lean ====
abbrev S32x1x2048 : Shape := ⟨3, ![32, 1, 2048]⟩
abbrev S2048x8192 : Shape := ⟨2, ![2048, 8192]⟩
abbrev S32x2048 : Shape := ⟨2, ![32, 2048]⟩
abbrev S_ : Shape := ⟨0, ![]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x96 : Shape := ⟨2, ![1, 96]⟩
abbrev S1x128 : Shape := ⟨2, ![1, 128]⟩
abbrev S1x1x1x128 : Shape := ⟨4, ![1, 1, 1, 128]⟩
abbrev S32x1x1x128 : Shape := ⟨4, ![32, 1, 1, 128]⟩
abbrev S32x128 : Shape := ⟨2, ![32, 128]⟩
abbrev S32x1024 : Shape := ⟨2, ![32, 1024]⟩
abbrev S2048x1024 : Shape := ⟨2, ![2048, 1024]⟩

abbrev nBuf : Space → Nat
  | .hbm => 39
  | .vmem => 5
  | .smem => 0
  | _ => 0

abbrev bufTy : (tb : Table) → Fin (tcTables nBuf tb) → BufTy
  | .hbm, ⟨0, _⟩ => ⟨S32x1x2048, .f32⟩
  | .hbm, ⟨1, _⟩ => ⟨S2048x8192, .f32⟩
  | .hbm, ⟨2, _⟩ => ⟨S32x2048, .f32⟩
  | .hbm, ⟨3, _⟩ => ⟨S32x2048, .bf16⟩
  | .hbm, ⟨4, _⟩ => ⟨S_, .i32⟩
  | .hbm, ⟨5, _⟩ => ⟨S1, .i32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S1, .f32⟩
  | .hbm, ⟨18, _⟩ => ⟨S1x1, .f32⟩
  | .hbm, ⟨19, _⟩ => ⟨S1x16, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S1x16, .f32⟩
  | .hbm, ⟨24, _⟩ => ⟨S_, .f32⟩
  | .hbm, ⟨25, _⟩ => ⟨S1x96, .f32⟩
  | .hbm, ⟨26, _⟩ => ⟨S1x128, .f32⟩
  | .hbm, ⟨27, _⟩ => ⟨S1x16, .f32⟩
  | .hbm, ⟨28, _⟩ => ⟨S_, .f32⟩
  | .hbm, ⟨29, _⟩ => ⟨S1x96, .f32⟩
  | .hbm, ⟨30, _⟩ => ⟨S1x128, .f32⟩
  | .hbm, ⟨31, _⟩ => ⟨S1x1x1x128, .f32⟩
  | .hbm, ⟨32, _⟩ => ⟨S32x1x1x128, .f32⟩
  | .hbm, ⟨33, _⟩ => ⟨S32x128, .f32⟩
  | .hbm, ⟨34, _⟩ => ⟨S1x1x1x128, .f32⟩
  | .hbm, ⟨35, _⟩ => ⟨S32x1x1x128, .f32⟩
  | .hbm, ⟨36, _⟩ => ⟨S32x128, .f32⟩
  | .hbm, ⟨37, _⟩ => ⟨S2048x8192, .bf16⟩
  | .hbm, ⟨38, _⟩ => ⟨S32x1024, .f32⟩
  | .local _ .vmem, ⟨0, _⟩ => ⟨S32x2048, .bf16⟩
  | .local _ .vmem, ⟨1, _⟩ => ⟨S2048x1024, .bf16⟩
  | .local _ .vmem, ⟨2, _⟩ => ⟨S32x128, .f32⟩
  | .local _ .vmem, ⟨3, _⟩ => ⟨S32x128, .f32⟩
  | .local _ .vmem, ⟨4, _⟩ => ⟨S32x1024, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== KNewRefIdeal.lean ====
abbrev S32x1x2048 : Shape := ⟨3, ![32, 1, 2048]⟩
abbrev S2048x8192 : Shape := ⟨2, ![2048, 8192]⟩
abbrev S32x1x8192 : Shape := ⟨3, ![32, 1, 8192]⟩
abbrev S32x1x1024 : Shape := ⟨3, ![32, 1, 1024]⟩
abbrev S32x1x8x128 : Shape := ⟨4, ![32, 1, 8, 128]⟩
abbrev S1 : Shape := ⟨1, ![1]⟩
abbrev S_ : Shape := ⟨0, ![]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S32x1x8x16 : Shape := ⟨4, ![32, 1, 8, 16]⟩
abbrev S32x1x8x96 : Shape := ⟨4, ![32, 1, 8, 96]⟩
abbrev S32x1024 : Shape := ⟨2, ![32, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048x8192, .f32⟩
  | .hbm, ⟨2, _⟩ => ⟨S32x1x8192, .f32⟩
  | .hbm, ⟨3, _⟩ => ⟨S32x1x1024, .f32⟩
  | .hbm, ⟨4, _⟩ => ⟨S32x1x8x128, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S1, .f32⟩
  | .hbm, ⟨21, _⟩ => ⟨S1x1, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S1x1x1x16, .f32⟩
  | .hbm, ⟨27, _⟩ => ⟨S1x16, .f32⟩
  | .hbm, ⟨28, _⟩ => ⟨S1x1x1x16, .f32⟩
  | .hbm, ⟨29, _⟩ => ⟨S32x1x8x16, .f32⟩
  | .hbm, ⟨30, _⟩ => ⟨S32x1x8x16, .f32⟩
  | .hbm, ⟨31, _⟩ => ⟨S32x1x8x16, .f32⟩
  | .hbm, ⟨32, _⟩ => ⟨S32x1x8x16, .f32⟩
  | .hbm, ⟨33, _⟩ => ⟨S32x1x8x16, .f32⟩
  | .hbm, ⟨34, _⟩ => ⟨S32x1x8x16, .f32⟩
  | .hbm, ⟨35, _⟩ => ⟨S32x1x8x16, .f32⟩
  | .hbm, ⟨36, _⟩ => ⟨S32x1x8x16, .f32⟩
  | .hbm, ⟨37, _⟩ => ⟨S32x1x8x16, .f32⟩
  | .hbm, ⟨38, _⟩ => ⟨S32x1x8x16, .f32⟩
  | .hbm, ⟨39, _⟩ => ⟨S32x1x8x16, .f32⟩
  | .hbm, ⟨40, _⟩ => ⟨S32x1x8x16, .f32⟩
  | .hbm, ⟨41, _⟩ => ⟨S32x1x8x96, .f32⟩
  | .hbm, ⟨42, _⟩ => ⟨S32x1x8x128, .f32⟩
  | .hbm, ⟨43, _⟩ => ⟨S32x1024, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== VNew.lean ====
abbrev S32x1x2048 : Shape := ⟨3, ![32, 1, 2048]⟩
abbrev S2048x8192 : Shape := ⟨2, ![2048, 8192]⟩
abbrev S32x2048 : Shape := ⟨2, ![32, 2048]⟩
abbrev S32x1024 : Shape := ⟨2, ![32, 1024]⟩
abbrev S2048x1024 : Shape := ⟨2, ![2048, 1024]⟩

abbrev nBuf : Space → Nat
  | .hbm => 6
  | .vmem => 3
  | .smem => 0
  | _ => 0

abbrev bufTy : (tb : Table) → Fin (tcTables nBuf tb) → BufTy
  | .hbm, ⟨0, _⟩ => ⟨S32x1x2048, .f32⟩
  | .hbm, ⟨1, _⟩ => ⟨S2048x8192, .f32⟩
  | .hbm, ⟨2, _⟩ => ⟨S32x2048, .f32⟩
  | .hbm, ⟨3, _⟩ => ⟨S32x2048, .bf16⟩
  | .hbm, ⟨4, _⟩ => ⟨S2048x8192, .bf16⟩
  | .hbm, ⟨5, _⟩ => ⟨S32x1024, .f32⟩
  | .local _ .vmem, ⟨0, _⟩ => ⟨S32x2048, .bf16⟩
  | .local _ .vmem, ⟨1, _⟩ => ⟨S2048x1024, .bf16⟩
  | .local _ .vmem, ⟨2, _⟩ => ⟨S32x1024, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== VNewRefIdeal.lean ====
abbrev S32x1x2048 : Shape := ⟨3, ![32, 1, 2048]⟩
abbrev S2048x8192 : Shape := ⟨2, ![2048, 8192]⟩
abbrev S32x1x8192 : Shape := ⟨3, ![32, 1, 8192]⟩
abbrev S32x1x1024 : Shape := ⟨3, ![32, 1, 1024]⟩
abbrev S32x1024 : Shape := ⟨2, ![32, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048x8192, .f32⟩
  | .hbm, ⟨2, _⟩ => ⟨S32x1x8192, .f32⟩
  | .hbm, ⟨3, _⟩ => ⟨S32x1x1024, .f32⟩
  | .hbm, ⟨4, _⟩ => ⟨S32x1024, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UProj.lean ====
abbrev S4x4096x2048 : Shape := ⟨3, ![4, 4096, 2048]⟩
abbrev S2048x8192 : Shape := ⟨2, ![2048, 8192]⟩
abbrev S16384x2048 : Shape := ⟨2, ![16384, 2048]⟩
abbrev S16384x1024 : Shape := ⟨2, ![16384, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S16384x2048, .f32⟩
  | .hbm, ⟨3, _⟩ => ⟨S16384x2048, .bf16⟩
  | .hbm, ⟨4, _⟩ => ⟨S2048x8192, .bf16⟩
  | .hbm, ⟨5, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UProjRefIdeal.lean ====
abbrev S4x4096x2048 : Shape := ⟨3, ![4, 4096, 2048]⟩
abbrev S2048x8192 : Shape := ⟨2, ![2048, 8192]⟩
abbrev S4x4096x8192 : Shape := ⟨3, ![4, 4096, 8192]⟩
abbrev S4x4096x1024 : Shape := ⟨3, ![4, 4096, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4x4096x8192, .f32⟩
  | .hbm, ⟨3, _⟩ => ⟨S4x4096x1024, .f32⟩
  | .hbm, ⟨4, _⟩ => ⟨S16384x1024, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GaProj.lean ====
abbrev S4x4096x2048 : Shape := ⟨3, ![4, 4096, 2048]⟩
abbrev S2048x8192 : Shape := ⟨2, ![2048, 8192]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S16384x2048, .f32⟩
  | .hbm, ⟨3, _⟩ => ⟨S16384x2048, .bf16⟩
  | .hbm, ⟨4, _⟩ => ⟨S2048x8192, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GaProjRefIdeal.lean ====
abbrev S4x4096x2048 : Shape := ⟨3, ![4, 4096, 2048]⟩
abbrev S2048x8192 : Shape := ⟨2, ![2048, 8192]⟩
abbrev S4x4096x8192 : Shape := ⟨3, ![4, 4096, 8192]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4x4096x8192, .f32⟩
  | .hbm, ⟨3, _⟩ => ⟨S4x4096x2048, .f32⟩
  | .hbm, ⟨4, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GbProj.lean ====
abbrev S4x4096x2048 : Shape := ⟨3, ![4, 4096, 2048]⟩
abbrev S2048x8192 : Shape := ⟨2, ![2048, 8192]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S16384x2048, .f32⟩
  | .hbm, ⟨3, _⟩ => ⟨S16384x2048, .bf16⟩
  | .hbm, ⟨4, _⟩ => ⟨S2048x8192, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GbProjRefIdeal.lean ====
abbrev S4x4096x2048 : Shape := ⟨3, ![4, 4096, 2048]⟩
abbrev S2048x8192 : Shape := ⟨2, ![2048, 8192]⟩
abbrev S4x4096x8192 : Shape := ⟨3, ![4, 4096, 8192]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4x4096x8192, .f32⟩
  | .hbm, ⟨3, _⟩ => ⟨S4x4096x2048, .f32⟩
  | .hbm, ⟨4, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QProj.lean ====
abbrev S4x4096x2048 : Shape := ⟨3, ![4, 4096, 2048]⟩
abbrev S2048x8192 : Shape := ⟨2, ![2048, 8192]⟩
abbrev S16384x2048 : Shape := ⟨2, ![16384, 2048]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S4x4096x1x128 : Shape := ⟨4, ![4, 4096, 1, 128]⟩
abbrev S16384x128 : Shape := ⟨2, ![16384, 128]⟩
abbrev S16384x1024 : Shape := ⟨2, ![16384, 1024]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 39
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S16384x2048, .f32⟩
  | .hbm, ⟨3, _⟩ => ⟨S16384x2048, .bf16⟩
  | .hbm, ⟨4, _⟩ => ⟨S4096, .i32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S4096, .f32⟩
  | .hbm, ⟨17, _⟩ => ⟨S4096x1, .f32⟩
  | .hbm, ⟨18, _⟩ => ⟨S1x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S_, .f32⟩
  | .hbm, ⟨25, _⟩ => ⟨S4096x96, .f32⟩
  | .hbm, ⟨26, _⟩ => ⟨S4096x128, .f32⟩
  | .hbm, ⟨27, _⟩ => ⟨S4096x16, .f32⟩
  | .hbm, ⟨28, _⟩ => ⟨S_, .f32⟩
  | .hbm, ⟨29, _⟩ => ⟨S4096x96, .f32⟩
  | .hbm, ⟨30, _⟩ => ⟨S4096x128, .f32⟩
  | .hbm, ⟨31, _⟩ => ⟨S1x4096x1x128, .f32⟩
  | .hbm, ⟨32, _⟩ => ⟨S4x4096x1x128, .f32⟩
  | .hbm, ⟨33, _⟩ => ⟨S16384x128, .f32⟩
  | .hbm, ⟨34, _⟩ => ⟨S1x4096x1x128, .f32⟩
  | .hbm, ⟨35, _⟩ => ⟨S4x4096x1x128, .f32⟩
  | .hbm, ⟨36, _⟩ => ⟨S16384x128, .f32⟩
  | .hbm, ⟨37, _⟩ => ⟨S2048x8192, .bf16⟩
  | .hbm, ⟨38, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QProjRefIdeal.lean ====
abbrev S4x4096x2048 : Shape := ⟨3, ![4, 4096, 2048]⟩
abbrev S2048x8192 : Shape := ⟨2, ![2048, 8192]⟩
abbrev S4x4096x8192 : Shape := ⟨3, ![4, 4096, 8192]⟩
abbrev S4x4096x1024 : Shape := ⟨3, ![4, 4096, 1024]⟩
abbrev S4x4096x8x128 : Shape := ⟨4, ![4, 4096, 8, 128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x16 : Shape := ⟨4, ![4, 4096, 8, 16]⟩
abbrev S4x4096x8x96 : Shape := ⟨4, ![4, 4096, 8, 96]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4x4096x8192, .f32⟩
  | .hbm, ⟨3, _⟩ => ⟨S4x4096x1024, .f32⟩
  | .hbm, ⟨4, _⟩ => ⟨S4x4096x8x128, .f32⟩
  | .hbm, ⟨5, _⟩ => ⟨S4096, .i32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S1x4096x1x16, .f32⟩
  | .hbm, ⟨25, _⟩ => ⟨S4096x16, .f32⟩
  | .hbm, ⟨26, _⟩ => ⟨S1x4096x1x16, .f32⟩
  | .hbm, ⟨27, _⟩ => ⟨S4x4096x8x16, .f32⟩
  | .hbm, ⟨28, _⟩ => ⟨S4x4096x8x16, .f32⟩
  | .hbm, ⟨29, _⟩ => ⟨S4x4096x8x16, .f32⟩
  | .hbm, ⟨30, _⟩ => ⟨S4x4096x8x16, .f32⟩
  | .hbm, ⟨31, _⟩ => ⟨S4x4096x8x16, .f32⟩
  | .hbm, ⟨32, _⟩ => ⟨S4x4096x8x16, .f32⟩
  | .hbm, ⟨33, _⟩ => ⟨S4x4096x8x16, .f32⟩
  | .hbm, ⟨34, _⟩ => ⟨S4x4096x8x16, .f32⟩
  | .hbm, ⟨35, _⟩ => ⟨S4x4096x8x16, .f32⟩
  | .hbm, ⟨36, _⟩ => ⟨S4x4096x8x16, .f32⟩
  | .hbm, ⟨37, _⟩ => ⟨S4x4096x8x16, .f32⟩
  | .hbm, ⟨38, _⟩ => ⟨S4x4096x8x16, .f32⟩
  | .hbm, ⟨39, _⟩ => ⟨S4x4096x8x96, .f32⟩
  | .hbm, ⟨40, _⟩ => ⟨S4x4096x8x128, .f32⟩
  | .hbm, ⟨41, _⟩ => ⟨S16384x1024, .f32⟩
  | .hbm, ⟨42, _⟩ => ⟨S16384x1024, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== Mix.lean ====
abbrev S16384x1024 : Shape := ⟨2, ![16384, 1024]⟩
abbrev S16384x2048 : Shape := ⟨2, ![16384, 2048]⟩
abbrev S4x4096x2048 : Shape := ⟨3, ![4, 4096, 2048]⟩
abbrev S1024x2048 : Shape := ⟨2, ![1024, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S16384x128 : Shape := ⟨2, ![16384, 128]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 36
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S16384x2048, .f32⟩
  | .hbm, ⟨4, _⟩ => ⟨S4x4096x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048x32, .f32⟩
  | .hbm, ⟨12, _⟩ => ⟨S32, .f32⟩
  | .hbm, ⟨13, _⟩ => ⟨S_, .bf16⟩
  | .hbm, ⟨14, _⟩ => ⟨S2048x128, .bf16⟩
  | .hbm, ⟨15, _⟩ => ⟨S2048x32, .bf16⟩
  | .hbm, ⟨16, _⟩ => ⟨S_, .i32⟩
  | .hbm, ⟨17, _⟩ => ⟨S1, .i32⟩
  | .hbm, ⟨18, _⟩ => ⟨S2048x128, .bf16⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S1024x2048, .bf16⟩
  | .hbm, ⟨28, _⟩ => ⟨S1024x2048, .bf16⟩
  | .hbm, ⟨29, _⟩ => ⟨S1024x2048, .bf16⟩
  | .hbm, ⟨30, _⟩ => ⟨S2048x2048, .bf16⟩
  | .hbm, ⟨31, _⟩ => ⟨S1x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S2048x2048, .bf16⟩
  | .local _ .vmem, ⟨14, _⟩ => ⟨S1x2048, .f32⟩
  | .local _ .vmem, ⟨15, _⟩ => ⟨S1x2048, .f32⟩
  | .local _ .vmem, ⟨16, _⟩ => ⟨S2048x128, .bf16⟩
  | .local _ .vmem, ⟨17, _⟩ => ⟨S1x128, .f32⟩
  | .local _ .vmem, ⟨18, _⟩ => ⟨S256x2048, .f32⟩
  | .local _ .vmem, ⟨19, _⟩ => ⟨S256x2048, .f32⟩
  | .local _ .vmem, ⟨20, _⟩ => ⟨S256x128, .f32⟩
  | .local _ .vmem, ⟨21, _⟩ => ⟨S256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_c_1 : Ref sig .tc := ⟨.hbm, 21, rfl⟩
abbrev main_v5 : Ref sig .tc := ⟨.hbm, 22, rfl⟩
abbrev main_c_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixRefIdeal.lean ====
abbrev S16384x1024 : Shape := ⟨2, ![16384, 1024]⟩
abbrev S16384x2048 : Shape := ⟨2, ![16384, 2048]⟩
abbrev S4x4096x2048 : Shape := ⟨3, ![4, 4096, 2048]⟩
abbrev S1024x2048 : Shape := ⟨2, ![1024, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S16384x2048, .f32⟩
  | .hbm, ⟨4, _⟩ => ⟨S4x4096x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048x32, .f32⟩
  | .hbm, ⟨12, _⟩ => ⟨S32, .f32⟩
  | .hbm, ⟨13, _⟩ => ⟨S16384x1024, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x1024, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x2048, .f32⟩
  | .hbm, ⟨72, _⟩ => ⟨S16384x2048, .f32⟩
  | .hbm, ⟨73, _⟩ => ⟨S1x2048, .f32⟩
  | .hbm, ⟨74, _⟩ => ⟨S16384x2048, .f32⟩
  | .hbm, ⟨75, _⟩ => ⟨S16384x2048, .f32⟩
  | .hbm, ⟨76, _⟩ => ⟨S1x2048, .f32⟩
  | .hbm, ⟨77, _⟩ => ⟨S16384x2048, .f32⟩
  | .hbm, ⟨78, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Down.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x2048 : Shape := ⟨2, ![32, 2048]⟩
abbrev S32x1x2048 : Shape := ⟨3, ![32, 1, 2048]⟩
abbrev S512x2048 : Shape := ⟨2, ![512, 2048]⟩
abbrev S1x1x2048 : Shape := ⟨3, ![1, 1, 2048]⟩
abbrev S1x2048x2048 : Shape := ⟨3, ![1, 2048, 2048]⟩
abbrev S_ : Shape := ⟨0, ![]⟩
abbrev S2048x2048 : Shape := ⟨2, ![2048, 2048]⟩
abbrev S1x2048 : Shape := ⟨2, ![1, 2048]⟩

abbrev nBuf : Space → Nat
  | .hbm => 5
  | .vmem => 8
  | .smem => 2
  | _ => 0

abbrev bufTy : (tb : Table) → Fin (tcTables nBuf tb) → BufTy
  | .hbm, ⟨0, _⟩ => ⟨S82432x2048, .bf16⟩
  | .hbm, ⟨1, _⟩ => ⟨S32x2048x2048, .f32⟩
  | .hbm, ⟨2, _⟩ => ⟨S32x2048, .f32⟩
  | .hbm, ⟨3, _⟩ => ⟨S32x1x2048, .f32⟩
  | .hbm, ⟨4, _⟩ => ⟨S82432x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x2048, .f32⟩
  | .local _ .vmem, ⟨3, _⟩ => ⟨S1x1x2048, .f32⟩
  | .local _ .vmem, ⟨4, _⟩ => ⟨S512x2048, .f32⟩
  | .local _ .vmem, ⟨5, _⟩ => ⟨S512x2048, .f32⟩
  | .local _ .vmem, ⟨6, _⟩ => ⟨S1x2048x2048, .f32⟩
  | .local _ .vmem, ⟨7, _⟩ => ⟨S1x2048x2048, .bf16⟩
  | .local _ .smem, ⟨0, _⟩ => ⟨S161, .i32⟩
  | .local _ .smem, ⟨1, _⟩ => ⟨S1, .i32⟩
  | _, _ => ⟨S82432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![161], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
def k0_off3 (i : grid0.Coords) : Fin 1 → Nat :=
  let arg0 : BitVec 32 := BitVec.ofNat 32 (i 0).val
  let c1_i32 : BitVec 32 := 1#32
  let v10 : BitVec 32 := Scalar.subi arg0 c1_i32
  let c0_i32_2 : BitVec 32 := 0#32
  let v11 : BitVec 32 := Scalar.maxsi v10 c0_i32_2
  let v12 : Index := Scalar.indexCast v11
  ![v12.toNat]
def k0_cond3 (i : grid0.Coords) : BitVec 1 :=
  let arg0 : BitVec 32 := BitVec.ofNat 32 (i 0).val
  let c0_i32_14 : BitVec 32 := 0#32
  let v27 : BitVec 1 := Scalar.cmpi .eq arg0 c0_i32_14
  let v_true : BitVec 1 := 1#1
  let v28 : BitVec 1 := Scalar.andi v27 v_true
  let v29 : BitVec 32 := Scalar.extui v28
  let c0_i32_15 : BitVec 32 := 0#32
  let v30 : BitVec 1 := Scalar.cmpi .ne v29 c0_i32_15
  v30

def k0_off4 (v8 : BitVec 32) : Fin 3 → Nat :=
  let c0_i32_37 : BitVec 32 := 0#32
  let c0_i32_38 : BitVec 32 := 0#32
  ![v8.toNat, 0, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v8 : BitVec 32) (v13 : BitVec 32) : BitVec 1 :=
  let arg0 : BitVec 32 := BitVec.ofNat 32 (i 0).val
  let c0_i32_1 : BitVec 32 := 0#32
  let v9 : BitVec 1 := Scalar.cmpi .eq arg0 c0_i32_1
  let v14 : BitVec 1 := Scalar.cmpi .ne v8 v13
  let v15 : BitVec 1 := Scalar.ori v9 v14
  let v16 : BitVec 32 := Scalar.extui v15
  let c0_i32_3 : BitVec 32 := 0#32
  let v17 : BitVec 1 := Scalar.cmpi .ne v16 c0_i32_3
  v17

def k0_off5 (v8 : BitVec 32) : Fin 3 → Nat :=
  let c0_i32_20 : BitVec 32 := 0#32
  let c0_i32_21 : BitVec 32 := 0#32
  ![v8.toNat, 0, 0]

def k0_chk1 (i : grid0.Coords) (v0 : BitVec 32) (v8 : BitVec 32) (v13 : BitVec 32) : Prop :=
  (∀ (k0_h1 : k0_cond1 i v0 = 1#1), ∀ (k0_h2 : k0_cond2 i v8 v13 = 1#1), ∀ (k0_h3 : k0_cond3 i = 1#1), ∀ a, (k0_off4 v8) a + S1x2048x2048.size a ≤ S32x2048x2048.size a) ∧
  (∀ (k0_h1 : k0_cond1 i v0 = 1#1), ∀ (k0_h2 : k0_cond2 i v8 v13 = 1#1), ∀ a, (k0_off5 v8) a + S1x2048x2048.size a ≤ S32x2048x2048.size a)
theorem k0_off4_inb : ∀ (i : grid0.Coords) (v0 : BitVec 32) (v8 : BitVec 32) (v13 : BitVec 32) (k0_hw1 : k0_chk1 i v0 v8 v13), ∀ (k0_h1 : k0_cond1 i v0 = 1#1), ∀ (k0_h2 : k0_cond2 i v8 v13 = 1#1), ∀ (k0_h3 : k0_cond3 i = 1#1), ∀ a, (k0_off4 v8) a + S1x2048x2048.size a ≤ S32x2048x2048.size a := fun i v0 v8 v13 k0_hw1 k0_h1 k0_h2 k0_h3 => k0_hw1.1 k0_h1 k0_h2 k0_h3
theorem k0_off5_inb : ∀ (i : grid0.Coords) (v0 : BitVec 32) (v8 : BitVec 32) (v13 : BitVec 32) (k0_hw1 : k0_chk1 i v0 v8 v13), ∀ (k0_h1 : k0_cond1 i v0 = 1#1), ∀ (k0_h2 : k0_cond2 i v8 v13 = 1#1), ∀ a, (k0_off5 v8) a + S1x2048x2048.size a ≤ S32x2048x2048.size a := fun i v0 v8 v13 k0_hw1 k0_h1 k0_h2 => k0_hw1.2 k0_h1 k0_h2

@[reducible] def k0_t1_loop : Scf.Loop 32 :=
  let c0_i32_28 : BitVec 32 := 0#32
  let c161_i32 : BitVec 32 := 161#32
  let v43 : BitVec 32 := Scalar.addi c0_i32_28 c161_i32
  let c1_i32_29 : BitVec 32 := 1#32
  ⟨c0_i32_28, v43, c1_i32_29⟩
def k0_off6 (k0_t1 : Fin k0_t1_loop.trips) : Fin 1 → Nat :=
  let c160_i32_34 : BitVec 32 := 160#32
  let c0_i32_28 : BitVec 32 := 0#32
  let c1_i32_29 : BitVec 32 := 1#32
  let arg10 : BitVec 32 := Scf.iv c0_i32_28 c1_i32_29 k0_t1
  let v57 : BitVec 32 := Scalar.subi c160_i32_34 arg10
  let v58 : Index := Scalar.indexCast v57
  ![v58.toNat]
def k0_off7 (v44 : BitVec 32) : Fin 1 → Nat :=
  let c160_i32 : BitVec 32 := 160#32
  let v52 : BitVec 32 := Scalar.minsi v44 c160_i32
  let v53 : Index := Scalar.indexCast v52
  ![v53.toNat]
def k0_cond4 (v0 : BitVec 32) (v44 : BitVec 32) : BitVec 1 :=
  let v45 : BitVec 1 := Scalar.cmpi .slt v44 v0
  let v46 : BitVec 32 := Scalar.extui v45
  let c0_i32_31 : BitVec 32 := 0#32
  let v47 : BitVec 1 := Scalar.cmpi .ne v46 c0_i32_31
  v47

def k0_chk2 (i : grid0.Coords) (v0 : BitVec 32) (v8 : BitVec 32) (v13 : BitVec 32) (v44 : BitVec 32) : Prop :=
  (∀ (k0_h1 : k0_cond1 i v0 = 1#1), ∀ (k0_h2 : k0_cond2 i v8 v13 = 1#1), ∀ (k0_h4 : k0_cond4 v0 v44 = 1#1), ∀ a, (k0_off7 v44) a + S1.size a ≤ S161.size a)
theorem k0_off7_inb : ∀ (i : grid0.Coords) (v0 : BitVec 32) (v8 : BitVec 32) (v13 : BitVec 32) (v44 : BitVec 32) (k0_hw2 : k0_chk2 i v0 v8 v13 v44), ∀ (k0_h1 : k0_cond1 i v0 = 1#1), ∀ (k0_h2 : k0_cond2 i v8 v13 = 1#1), ∀ (k0_h4 : k0_cond4 v0 v44 = 1#1), ∀ a, (k0_off7 v44) a + S1.size a ≤ S161.size a := fun i v0 v8 v13 v44 k0_hw2 k0_h1 k0_h2 k0_h4 => k0_hw2 k0_h1 k0_h2 k0_h4

def k0_off8 (v54 : BitVec 32) : Fin 3 → Nat :=
  let c0_i32_37 : BitVec 32 := 0#32
  let c0_i32_38 : BitVec 32 := 0#32
  ![v54.toNat, 0, 0]

def k0_chk3 (i : grid0.Coords) (v0 : BitVec 32) (v8 : BitVec 32) (v13 : BitVec 32) (v44 : BitVec 32) (v54 : BitVec 32) : Prop :=
  (∀ (k0_h1 : k0_cond1 i v0 = 1#1), ∀ (k0_h2 : k0_cond2 i v8 v13 = 1#1), ∀ (k0_h4 : k0_cond4 v0 v44 = 1#1), ∀ a, (k0_off8 v54) a + S1x2048x2048.size a ≤ S32x2048x2048.size a)
theorem k0_off8_inb : ∀ (i : grid0.Coords) (v0 : BitVec 32) (v8 : BitVec 32) (v13 : BitVec 32) (v44 : BitVec 32) (v54 : BitVec 32) (k0_hw3 : k0_chk3 i v0 v8 v13 v44 v54), ∀ (k0_h1 : k0_cond1 i v0 = 1#1), ∀ (k0_h2 : k0_cond2 i v8 v13 = 1#1), ∀ (k0_h4 : k0_cond4 v0 v44 = 1#1), ∀ a, (k0_off8 v54) a + S1x2048x2048.size a ≤ S32x2048x2048.size a := fun i v0 v8 v13 v44 v54 k0_hw3 k0_h1 k0_h2 k0_h4 => k0_hw3 k0_h1 k0_h2 k0_h4

def k0_off9 (v52 : BitVec 32) : Fin 3 → Nat :=
  let c0_i32_38 : BitVec 32 := 0#32
  let c0_i32_39 : BitVec 32 := 0#32
  ![v52.toNat, 0, 0]
def k0_cond5 (v0 : BitVec 32) (v44 : BitVec 32) : BitVec 1 :=
  let v48 : BitVec 1 := Scalar.cmpi .sge v44 v0
  let v_false : BitVec 1 := 0#1
  let v49 : BitVec 1 := Scalar.andi v48 v_false
  let v50 : BitVec 32 := Scalar.extui v49
  let c0_i32_32 : BitVec 32 := 0#32
  let v51 : BitVec 1 := Scalar.cmpi .ne v50 c0_i32_32
  v51

def k0_chk4 (i : grid0.Coords) (v0 : BitVec 32) (v8 : BitVec 32) (v13 : BitVec 32) (v44 : BitVec 32) (v52 : BitVec 32) : Prop :=
  (∀ (k0_h1 : k0_cond1 i v0 = 1#1), ∀ (k0_h2 : k0_cond2 i v8 v13 = 1#1), ∀ (k0_h5 : k0_cond5 v0 v44 = 1#1), ∀ a, (k0_off9 v52) a + S1x2048x2048.size a ≤ S32x2048x2048.size a)
theorem k0_off9_inb : ∀ (i : grid0.Coords) (v0 : BitVec 32) (v8 : BitVec 32) (v13 : BitVec 32) (v44 : BitVec 32) (v52 : BitVec 32) (k0_hw4 : k0_chk4 i v0 v8 v13 v44 v52), ∀ (k0_h1 : k0_cond1 i v0 = 1#1), ∀ (k0_h2 : k0_cond2 i v8 v13 = 1#1), ∀ (k0_h5 : k0_cond5 v0 v44 = 1#1), ∀ a, (k0_off9 v52) a + S1x2048x2048.size a ≤ S32x2048x2048.size a := fun i v0 v8 v13 v44 v52 k0_hw4 k0_h1 k0_h2 k0_h5 => k0_hw4 k0_h1 k0_h2 k0_h5

def k0_cond6 (i : grid0.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownRefIdeal.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x2048 : Shape := ⟨2, ![32, 2048]⟩
abbrev S161x512x2048 : Shape := ⟨3, ![161, 512, 2048]⟩
abbrev S_ : Shape := ⟨0, ![]⟩
abbrev S161x1 : Shape := ⟨2, ![161, 1]⟩
abbrev S161x2048x2048 : Shape := ⟨3, ![161, 2048, 2048]⟩
abbrev S161x2048 : Shape := ⟨2, ![161, 2048]⟩
abbrev S161x1x2048 : Shape := ⟨3, ![161, 1, 2048]⟩
abbrev S161x1x1 : Shape := ⟨3, ![161, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S161, .i32⟩
  | .hbm, ⟨1, _⟩ => ⟨S1, .i32⟩
  | .hbm, ⟨2, _⟩ => ⟨S82432x2048, .bf16⟩
  | .hbm, ⟨3, _⟩ => ⟨S32x2048x2048, .f32⟩
  | .hbm, ⟨4, _⟩ => ⟨S32x2048, .f32⟩
  | .hbm, ⟨5, _⟩ => ⟨S82432x2048, .f32⟩
  | .hbm, ⟨6, _⟩ => ⟨S161x512x2048, .f32⟩
  | .hbm, ⟨7, _⟩ => ⟨S_, .i32⟩
  | .hbm, ⟨8, _⟩ => ⟨S161, .i32⟩
  | .hbm, ⟨9, _⟩ => ⟨S161, .i1⟩
  | .hbm, ⟨10, _⟩ => ⟨S_, .i32⟩
  | .hbm, ⟨11, _⟩ => ⟨S161, .i32⟩
  | .hbm, ⟨12, _⟩ => ⟨S161, .i32⟩
  | .hbm, ⟨13, _⟩ => ⟨S161, .i32⟩
  | .hbm, ⟨14, _⟩ => ⟨S161x1, .i32⟩
  | .hbm, ⟨15, _⟩ => ⟨S161x2048x2048, .f32⟩
  | .hbm, ⟨16, _⟩ => ⟨S161x512x2048, .f32⟩
  | .hbm, ⟨17, _⟩ => ⟨S_, .i32⟩
  | .hbm, ⟨18, _⟩ => ⟨S161, .i32⟩
  | .hbm, ⟨19, _⟩ => ⟨S161, .i1⟩
  | .hbm, ⟨20, _⟩ => ⟨S_, .i32⟩
  | .hbm, ⟨21, _⟩ => ⟨S161, .i32⟩
  | .hbm, ⟨22, _⟩ => ⟨S161, .i32⟩
  | .hbm, ⟨23, _⟩ => ⟨S161, .i32⟩
  | .hbm, ⟨24, _⟩ => ⟨S161x1, .i32⟩
  | .hbm, ⟨25, _⟩ => ⟨S161x2048, .f32⟩
  | .hbm, ⟨26, _⟩ => ⟨S161x1x2048, .f32⟩
  | .hbm, ⟨27, _⟩ => ⟨S161x512x2048, .f32⟩
  | .hbm, ⟨28, _⟩ => ⟨S161x512x2048, .f32⟩
  | .hbm, ⟨29, _⟩ => ⟨S161, .i32⟩
  | .hbm, ⟨30, _⟩ => ⟨S_, .i32⟩
  | .hbm, ⟨31, _⟩ => ⟨S161, .i32⟩
  | .hbm, ⟨32, _⟩ => ⟨S161, .i1⟩
  | .hbm, ⟨33, _⟩ => ⟨S161x1x1, .i1⟩
  | .hbm, ⟨34, _⟩ => ⟨S_, .f32⟩
  | .hbm, ⟨35, _⟩ => ⟨S_, .f32⟩
  | .hbm, ⟨36, _⟩ => ⟨S161x512x2048, .i1⟩
  | .hbm, ⟨37, _⟩ => ⟨S161x512x2048, .f32⟩
  | .hbm, ⟨38, _⟩ => ⟨S161x512x2048, .f32⟩
  | .hbm, ⟨39, _⟩ => ⟨S82432x2048, .f32⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Gate.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x2048 : Shape := ⟨2, ![32, 2048]⟩
abbrev S32x1x2048 : Shape := ⟨3, ![32, 1, 2048]⟩
abbrev S512x2048 : Shape := ⟨2, ![512, 2048]⟩
abbrev S1x1x1024 : Shape := ⟨3, ![1, 1, 1024]⟩
abbrev S512x1024 : Shape := ⟨2, ![512, 1024]⟩
abbrev S2x2048x1024 : Shape := ⟨3, ![2, 2048, 1024]⟩
abbrev S2 : Shape := ⟨1, ![2]⟩
abbrev S_ : Shape := ⟨0, ![]⟩
abbrev S1x2048x1024 : Shape := ⟨3, ![1, 2048, 1024]⟩
abbrev S2048x1024 : Shape := ⟨2, ![2048, 1024]⟩
abbrev S1x1024 : Shape := ⟨2, ![1, 1024]⟩

abbrev nBuf : Space → Nat
  | .hbm => 8
  | .vmem => 10
  | .smem => 2
  | _ => 0

abbrev bufTy : (tb : Table) → Fin (tcTables nBuf tb) → BufTy
  | .hbm, ⟨0, _⟩ => ⟨S82432x2048, .f32⟩
  | .hbm, ⟨1, _⟩ => ⟨S32x2048x2048, .f32⟩
  | .hbm, ⟨2, _⟩ => ⟨S32x2048, .f32⟩
  | .hbm, ⟨3, _⟩ => ⟨S32x2048x2048, .f32⟩
  | .hbm, ⟨4, _⟩ => ⟨S32x2048, .f32⟩
  | .hbm, ⟨5, _⟩ => ⟨S32x1x2048, .f32⟩
  | .hbm, ⟨6, _⟩ => ⟨S32x1x2048, .f32⟩
  | .hbm, ⟨7, _⟩ => ⟨S82432x2048, .bf16⟩
  | .local _ .vmem, ⟨0, _⟩ => ⟨S512x2048, .f32⟩
  | .local _ .vmem, ⟨1, _⟩ => ⟨S512x2048, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S2x2048x1024, .f32⟩
  | .local _ .vmem, ⟨9, _⟩ => ⟨S2x2048x1024, .bf16⟩
  | .local _ .smem, ⟨0, _⟩ => ⟨S161, .i32⟩
  | .local _ .smem, ⟨1, _⟩ => ⟨S1, .i32⟩
  | _, _ => ⟨S82432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 161], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v7 : Index := Scalar.indexCast arg1
  ![v7.toNat]
def k0_off3 (i : grid0.Coords) : Fin 1 → Nat :=
  let arg1 : BitVec 32 := BitVec.ofNat 32 (i 1).val
  let c1_i32 : BitVec 32 := 1#32
  let v10 : BitVec 32 := Scalar.subi arg1 c1_i32
  let c0_i32_2 : BitVec 32 := 0#32
  let v11 : BitVec 32 := Scalar.maxsi v10 c0_i32_2
  let v12 : Index := Scalar.indexCast v11
  ![v12.toNat]
def k0_cond3 (i : grid0.Coords) : BitVec 1 :=
  let arg1 : BitVec 32 := BitVec.ofNat 32 (i 1).val
  let c0_i32_28 : BitVec 32 := 0#32
  let v55 : BitVec 1 := Scalar.cmpi .eq arg1 c0_i32_28
  let arg0 : BitVec 32 := BitVec.ofNat 32 (i 0).val
  let c0_i32_29 : BitVec 32 := 0#32
  let v56 : BitVec 1 := Scalar.cmpi .eq arg0 c0_i32_29
  let v57 : BitVec 1 := Scalar.andi v55 v56
  let v58 : BitVec 32 := Scalar.extui v57
  let c0_i32_30 : BitVec 32 := 0#32
  let v59 : BitVec 1 := Scalar.cmpi .ne v58 c0_i32_30
  v59

def k0_mult1 (i : grid0.Coords) : BitVec 32 :=
  let arg0 : BitVec 32 := BitVec.ofNat 32 (i 0).val
  let c1024_i32_59 : BitVec 32 := 1024#32
  let v97 : BitVec 32 := Scalar.muli arg0 c1024_i32_59
  v97
def k0_off4 (i : grid0.Coords) (v8 : BitVec 32) : Fin 3 → Nat :=
  let c0_i32_64 : BitVec 32 := 0#32
  let arg0 : BitVec 32 := BitVec.ofNat 32 (i 0).val
  let c1024_i32_59 : BitVec 32 := 1024#32
  let v97 : BitVec 32 := Scalar.muli arg0 c1024_i32_59
  let v98 : BitVec 32 := v97
  ![v8.toNat, 0, v98.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v8 : BitVec 32) (v13 : BitVec 32) : BitVec 1 :=
  let arg1 : BitVec 32 := BitVec.ofNat 32 (i 1).val
  let c0_i32_1 : BitVec 32 := 0#32
  let v9 : BitVec 1 := Scalar.cmpi .eq arg1 c0_i32_1
  let v14 : BitVec 1 := Scalar.cmpi .ne v8 v13
  let v15 : BitVec 1 := Scalar.ori v9 v14
  let v16 : BitVec 32 := Scalar.extui v15
  let c0_i32_3 : BitVec 32 := 0#32
  let v17 : BitVec 1 := Scalar.cmpi .ne v16 c0_i32_3
  v17

def k0_mult2 (i : grid0.Coords) : BitVec 32 :=
  let arg0 : BitVec 32 := BitVec.ofNat 32 (i 0).val
  let c1024_i32 : BitVec 32 := 1024#32
  let v60 : BitVec 32 := Scalar.muli arg0 c1024_i32
  v60
def k0_off5 (i : grid0.Coords) (v8 : BitVec 32) : Fin 3 → Nat :=
  let c0_i32_35 : BitVec 32 := 0#32
  let arg0 : BitVec 32 := BitVec.ofNat 32 (i 0).val
  let c1024_i32 : BitVec 32 := 1024#32
  let v60 : BitVec 32 := Scalar.muli arg0 c1024_i32
  let v61 : BitVec 32 := v60
  ![v8.toNat, 0, v61.toNat]

def k0_chk1 (i : grid0.Coords) (v0 : BitVec 32) (v8 : BitVec 32) (v13 : BitVec 32) : Prop :=
  (∀ (k0_h1 : k0_cond1 i v0 = 1#1), ∀ (k0_h2 : k0_cond2 i v8 v13 = 1#1), ∀ (k0_h3 : k0_cond3 i = 1#1), ∀ a, (k0_off4 i v8) a + S1x2048x1024.size a ≤ S32x2048x2048.size a) ∧
  (∀ (k0_h1 : k0_cond1 i v0 = 1#1), ∀ (k0_h2 : k0_cond2 i v8 v13 = 1#1), ∀ a, (k0_off5 i v8) a + S1x2048x1024.size a ≤ S32x2048x2048.size a)
theorem k0_off4_inb : ∀ (i : grid0.Coords) (v0 : BitVec 32) (v8 : BitVec 32) (v13 : BitVec 32) (k0_hw1 : k0_chk1 i v0 v8 v13), ∀ (k0_h1 : k0_cond1 i v0 = 1#1), ∀ (k0_h2 : k0_cond2 i v8 v13 = 1#1), ∀ (k0_h3 : k0_cond3 i = 1#1), ∀ a, (k0_off4 i v8) a + S1x2048x1024.size a ≤ S32x2048x2048.size a := fun i v0 v8 v13 k0_hw1 k0_h1 k0_h2 k0_h3 => k0_hw1.1 k0_h1 k0_h2 k0_h3
theorem k0_off5_inb : ∀ (i : grid0.Coords) (v0 : BitVec 32) (v8 : BitVec 32) (v13 : BitVec 32) (k0_hw1 : k0_chk1 i v0 v8 v13), ∀ (k0_h1 : k0_cond1 i v0 = 1#1), ∀ (k0_h2 : k0_cond2 i v8 v13 = 1#1), ∀ a, (k0_off5 i v8) a + S1x2048x1024.size a ≤ S32x2048x2048.size a := fun i v0 v8 v13 k0_hw1 k0_h1 k0_h2 => k0_hw1.2 k0_h1 k0_h2

@[reducible] def k0_t1_loop : Scf.Loop 32 :=
  let c0_i32_53 : BitVec 32 := 0#32
  let c161_i32 : BitVec 32 := 161#32
  let v86 : BitVec 32 := Scalar.addi c0_i32_53 c161_i32
  let c1_i32_54 : BitVec 32 := 1#32
  ⟨c0_i32_53, v86, c1_i32_54⟩
def k0_off6 (k0_t1 : Fin k0_t1_loop.trips) : Fin 1 → Nat :=
  let c160_i32_60 : BitVec 32 := 160#32
  let c0_i32_53 : BitVec 32 := 0#32
  let c1_i32_54 : BitVec 32 := 1#32
  let arg13 : BitVec 32 := Scf.iv c0_i32_53 c1_i32_54 k0_t1
  let v102 : BitVec 32 := Scalar.subi c160_i32_60 arg13
  let v103 : Index := Scalar.indexCast v102
  ![v103.toNat]
def k0_off7 (v87 : BitVec 32) : Fin 1 → Nat :=
  let c160_i32 : BitVec 32 := 160#32
  let v97 : BitVec 32 := Scalar.minsi v87 c160_i32
  let v98 : Index := Scalar.indexCast v97
  ![v98.toNat]
def k0_cond4 (v0 : BitVec 32) (v87 : BitVec 32) : BitVec 1 :=
  let v88 : BitVec 1 := Scalar.cmpi .slt v87 v0
  let v89 : BitVec 32 := Scalar.extui v88
  let c0_i32_56 : BitVec 32 := 0#32
  let v90 : BitVec 1 := Scalar.cmpi .ne v89 c0_i32_56
  v90

def k0_chk2 (i : grid0.Coords) (v0 : BitVec 32) (v8 : BitVec 32) (v13 : BitVec 32) (v87 : BitVec 32) : Prop :=
  (∀ (k0_h1 : k0_cond1 i v0 = 1#1), ∀ (k0_h2 : k0_cond2 i v8 v13 = 1#1), ∀ (k0_h4 : k0_cond4 v0 v87 = 1#1), ∀ a, (k0_off7 v87) a + S1.size a ≤ S161.size a)
theorem k0_off7_inb : ∀ (i : grid0.Coords) (v0 : BitVec 32) (v8 : BitVec 32) (v13 : BitVec 32) (v87 : BitVec 32) (k0_hw2 : k0_chk2 i v0 v8 v13 v87), ∀ (k0_h1 : k0_cond1 i v0 = 1#1), ∀ (k0_h2 : k0_cond2 i v8 v13 = 1#1), ∀ (k0_h4 : k0_cond4 v0 v87 = 1#1), ∀ a, (k0_off7 v87) a + S1.size a ≤ S161.size a := fun i v0 v8 v13 v87 k0_hw2 k0_h1 k0_h2 k0_h4 => k0_hw2 k0_h1 k0_h2 k0_h4

def k0_mult3 (i : grid0.Coords) : BitVec 32 :=
  let arg0 : BitVec 32 := BitVec.ofNat 32 (i 0).val
  let c1024_i32_59 : BitVec 32 := 1024#32
  let v100 : BitVec 32 := Scalar.muli arg0 c1024_i32_59
  v100
def k0_off8 (i : grid0.Coords) (v99 : BitVec 32) : Fin 3 → Nat :=
  let c0_i32_64 : BitVec 32 := 0#32
  let arg0 : BitVec 32 := BitVec.ofNat 32 (i 0).val
  let c1024_i32_59 : BitVec 32 := 1024#32
  let v100 : BitVec 32 := Scalar.muli arg0 c1024_i32_59
  let v101 : BitVec 32 := v100
  ![v99.toNat, 0, v101.toNat]

def k0_chk3 (i : grid0.Coords) (v0 : BitVec 32) (v8 : BitVec 32) (v13 : BitVec 32) (v87 : BitVec 32) (v99 : BitVec 32) : Prop :=
  (∀ (k0_h1 : k0_cond1 i v0 = 1#1), ∀ (k0_h2 : k0_cond2 i v8 v13 = 1#1), ∀ (k0_h4 : k0_cond4 v0 v87 = 1#1), ∀ a, (k0_off8 i v99) a + S1x2048x1024.size a ≤ S32x2048x2048.size a)
theorem k0_off8_inb : ∀ (i : grid0.Coords) (v0 : BitVec 32) (v8 : BitVec 32) (v13 : BitVec 32) (v87 : BitVec 32) (v99 : BitVec 32) (k0_hw3 : k0_chk3 i v0 v8 v13 v87 v99), ∀ (k0_h1 : k0_cond1 i v0 = 1#1), ∀ (k0_h2 : k0_cond2 i v8 v13 = 1#1), ∀ (k0_h4 : k0_cond4 v0 v87 = 1#1), ∀ a, (k0_off8 i v99) a + S1x2048x1024.size a ≤ S32x2048x2048.size a := fun i v0 v8 v13 v87 v99 k0_hw3 k0_h1 k0_h2 k0_h4 => k0_hw3 k0_h1 k0_h2 k0_h4

def k0_mult4 (i : grid0.Coords) : BitVec 32 :=
  let arg0 : BitVec 32 := BitVec.ofNat 32 (i 0).val
  let c1_i32_60 : BitVec 32 := 1#32
  let v98 : BitVec 32 := Scalar.addi arg0 c1_i32_60
  let c1024_i32_61 : BitVec 32 := 1024#32
  let v99 : BitVec 32 := Scalar.muli v98 c1024_i32_61
  v99
def k0_off9 (i : grid0.Coords) (v97 : BitVec 32) : Fin 3 → Nat :=
  let c0_i32_66 : BitVec 32 := 0#32
  let arg0 : BitVec 32 := BitVec.ofNat 32 (i 0).val
  let c1_i32_60 : BitVec 32 := 1#32
  let v98 : BitVec 32 := Scalar.addi arg0 c1_i32_60
  let c1024_i32_61 : BitVec 32 := 1024#32
  let v99 : BitVec 32 := Scalar.muli v98 c1024_i32_61
  let v100 : BitVec 32 := v99
  ![v97.toNat, 0, v100.toNat]
def k0_cond5 (i : grid0.Coords) (v0 : BitVec 32) (v87 : BitVec 32) : BitVec 1 :=
  let v91 : BitVec 1 := Scalar.cmpi .sge v87 v0
  let arg0 : BitVec 32 := BitVec.ofNat 32 (i 0).val
  let c1_i32_57 : BitVec 32 := 1#32
  let v92 : BitVec 32 := Scalar.addi arg0 c1_i32_57
  let c2_i32 : BitVec 32 := 2#32
  let v93 : BitVec 1 := Scalar.cmpi .slt v92 c2_i32
  let v94 : BitVec 1 := Scalar.andi v91 v93
  let v95 : BitVec 32 := Scalar.extui v94
  let c0_i32_58 : BitVec 32 := 0#32
  let v96 : BitVec 1 := Scalar.cmpi .ne v95 c0_i32_58
  v96

def k0_chk4 (i : grid0.Coords) (v0 : BitVec 32) (v8 : BitVec 32) (v13 : BitVec 32) (v87 : BitVec 32) (v97 : BitVec 32) : Prop :=
  (∀ (k0_h1 : k0_cond1 i v0 = 1#1), ∀ (k0_h2 : k0_cond2 i v8 v13 = 1#1), ∀ (k0_h5 : k0_cond5 i v0 v87 = 1#1), ∀ a, (k0_off9 i v97) a + S1x2048x1024.size a ≤ S32x2048x2048.size a)
theorem k0_off9_inb : ∀ (i : grid0.Coords) (v0 : BitVec 32) (v8 : BitVec 32) (v13 : BitVec 32) (v87 : BitVec 32) (v97 : BitVec 32) (k0_hw4 : k0_chk4 i v0 v8 v13 v87 v97), ∀ (k0_h1 : k0_cond1 i v0 = 1#1), ∀ (k0_h2 : k0_cond2 i v8 v13 = 1#1), ∀ (k0_h5 : k0_cond5 i v0 v87 = 1#1), ∀ a, (k0_off9 i v97) a + S1x2048x1024.size a ≤ S32x2048x2048.size a := fun i v0 v8 v13 v87 v97 k0_hw4 k0_h1 k0_h2 k0_h5 => k0_hw4 k0_h1 k0_h2 k0_h5

def k0_cond6 (i : grid0.Coords) (v0 : BitVec 32) : BitVec 1 :=
  let arg1 : BitVec 32 := BitVec.ofNat 32 (i 1).val
  let v4 : BitVec 1 := Scalar.cmpi .sge arg1 v0
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S161 : Shape := ⟨1, ![161]⟩
abbrev S1 : Shape := ⟨1, ![1]⟩
abbrev S82432x2048 : Shape := ⟨2, ![82432, 2048]⟩
abbrev S32x2048x2048 : Shape := ⟨3, ![32, 2048, 2048]⟩
abbrev S32x2048 : Shape := ⟨2, ![32, 2048]⟩
abbrev S161x512x2048 : Shape := ⟨3, ![161, 512, 2048]⟩
abbrev S_ : Shape := ⟨0, ![]⟩
abbrev S161x1 : Shape := ⟨2, ![161, 1]⟩
abbrev S161x2048x2048 : Shape := ⟨3, ![161, 2048, 2048]⟩
abbrev S161x2048 : Shape := ⟨2, ![161, 2048]⟩
abbrev S161x1x2048 : Shape := ⟨3, ![161, 1, 2048]⟩
abbrev S161x1x1 : Shape := ⟨3, ![161, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S161, .i32⟩
  | .hbm, ⟨1, _⟩ => ⟨S1, .i32⟩
  | .hbm, ⟨2, _⟩ => ⟨S82432x2048, .f32⟩
  | .hbm, ⟨3, _⟩ => ⟨S32x2048x2048, .f32⟩
  | .hbm, ⟨4, _⟩ => ⟨S32x2048, .f32⟩
  | .hbm, ⟨5, _⟩ => ⟨S32x2048x2048, .f32⟩
  | .hbm, ⟨6, _⟩ => ⟨S32x2048, .f32⟩
  | .hbm, ⟨7, _⟩ => ⟨S161x512x2048, .f32⟩
  | .hbm, ⟨8, _⟩ => ⟨S_, .i32⟩
  | .hbm, ⟨9, _⟩ => ⟨S161, .i32⟩
  | .hbm, ⟨10, _⟩ => ⟨S161, .i1⟩
  | .hbm, ⟨11, _⟩ => ⟨S_, .i32⟩
  | .hbm, ⟨12, _⟩ => ⟨S161, .i32⟩
  | .hbm, ⟨13, _⟩ => ⟨S161, .i32⟩
  | .hbm, ⟨14, _⟩ => ⟨S161, .i32⟩
  | .hbm, ⟨15, _⟩ => ⟨S161x1, .i32⟩
  | .hbm, ⟨16, _⟩ => ⟨S161x2048x2048, .f32⟩
  | .hbm, ⟨17, _⟩ => ⟨S161x512x2048, .f32⟩
  | .hbm, ⟨18, _⟩ => ⟨S_, .i32⟩
  | .hbm, ⟨19, _⟩ => ⟨S161, .i32⟩
  | .hbm, ⟨20, _⟩ => ⟨S161, .i1⟩
  | .hbm, ⟨21, _⟩ => ⟨S_, .i32⟩
  | .hbm, ⟨22, _⟩ => ⟨S161, .i32⟩
  | .hbm, ⟨23, _⟩ => ⟨S161, .i32⟩
  | .hbm, ⟨24, _⟩ => ⟨S161, .i32⟩
  | .hbm, ⟨25, _⟩ => ⟨S161x1, .i32⟩
  | .hbm, ⟨26, _⟩ => ⟨S161x2048, .f32⟩
  | .hbm, ⟨27, _⟩ => ⟨S161x1x2048, .f32⟩
  | .hbm, ⟨28, _⟩ => ⟨S161x512x2048, .f32⟩
  | .hbm, ⟨29, _⟩ => ⟨S161x512x2048, .f32⟩
  | .hbm, ⟨30, _⟩ => ⟨S_, .i32⟩
  | .hbm, ⟨31, _⟩ => ⟨S161, .i32⟩
  | .hbm, ⟨32, _⟩ => ⟨S161, .i1⟩
  | .hbm, ⟨33, _⟩ => ⟨S_, .i32⟩
  | .hbm, ⟨34, _⟩ => ⟨S161, .i32⟩
  | .hbm, ⟨35, _⟩ => ⟨S161, .i32⟩
  | .hbm, ⟨36, _⟩ => ⟨S161, .i32⟩
  | .hbm, ⟨37, _⟩ => ⟨S161x1, .i32⟩
  | .hbm, ⟨38, _⟩ => ⟨S161x2048x2048, .f32⟩
  | .hbm, ⟨39, _⟩ => ⟨S161x512x2048, .f32⟩
  | .hbm, ⟨40, _⟩ => ⟨S_, .i32⟩
  | .hbm, ⟨41, _⟩ => ⟨S161, .i32⟩
  | .hbm, ⟨42, _⟩ => ⟨S161, .i1⟩
  | .hbm, ⟨43, _⟩ => ⟨S_, .i32⟩
  | .hbm, ⟨44, _⟩ => ⟨S161, .i32⟩
  | .hbm, ⟨45, _⟩ => ⟨S161, .i32⟩
  | .hbm, ⟨46, _⟩ => ⟨S161, .i32⟩
  | .hbm, ⟨47, _⟩ => ⟨S161x1, .i32⟩
  | .hbm, ⟨48, _⟩ => ⟨S161x2048, .f32⟩
  | .hbm, ⟨49, _⟩ => ⟨S161x1x2048, .f32⟩
  | .hbm, ⟨50, _⟩ => ⟨S161x512x2048, .f32⟩
  | .hbm, ⟨51, _⟩ => ⟨S161x512x2048, .f32⟩
  | .hbm, ⟨52, _⟩ => ⟨S_, .f32⟩
  | .hbm, ⟨53, _⟩ => ⟨S161x512x2048, .f32⟩
  | .hbm, ⟨54, _⟩ => ⟨S161x512x2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S161x512x2048, .f32⟩
  | .hbm, ⟨59, _⟩ => ⟨S161x512x2048, .f32⟩
  | .hbm, ⟨60, _⟩ => ⟨S_, .f32⟩
  | .hbm, ⟨61, _⟩ => ⟨S161x512x2048, .f32⟩
  | .hbm, ⟨62, _⟩ => ⟨S161x512x2048, .f32⟩
  | .hbm, ⟨63, _⟩ => ⟨S_, .f32⟩
  | .hbm, ⟨64, _⟩ => ⟨S161x512x2048, .f32⟩
  | .hbm, ⟨65, _⟩ => ⟨S161x512x2048, .f32⟩
  | .hbm, ⟨66, _⟩ => ⟨S_, .f32⟩
  | .hbm, ⟨67, _⟩ => ⟨S161x512x2048, .f32⟩
  | .hbm, ⟨68, _⟩ => ⟨S161x512x2048, .f32⟩
  | .hbm, ⟨69, _⟩ => ⟨S161x512x2048, .f32⟩
  | .hbm, ⟨70, _⟩ => ⟨S161x512x2048, .f32⟩
  | .hbm, ⟨71, _⟩ => ⟨S_, .f32⟩
  | .hbm, ⟨72, _⟩ => ⟨S161x512x2048, .f32⟩
  | .hbm, ⟨73, _⟩ => ⟨S161x512x2048, .f32⟩
  | .hbm, ⟨74, _⟩ => ⟨S_, .f32⟩
  | .hbm, ⟨75, _⟩ => ⟨S161x512x2048, .f32⟩
  | .hbm, ⟨76, _⟩ => ⟨S161x512x2048, .f32⟩
  | .hbm, ⟨77, _⟩ => ⟨S161x512x2048, .f32⟩
  | .hbm, ⟨78, _⟩ => ⟨S161x512x2048, .f32⟩
  | .hbm, ⟨79, _⟩ => ⟨S161, .i32⟩
  | .hbm, ⟨80, _⟩ => ⟨S_, .i32⟩
  | .hbm, ⟨81, _⟩ => ⟨S161, .i32⟩
  | .hbm, ⟨82, _⟩ => ⟨S161, .i1⟩
  | .hbm, ⟨83, _⟩ => ⟨S161x1x1, .i1⟩
  | .hbm, ⟨84, _⟩ => ⟨S_, .f32⟩
  | .hbm, ⟨85, _⟩ => ⟨S_, .f32⟩
  | .hbm, ⟨86, _⟩ => ⟨S161x512x2048, .i1⟩
  | .hbm, ⟨87, _⟩ => ⟨S161x512x2048, .f32⟩
  | .hbm, ⟨88, _⟩ => ⟨S161x512x2048, .f32⟩
  | .hbm, ⟨89, _⟩ => ⟨S82432x2048, .f32⟩
  | .hbm, ⟨90, _⟩ => ⟨S82432x2048, .bf16⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Proof.StepKernel.lean ====
/-
  The kernel side of the S5 decode step: what the launch leaves in the two state arrays, as functions of the arrays the
  launch reads. The four column blocks of 1024 state entries are stored one by one; `canon` of the four stores is one
  function of the index (`hRe`, `hIm`), in which the block of a column is its quotient by 1024.
-/
module

public import proofs.«01_k».proof.Proof.Gen.S5StepIdeal.Value
public import Idealize.ShloMosaic.Lib.Pointwise
public import Idealize.ShloMosaic.Lib.Pipeline.CanonAppend
public import Idealize.ShloMosaic.Lib.Pipeline.ReadBack

@[expose] public section

set_option maxRecDepth 16384

noncomputable section

namespace Cert.S5StepIdeal.StepKernel

open Cert.S5StepIdeal Cert.S5StepIdeal.Gen Idealize.ShloMosaic Idealize.ShloMosaic.TcCoe Idealize.SL.Sem
open Idealize.ShloMosaic.Pipeline (Dat)

/-- The input's contribution to column `1024 b + r`: the row's block `b` of 256 channels against plane `s` (0 real, 1
    imaginary) of the block-diagonal input matrix. -/
def proj (s : Fin 2) (x0 : Vec Ideal S32x1024 .f32) (x3 : Vec Ideal S2x4x256x1024 .bf16) (n : Fin 32) (b : Fin 4) (r : Fin 1024) : EReal :=
  ∑ k : Fin 256, x0 (ix2 n (⟨256 * b.val + k.val, by omega⟩ : Fin 1024)) * x3 (ix4 s b k r)

/-- The new state's real part at column `1024 b + r`. -/
def hReAt (x0 : Vec Ideal S32x1024 .f32) (x1 x2 : Vec Ideal S32x4096 .f32) (x3 : Vec Ideal S2x4x256x1024 .bf16)
    (x5 x6 : Vec Ideal S1x4096 .f32) (n : Fin 32) (b : Fin 4) (r : Fin 1024) : EReal :=
  x5 (ix2 (0 : Fin 1) (⟨1024 * b.val + r.val, by omega⟩ : Fin 4096)) * x1 (ix2 n (⟨1024 * b.val + r.val, by omega⟩ : Fin 4096))
    - x6 (ix2 (0 : Fin 1) (⟨1024 * b.val + r.val, by omega⟩ : Fin 4096)) * x2 (ix2 n (⟨1024 * b.val + r.val, by omega⟩ : Fin 4096))
    + proj 0 x0 x3 n b r

/-- Its imaginary part. -/
def hImAt (x0 : Vec Ideal S32x1024 .f32) (x1 x2 : Vec Ideal S32x4096 .f32) (x3 : Vec Ideal S2x4x256x1024 .bf16)
    (x5 x6 : Vec Ideal S1x4096 .f32) (n : Fin 32) (b : Fin 4) (r : Fin 1024) : EReal :=
  x5 (ix2 (0 : Fin 1) (⟨1024 * b.val + r.val, by omega⟩ : Fin 4096)) * x2 (ix2 n (⟨1024 * b.val + r.val, by omega⟩ : Fin 4096))
    + x6 (ix2 (0 : Fin 1) (⟨1024 * b.val + r.val, by omega⟩ : Fin 4096)) * x1 (ix2 n (⟨1024 * b.val + r.val, by omega⟩ : Fin 4096))
    + proj 1 x0 x3 n b r

/-- A function of row, column block and column within it, at an index of the state array. -/
def atCol (f : Fin 32 → Fin 4 → Fin 1024 → EReal) (y : S32x4096.Idx) : Elt Ideal .f32 :=
  f (⟨(y 0).val, (y 0).isLt⟩) ⟨(y 1).val / 1024, by have : (y 1).val < 4096 := (y 1).isLt; omega⟩ ⟨(y 1).val % 1024, by omega⟩

theorem atCol_eq (f : Fin 32 → Fin 4 → Fin 1024 → EReal) (y : S32x4096.Idx) (n : Fin 32) (b : Fin 4) (r : Fin 1024)
    (h0 : (y 0).val = n.val) (h1 : (y 1).val = 1024 * b.val + r.val) : atCol f y = f n b r := by
  have e0 : (⟨(y 0).val, (y 0).isLt⟩ : Fin 32) = n := Fin.ext h0
  have e1 : (⟨(y 1).val / 1024, by omega⟩ : Fin 4) = b := Fin.ext (by show (y 1).val / 1024 = b.val; omega)
  have e2 : (⟨(y 1).val % 1024, by omega⟩ : Fin 1024) = r := Fin.ext (by show (y 1).val % 1024 = r.val; omega)
  exact congr (congr (congrArg f e0) e1) e2

/-- A store of one column block, as a piece of the whole. -/
theorem atCol_piece (f : Fin 32 → Fin 4 → Fin 1024 → EReal) (b : Fin 4) (o : Nat) (ho : o = 1024 * b.val)
    (inb : ∀ a, (![0, o] : Fin 2 → Nat) a + S32x1024.size a ≤ S32x4096.size a) (w : Vec Ideal S32x1024 .f32)
    (h : ∀ n r, w (ix2 n r) = f n b r) (x : S32x1024.Idx) :
    w x = atCol f ((Rect.unit (s := S32x4096) ![0, o] S32x1024.size inb).emb x) := by
  have e : w x = f (x 0) b (x 1) := (congrArg w (eq_ix2 x)).trans (h (x 0) (x 1))
  rw [atCol_eq f _ (x 0) b (x 1) (by show 0 + 1 * (x 0).val = (x 0).val; rw [Nat.one_mul, Nat.zero_add])
    (by show o + 1 * (x 1).val = _; rw [Nat.one_mul, ho])]
  exact e

variable (x0 : Vec Ideal S32x1024 .f32) (x1 x2 : Vec Ideal S32x4096 .f32) (x3 : Vec Ideal S2x4x256x1024 .bf16)
  (x4 : Vec Ideal S4x2048x256 .bf16) (x5 x6 : Vec Ideal S1x4096 .f32) (x7 : Vec Ideal S1x1024 .f32)

theorem pieceRe0 (n : Fin 32) (r : Fin 1024) :
    k0_pay8 (View.ld x0 r0_0) (View.ld x3 r0_1) (View.ld x5 r0_3) (View.ld x6 r0_3) (View.ld x1 r0_4) (View.ld x2 r0_4) (ix2 n r) = hReAt x0 x1 x2 x3 x5 x6 n 0 r := by
  pointwise [k0_pay8, k0_pay7, k0_pay6, k0_pay5, k0_pay4, k0_pay3, k0_pay2, hReAt, proj]

theorem pieceRe1 (n : Fin 32) (r : Fin 1024) :
    k0_pay19 (k0_pay44 x0 x1 x2 x3 x4 x5 x6 x7) (k0_pay46 x0 x1 x2 x3 x4 x5 x6 x7) (View.ld x6 r0_10) (View.ld x1 r0_11) (View.ld x2 r0_11) (ix2 n r) = hReAt x0 x1 x2 x3 x5 x6 n 1 r := by
  pointwise [k0_pay19, k0_pay18, k0_pay17, k0_pay16, k0_pay15, k0_pay44, k0_pay46, k0_pay43, k0_pay13, k0_pay12, k0_pay2, hReAt, proj]

theorem pieceRe2 (n : Fin 32) (r : Fin 1024) :
    k0_pay29 (k0_pay43 x0 x1 x2 x3 x4 x5 x6 x7) (View.ld x3 r0_15) (View.ld x5 r0_17) (View.ld x6 r0_17) (View.ld x1 r0_18) (View.ld x2 r0_18) (ix2 n r) = hReAt x0 x1 x2 x3 x5 x6 n 2 r := by
  pointwise [k0_pay29, k0_pay24, k0_pay25, k0_pay26, k0_pay27, k0_pay28, k0_pay43, k0_pay2, hReAt, proj]

theorem pieceRe3 (n : Fin 32) (r : Fin 1024) :
    k0_pay39 (k0_pay48 x0 x1 x2 x3 x4 x5 x6 x7) (View.ld x5 r0_24) (View.ld x6 r0_24) (View.ld x1 r0_25) (View.ld x2 r0_25) (ix2 n r) = hReAt x0 x1 x2 x3 x5 x6 n 3 r := by
  pointwise [k0_pay39, k0_pay35, k0_pay36, k0_pay37, k0_pay38, k0_pay48, k0_pay33, k0_pay32, k0_pay43, k0_pay2, hReAt, proj]

theorem pieceIm0 (n : Fin 32) (r : Fin 1024) :
    k0_pay9 (View.ld x0 r0_0) (View.ld x3 r0_2) (View.ld x5 r0_3) (View.ld x6 r0_3) (View.ld x1 r0_4) (View.ld x2 r0_4) (ix2 n r) = hImAt x0 x1 x2 x3 x5 x6 n 0 r := by
  pointwise [k0_pay9, k0_pay7, k0_pay6, k0_pay5, k0_pay4, k0_pay3, k0_pay2, hImAt, proj]

theorem pieceIm1 (n : Fin 32) (r : Fin 1024) :
    k0_pay20 (k0_pay45 x0 x1 x2 x3 x4 x5 x6 x7) (k0_pay46 x0 x1 x2 x3 x4 x5 x6 x7) (View.ld x6 r0_10) (View.ld x1 r0_11) (View.ld x2 r0_11) (ix2 n r) = hImAt x0 x1 x2 x3 x5 x6 n 1 r := by
  pointwise [k0_pay20, k0_pay18, k0_pay17, k0_pay16, k0_pay15, k0_pay45, k0_pay46, k0_pay43, k0_pay14, k0_pay12, k0_pay2, hImAt, proj]

theorem pieceIm2 (n : Fin 32) (r : Fin 1024) :
    k0_pay47 x0 x1 x2 x3 x4 x5 x6 x7 (ix2 n r) = hImAt x0 x1 x2 x3 x5 x6 n 2 r := by
  pointwise [k0_pay47, k0_pay30, k0_pay24, k0_pay25, k0_pay26, k0_pay27, k0_pay28, k0_pay43, k0_pay2, hImAt, proj]

theorem pieceIm3 (n : Fin 32) (r : Fin 1024) :
    k0_pay40 (k0_pay49 x0 x1 x2 x3 x4 x5 x6 x7) (View.ld x5 r0_24) (View.ld x6 r0_24) (View.ld x1 r0_25) (View.ld x2 r0_25) (ix2 n r) = hImAt x0 x1 x2 x3 x5 x6 n 3 r := by
  pointwise [k0_pay40, k0_pay35, k0_pay36, k0_pay37, k0_pay38, k0_pay49, k0_pay34, k0_pay32, k0_pay43, k0_pay2, hImAt, proj]

/-- The four stores into window 9's buffer, as one function. -/
theorem outRe_eq : out0_9 x0 x1 x2 x3 x4 x5 x6 x7 = atCol (hReAt x0 x1 x2 x3 x5 x6) := by
  funext y
  refine View.canon_append_of_piecesOf (Val := Elt Ideal) (atCol (hReAt x0 x1 x2 x3 x5 x6)) [] _
    ?_ y (cover0_9 _ _ _ _ y)
  exact ⟨fun x => atCol_piece _ 3 3072 rfl inb_S32x4096_S32x1024_0_3072 _ (pieceRe3 x0 x1 x2 x3 x4 x5 x6 x7) x,
    fun x => atCol_piece _ 2 2048 rfl inb_S32x4096_S32x1024_0_2048 _ (pieceRe2 x0 x1 x2 x3 x4 x5 x6 x7) x,
    fun x => atCol_piece _ 1 1024 rfl inb_S32x4096_S32x1024_0_1024 _ (pieceRe1 x0 x1 x2 x3 x4 x5 x6 x7) x,
    fun x => atCol_piece _ 0 0 rfl inb_S32x4096_S32x1024_0_0 _ (pieceRe0 x0 x1 x2 x3 x5 x6) x, trivial⟩

/-- The four stores into window 10's buffer, as one function. -/
theorem outIm_eq : out0_10 x0 x1 x2 x3 x4 x5 x6 x7 = atCol (hImAt x0 x1 x2 x3 x5 x6) := by
  funext y
  refine View.canon_append_of_piecesOf (Val := Elt Ideal) (atCol (hImAt x0 x1 x2 x3 x5 x6)) [] _
    ?_ y (cover0_10 _ _ _ _ y)
  exact ⟨fun x => atCol_piece _ 3 3072 rfl inb_S32x4096_S32x1024_0_3072 _ (pieceIm3 x0 x1 x2 x3 x4 x5 x6 x7) x,
    fun x => atCol_piece _ 2 2048 rfl inb_S32x4096_S32x1024_0_2048 _ (pieceIm2 x0 x1 x2 x3 x4 x5 x6 x7) x,
    fun x => atCol_piece _ 1 1024 rfl inb_S32x4096_S32x1024_0_1024 _ (pieceIm1 x0 x1 x2 x3 x4 x5 x6 x7) x,
    fun x => atCol_piece _ 0 0 rfl inb_S32x4096_S32x1024_0_0 _ (pieceIm0 x0 x1 x2 x3 x5 x6) x, trivial⟩

end Cert.S5StepIdeal.StepKernel

end
-- ==== Proof.StepHost.lean ====
/-
  The block-diagonal layout of an input matrix that the host makes before the S5 decode step's launch (`inBlocks`), read at an
  index (`inBlocks_at`): entry (channel k, column r) of block b is the matrix's entry where k and r lie in one group, and that entry
  times zero elsewhere.
-/
module

public import proofs.«01_k».proof.Proof.Gen.S5StepIdeal.Value
public import Idealize.ShloMosaic.Lib.Pointwise

@[expose] public section

set_option maxRecDepth 16384

noncomputable section

namespace Cert.S5StepIdeal.StepHost

open Cert.S5StepIdeal Cert.S5StepIdeal.Gen Idealize.ShloMosaic Idealize.ShloMosaic.TcCoe Idealize.SL.Sem

/-- The identity matrix as the kernel makes it. -/
def eye : FVec Ideal S16x16 .f32 :=
  uitofp .f32 (cmpi .eq (addi (iotaInDim S16x16 32 0) (broadcastInDim S16x16 ![] bcast_S_S16x16 (constantI S_ 32 0#32))) (iotaInDim S16x16 32 1))

/-- The block-diagonal layout of an input matrix. -/
def inBlocks (B : FVec Ideal S64x64x16 .f32) : FVec Ideal S4x256x1024 .f32 :=
  shapeCast S4x256x1024
    (mulf (broadcastInDim S4x16x16x16x64 ![0, 1, 2, 3, 4] bcast_S4x16x16x1x64_S4x16x16x16x64_0_1_2_3_4
        (broadcastInDim S4x16x16x1x64 ![0, 1, 2, 4] bcast_S4x16x16x64_S4x16x16x1x64_0_1_2_4
          (transpose S4x16x16x64 [0, 1, 3, 2] (shapeCast S4x16x64x16 B shapeCasts_S64x64x16_S4x16x64x16) transposes_S4x16x64x16_S4x16x16x64_0_1_3_2)))
      (broadcastInDim S4x16x16x16x64 ![0, 1, 2, 3, 4] bcast_S1x16x1x16x1_S4x16x16x16x64_0_1_2_3_4
        (broadcastInDim S1x16x1x16x1 ![1, 3] bcast_S16x16_S1x16x1x16x1_1_3 eye)))
    shapeCasts_S4x16x16x16x64_S4x256x1024

theorem eye_at (i j : Fin 16) :
    FloatOps.uitofp (F := Ideal) FTy.f32 (IntOp.cmpi .eq (IntOp.addi (BitVec.ofNat 32 i.val) 0#32) (BitVec.ofNat 32 j.val))
      = if i.val = j.val then (1 : EReal) else 0 := by
  have h : ∀ i j : Fin 16, IntOp.cmpi .eq (IntOp.addi (BitVec.ofNat 32 i.val) 0#32) (BitVec.ofNat 32 j.val)
      = if i.val = j.val then 1#1 else 0#1 := by decide
  rw [h]
  split
  · show (((1#1 : BitVec 1).toNat : ℝ) : EReal) = 1; simp
  · show (((0#1 : BitVec 1).toNat : ℝ) : EReal) = 0; simp

theorem inBlocks_at (B : FVec Ideal S64x64x16 .f32) (b : Fin 4) (k : Fin 256) (r : Fin 1024) :
    inBlocks B (ix3 b k r) = B (ix3 (⟨b.val * 16 + k.val / 16, by omega⟩ : Fin 64) (⟨r.val % 64, by omega⟩ : Fin 64) (⟨k.val % 16, by omega⟩ : Fin 16))
      * (if k.val / 16 = r.val / 64 then 1 else 0) := by
  pointwise [inBlocks, eye]
  have e := eye_at (⟨k.val / 16, by omega⟩ : Fin 16) (⟨r.val / 64, by omega⟩ : Fin 16)
  exact congrArg (B (ix3 (⟨b.val * 16 + k.val / 16, by omega⟩ : Fin 64) (⟨r.val % 64, by omega⟩ : Fin 64) (⟨k.val % 16, by omega⟩ : Fin 16)) * ·) e

end Cert.S5StepIdeal.StepHost

end
-- ==== Proof.StepReads.lean ====
/-
  The host operations before the S5 decode step's launch, read off the list of operations: each array the launch finds, as the
  operations' composed term of the arguments.
-/
module

public import proofs.«01_k».proof.Proof.Gen.S5StepIdeal.Value
public import proofs.«01_k».proof.Proof.Gen.S5StepRefIdeal.Read
public import proofs.«01_k».proof.Proof.StepHost
public import Idealize.ShloMosaic.Lib.StableHlo.RunRead

@[expose] public section

set_option maxRecDepth 16384

noncomputable section

namespace Cert.S5StepIdeal.StepReads

open Cert.S5StepIdeal Cert.S5StepIdeal.Gen Idealize.ShloMosaic Idealize.ShloMosaic.TcCoe Idealize.SL.Sem
open Idealize.ShloMosaic.StableHlo Cert.S5StepIdeal.StepHost
open Cert.S5StepRefIdeal.Read (val_main_v9 val_main_v11 val_main_v31 val_main_v38)

variable (m : (ℓ : Loc nD τ sig) → Buf (Elt Ideal) ℓ) (c : Dev nD)

theorem V_in : V m c main_v63 = truncf .bf16 (concatenate S2x4x256x1024 0
    [⟨S1x4x256x1024, broadcastInDim S1x4x256x1024 ![1, 2, 3] bcast_S4x256x1024_S1x4x256x1024_1_2_3 (inBlocks (val_main_v31 (F := Ideal) (m ((c : Thread nD τ).loc main_arg3)) (m ((c : Thread nD τ).loc main_arg4)) (m ((c : Thread nD τ).loc main_arg5)) (m ((c : Thread nD τ).loc main_arg6)) (m ((c : Thread nD τ).loc main_arg7))))⟩,
     ⟨S1x4x256x1024, broadcastInDim S1x4x256x1024 ![1, 2, 3] bcast_S4x256x1024_S1x4x256x1024_1_2_3 (inBlocks (val_main_v38 (F := Ideal) (m ((c : Thread nD τ).loc main_arg3)) (m ((c : Thread nD τ).loc main_arg4)) (m ((c : Thread nD τ).loc main_arg5)) (m ((c : Thread nD τ).loc main_arg6)) (m ((c : Thread nD τ).loc main_arg7))))⟩]
    concatenates_S1x4x256x1024_S1x4x256x1024_S2x4x256x1024_d0) bitsLt_bf16_f32 := by
  unfold V
  after_reads_simp
  rfl

theorem V_aRe : V m c main_v95 = shapeCast S1x4096 (val_main_v9 (F := Ideal) (m ((c : Thread nD τ).loc main_arg3)) (m ((c : Thread nD τ).loc main_arg4)) (m ((c : Thread nD τ).loc main_arg5))) shapeCasts_S64x64_S1x4096 := by
  unfold V
  after_reads_simp
  rfl

theorem V_aIm : V m c main_v96 = shapeCast S1x4096 (val_main_v11 (F := Ideal) (m ((c : Thread nD τ).loc main_arg3)) (m ((c : Thread nD τ).loc main_arg4)) (m ((c : Thread nD τ).loc main_arg5))) shapeCasts_S64x64_S1x4096 := by
  unfold V
  after_reads_simp
  rfl

theorem V_hRe : V m c main_v93 = shapeCast S32x4096 (m ((c : Thread nD τ).loc main_arg1)) shapeCasts_S32x64x64_S32x4096 := by
  unfold V
  after_reads_simp
  rfl

theorem V_hIm : V m c main_v94 = shapeCast S32x4096 (m ((c : Thread nD τ).loc main_arg2)) shapeCasts_S32x64x64_S32x4096 := by
  unfold V
  after_reads_simp
  rfl

end Cert.S5StepIdeal.StepReads

end
-- ==== Proof.StepAlgebra.lean ====
/-
  The S5 decode step over the extended reals: the kernel's two state arrays are the reference's. The block-diagonal sum over 256
  channels has one group of 16 channels whose factor is not zero (`sum_block`), and that group's sum is the reference's.
-/
module

public import proofs.«01_k».proof.Proof.StepKernel
public import proofs.«01_k».proof.Proof.StepReads

@[expose] public section

set_option maxRecDepth 16384

noncomputable section

namespace Cert.S5StepIdeal.StepAlgebra

open Cert.S5StepIdeal Cert.S5StepIdeal.Gen Cert.S5StepIdeal.StepKernel Cert.S5StepIdeal.StepHost
open Idealize.ShloMosaic Idealize.ShloMosaic.TcCoe Idealize.SL.Sem
open Cert.S5StepRefIdeal.Read

/-- A sum over 16 groups of 16 channels in which one group's factor is 1 and the others' are 0. -/
theorem sum_block (u : Fin 256 → EReal) (B : Fin 16 → Fin 16 → EReal) (g : Fin 16) :
    ∑ k : Fin 256, u k * (B ⟨k.val / 16, by omega⟩ ⟨k.val % 16, by omega⟩ * (if k.val / 16 = g.val then 1 else 0))
      = ∑ t : Fin 16, u ⟨g.val * 16 + t.val, by omega⟩ * B g t := by
  rw [Fin.sum_univ_tiles 16 16 rfl]
  rw [Finset.sum_eq_single g]
  · refine Finset.sum_congr rfl fun t _ => ?_
    have h1 : (⟨(g.val * 16 + t.val) / 16, by omega⟩ : Fin 16) = g := Fin.ext (by show (g.val * 16 + t.val) / 16 = g.val; omega)
    have h2 : (⟨(g.val * 16 + t.val) % 16, by omega⟩ : Fin 16) = t := Fin.ext (by show (g.val * 16 + t.val) % 16 = t.val; omega)
    have h3 : (g.val * 16 + t.val) / 16 = g.val := by omega
    simp only [h1, h2, h3, if_true, mul_one]
  · intro j _ hj
    refine Finset.sum_eq_zero fun t _ => ?_
    have h1 : ¬ (j.val * 16 + t.val) / 16 = g.val := fun h => hj (Fin.ext (by omega))
    simp only [if_neg h1, mul_zero]
  · intro h; exact absurd (Finset.mem_univ _) h

/-- The two planes of the block-diagonal input matrix, as the launch finds them. -/
def planes (B B' : FVec Ideal S64x64x16 .f32) : FVec Ideal S2x4x256x1024 .bf16 :=
  truncf .bf16 (concatenate S2x4x256x1024 0
    [⟨S1x4x256x1024, broadcastInDim S1x4x256x1024 ![1, 2, 3] bcast_S4x256x1024_S1x4x256x1024_1_2_3 (inBlocks B)⟩,
     ⟨S1x4x256x1024, broadcastInDim S1x4x256x1024 ![1, 2, 3] bcast_S4x256x1024_S1x4x256x1024_1_2_3 (inBlocks B')⟩]
    concatenates_S1x4x256x1024_S1x4x256x1024_S2x4x256x1024_d0) bitsLt_bf16_f32

theorem planes_re (B B' : FVec Ideal S64x64x16 .f32) (b : Fin 4) (k : Fin 256) (r : Fin 1024) :
    planes B B' (ix4 0 b k r) = inBlocks B (ix3 b k r) := by
  pointwise [planes]

theorem planes_im (B B' : FVec Ideal S64x64x16 .f32) (b : Fin 4) (k : Fin 256) (r : Fin 1024) :
    planes B B' (ix4 1 b k r) = inBlocks B' (ix3 b k r) := by
  pointwise [planes]

/-- A row block against one block of a block-diagonal matrix: the group's sum. -/
theorem sum_inBlocks (u : FVec Ideal S32x1024 .f32) (B : FVec Ideal S64x64x16 .f32) (n : Fin 32) (b : Fin 4) (r : Fin 1024) :
    ∑ k : Fin 256, u (ix2 n (⟨256 * b.val + k.val, by omega⟩ : Fin 1024)) * inBlocks B (ix3 b k r)
      = ∑ t : Fin 16, u (ix2 n (⟨(b.val * 16 + r.val / 64) * 16 + t.val, by omega⟩ : Fin 1024))
          * B (ix3 (⟨b.val * 16 + r.val / 64, by omega⟩ : Fin 64) (⟨r.val % 64, by omega⟩ : Fin 64) t) := by
  have h := sum_block (fun k => u (ix2 n (⟨256 * b.val + k.val, by omega⟩ : Fin 1024)))
    (fun g t => B (ix3 (⟨b.val * 16 + g.val, by omega⟩ : Fin 64) (⟨r.val % 64, by omega⟩ : Fin 64) t)) ⟨r.val / 64, by omega⟩
  simp only [inBlocks_at]
  refine h.trans (Finset.sum_congr rfl fun t _ => ?_)
  have e : (⟨256 * b.val + (r.val / 64 * 16 + t.val), by omega⟩ : Fin 1024) = ⟨(b.val * 16 + r.val / 64) * 16 + t.val, by omega⟩ :=
    Fin.ext (by show 256 * b.val + (r.val / 64 * 16 + t.val) = (b.val * 16 + r.val / 64) * 16 + t.val; omega)
  show u (ix2 n ⟨256 * b.val + (r.val / 64 * 16 + t.val), _⟩) * _ = _
  rw [e]

variable (x0 : FVec Ideal S32x1024 .f32) (x1 x2 : FVec Ideal S32x64x64 .f32) (x3 x4 : FVec Ideal S64x64 .f32) (x5 : FVec Ideal S64 .f32)
  (x6 x7 : FVec Ideal S64x64x16 .f32)

theorem state_re (n : Fin 32) (b : Fin 4) (r : Fin 1024) :
    hReAt x0 (shapeCast S32x4096 x1 shapeCasts_S32x64x64_S32x4096) (shapeCast S32x4096 x2 shapeCasts_S32x64x64_S32x4096)
        (planes (val_main_v31 (F := Ideal) x3 x4 x5 x6 x7) (val_main_v38 (F := Ideal) x3 x4 x5 x6 x7))
        (shapeCast S1x4096 (val_main_v9 (F := Ideal) x3 x4 x5) shapeCasts_S64x64_S1x4096)
        (shapeCast S1x4096 (val_main_v11 (F := Ideal) x3 x4 x5) shapeCasts_S64x64_S1x4096) n b r
      = val_main_v59 (F := Ideal) x0 x1 x2 x3 x4 x5 x6 x7 (ix2 n (⟨1024 * b.val + r.val, by omega⟩ : Fin 4096)) := by
  unfold hReAt proj
  simp only [planes_re]
  rw [sum_inBlocks, add_comm]
  have e0 : (1024 * b.val + r.val) / 64 = b.val * 16 + r.val / 64 := by omega
  have e1 : (1024 * b.val + r.val) % 64 = r.val % 64 := by omega
  pointwise [val_main_v59, val_main_v50, val_main_v40, val_main_v39, val_main_v0, val_main_v49, val_main_v48, val_main_v47, val_main_v46, val_main_v45, val_main_v44, val_main_v43]
  simp only [e0, e1]

theorem state_im (n : Fin 32) (b : Fin 4) (r : Fin 1024) :
    hImAt x0 (shapeCast S32x4096 x1 shapeCasts_S32x64x64_S32x4096) (shapeCast S32x4096 x2 shapeCasts_S32x64x64_S32x4096)
        (planes (val_main_v31 (F := Ideal) x3 x4 x5 x6 x7) (val_main_v38 (F := Ideal) x3 x4 x5 x6 x7))
        (shapeCast S1x4096 (val_main_v9 (F := Ideal) x3 x4 x5) shapeCasts_S64x64_S1x4096)
        (shapeCast S1x4096 (val_main_v11 (F := Ideal) x3 x4 x5) shapeCasts_S64x64_S1x4096) n b r
      = val_main_v60 (F := Ideal) x0 x1 x2 x3 x4 x5 x6 x7 (ix2 n (⟨1024 * b.val + r.val, by omega⟩ : Fin 4096)) := by
  unfold hImAt proj
  simp only [planes_im]
  rw [sum_inBlocks, add_comm]
  have e0 : (1024 * b.val + r.val) / 64 = b.val * 16 + r.val / 64 := by omega
  have e1 : (1024 * b.val + r.val) % 64 = r.val % 64 := by omega
  pointwise [val_main_v60, val_main_v58, val_main_v42, val_main_v41, val_main_v0, val_main_v57, val_main_v56, val_main_v55, val_main_v54, val_main_v53, val_main_v52, val_main_v51]
  simp only [e0, e1]

end Cert.S5StepIdeal.StepAlgebra

end
-- ==== Proof.StepFinal.lean ====
/-
  The S5 decode step's two state arrays at the end of the kernel's run. The launch has one grid point and every window is its
  whole array, so the final array is what that point writes back, and what it reads is the array the host lines left.
-/
module

public import proofs.«01_k».proof.Proof.StepAlgebra
public import proofs.«01_k».proof.Proof.Gen.S5StepRefIdeal.Run

@[expose] public section

set_option maxRecDepth 16384

noncomputable section

namespace Cert.S5StepIdeal.StepFinal

open Cert.S5StepIdeal Cert.S5StepIdeal.Gen Cert.S5StepIdeal.StepKernel Cert.S5StepIdeal.StepReads Cert.S5StepIdeal.StepAlgebra
open Idealize.ShloMosaic Idealize.ShloMosaic.TcCoe Idealize.SL.Sem
open Idealize.ShloMosaic.Pipeline (Dat)
open Cert.S5StepRefIdeal.Read

variable (m : (ℓ : Loc nD τ sig) → Buf (Elt Ideal) ℓ) (c : Dev nD)

/-- The one grid point. -/
def t₀ : Fin cfg0.N := ⟨0, by decide⟩

theorem iblk0 : iblk m c 0 t₀ = V m c main_arg0 := by
  have hz : (fun a => (win0_0.index t₀) a * main_arg0.ty.shape.size a) = fun _ => 0 := funext fun a => by fin_cases a <;> decide
  exact Memref.read_access_unit_zero (Elt Ideal) main_arg0 hz (fun a => by fin_cases a <;> decide) _

theorem iblk1 : iblk m c 1 t₀ = V m c main_v93 := by
  have hz : (fun a => (win0_1.index t₀) a * main_v93.ty.shape.size a) = fun _ => 0 := funext fun a => by fin_cases a <;> decide
  exact Memref.read_access_unit_zero (Elt Ideal) main_v93 hz (fun a => by fin_cases a <;> decide) _

theorem iblk2 : iblk m c 2 t₀ = V m c main_v94 := by
  have hz : (fun a => (win0_2.index t₀) a * main_v94.ty.shape.size a) = fun _ => 0 := funext fun a => by fin_cases a <;> decide
  exact Memref.read_access_unit_zero (Elt Ideal) main_v94 hz (fun a => by fin_cases a <;> decide) _

theorem iblk3 : iblk m c 3 t₀ = V m c main_v63 := by
  have hz : (fun a => (win0_3.index t₀) a * main_v63.ty.shape.size a) = fun _ => 0 := funext fun a => by fin_cases a <;> decide
  exact Memref.read_access_unit_zero (Elt Ideal) main_v63 hz (fun a => by fin_cases a <;> decide) _

theorem iblk5 : iblk m c 5 t₀ = V m c main_v95 := by
  have hz : (fun a => (win0_5.index t₀) a * main_v95.ty.shape.size a) = fun _ => 0 := funext fun a => by fin_cases a <;> decide
  exact Memref.read_access_unit_zero (Elt Ideal) main_v95 hz (fun a => by fin_cases a <;> decide) _

theorem iblk6 : iblk m c 6 t₀ = V m c main_v96 := by
  have hz : (fun a => (win0_6.index t₀) a * main_v96.ty.shape.size a) = fun _ => 0 := funext fun a => by fin_cases a <;> decide
  exact Memref.read_access_unit_zero (Elt Ideal) main_v96 hz (fun a => by fin_cases a <;> decide) _

theorem final9 : (dats (F := Ideal) m 0 c).arrAt 9 cfg0.N
    = out0_9 (iblk m c 0 t₀) (iblk m c 1 t₀) (iblk m c 2 t₀) (iblk m c 3 t₀) (iblk m c 4 t₀) (iblk m c 5 t₀) (iblk m c 6 t₀) (iblk m c 7 t₀) := by
  have hb := Value.blocks9 (F := Ideal) m c t₀ (by decide)
  have hz : (fun a => (win0_9.index t₀) a * main_v97_1.ty.shape.size a) = fun _ => 0 := funext fun a => by fin_cases a <;> decide
  have hr := fun f => Memref.read_access_unit_zero (Elt Ideal) main_v97_1 hz (fun a => by fin_cases a <;> decide) f
  rw [hr, Value.flushed9] at hb
  exact hb

theorem final10 : (dats (F := Ideal) m 0 c).arrAt 10 cfg0.N
    = out0_10 (iblk m c 0 t₀) (iblk m c 1 t₀) (iblk m c 2 t₀) (iblk m c 3 t₀) (iblk m c 4 t₀) (iblk m c 5 t₀) (iblk m c 6 t₀) (iblk m c 7 t₀) := by
  have hb := Value.blocks10 (F := Ideal) m c t₀ (by decide)
  have hz : (fun a => (win0_10.index t₀) a * main_v97_2.ty.shape.size a) = fun _ => 0 := funext fun a => by fin_cases a <;> decide
  have hr := fun f => Memref.read_access_unit_zero (Elt Ideal) main_v97_2 hz (fun a => by fin_cases a <;> decide) f
  rw [hr, Value.flushed10] at hb
  exact hb

/-- A state array given column block by column block is the array given index by index. -/
theorem atCol_ext (f : Fin 32 → Fin 4 → Fin 1024 → EReal) (G : FVec Ideal S32x4096 .f32)
    (h : ∀ n (b : Fin 4) (r : Fin 1024), f n b r = G (ix2 n (⟨1024 * b.val + r.val, by omega⟩ : Fin 4096))) : atCol f = G := by
  funext y
  obtain ⟨n, j, rfl⟩ : ∃ (n : Fin 32) (j : Fin 4096), y = ix2 n j := ⟨y 0, y 1, eq_ix2 y⟩
  rw [atCol_eq f _ n (⟨j.val / 1024, by omega⟩ : Fin 4) (⟨j.val % 1024, by omega⟩ : Fin 1024) rfl
    (by show j.val = 1024 * (j.val / 1024) + j.val % 1024; omega), h]
  congr 2
  exact Fin.ext (by show 1024 * (j.val / 1024) + j.val % 1024 = j.val; omega)

theorem re_eq : (dats (F := Ideal) m 0 c).arrAt 9 cfg0.N
    = val_main_v59 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [final9, outRe_eq, iblk0, iblk1, iblk2, iblk3, iblk5, iblk6, V_main_arg0, V_hRe, V_hIm, V_in, V_aRe, V_aIm]
  exact atCol_ext _ _ (state_re _ _ _ _ _ _ _ _)

theorem im_eq : (dats (F := Ideal) m 0 c).arrAt 10 cfg0.N
    = val_main_v60 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [final10, outIm_eq, iblk0, iblk1, iblk2, iblk3, iblk5, iblk6, V_main_arg0, V_hRe, V_hIm, V_in, V_aRe, V_aIm]
  exact atCol_ext _ _ (state_im _ _ _ _ _ _ _ _)

end Cert.S5StepIdeal.StepFinal

end
-- ==== Proof.StepClaims.lean ====
/-
  The S5 decode step's claims: the reference's frame off its generated run, and the value claim by the two runs and
  `re_eq` / `im_eq`.
-/
module

public import proofs.«01_k».proof.Defs
public import proofs.«01_k».proof.Proof.StepFinal

@[expose] public section

noncomputable section

namespace Cert.Proof.Step

open Idealize.ShloMosaic Idealize.SL.Sem

theorem frame_ref : Cert.quiescent_S5StepRefIdeal (hS5StepRefIdeal := Cert.S5StepRefIdeal.Gen.facts) := fun m g _ =>
  (θ_run (Cert.S5StepRefIdeal.defs (F := Ideal)) _ _).mono
    (fun r h => ⟨fun c => (h c).2.2, Idealize.ShloMosaic.sem_eq_zero_of_no_sems (by decide) r.2⟩)
    (Cert.S5StepRefIdeal.Value.run (F := Ideal) m g)

theorem algebraic : Cert.algebraic_S5StepIdeal_S5StepRefIdeal (hS5StepIdeal := Cert.S5StepIdeal.Gen.facts)
    (hS5StepRefIdeal := Cert.S5StepRefIdeal.Gen.facts) := by
  intro m g m' g' _ hargs
  refine ⟨fun c => Cert.S5StepRefIdeal.Read.val_main_v59 (F := Ideal) (m (c.tc.loc Cert.S5StepIdeal.main_arg0)) (m (c.tc.loc Cert.S5StepIdeal.main_arg1)) (m (c.tc.loc Cert.S5StepIdeal.main_arg2)) (m (c.tc.loc Cert.S5StepIdeal.main_arg3)) (m (c.tc.loc Cert.S5StepIdeal.main_arg4)) (m (c.tc.loc Cert.S5StepIdeal.main_arg5)) (m (c.tc.loc Cert.S5StepIdeal.main_arg6)) (m (c.tc.loc Cert.S5StepIdeal.main_arg7)),
    fun c => Cert.S5StepRefIdeal.Read.val_main_v60 (F := Ideal) (m (c.tc.loc Cert.S5StepIdeal.main_arg0)) (m (c.tc.loc Cert.S5StepIdeal.main_arg1)) (m (c.tc.loc Cert.S5StepIdeal.main_arg2)) (m (c.tc.loc Cert.S5StepIdeal.main_arg3)) (m (c.tc.loc Cert.S5StepIdeal.main_arg4)) (m (c.tc.loc Cert.S5StepIdeal.main_arg5)) (m (c.tc.loc Cert.S5StepIdeal.main_arg6)) (m (c.tc.loc Cert.S5StepIdeal.main_arg7)),
    (θ_run (Cert.S5StepIdeal.defs (F := Ideal)) _ _).mono (fun r h c => ?_) (Cert.S5StepIdeal.Value.run_blocks (F := Ideal) m g),
    (θ_run (Cert.S5StepRefIdeal.defs (F := Ideal)) _ _).mono (fun r h c => ?_) (Cert.S5StepRefIdeal.Value.run (F := Ideal) m' g')⟩
  · obtain ⟨-, h1, h2, hk⟩ := h c
    exact ⟨h1.trans (Cert.S5StepIdeal.StepFinal.re_eq m c), h2.trans (Cert.S5StepIdeal.StepFinal.im_eq m c), hk⟩
  · obtain ⟨h1, h2, hk⟩ := h c
    obtain ⟨a0, a1, a2, a3, a4, a5, a6, a7, -⟩ := hargs c
    refine ⟨h1.trans ?_, h2.trans ?_, hk⟩
    · show Cert.S5StepRefIdeal.Value.res_main_v59 m' c = _
      rw [Cert.S5StepRefIdeal.Read.val_main_v59_eq, a0, a1, a2, a3, a4, a5, a6, a7]
    · show Cert.S5StepRefIdeal.Value.res_main_v60 m' c = _
      rw [Cert.S5StepRefIdeal.Read.val_main_v60_eq, a0, a1, a2, a3, a4, a5, a6, a7]

end Cert.Proof.Step

end
-- ==== Proof.KProj.lean ====
/-
  The key projection of the prompt tokens: each of the launch's row tiles holds the rotated products of its own rows with the
  columns of the keys, head by head, so the array holds the rotated projection.
-/
module

public import proofs.«01_k».proof.Defs
public import proofs.«01_k».proof.Proof.Gen.KProjIdeal.Value
public import proofs.«01_k».proof.Proof.Gen.KProjRefIdeal.Run
public import proofs.«01_k».proof.Proof.Gen.KProjRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.KProj

open Cert.KProjIdeal Cert.KProjIdeal.Gen
open Idealize.ShloMosaic Idealize.ShloMosaic.TcCoe Idealize.SL.Sem Idealize.ShloMosaic.StableHlo
open Cert.KProjRefIdeal.Read

variable (m : (ℓ : Loc nD τ sig) → Buf (Elt Ideal) ℓ) (c : Dev nD)

/-- The product of row `r` with column `j`. -/
def dotAt (x0 : Vec Ideal S1024x2048 .bf16) (x1 : Vec Ideal S2048x1024 .bf16) (r j : Fin 1024) : EReal := ∑ k : Fin 2048, x0 (ix2 r k) * x1 (ix2 k j)

/-- The rotated product at head `h`, lane `d`: the first sixteen lanes take their partner from sixteen lanes on, the others from
    sixteen lanes back. -/
def rotAt (x0 : Vec Ideal S1024x2048 .bf16) (x1 : Vec Ideal S2048x1024 .bf16) (x2 x3 : Vec Ideal S1024x128 .f32) (r : Fin 1024) (h : Fin 8) (d : Fin 128) : EReal :=
  dotAt x0 x1 r ⟨128 * h.val + d.val, by omega⟩ * x2 (ix2 r d)
    + (if d.val < 16 then dotAt x0 x1 r ⟨128 * h.val + (d.val + 128 - 112) % 128, by omega⟩
        else dotAt x0 x1 r ⟨128 * h.val + (d.val + 128 - 16) % 128, by omega⟩) * x3 (ix2 r d)

theorem lane_bit : ∀ d : Fin 128, IntOp.cmpi .slt (BitVec.ofNat 32 d.val) 16#32 = if d.val < 16 then 1#1 else 0#1 := by decide +kernel

theorem lane_select (d : Fin 128) (a b : EReal) :
    Scalar.select (IntOp.cmpi .slt (BitVec.ofNat 32 d.val) 16#32) a b = if d.val < 16 then a else b := by
  rw [lane_bit]
  split <;> rfl

variable (x0 : Vec Ideal S1024x2048 .bf16) (x1 : Vec Ideal S2048x1024 .bf16) (x2 x3 : Vec Ideal S1024x128 .f32)

theorem dot_at (r j : Fin 1024) : k0_pay2 (F := Ideal) x0 x1 (ix2 r j) = dotAt x0 x1 r j := by
  pointwise [k0_pay2, dotAt]

theorem ld0 : View.ld x0 r0_0 = x0 := View.ld_unit_zero (funext fun a => by fin_cases a <;> rfl) _ _
theorem ld1 : View.ld x1 r0_1 = x1 := View.ld_unit_zero (funext fun a => by fin_cases a <;> rfl) _ _
theorem ld2 : View.ld x2 r0_2 = x2 := View.ld_unit_zero (funext fun a => by fin_cases a <;> rfl) _ _

theorem piece0 (r : Fin 1024) (d : Fin 128) : k0_pay6 (View.ld x0 r0_0) (View.ld x1 r0_1) (View.ld x2 r0_2) (View.ld x3 r0_2) (ix2 r d) = rotAt x0 x1 x2 x3 r 0 d := by
  rw [ld0, ld1, ld2, ld2]
  pointwise [k0_pay6, k0_pay5, k0_pay4, k0_pay3, rotAt, dot_at, lane_select]

theorem piece1 (r : Fin 1024) (d : Fin 128) : k0_pay7 (View.ld x0 r0_0) (View.ld x1 r0_1) (View.ld x2 r0_2) (View.ld x3 r0_2) (ix2 r d) = rotAt x0 x1 x2 x3 r 1 d := by
  rw [ld0, ld1, ld2, ld2]
  pointwise [k0_pay7, k0_pay5, k0_pay4, k0_pay3, rotAt, dot_at, lane_select]

theorem piece2 (r : Fin 1024) (d : Fin 128) : k0_pay8 (View.ld x0 r0_0) (View.ld x1 r0_1) (View.ld x2 r0_2) (View.ld x3 r0_2) (ix2 r d) = rotAt x0 x1 x2 x3 r 2 d := by
  rw [ld0, ld1, ld2, ld2]
  pointwise [k0_pay8, k0_pay5, k0_pay4, k0_pay3, rotAt, dot_at, lane_select]

theorem piece3 (r : Fin 1024) (d : Fin 128) : k0_pay9 (k0_pay16 x0 x1 x2 x3) (k0_pay17 x0 x1 x2 x3) (k0_pay18 x0 x1 x2 x3) (k0_pay19 x0 x1 x2 x3) (ix2 r d) = rotAt x0 x1 x2 x3 r 3 d := by
  unfold k0_pay19 k0_pay18 k0_pay17 k0_pay16
  rw [ld0, ld1, ld2, ld2]
  pointwise [k0_pay9, k0_pay5, k0_pay4, k0_pay3, rotAt, dot_at, lane_select]

theorem piece4 (r : Fin 1024) (d : Fin 128) : k0_pay10 (k0_pay16 x0 x1 x2 x3) (k0_pay17 x0 x1 x2 x3) (k0_pay18 x0 x1 x2 x3) (k0_pay19 x0 x1 x2 x3) (ix2 r d) = rotAt x0 x1 x2 x3 r 4 d := by
  unfold k0_pay19 k0_pay18 k0_pay17 k0_pay16
  rw [ld0, ld1, ld2, ld2]
  pointwise [k0_pay10, k0_pay5, k0_pay4, k0_pay3, rotAt, dot_at, lane_select]

theorem piece5 (r : Fin 1024) (d : Fin 128) : k0_pay11 (k0_pay16 x0 x1 x2 x3) (k0_pay17 x0 x1 x2 x3) (k0_pay18 x0 x1 x2 x3) (k0_pay19 x0 x1 x2 x3) (ix2 r d) = rotAt x0 x1 x2 x3 r 5 d := by
  unfold k0_pay19 k0_pay18 k0_pay17 k0_pay16
  rw [ld0, ld1, ld2, ld2]
  pointwise [k0_pay11, k0_pay5, k0_pay4, k0_pay3, rotAt, dot_at, lane_select]

theorem piece6 (r : Fin 1024) (d : Fin 128) : k0_pay12 (k0_pay16 x0 x1 x2 x3) (k0_pay17 x0 x1 x2 x3) (k0_pay18 x0 x1 x2 x3) (k0_pay19 x0 x1 x2 x3) (ix2 r d) = rotAt x0 x1 x2 x3 r 6 d := by
  unfold k0_pay19 k0_pay18 k0_pay17 k0_pay16
  rw [ld0, ld1, ld2, ld2]
  pointwise [k0_pay12, k0_pay5, k0_pay4, k0_pay3, rotAt, dot_at, lane_select]

theorem piece7 (r : Fin 1024) (d : Fin 128) : k0_pay1 (k0_pay17 x0 x1 x2 x3) (k0_pay18 x0 x1 x2 x3) (k0_pay19 x0 x1 x2 x3) (k0_pay13 (k0_pay16 x0 x1 x2 x3)) (k0_pay14 (k0_pay16 x0 x1 x2 x3)) (k0_pay15 (k0_pay16 x0 x1 x2 x3)) (ix2 r d) = rotAt x0 x1 x2 x3 r 7 d := by
  unfold k0_pay19 k0_pay18 k0_pay17 k0_pay16
  rw [ld0, ld1, ld2, ld2]
  pointwise [k0_pay1, k0_pay5, k0_pay4, k0_pay3, k0_pay13, k0_pay14, k0_pay15, rotAt, dot_at, lane_select]

/-- A function of row, head and lane, at an index of the tile. -/
def atHead (f : Fin 1024 → Fin 8 → Fin 128 → EReal) (y : S1024x1024.Idx) : Elt Ideal .f32 :=
  f (y 0) ⟨(y 1).val / 128, by have : (y 1).val < 1024 := (y 1).isLt; omega⟩ ⟨(y 1).val % 128, by omega⟩

theorem atHead_eq (f : Fin 1024 → Fin 8 → Fin 128 → EReal) (y : S1024x1024.Idx) (r : Fin 1024) (h : Fin 8) (d : Fin 128)
    (h0 : (y 0).val = r.val) (h1 : (y 1).val = 128 * h.val + d.val) : atHead f y = f r h d := by
  have e0 : y 0 = r := Fin.ext h0
  have e1 : (⟨(y 1).val / 128, by omega⟩ : Fin 8) = h := Fin.ext (by show (y 1).val / 128 = h.val; omega)
  have e2 : (⟨(y 1).val % 128, by omega⟩ : Fin 128) = d := Fin.ext (by show (y 1).val % 128 = d.val; omega)
  exact congr (congr (congrArg f e0) e1) e2

/-- A store of one head, as a piece of the tile. -/
theorem atHead_piece (f : Fin 1024 → Fin 8 → Fin 128 → EReal) (h : Fin 8) (o : Nat) (ho : o = 128 * h.val)
    (inb : ∀ a, (![0, o] : Fin 2 → Nat) a + S1024x128.size a ≤ S1024x1024.size a) (w : Vec Ideal S1024x128 .f32)
    (hw : ∀ r d, w (ix2 r d) = f r h d) (x : S1024x128.Idx) :
    w x = atHead f ((Rect.unit (s := S1024x1024) ![0, o] S1024x128.size inb).emb x) := by
  have e : w x = f (x 0) h (x 1) := (congrArg w (eq_ix2 x)).trans (hw (x 0) (x 1))
  rw [atHead_eq f _ (x 0) h (x 1) (by show 0 + 1 * (x 0).val = (x 0).val; rw [Nat.one_mul, Nat.zero_add])
    (by show o + 1 * (x 1).val = _; rw [Nat.one_mul, ho])]
  exact e

/-- The eight stores into the tile's buffer, as one function. -/
theorem out_eq : out0_4 (F := Ideal) x0 x1 x2 x3 = atHead (rotAt x0 x1 x2 x3) := by
  funext y
  refine View.canon_append_of_piecesOf (Val := Elt Ideal) (atHead (rotAt x0 x1 x2 x3)) [] _
    ?_ y (cover0_4 _ _ _ _ _ _ _ _ y)
  exact ⟨fun x => atHead_piece _ 7 896 rfl inb_S1024x1024_S1024x128_0_896 _ (piece7 x0 x1 x2 x3) x,
    fun x => atHead_piece _ 6 768 rfl inb_S1024x1024_S1024x128_0_768 _ (piece6 x0 x1 x2 x3) x,
    fun x => atHead_piece _ 5 640 rfl inb_S1024x1024_S1024x128_0_640 _ (piece5 x0 x1 x2 x3) x,
    fun x => atHead_piece _ 4 512 rfl inb_S1024x1024_S1024x128_0_512 _ (piece4 x0 x1 x2 x3) x,
    fun x => atHead_piece _ 3 384 rfl inb_S1024x1024_S1024x128_0_384 _ (piece3 x0 x1 x2 x3) x,
    fun x => atHead_piece _ 2 256 rfl inb_S1024x1024_S1024x128_0_256 _ (piece2 x0 x1 x2 x3) x,
    fun x => atHead_piece _ 1 128 rfl inb_S1024x1024_S1024x128_0_128 _ (piece1 x0 x1 x2 x3) x,
    fun x => atHead_piece _ 0 0 rfl inb_S1024x1024_S1024x128_0_0 _ (piece0 x0 x1 x2 x3) x, trivial⟩

/-! ## The arrays the launch takes -/

/-- The tokens as rows. -/
def rows (x : FVec Ideal S4x4096x2048 .f32) : FVec Ideal S16384x2048 .bf16 :=
  truncf .bf16 (shapeCast S16384x2048 x shapeCasts_S4x4096x2048_S16384x2048) bitsLt_bf16_f32

/-- The weights as the launch takes them. -/
def weights (w : FVec Ideal S2048x8192 .f32) : FVec Ideal S2048x8192 .bf16 := truncf .bf16 w bitsLt_bf16_f32

/-- One sequence's table of a head's lanes, for every sequence. -/
def everySeq (t : FVec Ideal S4096x128 .f32) : FVec Ideal S16384x128 .f32 :=
  shapeCast S16384x128 (broadcastInDim S4x4096x1x128 ![0, 1, 2, 3] bcast_S1x4096x1x128_S4x4096x1x128_0_1_2_3
    (shapeCast S1x4096x1x128 t shapeCasts_S4096x128_S1x4096x1x128)) shapeCasts_S4x4096x1x128_S16384x128

/-- The factors of a lane itself. -/
def cosTab (t : FVec Ideal S4096x16 .f32) : FVec Ideal S4096x128 .f32 :=
  concatenate S4096x128 1 [⟨S4096x16, t⟩, ⟨S4096x16, t⟩, ⟨S4096x96, broadcastInDim S4096x96 ![] bcast_S_S4096x96 (constant S_ .f32 0x3F800000#32)⟩]
    concatenates_S4096x16_S4096x16_S4096x96_S4096x128_d1

/-- The factors of a lane's partner. -/
def sinTab (t : FVec Ideal S4096x16 .f32) : FVec Ideal S4096x128 .f32 :=
  concatenate S4096x128 1 [⟨S4096x16, Host.negf t⟩, ⟨S4096x16, t⟩, ⟨S4096x96, broadcastInDim S4096x96 ![] bcast_S_S4096x96 (constant S_ .f32 0x00000000#32)⟩]
    concatenates_S4096x16_S4096x16_S4096x96_S4096x128_d1

theorem V_x : V m c main_v1 = rows (m ((c : Thread nD τ).loc main_arg0)) := by
  unfold V
  after_reads_simp
  rfl

theorem V_w : V m c main_v30 = weights (m ((c : Thread nD τ).loc main_arg1)) := by
  unfold V
  after_reads_simp
  rfl

theorem V_cos : V m c main_v26 = everySeq (cosTab (val_main_v18 (F := Ideal))) := by
  unfold V
  after_reads_simp
  rfl

theorem V_sin : V m c main_v29 = everySeq (sinTab (val_main_v20 (F := Ideal))) := by
  unfold V
  after_reads_simp
  rfl

theorem everySeq_at (t : FVec Ideal S4096x128 .f32) (n : Fin 16384) (d : Fin 128) :
    everySeq t (ix2 n d) = t (ix2 (⟨n.val % 4096, by omega⟩ : Fin 4096) d) := by
  pointwise [everySeq]

theorem cos_at (t : FVec Ideal S4096x16 .f32) (n : Fin 4096) (d : Fin 128) :
    cosTab t (ix2 n d) = if h : d.val < 16 then t (ix2 n (⟨d.val, h⟩ : Fin 16)) else if h : d.val - 16 < 16 then t (ix2 n (⟨d.val - 16, h⟩ : Fin 16)) else 1 := by
  pointwise [cosTab]

theorem sin_at (t : FVec Ideal S4096x16 .f32) (n : Fin 4096) (d : Fin 128) :
    sinTab t (ix2 n d) = if h : d.val < 16 then -t (ix2 n (⟨d.val, h⟩ : Fin 16)) else if h : d.val - 16 < 16 then t (ix2 n (⟨d.val - 16, h⟩ : Fin 16)) else 0 := by
  pointwise [sinTab]

/-- The product of token `n` with column `j` of the keys. -/
def keyAt (x : FVec Ideal S4x4096x2048 .f32) (w : FVec Ideal S2048x8192 .f32) (n : Fin 16384) (j : Fin 1024) : EReal :=
  ∑ k : Fin 2048, x (ix3 (⟨n.val / 4096, by omega⟩ : Fin 4) (⟨n.val % 4096, by omega⟩ : Fin 4096) k) * w (ix2 k (⟨1024 + j.val, by omega⟩ : Fin 8192))

theorem keyAt_congr (x : FVec Ideal S4x4096x2048 .f32) (w : FVec Ideal S2048x8192 .f32) (n : Fin 16384) (j j' : Nat) (hj : j < 1024) (e : j = j') :
    keyAt x w n ⟨j, hj⟩ = keyAt x w n ⟨j', e ▸ hj⟩ := by subst e; rfl

theorem ref_at (x : FVec Ideal S4x4096x2048 .f32) (w : FVec Ideal S2048x8192 .f32) (n : Fin 16384) (h : Fin 8) (d : Fin 128) :
    val_main_v36 (F := Ideal) x w (ix2 n (⟨128 * h.val + d.val, by omega⟩ : Fin 1024)) =
      if h16 : d.val < 16 then
        keyAt x w n ⟨h.val * 128 + d.val, by omega⟩ * val_main_v18 (F := Ideal) (ix2 (⟨n.val % 4096, by omega⟩ : Fin 4096) (⟨d.val, h16⟩ : Fin 16))
          - keyAt x w n ⟨h.val * 128 + (16 + d.val), by omega⟩ * val_main_v20 (F := Ideal) (ix2 (⟨n.val % 4096, by omega⟩ : Fin 4096) (⟨d.val, h16⟩ : Fin 16))
      else if h32 : d.val - 16 < 16 then
        keyAt x w n ⟨h.val * 128 + (16 + (d.val - 16)), by omega⟩ * val_main_v18 (F := Ideal) (ix2 (⟨n.val % 4096, by omega⟩ : Fin 4096) (⟨d.val - 16, h32⟩ : Fin 16))
          + keyAt x w n ⟨h.val * 128 + (d.val - 16), by omega⟩ * val_main_v20 (F := Ideal) (ix2 (⟨n.val % 4096, by omega⟩ : Fin 4096) (⟨d.val - 16, h32⟩ : Fin 16))
      else keyAt x w n ⟨h.val * 128 + (32 + (d.val - 16 - 16)), by omega⟩ := by
  pointwise [val_main_v36, val_main_v35, val_main_v34, val_main_v33, val_main_v32, val_main_v31, val_main_v30, val_main_v29, val_main_v28, val_main_v27, val_main_v26, val_main_v25,
    val_main_v24, val_main_v23, val_main_v22, val_main_v21, val_main_v19, val_main_v2, val_main_v1, val_main_v0, keyAt]

/-- One tile's element is the rotated projection's, from the tile's rows, columns and factors. -/
theorem tile_eq (x : FVec Ideal S4x4096x2048 .f32) (w : FVec Ideal S2048x8192 .f32) (r : Fin 1024) (h : Fin 8) (d : Fin 128) (n : Fin 16384)
    (hx : ∀ k : Fin 2048, x0 (ix2 r k) = rows x (ix2 n k))
    (hw : ∀ (k : Fin 2048) (j : Fin 1024), x1 (ix2 k j) = weights w (ix2 k (⟨1024 + j.val, by omega⟩ : Fin 8192)))
    (hc : ∀ d : Fin 128, x2 (ix2 r d) = everySeq (cosTab (val_main_v18 (F := Ideal))) (ix2 n d))
    (hs : ∀ d : Fin 128, x3 (ix2 r d) = everySeq (sinTab (val_main_v20 (F := Ideal))) (ix2 n d)) :
    rotAt x0 x1 x2 x3 r h d = val_main_v36 (F := Ideal) x w (ix2 n (⟨128 * h.val + d.val, by omega⟩ : Fin 1024)) := by
  have hk (j : Fin 1024) : dotAt x0 x1 r j = keyAt x w n j :=
    Finset.sum_congr rfl fun k _ => by rw [hx, hw]; pointwise [rows, weights]
  rw [ref_at, rotAt, hc, hs, everySeq_at, everySeq_at, cos_at, sin_at]
  simp only [hk]
  by_cases h16 : d.val < 16
  · simp only [dif_pos h16, if_pos h16]
    rw [mul_neg, ← sub_eq_add_neg, keyAt_congr x w n (128 * h.val + d.val) (h.val * 128 + d.val) _ (by omega),
      keyAt_congr x w n (128 * h.val + (d.val + 128 - 112) % 128) (h.val * 128 + (16 + d.val)) _ (by omega)]
  · simp only [dif_neg h16, if_neg h16]
    by_cases h32 : d.val - 16 < 16
    · simp only [dif_pos h32]
      rw [keyAt_congr x w n (128 * h.val + d.val) (h.val * 128 + (16 + (d.val - 16))) _ (by omega),
        keyAt_congr x w n (128 * h.val + (d.val + 128 - 16) % 128) (h.val * 128 + (d.val - 16)) _ (by omega)]
    · simp only [dif_neg h32]
      rw [mul_one, mul_zero, add_zero, keyAt_congr x w n (128 * h.val + d.val) (h.val * 128 + (32 + (d.val - 16 - 16))) _ (by omega)]

/-- The tiles run down the rows; the columns are the keys' block of the weights. -/
theorem tiles : ∀ t : Fin cfg0.N, win0_0.index t = ![t.val, 0] ∧ win0_1.index t = ![0, 1] ∧ win0_2.index t = ![t.val, 0]
    ∧ win0_3.index t = ![t.val, 0] ∧ win0_4.index t = ![t.val, 0] :=
  (by decide +kernel : ∀ t : Fin grid0.N, _)

theorem value : (dats (F := Ideal) m 0 c).arrAt 4 cfg0.N
    = val_main_v36 (F := Ideal) (m ((c : Thread nD τ).loc main_arg0)) (m ((c : Thread nD τ).loc main_arg1)) := by
  refine (dats (F := Ideal) m 0 c).arrAt_eq_of_covers 4 _ (by decide +kernel) fun t hf y => ?_
  blk_simp
  rw [after0_4]
  have e0 := fun t => (tiles t).1
  have e1 := fun t => (tiles t).2.1
  have e2 := fun t => (tiles t).2.2.1
  have e3 := fun t => (tiles t).2.2.2.1
  have e4 := fun t => (tiles t).2.2.2.2
  obtain ⟨r, j, rfl⟩ : ∃ (r : Fin 1024) (j : Fin 1024), y = ix2 r j := ⟨y 0, y 1, eq_ix2 y⟩
  obtain ⟨h, d, hj⟩ : ∃ (h : Fin 8) (d : Fin 128), j = (⟨128 * h.val + d.val, by omega⟩ : Fin 1024) :=
    ⟨⟨j.val / 128, by omega⟩, ⟨j.val % 128, by omega⟩, Fin.ext (by show j.val = 128 * (j.val / 128) + j.val % 128; omega)⟩
  have ht : t.val < 16 := t.isLt
  have hy : ((cfg0.win 4).blk t).view.emb (ix2 r j) = (ix2 (⟨t.val * 1024 + r.val, by omega⟩ : Fin 16384) j : S16384x1024.Idx) := by
    blk_ext [e4]
  have hx (k : Fin 2048) : iblk m c 0 t (ix2 r k) = V m c main_v1 (ix2 (⟨t.val * 1024 + r.val, by omega⟩ : Fin 16384) k) := by
    blk_ext [iblk, e0]
  have hw (k : Fin 2048) (j : Fin 1024) : iblk m c 1 t (ix2 k j) = V m c main_v30 (ix2 k (⟨1024 + j.val, by omega⟩ : Fin 8192)) := by
    blk_ext [iblk, e1]
  have hc (d : Fin 128) : iblk m c 2 t (ix2 r d) = V m c main_v26 (ix2 (⟨t.val * 1024 + r.val, by omega⟩ : Fin 16384) d) := by
    blk_ext [iblk, e2]
  have hs (d : Fin 128) : iblk m c 3 t (ix2 r d) = V m c main_v29 (ix2 (⟨t.val * 1024 + r.val, by omega⟩ : Fin 16384) d) := by
    blk_ext [iblk, e3]
  rw [hy]
  rw [V_x] at hx
  rw [V_w] at hw
  rw [V_cos] at hc
  rw [V_sin] at hs
  rw [out_eq, atHead_eq _ _ r h d rfl (by rw [hj]; rfl), hj]
  exact tile_eq _ _ _ _ _ _ r h d _ hx hw hc hs

theorem frame_ref : Cert.quiescent_KProjRefIdeal (hKProjRefIdeal := Cert.KProjRefIdeal.Gen.facts) := fun m g _ =>
  (θ_run (Cert.KProjRefIdeal.defs (F := Ideal)) _ _).mono
    (fun r h => ⟨fun c => (h c).2, Idealize.ShloMosaic.sem_eq_zero_of_no_sems (by decide) r.2⟩)
    (Cert.KProjRefIdeal.Value.run (F := Ideal) m g)

theorem algebraic : Cert.algebraic_KProjIdeal_KProjRefIdeal (hKProjIdeal := Cert.KProjIdeal.Gen.facts)
    (hKProjRefIdeal := Cert.KProjRefIdeal.Gen.facts) := by
  intro m g m' g' _ hargs
  refine ⟨fun c => val_main_v36 (F := Ideal) (m (c.tc.loc main_arg0)) (m (c.tc.loc main_arg1)),
    (θ_run (Cert.KProjIdeal.defs (F := Ideal)) _ _).mono (fun r h c => ⟨(h c).1.trans (value m c), (h c).2⟩)
      (Cert.KProjIdeal.Value.run_blocks (F := Ideal) m g),
    (θ_run (Cert.KProjRefIdeal.defs (F := Ideal)) _ _).mono (fun r h c => ⟨(h c).1.trans ?_, (h c).2⟩)
      (Cert.KProjRefIdeal.Value.run (F := Ideal) m' g')⟩
  obtain ⟨a0, a1⟩ := hargs c
  rw [val_main_v36_eq, a0, a1]

end Cert.Proof.KProj

end
-- ==== Proof.VProj.lean ====
/-
  The value projection of the prompt tokens: each of the launch's row tiles holds the products of its own rows with the columns
  of the values, so the array holds the projection.
-/
module

public import proofs.«01_k».proof.Defs
public import proofs.«01_k».proof.Proof.Gen.VProjIdeal.Value
public import proofs.«01_k».proof.Proof.Gen.VProjRefIdeal.Run
public import proofs.«01_k».proof.Proof.Gen.VProjRefIdeal.Read
public import Idealize.ShloMosaic.Lib.StableHlo.RunRead
public import Idealize.ShloMosaic.Lib.Pipeline.ValueKit
public import Idealize.ShloMosaic.Lib.Pointwise

@[expose] public section

set_option maxRecDepth 16384

noncomputable section

namespace Cert.Proof.VProj

open Cert.VProjIdeal Cert.VProjIdeal.Gen
open Idealize.ShloMosaic Idealize.ShloMosaic.TcCoe Idealize.SL.Sem Idealize.ShloMosaic.StableHlo
open Cert.VProjRefIdeal.Read

variable (m : (ℓ : Loc nD τ sig) → Buf (Elt Ideal) ℓ) (c : Dev nD)

/-- The tokens as rows. -/
def rows (x : FVec Ideal S4x4096x2048 .f32) : FVec Ideal S16384x2048 .bf16 :=
  truncf .bf16 (shapeCast S16384x2048 x shapeCasts_S4x4096x2048_S16384x2048) bitsLt_bf16_f32

/-- The weights as the launch takes them. -/
def weights (w : FVec Ideal S2048x8192 .f32) : FVec Ideal S2048x8192 .bf16 := truncf .bf16 w bitsLt_bf16_f32

theorem V_x : V m c main_v1 = rows (m ((c : Thread nD τ).loc main_arg0)) := by
  unfold V
  after_reads_simp
  rfl

theorem V_w : V m c main_v2 = weights (m ((c : Thread nD τ).loc main_arg1)) := by
  unfold V
  after_reads_simp
  rfl

/-- The tiles run down the rows; the columns are the values' block of the weights. -/
theorem tiles : ∀ t : Fin cfg0.N, win0_0.index t = ![t.val, 0] ∧ win0_1.index t = ![0, 2] ∧ win0_2.index t = ![t.val, 0] :=
  (by decide +kernel : ∀ t : Fin grid0.N, _)

/-- One tile's element is the projection's, from the tile's rows and columns. -/
theorem tile_eq (x : FVec Ideal S4x4096x2048 .f32) (w : FVec Ideal S2048x8192 .f32) (b0 : Vec Ideal S1024x2048 .bf16) (b1 : Vec Ideal S2048x1024 .bf16)
    (r j : Fin 1024) (n : Fin 16384) (hx : ∀ k : Fin 2048, b0 (ix2 r k) = rows x (ix2 n k))
    (hw : ∀ k : Fin 2048, b1 (ix2 k j) = weights w (ix2 k (⟨2048 + j.val, by omega⟩ : Fin 8192))) :
    out0_2 (F := Ideal) b0 b1 (ix2 r j) = val_main_v2 (F := Ideal) x w (ix2 n j) := by
  have hl : out0_2 (F := Ideal) b0 b1 (ix2 r j) = ∑ k : Fin 2048, b0 (ix2 r k) * b1 (ix2 k j) := by
    unfold out0_2
    rw [View.canon_unit_zero (funext fun a => by fin_cases a <;> rfl), View.ld_unit_zero (funext fun a => by fin_cases a <;> rfl),
      View.ld_unit_zero (funext fun a => by fin_cases a <;> rfl)]
    pointwise [k0_pay1]
  have hr : val_main_v2 (F := Ideal) x w (ix2 n j) = ∑ k : Fin 2048, rows x (ix2 n k) * weights w (ix2 k (⟨2048 + j.val, by omega⟩ : Fin 8192)) := by
    pointwise [val_main_v2, val_main_v1, val_main_v0, rows, weights]
  rw [hl, hr]
  exact Finset.sum_congr rfl fun k _ => by rw [hx, hw]

theorem value : (dats (F := Ideal) m 0 c).arrAt 2 cfg0.N
    = val_main_v2 (F := Ideal) (m ((c : Thread nD τ).loc main_arg0)) (m ((c : Thread nD τ).loc main_arg1)) := by
  refine (dats (F := Ideal) m 0 c).arrAt_eq_of_covers 2 _ (by decide +kernel) fun t hf y => ?_
  blk_simp
  rw [after0_2]
  have e0 := fun t => (tiles t).1
  have e1 := fun t => (tiles t).2.1
  have e2 := fun t => (tiles t).2.2
  obtain ⟨r, j, rfl⟩ : ∃ (r : Fin 1024) (j : Fin 1024), y = ix2 r j := ⟨y 0, y 1, eq_ix2 y⟩
  have ht : t.val < 16 := t.isLt
  have hy : ((cfg0.win 2).blk t).view.emb (ix2 r j) = (ix2 (⟨t.val * 1024 + r.val, by omega⟩ : Fin 16384) j : S16384x1024.Idx) := by
    blk_ext [e2]
  have hx (k : Fin 2048) : iblk m c 0 t (ix2 r k) = V m c main_v1 (ix2 (⟨t.val * 1024 + r.val, by omega⟩ : Fin 16384) k) := by
    blk_ext [iblk, e0]
  have hw (k : Fin 2048) : iblk m c 1 t (ix2 k j) = V m c main_v2 (ix2 k (⟨2048 + j.val, by omega⟩ : Fin 8192)) := by
    blk_ext [iblk, e1]
  rw [hy]
  rw [V_x] at hx
  rw [V_w] at hw
  exact tile_eq _ _ _ _ r j _ hx hw

theorem frame_ref : Cert.quiescent_VProjRefIdeal (hVProjRefIdeal := Cert.VProjRefIdeal.Gen.facts) := fun m g _ =>
  (θ_run (Cert.VProjRefIdeal.defs (F := Ideal)) _ _).mono
    (fun r h => ⟨fun c => (h c).2, Idealize.ShloMosaic.sem_eq_zero_of_no_sems (by decide) r.2⟩)
    (Cert.VProjRefIdeal.Value.run (F := Ideal) m g)

theorem algebraic : Cert.algebraic_VProjIdeal_VProjRefIdeal (hVProjIdeal := Cert.VProjIdeal.Gen.facts)
    (hVProjRefIdeal := Cert.VProjRefIdeal.Gen.facts) := by
  intro m g m' g' _ hargs
  refine ⟨fun c => val_main_v2 (F := Ideal) (m (c.tc.loc main_arg0)) (m (c.tc.loc main_arg1)),
    (θ_run (Cert.VProjIdeal.defs (F := Ideal)) _ _).mono (fun r h c => ⟨(h c).1.trans (value m c), (h c).2⟩)
      (Cert.VProjIdeal.Value.run_blocks (F := Ideal) m g),
    (θ_run (Cert.VProjRefIdeal.defs (F := Ideal)) _ _).mono (fun r h c => ⟨(h c).1.trans ?_, (h c).2⟩)
      (Cert.VProjRefIdeal.Value.run (F := Ideal) m' g')⟩
  obtain ⟨a0, a1⟩ := hargs c
  rw [val_main_v2_eq, a0, a1]

end Cert.Proof.VProj

end
-- ==== Proof.KNew.lean ====
/-
  The key projection of the decode tokens: the launch's one tile holds the rotated products of the rows with the columns of the
  keys, head by head, which is the rotated projection.
-/
module

public import proofs.«01_k».proof.Defs
public import proofs.«01_k».proof.Proof.Gen.KNewIdeal.Value
public import proofs.«01_k».proof.Proof.Gen.KNewRefIdeal.Run
public import proofs.«01_k».proof.Proof.Gen.KNewRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.KNew

open Cert.KNewIdeal Cert.KNewIdeal.Gen
open Idealize.ShloMosaic Idealize.ShloMosaic.TcCoe Idealize.SL.Sem Idealize.ShloMosaic.StableHlo
open Cert.KNewRefIdeal.Read

variable (m : (ℓ : Loc nD τ sig) → Buf (Elt Ideal) ℓ) (c : Dev nD)

/-- The product of row `r` with column `j`. -/
def dotAt (x0 : Vec Ideal S32x2048 .bf16) (x1 : Vec Ideal S2048x1024 .bf16) (r : Fin 32) (j : Fin 1024) : EReal := ∑ k : Fin 2048, x0 (ix2 r k) * x1 (ix2 k j)

/-- The rotated product at head `h`, lane `d`: the first sixteen lanes take their partner from sixteen lanes on, the others from
    sixteen lanes back. -/
def rotAt (x0 : Vec Ideal S32x2048 .bf16) (x1 : Vec Ideal S2048x1024 .bf16) (x2 x3 : Vec Ideal S32x128 .f32) (r : Fin 32) (h : Fin 8) (d : Fin 128) : EReal :=
  dotAt x0 x1 r ⟨128 * h.val + d.val, by omega⟩ * x2 (ix2 r d)
    + (if d.val < 16 then dotAt x0 x1 r ⟨128 * h.val + (d.val + 128 - 112) % 128, by omega⟩
        else dotAt x0 x1 r ⟨128 * h.val + (d.val + 128 - 16) % 128, by omega⟩) * x3 (ix2 r d)

theorem lane_bit : ∀ d : Fin 128, IntOp.cmpi .slt (BitVec.ofNat 32 d.val) 16#32 = if d.val < 16 then 1#1 else 0#1 := by decide +kernel

theorem lane_select (d : Fin 128) (a b : EReal) :
    Scalar.select (IntOp.cmpi .slt (BitVec.ofNat 32 d.val) 16#32) a b = if d.val < 16 then a else b := by
  rw [lane_bit]
  split <;> rfl

variable (x0 : Vec Ideal S32x2048 .bf16) (x1 : Vec Ideal S2048x1024 .bf16) (x2 x3 : Vec Ideal S32x128 .f32)

theorem dot_at (r : Fin 32) (j : Fin 1024) : k0_pay2 (F := Ideal) x0 x1 (ix2 r j) = dotAt x0 x1 r j := by
  pointwise [k0_pay2, dotAt]

theorem ld0 : View.ld x0 r0_0 = x0 := View.ld_unit_zero (funext fun a => by fin_cases a <;> rfl) _ _
theorem ld1 : View.ld x1 r0_1 = x1 := View.ld_unit_zero (funext fun a => by fin_cases a <;> rfl) _ _
theorem ld2 : View.ld x2 r0_2 = x2 := View.ld_unit_zero (funext fun a => by fin_cases a <;> rfl) _ _

theorem piece0 (r : Fin 32) (d : Fin 128) : k0_pay6 (View.ld x0 r0_0) (View.ld x1 r0_1) (View.ld x2 r0_2) (View.ld x3 r0_2) (ix2 r d) = rotAt x0 x1 x2 x3 r 0 d := by
  rw [ld0, ld1, ld2, ld2]
  pointwise [k0_pay6, k0_pay5, k0_pay4, k0_pay3, rotAt, dot_at, lane_select]

theorem piece1 (r : Fin 32) (d : Fin 128) : k0_pay7 (View.ld x0 r0_0) (View.ld x1 r0_1) (View.ld x2 r0_2) (View.ld x3 r0_2) (ix2 r d) = rotAt x0 x1 x2 x3 r 1 d := by
  rw [ld0, ld1, ld2, ld2]
  pointwise [k0_pay7, k0_pay5, k0_pay4, k0_pay3, rotAt, dot_at, lane_select]

theorem piece2 (r : Fin 32) (d : Fin 128) : k0_pay8 (View.ld x0 r0_0) (View.ld x1 r0_1) (View.ld x2 r0_2) (View.ld x3 r0_2) (ix2 r d) = rotAt x0 x1 x2 x3 r 2 d := by
  rw [ld0, ld1, ld2, ld2]
  pointwise [k0_pay8, k0_pay5, k0_pay4, k0_pay3, rotAt, dot_at, lane_select]

theorem piece3 (r : Fin 32) (d : Fin 128) : k0_pay9 (k0_pay16 x0 x1 x2 x3) (k0_pay17 x0 x1 x2 x3) (k0_pay18 x0 x1 x2 x3) (k0_pay19 x0 x1 x2 x3) (ix2 r d) = rotAt x0 x1 x2 x3 r 3 d := by
  unfold k0_pay19 k0_pay18 k0_pay17 k0_pay16
  rw [ld0, ld1, ld2, ld2]
  pointwise [k0_pay9, k0_pay5, k0_pay4, k0_pay3, rotAt, dot_at, lane_select]

theorem piece4 (r : Fin 32) (d : Fin 128) : k0_pay10 (k0_pay16 x0 x1 x2 x3) (k0_pay17 x0 x1 x2 x3) (k0_pay18 x0 x1 x2 x3) (k0_pay19 x0 x1 x2 x3) (ix2 r d) = rotAt x0 x1 x2 x3 r 4 d := by
  unfold k0_pay19 k0_pay18 k0_pay17 k0_pay16
  rw [ld0, ld1, ld2, ld2]
  pointwise [k0_pay10, k0_pay5, k0_pay4, k0_pay3, rotAt, dot_at, lane_select]

theorem piece5 (r : Fin 32) (d : Fin 128) : k0_pay11 (k0_pay16 x0 x1 x2 x3) (k0_pay17 x0 x1 x2 x3) (k0_pay18 x0 x1 x2 x3) (k0_pay19 x0 x1 x2 x3) (ix2 r d) = rotAt x0 x1 x2 x3 r 5 d := by
  unfold k0_pay19 k0_pay18 k0_pay17 k0_pay16
  rw [ld0, ld1, ld2, ld2]
  pointwise [k0_pay11, k0_pay5, k0_pay4, k0_pay3, rotAt, dot_at, lane_select]

theorem piece6 (r : Fin 32) (d : Fin 128) : k0_pay12 (k0_pay16 x0 x1 x2 x3) (k0_pay17 x0 x1 x2 x3) (k0_pay18 x0 x1 x2 x3) (k0_pay19 x0 x1 x2 x3) (ix2 r d) = rotAt x0 x1 x2 x3 r 6 d := by
  unfold k0_pay19 k0_pay18 k0_pay17 k0_pay16
  rw [ld0, ld1, ld2, ld2]
  pointwise [k0_pay12, k0_pay5, k0_pay4, k0_pay3, rotAt, dot_at, lane_select]

theorem piece7 (r : Fin 32) (d : Fin 128) : k0_pay1 (k0_pay17 x0 x1 x2 x3) (k0_pay18 x0 x1 x2 x3) (k0_pay19 x0 x1 x2 x3) (k0_pay13 (k0_pay16 x0 x1 x2 x3)) (k0_pay14 (k0_pay16 x0 x1 x2 x3)) (k0_pay15 (k0_pay16 x0 x1 x2 x3)) (ix2 r d) = rotAt x0 x1 x2 x3 r 7 d := by
  unfold k0_pay19 k0_pay18 k0_pay17 k0_pay16
  rw [ld0, ld1, ld2, ld2]
  pointwise [k0_pay1, k0_pay5, k0_pay4, k0_pay3, k0_pay13, k0_pay14, k0_pay15, rotAt, dot_at, lane_select]

/-- A function of row, head and lane, at an index of the tile. -/
def atHead (f : Fin 32 → Fin 8 → Fin 128 → EReal) (y : S32x1024.Idx) : Elt Ideal .f32 :=
  f (y 0) ⟨(y 1).val / 128, by have : (y 1).val < 1024 := (y 1).isLt; omega⟩ ⟨(y 1).val % 128, by omega⟩

theorem atHead_eq (f : Fin 32 → Fin 8 → Fin 128 → EReal) (y : S32x1024.Idx) (r : Fin 32) (h : Fin 8) (d : Fin 128)
    (h0 : (y 0).val = r.val) (h1 : (y 1).val = 128 * h.val + d.val) : atHead f y = f r h d := by
  have e0 : y 0 = r := Fin.ext h0
  have e1 : (⟨(y 1).val / 128, by omega⟩ : Fin 8) = h := Fin.ext (by show (y 1).val / 128 = h.val; omega)
  have e2 : (⟨(y 1).val % 128, by omega⟩ : Fin 128) = d := Fin.ext (by show (y 1).val % 128 = d.val; omega)
  exact congr (congr (congrArg f e0) e1) e2

/-- A store of one head, as a piece of the tile. -/
theorem atHead_piece (f : Fin 32 → Fin 8 → Fin 128 → EReal) (h : Fin 8) (o : Nat) (ho : o = 128 * h.val)
    (inb : ∀ a, (![0, o] : Fin 2 → Nat) a + S32x128.size a ≤ S32x1024.size a) (w : Vec Ideal S32x128 .f32)
    (hw : ∀ r d, w (ix2 r d) = f r h d) (x : S32x128.Idx) :
    w x = atHead f ((Rect.unit (s := S32x1024) ![0, o] S32x128.size inb).emb x) := by
  have e : w x = f (x 0) h (x 1) := (congrArg w (eq_ix2 x)).trans (hw (x 0) (x 1))
  rw [atHead_eq f _ (x 0) h (x 1) (by show 0 + 1 * (x 0).val = (x 0).val; rw [Nat.one_mul, Nat.zero_add])
    (by show o + 1 * (x 1).val = _; rw [Nat.one_mul, ho])]
  exact e

/-- The eight stores into the tile's buffer, as one function. -/
theorem out_eq : out0_4 (F := Ideal) x0 x1 x2 x3 = atHead (rotAt x0 x1 x2 x3) := by
  funext y
  refine View.canon_append_of_piecesOf (Val := Elt Ideal) (atHead (rotAt x0 x1 x2 x3)) [] _
    ?_ y (cover0_4 _ _ _ _ _ _ _ _ y)
  exact ⟨fun x => atHead_piece _ 7 896 rfl inb_S32x1024_S32x128_0_896 _ (piece7 x0 x1 x2 x3) x,
    fun x => atHead_piece _ 6 768 rfl inb_S32x1024_S32x128_0_768 _ (piece6 x0 x1 x2 x3) x,
    fun x => atHead_piece _ 5 640 rfl inb_S32x1024_S32x128_0_640 _ (piece5 x0 x1 x2 x3) x,
    fun x => atHead_piece _ 4 512 rfl inb_S32x1024_S32x128_0_512 _ (piece4 x0 x1 x2 x3) x,
    fun x => atHead_piece _ 3 384 rfl inb_S32x1024_S32x128_0_384 _ (piece3 x0 x1 x2 x3) x,
    fun x => atHead_piece _ 2 256 rfl inb_S32x1024_S32x128_0_256 _ (piece2 x0 x1 x2 x3) x,
    fun x => atHead_piece _ 1 128 rfl inb_S32x1024_S32x128_0_128 _ (piece1 x0 x1 x2 x3) x,
    fun x => atHead_piece _ 0 0 rfl inb_S32x1024_S32x128_0_0 _ (piece0 x0 x1 x2 x3) x, trivial⟩

/-! ## The arrays the launch takes -/

/-- The tokens as rows. -/
def rows (x : FVec Ideal S32x1x2048 .f32) : FVec Ideal S32x2048 .bf16 :=
  truncf .bf16 (shapeCast S32x2048 x shapeCasts_S32x1x2048_S32x2048) bitsLt_bf16_f32

/-- The weights as the launch takes them. -/
def weights (w : FVec Ideal S2048x8192 .f32) : FVec Ideal S2048x8192 .bf16 := truncf .bf16 w bitsLt_bf16_f32

/-- The table of a head's lanes, for every sequence. -/
def everySeq (t : FVec Ideal S1x128 .f32) : FVec Ideal S32x128 .f32 :=
  shapeCast S32x128 (broadcastInDim S32x1x1x128 ![0, 1, 2, 3] bcast_S1x1x1x128_S32x1x1x128_0_1_2_3
    (shapeCast S1x1x1x128 t shapeCasts_S1x128_S1x1x1x128)) shapeCasts_S32x1x1x128_S32x128

/-- The factors of a lane itself. -/
def cosTab (t : FVec Ideal S1x16 .f32) : FVec Ideal S1x128 .f32 :=
  concatenate S1x128 1 [⟨S1x16, t⟩, ⟨S1x16, t⟩, ⟨S1x96, broadcastInDim S1x96 ![] bcast_S_S1x96 (constant S_ .f32 0x3F800000#32)⟩]
    concatenates_S1x16_S1x16_S1x96_S1x128_d1

/-- The factors of a lane's partner. -/
def sinTab (t : FVec Ideal S1x16 .f32) : FVec Ideal S1x128 .f32 :=
  concatenate S1x128 1 [⟨S1x16, Host.negf t⟩, ⟨S1x16, t⟩, ⟨S1x96, broadcastInDim S1x96 ![] bcast_S_S1x96 (constant S_ .f32 0x00000000#32)⟩]
    concatenates_S1x16_S1x16_S1x96_S1x128_d1

theorem V_x : V m c main_v1 = rows (m ((c : Thread nD τ).loc main_arg0)) := by
  unfold V
  after_reads_simp
  rfl

theorem V_w : V m c main_v29 = weights (m ((c : Thread nD τ).loc main_arg1)) := by
  unfold V
  after_reads_simp
  rfl

/-- The decode position, counted from the past's length. -/
theorem pos_eq : val_main_v5 (F := Ideal) = val_main_v4 (F := Ideal) := by
  funext i
  obtain rfl : i = ix1 (0 : Fin 1) := (eq_ix1 i).trans (congrArg ix1 (Subsingleton.elim _ _))
  pointwise [val_main_v5, val_main_v4, val_main_v3, val_main_c]
  rfl

theorem V_cos : V m c main_v25 = everySeq (cosTab (val_main_v19 (F := Ideal))) := by
  unfold val_main_v19 val_main_v18 val_main_v17 val_main_v15 val_main_v14 V
  rw [pos_eq]
  after_reads_simp
  rfl

theorem V_sin : V m c main_v28 = everySeq (sinTab (val_main_v21 (F := Ideal))) := by
  unfold val_main_v21 val_main_v18 val_main_v17 val_main_v15 val_main_v14 V
  rw [pos_eq]
  after_reads_simp
  rfl

theorem everySeq_at (t : FVec Ideal S1x128 .f32) (n : Fin 32) (d : Fin 128) :
    everySeq t (ix2 n d) = t (ix2 (0 : Fin 1) d) := by
  pointwise [everySeq]

theorem cos_at (t : FVec Ideal S1x16 .f32) (d : Fin 128) :
    cosTab t (ix2 (0 : Fin 1) d) = if h : d.val < 16 then t (ix2 (0 : Fin 1) (⟨d.val, h⟩ : Fin 16)) else if h : d.val - 16 < 16 then t (ix2 (0 : Fin 1) (⟨d.val - 16, h⟩ : Fin 16)) else 1 := by
  pointwise [cosTab]

theorem sin_at (t : FVec Ideal S1x16 .f32) (d : Fin 128) :
    sinTab t (ix2 (0 : Fin 1) d) = if h : d.val < 16 then -t (ix2 (0 : Fin 1) (⟨d.val, h⟩ : Fin 16)) else if h : d.val - 16 < 16 then t (ix2 (0 : Fin 1) (⟨d.val - 16, h⟩ : Fin 16)) else 0 := by
  pointwise [sinTab]

/-- The product of token `n` with column `j` of the keys. -/
def keyAt (x : FVec Ideal S32x1x2048 .f32) (w : FVec Ideal S2048x8192 .f32) (n : Fin 32) (j : Fin 1024) : EReal :=
  ∑ k : Fin 2048, x (ix3 n (0 : Fin 1) k) * w (ix2 k (⟨1024 + j.val, by omega⟩ : Fin 8192))

theorem keyAt_congr (x : FVec Ideal S32x1x2048 .f32) (w : FVec Ideal S2048x8192 .f32) (n : Fin 32) (j j' : Nat) (hj : j < 1024) (e : j = j') :
    keyAt x w n ⟨j, hj⟩ = keyAt x w n ⟨j', e ▸ hj⟩ := by subst e; rfl

theorem ref_at (x : FVec Ideal S32x1x2048 .f32) (w : FVec Ideal S2048x8192 .f32) (n : Fin 32) (h : Fin 8) (d : Fin 128) :
    val_main_v37 (F := Ideal) x w (ix2 n (⟨128 * h.val + d.val, by omega⟩ : Fin 1024)) =
      if h16 : d.val < 16 then
        keyAt x w n ⟨h.val * 128 + d.val, by omega⟩ * val_main_v19 (F := Ideal) (ix2 (0 : Fin 1) (⟨d.val, h16⟩ : Fin 16))
          - keyAt x w n ⟨h.val * 128 + (16 + d.val), by omega⟩ * val_main_v21 (F := Ideal) (ix2 (0 : Fin 1) (⟨d.val, h16⟩ : Fin 16))
      else if h32 : d.val - 16 < 16 then
        keyAt x w n ⟨h.val * 128 + (16 + (d.val - 16)), by omega⟩ * val_main_v19 (F := Ideal) (ix2 (0 : Fin 1) (⟨d.val - 16, h32⟩ : Fin 16))
          + keyAt x w n ⟨h.val * 128 + (d.val - 16), by omega⟩ * val_main_v21 (F := Ideal) (ix2 (0 : Fin 1) (⟨d.val - 16, h32⟩ : Fin 16))
      else keyAt x w n ⟨h.val * 128 + (32 + (d.val - 16 - 16)), by omega⟩ := by
  pointwise [val_main_v37, val_main_v36, val_main_v35, val_main_v34, val_main_v33, val_main_v32, val_main_v31, val_main_v30, val_main_v29, val_main_v28, val_main_v27, val_main_v26,
    val_main_v25, val_main_v24, val_main_v23, val_main_v22, val_main_v20, val_main_v2, val_main_v1, val_main_v0, keyAt]

/-- The tile's element is the rotated projection's, from the tile's rows, columns and factors. -/
theorem tile_eq (x : FVec Ideal S32x1x2048 .f32) (w : FVec Ideal S2048x8192 .f32) (r : Fin 32) (h : Fin 8) (d : Fin 128) (n : Fin 32)
    (hx : ∀ k : Fin 2048, x0 (ix2 r k) = rows x (ix2 n k))
    (hw : ∀ (k : Fin 2048) (j : Fin 1024), x1 (ix2 k j) = weights w (ix2 k (⟨1024 + j.val, by omega⟩ : Fin 8192)))
    (hc : ∀ d : Fin 128, x2 (ix2 r d) = everySeq (cosTab (val_main_v19 (F := Ideal))) (ix2 n d))
    (hs : ∀ d : Fin 128, x3 (ix2 r d) = everySeq (sinTab (val_main_v21 (F := Ideal))) (ix2 n d)) :
    rotAt x0 x1 x2 x3 r h d = val_main_v37 (F := Ideal) x w (ix2 n (⟨128 * h.val + d.val, by omega⟩ : Fin 1024)) := by
  have hk (j : Fin 1024) : dotAt x0 x1 r j = keyAt x w n j :=
    Finset.sum_congr rfl fun k _ => by rw [hx, hw]; pointwise [rows, weights]
  rw [ref_at, rotAt, hc, hs, everySeq_at, everySeq_at, cos_at, sin_at]
  simp only [hk]
  by_cases h16 : d.val < 16
  · simp only [dif_pos h16, if_pos h16]
    rw [mul_neg, ← sub_eq_add_neg, keyAt_congr x w n (128 * h.val + d.val) (h.val * 128 + d.val) _ (by omega),
      keyAt_congr x w n (128 * h.val + (d.val + 128 - 112) % 128) (h.val * 128 + (16 + d.val)) _ (by omega)]
  · simp only [dif_neg h16, if_neg h16]
    by_cases h32 : d.val - 16 < 16
    · simp only [dif_pos h32]
      rw [keyAt_congr x w n (128 * h.val + d.val) (h.val * 128 + (16 + (d.val - 16))) _ (by omega),
        keyAt_congr x w n (128 * h.val + (d.val + 128 - 16) % 128) (h.val * 128 + (d.val - 16)) _ (by omega)]
    · simp only [dif_neg h32]
      rw [mul_one, mul_zero, add_zero, keyAt_congr x w n (128 * h.val + d.val) (h.val * 128 + (32 + (d.val - 16 - 16))) _ (by omega)]

/-- One tile holds every row; its columns are the keys' block of the weights. -/
theorem tiles : ∀ t : Fin cfg0.N, win0_0.index t = ![0, 0] ∧ win0_1.index t = ![0, 1] ∧ win0_2.index t = ![0, 0]
    ∧ win0_3.index t = ![0, 0] ∧ win0_4.index t = ![0, 0] :=
  (by decide +kernel : ∀ t : Fin grid0.N, _)

theorem value : (dats (F := Ideal) m 0 c).arrAt 4 cfg0.N
    = val_main_v37 (F := Ideal) (m ((c : Thread nD τ).loc main_arg0)) (m ((c : Thread nD τ).loc main_arg1)) := by
  refine (dats (F := Ideal) m 0 c).arrAt_eq_of_covers 4 _ (by decide +kernel) fun t hf y => ?_
  blk_simp
  rw [after0_4]
  have e0 := fun t => (tiles t).1
  have e1 := fun t => (tiles t).2.1
  have e2 := fun t => (tiles t).2.2.1
  have e3 := fun t => (tiles t).2.2.2.1
  have e4 := fun t => (tiles t).2.2.2.2
  obtain ⟨r, j, rfl⟩ : ∃ (r : Fin 32) (j : Fin 1024), y = ix2 r j := ⟨y 0, y 1, eq_ix2 y⟩
  obtain ⟨h, d, hj⟩ : ∃ (h : Fin 8) (d : Fin 128), j = (⟨128 * h.val + d.val, by omega⟩ : Fin 1024) :=
    ⟨⟨j.val / 128, by omega⟩, ⟨j.val % 128, by omega⟩, Fin.ext (by show j.val = 128 * (j.val / 128) + j.val % 128; omega)⟩
  have hy : ((cfg0.win 4).blk t).view.emb (ix2 r j) = (ix2 r j : S32x1024.Idx) := by
    blk_ext [e4]
  have hx (k : Fin 2048) : iblk m c 0 t (ix2 r k) = V m c main_v1 (ix2 r k) := by
    blk_ext [iblk, e0]
  have hw (k : Fin 2048) (j : Fin 1024) : iblk m c 1 t (ix2 k j) = V m c main_v29 (ix2 k (⟨1024 + j.val, by omega⟩ : Fin 8192)) := by
    blk_ext [iblk, e1]
  have hc (d : Fin 128) : iblk m c 2 t (ix2 r d) = V m c main_v25 (ix2 r d) := by
    blk_ext [iblk, e2]
  have hs (d : Fin 128) : iblk m c 3 t (ix2 r d) = V m c main_v28 (ix2 r d) := by
    blk_ext [iblk, e3]
  rw [hy]
  rw [V_x] at hx
  rw [V_w] at hw
  rw [V_cos] at hc
  rw [V_sin] at hs
  rw [out_eq, atHead_eq _ _ r h d rfl (by rw [hj]; rfl), hj]
  exact tile_eq _ _ _ _ _ _ r h d _ hx hw hc hs

theorem frame_ref : Cert.quiescent_KNewRefIdeal (hKNewRefIdeal := Cert.KNewRefIdeal.Gen.facts) := fun m g _ =>
  (θ_run (Cert.KNewRefIdeal.defs (F := Ideal)) _ _).mono
    (fun r h => ⟨fun c => (h c).2, Idealize.ShloMosaic.sem_eq_zero_of_no_sems (by decide) r.2⟩)
    (Cert.KNewRefIdeal.Value.run (F := Ideal) m g)

theorem algebraic : Cert.algebraic_KNewIdeal_KNewRefIdeal (hKNewIdeal := Cert.KNewIdeal.Gen.facts)
    (hKNewRefIdeal := Cert.KNewRefIdeal.Gen.facts) := by
  intro m g m' g' _ hargs
  refine ⟨fun c => val_main_v37 (F := Ideal) (m (c.tc.loc main_arg0)) (m (c.tc.loc main_arg1)),
    (θ_run (Cert.KNewIdeal.defs (F := Ideal)) _ _).mono (fun r h c => ⟨(h c).1.trans (value m c), (h c).2⟩)
      (Cert.KNewIdeal.Value.run_blocks (F := Ideal) m g),
    (θ_run (Cert.KNewRefIdeal.defs (F := Ideal)) _ _).mono (fun r h c => ⟨(h c).1.trans ?_, (h c).2⟩)
      (Cert.KNewRefIdeal.Value.run (F := Ideal) m' g')⟩
  obtain ⟨a0, a1⟩ := hargs c
  rw [val_main_v37_eq, a0, a1]

end Cert.Proof.KNew

end
-- ==== Proof.VNew.lean ====
/-
  The value projection of the decode tokens: the launch's one tile holds the products of the rows with the columns of the
  values, which is the projection.
-/
module

public import proofs.«01_k».proof.Defs
public import proofs.«01_k».proof.Proof.Gen.VNewIdeal.Value
public import proofs.«01_k».proof.Proof.Gen.VNewRefIdeal.Run
public import proofs.«01_k».proof.Proof.Gen.VNewRefIdeal.Read
public import Idealize.ShloMosaic.Lib.StableHlo.RunRead
public import Idealize.ShloMosaic.Lib.Pipeline.ValueKit
public import Idealize.ShloMosaic.Lib.Pointwise

@[expose] public section

set_option maxRecDepth 16384

noncomputable section

namespace Cert.Proof.VNew

open Cert.VNewIdeal Cert.VNewIdeal.Gen
open Idealize.ShloMosaic Idealize.ShloMosaic.TcCoe Idealize.SL.Sem Idealize.ShloMosaic.StableHlo
open Cert.VNewRefIdeal.Read

variable (m : (ℓ : Loc nD τ sig) → Buf (Elt Ideal) ℓ) (c : Dev nD)

/-- The tokens as rows. -/
def rows (x : FVec Ideal S32x1x2048 .f32) : FVec Ideal S32x2048 .bf16 :=
  truncf .bf16 (shapeCast S32x2048 x shapeCasts_S32x1x2048_S32x2048) bitsLt_bf16_f32

/-- The weights as the launch takes them. -/
def weights (w : FVec Ideal S2048x8192 .f32) : FVec Ideal S2048x8192 .bf16 := truncf .bf16 w bitsLt_bf16_f32

theorem V_x : V m c main_v1 = rows (m ((c : Thread nD τ).loc main_arg0)) := by
  unfold V
  after_reads_simp
  rfl

theorem V_w : V m c main_v2 = weights (m ((c : Thread nD τ).loc main_arg1)) := by
  unfold V
  after_reads_simp
  rfl

/-- One tile holds every row; its columns are the values' block of the weights. -/
theorem tiles : ∀ t : Fin cfg0.N, win0_0.index t = ![0, 0] ∧ win0_1.index t = ![0, 2] ∧ win0_2.index t = ![0, 0] :=
  (by decide +kernel : ∀ t : Fin grid0.N, _)

/-- The tile's element is the projection's, from the tile's rows and columns. -/
theorem tile_eq (x : FVec Ideal S32x1x2048 .f32) (w : FVec Ideal S2048x8192 .f32) (b0 : Vec Ideal S32x2048 .bf16) (b1 : Vec Ideal S2048x1024 .bf16)
    (r : Fin 32) (j : Fin 1024) (n : Fin 32) (hx : ∀ k : Fin 2048, b0 (ix2 r k) = rows x (ix2 n k))
    (hw : ∀ k : Fin 2048, b1 (ix2 k j) = weights w (ix2 k (⟨2048 + j.val, by omega⟩ : Fin 8192))) :
    out0_2 (F := Ideal) b0 b1 (ix2 r j) = val_main_v2 (F := Ideal) x w (ix2 n j) := by
  have hl : out0_2 (F := Ideal) b0 b1 (ix2 r j) = ∑ k : Fin 2048, b0 (ix2 r k) * b1 (ix2 k j) := by
    unfold out0_2
    rw [View.canon_unit_zero (funext fun a => by fin_cases a <;> rfl), View.ld_unit_zero (funext fun a => by fin_cases a <;> rfl),
      View.ld_unit_zero (funext fun a => by fin_cases a <;> rfl)]
    pointwise [k0_pay1]
  have hr : val_main_v2 (F := Ideal) x w (ix2 n j) = ∑ k : Fin 2048, rows x (ix2 n k) * weights w (ix2 k (⟨2048 + j.val, by omega⟩ : Fin 8192)) := by
    pointwise [val_main_v2, val_main_v1, val_main_v0, rows, weights]
  rw [hl, hr]
  exact Finset.sum_congr rfl fun k _ => by rw [hx, hw]

theorem value : (dats (F := Ideal) m 0 c).arrAt 2 cfg0.N
    = val_main_v2 (F := Ideal) (m ((c : Thread nD τ).loc main_arg0)) (m ((c : Thread nD τ).loc main_arg1)) := by
  refine (dats (F := Ideal) m 0 c).arrAt_eq_of_covers 2 _ (by decide +kernel) fun t hf y => ?_
  blk_simp
  rw [after0_2]
  have e0 := fun t => (tiles t).1
  have e1 := fun t => (tiles t).2.1
  have e2 := fun t => (tiles t).2.2
  obtain ⟨r, j, rfl⟩ : ∃ (r : Fin 32) (j : Fin 1024), y = ix2 r j := ⟨y 0, y 1, eq_ix2 y⟩
  have hy : ((cfg0.win 2).blk t).view.emb (ix2 r j) = (ix2 r j : S32x1024.Idx) := by
    blk_ext [e2]
  have hx (k : Fin 2048) : iblk m c 0 t (ix2 r k) = V m c main_v1 (ix2 r k) := by
    blk_ext [iblk, e0]
  have hw (k : Fin 2048) : iblk m c 1 t (ix2 k j) = V m c main_v2 (ix2 k (⟨2048 + j.val, by omega⟩ : Fin 8192)) := by
    blk_ext [iblk, e1]
  rw [hy]
  rw [V_x] at hx
  rw [V_w] at hw
  exact tile_eq _ _ _ _ r j _ hx hw

theorem frame_ref : Cert.quiescent_VNewRefIdeal (hVNewRefIdeal := Cert.VNewRefIdeal.Gen.facts) := fun m g _ =>
  (θ_run (Cert.VNewRefIdeal.defs (F := Ideal)) _ _).mono
    (fun r h => ⟨fun c => (h c).2, Idealize.ShloMosaic.sem_eq_zero_of_no_sems (by decide) r.2⟩)
    (Cert.VNewRefIdeal.Value.run (F := Ideal) m g)

theorem algebraic : Cert.algebraic_VNewIdeal_VNewRefIdeal (hVNewIdeal := Cert.VNewIdeal.Gen.facts)
    (hVNewRefIdeal := Cert.VNewRefIdeal.Gen.facts) := by
  intro m g m' g' _ hargs
  refine ⟨fun c => val_main_v2 (F := Ideal) (m (c.tc.loc main_arg0)) (m (c.tc.loc main_arg1)),
    (θ_run (Cert.VNewIdeal.defs (F := Ideal)) _ _).mono (fun r h c => ⟨(h c).1.trans (value m c), (h c).2⟩)
      (Cert.VNewIdeal.Value.run_blocks (F := Ideal) m g),
    (θ_run (Cert.VNewRefIdeal.defs (F := Ideal)) _ _).mono (fun r h c => ⟨(h c).1.trans ?_, (h c).2⟩)
      (Cert.VNewRefIdeal.Value.run (F := Ideal) m' g')⟩
  obtain ⟨a0, a1⟩ := hargs c
  rw [val_main_v2_eq, a0, a1]

end Cert.Proof.VNew

end
-- ==== Proof.UProj.lean ====
/-
  The ssm input projection of the prompt tokens: each of the launch's row tiles holds the products of its own rows with the columns
  of the ssm input, so the array holds the projection.
-/
module

public import proofs.«01_k».proof.Defs
public import proofs.«01_k».proof.Proof.Gen.UProjIdeal.Value
public import proofs.«01_k».proof.Proof.Gen.UProjRefIdeal.Run
public import proofs.«01_k».proof.Proof.Gen.UProjRefIdeal.Read
public import Idealize.ShloMosaic.Lib.StableHlo.RunRead
public import Idealize.ShloMosaic.Lib.Pipeline.ValueKit
public import Idealize.ShloMosaic.Lib.Pointwise

@[expose] public section

set_option maxRecDepth 16384

noncomputable section

namespace Cert.Proof.UProj

open Cert.UProjIdeal Cert.UProjIdeal.Gen
open Idealize.ShloMosaic Idealize.ShloMosaic.TcCoe Idealize.SL.Sem Idealize.ShloMosaic.StableHlo
open Cert.UProjRefIdeal.Read

variable (m : (ℓ : Loc nD τ sig) → Buf (Elt Ideal) ℓ) (c : Dev nD)

/-- The tokens as rows. -/
def rows (x : FVec Ideal S4x4096x2048 .f32) : FVec Ideal S16384x2048 .bf16 :=
  truncf .bf16 (shapeCast S16384x2048 x shapeCasts_S4x4096x2048_S16384x2048) bitsLt_bf16_f32

/-- The weights as the launch takes them. -/
def weights (w : FVec Ideal S2048x8192 .f32) : FVec Ideal S2048x8192 .bf16 := truncf .bf16 w bitsLt_bf16_f32

theorem V_x : V m c main_v1 = rows (m ((c : Thread nD τ).loc main_arg0)) := by
  unfold V
  after_reads_simp
  rfl

theorem V_w : V m c main_v2 = weights (m ((c : Thread nD τ).loc main_arg1)) := by
  unfold V
  after_reads_simp
  rfl

/-- The tiles run down the rows; the columns are the ssm input's block of the weights. -/
theorem tiles : ∀ t : Fin cfg0.N, win0_0.index t = ![t.val, 0] ∧ win0_1.index t = ![0, 3] ∧ win0_2.index t = ![t.val, 0] :=
  (by decide +kernel : ∀ t : Fin grid0.N, _)

/-- One tile's element is the projection's, from the tile's rows and columns. -/
theorem tile_eq (x : FVec Ideal S4x4096x2048 .f32) (w : FVec Ideal S2048x8192 .f32) (b0 : Vec Ideal S1024x2048 .bf16) (b1 : Vec Ideal S2048x1024 .bf16)
    (r j : Fin 1024) (n : Fin 16384) (hx : ∀ k : Fin 2048, b0 (ix2 r k) = rows x (ix2 n k))
    (hw : ∀ k : Fin 2048, b1 (ix2 k j) = weights w (ix2 k (⟨3072 + j.val, by omega⟩ : Fin 8192))) :
    out0_2 (F := Ideal) b0 b1 (ix2 r j) = val_main_v2 (F := Ideal) x w (ix2 n j) := by
  have hl : out0_2 (F := Ideal) b0 b1 (ix2 r j) = ∑ k : Fin 2048, b0 (ix2 r k) * b1 (ix2 k j) := by
    unfold out0_2
    rw [View.canon_unit_zero (funext fun a => by fin_cases a <;> rfl), View.ld_unit_zero (funext fun a => by fin_cases a <;> rfl),
      View.ld_unit_zero (funext fun a => by fin_cases a <;> rfl)]
    pointwise [k0_pay1]
  have hr : val_main_v2 (F := Ideal) x w (ix2 n j) = ∑ k : Fin 2048, rows x (ix2 n k) * weights w (ix2 k (⟨3072 + j.val, by omega⟩ : Fin 8192)) := by
    pointwise [val_main_v2, val_main_v1, val_main_v0, rows, weights]
  rw [hl, hr]
  exact Finset.sum_congr rfl fun k _ => by rw [hx, hw]

theorem value : (dats (F := Ideal) m 0 c).arrAt 2 cfg0.N
    = val_main_v2 (F := Ideal) (m ((c : Thread nD τ).loc main_arg0)) (m ((c : Thread nD τ).loc main_arg1)) := by
  refine (dats (F := Ideal) m 0 c).arrAt_eq_of_covers 2 _ (by decide +kernel) fun t hf y => ?_
  blk_simp
  rw [after0_2]
  have e0 := fun t => (tiles t).1
  have e1 := fun t => (tiles t).2.1
  have e2 := fun t => (tiles t).2.2
  obtain ⟨r, j, rfl⟩ : ∃ (r : Fin 1024) (j : Fin 1024), y = ix2 r j := ⟨y 0, y 1, eq_ix2 y⟩
  have ht : t.val < 16 := t.isLt
  have hy : ((cfg0.win 2).blk t).view.emb (ix2 r j) = (ix2 (⟨t.val * 1024 + r.val, by omega⟩ : Fin 16384) j : S16384x1024.Idx) := by
    blk_ext [e2]
  have hx (k : Fin 2048) : iblk m c 0 t (ix2 r k) = V m c main_v1 (ix2 (⟨t.val * 1024 + r.val, by omega⟩ : Fin 16384) k) := by
    blk_ext [iblk, e0]
  have hw (k : Fin 2048) : iblk m c 1 t (ix2 k j) = V m c main_v2 (ix2 k (⟨3072 + j.val, by omega⟩ : Fin 8192)) := by
    blk_ext [iblk, e1]
  rw [hy]
  rw [V_x] at hx
  rw [V_w] at hw
  exact tile_eq _ _ _ _ r j _ hx hw

theorem frame_ref : Cert.quiescent_UProjRefIdeal (hUProjRefIdeal := Cert.UProjRefIdeal.Gen.facts) := fun m g _ =>
  (θ_run (Cert.UProjRefIdeal.defs (F := Ideal)) _ _).mono
    (fun r h => ⟨fun c => (h c).2, Idealize.ShloMosaic.sem_eq_zero_of_no_sems (by decide) r.2⟩)
    (Cert.UProjRefIdeal.Value.run (F := Ideal) m g)

theorem algebraic : Cert.algebraic_UProjIdeal_UProjRefIdeal (hUProjIdeal := Cert.UProjIdeal.Gen.facts)
    (hUProjRefIdeal := Cert.UProjRefIdeal.Gen.facts) := by
  intro m g m' g' _ hargs
  refine ⟨fun c => val_main_v2 (F := Ideal) (m (c.tc.loc main_arg0)) (m (c.tc.loc main_arg1)),
    (θ_run (Cert.UProjIdeal.defs (F := Ideal)) _ _).mono (fun r h c => ⟨(h c).1.trans (value m c), (h c).2⟩)
      (Cert.UProjIdeal.Value.run_blocks (F := Ideal) m g),
    (θ_run (Cert.UProjRefIdeal.defs (F := Ideal)) _ _).mono (fun r h c => ⟨(h c).1.trans ?_, (h c).2⟩)
      (Cert.UProjRefIdeal.Value.run (F := Ideal) m' g')⟩
  obtain ⟨a0, a1⟩ := hargs c
  rw [val_main_v2_eq, a0, a1]

end Cert.Proof.UProj

end
-- ==== Proof.GaProj.lean ====
/-
  The first gate's projection of the prompt tokens: each of the launch's tiles holds the products of its own rows with the columns
  of the gate, so the array holds the projection.
-/
module

public import proofs.«01_k».proof.Defs
public import proofs.«01_k».proof.Proof.Gen.GaProjIdeal.Value
public import proofs.«01_k».proof.Proof.Gen.GaProjRefIdeal.Run
public import proofs.«01_k».proof.Proof.Gen.GaProjRefIdeal.Read
public import Idealize.ShloMosaic.Lib.StableHlo.RunRead
public import Idealize.ShloMosaic.Lib.Pipeline.ValueKit
public import Idealize.ShloMosaic.Lib.Pointwise

@[expose] public section

set_option maxRecDepth 16384

noncomputable section

namespace Cert.Proof.GaProj

open Cert.GaProjIdeal Cert.GaProjIdeal.Gen
open Idealize.ShloMosaic Idealize.ShloMosaic.TcCoe Idealize.SL.Sem Idealize.ShloMosaic.StableHlo
open Cert.GaProjRefIdeal.Read

variable (m : (ℓ : Loc nD τ sig) → Buf (Elt Ideal) ℓ) (c : Dev nD)

/-- The tokens as rows. -/
def rows (x : FVec Ideal S4x4096x2048 .f32) : FVec Ideal S16384x2048 .bf16 :=
  truncf .bf16 (shapeCast S16384x2048 x shapeCasts_S4x4096x2048_S16384x2048) bitsLt_bf16_f32

/-- The weights as the launch takes them. -/
def weights (w : FVec Ideal S2048x8192 .f32) : FVec Ideal S2048x8192 .bf16 := truncf .bf16 w bitsLt_bf16_f32

theorem V_x : V m c main_v1 = rows (m ((c : Thread nD τ).loc main_arg0)) := by
  unfold V
  after_reads_simp
  rfl

theorem V_w : V m c main_v2 = weights (m ((c : Thread nD τ).loc main_arg1)) := by
  unfold V
  after_reads_simp
  rfl

/-- The tiles run along the two column blocks of the gate, then down the rows. -/
theorem tiles : ∀ t : Fin cfg0.N, win0_0.index t = ![t.val / 2, 0] ∧ win0_1.index t = ![0, t.val % 2 + 4]
    ∧ win0_2.index t = ![t.val / 2, t.val % 2] :=
  (by decide +kernel : ∀ t : Fin grid0.N, _)

/-- One tile's element is the projection's, from the tile's rows and columns. -/
theorem tile_eq (x : FVec Ideal S4x4096x2048 .f32) (w : FVec Ideal S2048x8192 .f32) (b0 : Vec Ideal S1024x2048 .bf16) (b1 : Vec Ideal S2048x1024 .bf16)
    (r j : Fin 1024) (n : Fin 16384) (q : Fin 2048) (hx : ∀ k : Fin 2048, b0 (ix2 r k) = rows x (ix2 n k))
    (hw : ∀ k : Fin 2048, b1 (ix2 k j) = weights w (ix2 k (⟨4096 + q.val, by omega⟩ : Fin 8192))) :
    out0_2 (F := Ideal) b0 b1 (ix2 r j) = val_main_v2 (F := Ideal) x w (ix2 n q) := by
  have hl : out0_2 (F := Ideal) b0 b1 (ix2 r j) = ∑ k : Fin 2048, b0 (ix2 r k) * b1 (ix2 k j) := by
    unfold out0_2
    rw [View.canon_unit_zero (funext fun a => by fin_cases a <;> rfl), View.ld_unit_zero (funext fun a => by fin_cases a <;> rfl),
      View.ld_unit_zero (funext fun a => by fin_cases a <;> rfl)]
    pointwise [k0_pay1]
  have hr : val_main_v2 (F := Ideal) x w (ix2 n q) = ∑ k : Fin 2048, rows x (ix2 n k) * weights w (ix2 k (⟨4096 + q.val, by omega⟩ : Fin 8192)) := by
    pointwise [val_main_v2, val_main_v1, val_main_v0, rows, weights]
  rw [hl, hr]
  exact Finset.sum_congr rfl fun k _ => by rw [hx, hw]

theorem value : (dats (F := Ideal) m 0 c).arrAt 2 cfg0.N
    = val_main_v2 (F := Ideal) (m ((c : Thread nD τ).loc main_arg0)) (m ((c : Thread nD τ).loc main_arg1)) := by
  refine (dats (F := Ideal) m 0 c).arrAt_eq_of_covers 2 _ (by decide +kernel) fun t hf y => ?_
  blk_simp
  rw [after0_2]
  have e0 := fun t => (tiles t).1
  have e1 := fun t => (tiles t).2.1
  have e2 := fun t => (tiles t).2.2
  obtain ⟨r, j, rfl⟩ : ∃ (r : Fin 1024) (j : Fin 1024), y = ix2 r j := ⟨y 0, y 1, eq_ix2 y⟩
  have ht : t.val < 32 := t.isLt
  have hy : ((cfg0.win 2).blk t).view.emb (ix2 r j) = (ix2 (⟨t.val / 2 * 1024 + r.val, by omega⟩ : Fin 16384) (⟨t.val % 2 * 1024 + j.val, by omega⟩ : Fin 2048) : S16384x2048.Idx) := by
    blk_ext [e2]
  have hx (k : Fin 2048) : iblk m c 0 t (ix2 r k) = V m c main_v1 (ix2 (⟨t.val / 2 * 1024 + r.val, by omega⟩ : Fin 16384) k) := by
    blk_ext [iblk, e0]
  have hw (k : Fin 2048) : iblk m c 1 t (ix2 k j) = V m c main_v2 (ix2 k (⟨4096 + (⟨t.val % 2 * 1024 + j.val, by omega⟩ : Fin 2048).val, by omega⟩ : Fin 8192)) := by
    blk_ext [iblk, e1]
  rw [hy]
  rw [V_x] at hx
  rw [V_w] at hw
  exact tile_eq _ _ _ _ r j _ _ hx hw

theorem frame_ref : Cert.quiescent_GaProjRefIdeal (hGaProjRefIdeal := Cert.GaProjRefIdeal.Gen.facts) := fun m g _ =>
  (θ_run (Cert.GaProjRefIdeal.defs (F := Ideal)) _ _).mono
    (fun r h => ⟨fun c => (h c).2, Idealize.ShloMosaic.sem_eq_zero_of_no_sems (by decide) r.2⟩)
    (Cert.GaProjRefIdeal.Value.run (F := Ideal) m g)

theorem algebraic : Cert.algebraic_GaProjIdeal_GaProjRefIdeal (hGaProjIdeal := Cert.GaProjIdeal.Gen.facts)
    (hGaProjRefIdeal := Cert.GaProjRefIdeal.Gen.facts) := by
  intro m g m' g' _ hargs
  refine ⟨fun c => val_main_v2 (F := Ideal) (m (c.tc.loc main_arg0)) (m (c.tc.loc main_arg1)),
    (θ_run (Cert.GaProjIdeal.defs (F := Ideal)) _ _).mono (fun r h c => ⟨(h c).1.trans (value m c), (h c).2⟩)
      (Cert.GaProjIdeal.Value.run_blocks (F := Ideal) m g),
    (θ_run (Cert.GaProjRefIdeal.defs (F := Ideal)) _ _).mono (fun r h c => ⟨(h c).1.trans ?_, (h c).2⟩)
      (Cert.GaProjRefIdeal.Value.run (F := Ideal) m' g')⟩
  obtain ⟨a0, a1⟩ := hargs c
  rw [val_main_v2_eq, a0, a1]

end Cert.Proof.GaProj

end
-- ==== Proof.GbProj.lean ====
/-
  The second gate's projection of the prompt tokens: each of the launch's tiles holds the products of its own rows with the columns
  of the gate, so the array holds the projection.
-/
module

public import proofs.«01_k».proof.Defs
public import proofs.«01_k».proof.Proof.Gen.GbProjIdeal.Value
public import proofs.«01_k».proof.Proof.Gen.GbProjRefIdeal.Run
public import proofs.«01_k».proof.Proof.Gen.GbProjRefIdeal.Read
public import Idealize.ShloMosaic.Lib.StableHlo.RunRead
public import Idealize.ShloMosaic.Lib.Pipeline.ValueKit
public import Idealize.ShloMosaic.Lib.Pointwise

@[expose] public section

set_option maxRecDepth 16384

noncomputable section

namespace Cert.Proof.GbProj

open Cert.GbProjIdeal Cert.GbProjIdeal.Gen
open Idealize.ShloMosaic Idealize.ShloMosaic.TcCoe Idealize.SL.Sem Idealize.ShloMosaic.StableHlo
open Cert.GbProjRefIdeal.Read

variable (m : (ℓ : Loc nD τ sig) → Buf (Elt Ideal) ℓ) (c : Dev nD)

/-- The tokens as rows. -/
def rows (x : FVec Ideal S4x4096x2048 .f32) : FVec Ideal S16384x2048 .bf16 :=
  truncf .bf16 (shapeCast S16384x2048 x shapeCasts_S4x4096x2048_S16384x2048) bitsLt_bf16_f32

/-- The weights as the launch takes them. -/
def weights (w : FVec Ideal S2048x8192 .f32) : FVec Ideal S2048x8192 .bf16 := truncf .bf16 w bitsLt_bf16_f32

theorem V_x : V m c main_v1 = rows (m ((c : Thread nD τ).loc main_arg0)) := by
  unfold V
  after_reads_simp
  rfl

theorem V_w : V m c main_v2 = weights (m ((c : Thread nD τ).loc main_arg1)) := by
  unfold V
  after_reads_simp
  rfl

/-- The tiles run along the two column blocks of the gate, then down the rows. -/
theorem tiles : ∀ t : Fin cfg0.N, win0_0.index t = ![t.val / 2, 0] ∧ win0_1.index t = ![0, t.val % 2 + 6]
    ∧ win0_2.index t = ![t.val / 2, t.val % 2] :=
  (by decide +kernel : ∀ t : Fin grid0.N, _)

/-- One tile's element is the projection's, from the tile's rows and columns. -/
theorem tile_eq (x : FVec Ideal S4x4096x2048 .f32) (w : FVec Ideal S2048x8192 .f32) (b0 : Vec Ideal S1024x2048 .bf16) (b1 : Vec Ideal S2048x1024 .bf16)
    (r j : Fin 1024) (n : Fin 16384) (q : Fin 2048) (hx : ∀ k : Fin 2048, b0 (ix2 r k) = rows x (ix2 n k))
    (hw : ∀ k : Fin 2048, b1 (ix2 k j) = weights w (ix2 k (⟨6144 + q.val, by omega⟩ : Fin 8192))) :
    out0_2 (F := Ideal) b0 b1 (ix2 r j) = val_main_v2 (F := Ideal) x w (ix2 n q) := by
  have hl : out0_2 (F := Ideal) b0 b1 (ix2 r j) = ∑ k : Fin 2048, b0 (ix2 r k) * b1 (ix2 k j) := by
    unfold out0_2
    rw [View.canon_unit_zero (funext fun a => by fin_cases a <;> rfl), View.ld_unit_zero (funext fun a => by fin_cases a <;> rfl),
      View.ld_unit_zero (funext fun a => by fin_cases a <;> rfl)]
    pointwise [k0_pay1]
  have hr : val_main_v2 (F := Ideal) x w (ix2 n q) = ∑ k : Fin 2048, rows x (ix2 n k) * weights w (ix2 k (⟨6144 + q.val, by omega⟩ : Fin 8192)) := by
    pointwise [val_main_v2, val_main_v1, val_main_v0, rows, weights]
  rw [hl, hr]
  exact Finset.sum_congr rfl fun k _ => by rw [hx, hw]

theorem value : (dats (F := Ideal) m 0 c).arrAt 2 cfg0.N
    = val_main_v2 (F := Ideal) (m ((c : Thread nD τ).loc main_arg0)) (m ((c : Thread nD τ).loc main_arg1)) := by
  refine (dats (F := Ideal) m 0 c).arrAt_eq_of_covers 2 _ (by decide +kernel) fun t hf y => ?_
  blk_simp
  rw [after0_2]
  have e0 := fun t => (tiles t).1
  have e1 := fun t => (tiles t).2.1
  have e2 := fun t => (tiles t).2.2
  obtain ⟨r, j, rfl⟩ : ∃ (r : Fin 1024) (j : Fin 1024), y = ix2 r j := ⟨y 0, y 1, eq_ix2 y⟩
  have ht : t.val < 32 := t.isLt
  have hy : ((cfg0.win 2).blk t).view.emb (ix2 r j) = (ix2 (⟨t.val / 2 * 1024 + r.val, by omega⟩ : Fin 16384) (⟨t.val % 2 * 1024 + j.val, by omega⟩ : Fin 2048) : S16384x2048.Idx) := by
    blk_ext [e2]
  have hx (k : Fin 2048) : iblk m c 0 t (ix2 r k) = V m c main_v1 (ix2 (⟨t.val / 2 * 1024 + r.val, by omega⟩ : Fin 16384) k) := by
    blk_ext [iblk, e0]
  have hw (k : Fin 2048) : iblk m c 1 t (ix2 k j) = V m c main_v2 (ix2 k (⟨6144 + (⟨t.val % 2 * 1024 + j.val, by omega⟩ : Fin 2048).val, by omega⟩ : Fin 8192)) := by
    blk_ext [iblk, e1]
  rw [hy]
  rw [V_x] at hx
  rw [V_w] at hw
  exact tile_eq _ _ _ _ r j _ _ hx hw

theorem frame_ref : Cert.quiescent_GbProjRefIdeal (hGbProjRefIdeal := Cert.GbProjRefIdeal.Gen.facts) := fun m g _ =>
  (θ_run (Cert.GbProjRefIdeal.defs (F := Ideal)) _ _).mono
    (fun r h => ⟨fun c => (h c).2, Idealize.ShloMosaic.sem_eq_zero_of_no_sems (by decide) r.2⟩)
    (Cert.GbProjRefIdeal.Value.run (F := Ideal) m g)

theorem algebraic : Cert.algebraic_GbProjIdeal_GbProjRefIdeal (hGbProjIdeal := Cert.GbProjIdeal.Gen.facts)
    (hGbProjRefIdeal := Cert.GbProjRefIdeal.Gen.facts) := by
  intro m g m' g' _ hargs
  refine ⟨fun c => val_main_v2 (F := Ideal) (m (c.tc.loc main_arg0)) (m (c.tc.loc main_arg1)),
    (θ_run (Cert.GbProjIdeal.defs (F := Ideal)) _ _).mono (fun r h c => ⟨(h c).1.trans (value m c), (h c).2⟩)
      (Cert.GbProjIdeal.Value.run_blocks (F := Ideal) m g),
    (θ_run (Cert.GbProjRefIdeal.defs (F := Ideal)) _ _).mono (fun r h c => ⟨(h c).1.trans ?_, (h c).2⟩)
      (Cert.GbProjRefIdeal.Value.run (F := Ideal) m' g')⟩
  obtain ⟨a0, a1⟩ := hargs c
  rw [val_main_v2_eq, a0, a1]

end Cert.Proof.GbProj

end
-- ==== Proof.QProj.lean ====
/-
  The query projection of the prompt tokens: each of the launch's row tiles holds the rotated products of its own rows with the
  columns of the queries, head by head, so the array holds the rotated projection.
-/
module

public import proofs.«01_k».proof.Defs
public import proofs.«01_k».proof.Proof.Gen.QProjIdeal.Value
public import proofs.«01_k».proof.Proof.Gen.QProjRefIdeal.Run
public import proofs.«01_k».proof.Proof.Gen.QProjRefIdeal.Read
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.QProj

open Cert.QProjIdeal Cert.QProjIdeal.Gen
open Idealize.ShloMosaic Idealize.ShloMosaic.TcCoe Idealize.SL.Sem Idealize.ShloMosaic.StableHlo
open Cert.QProjRefIdeal.Read

variable (m : (ℓ : Loc nD τ sig) → Buf (Elt Ideal) ℓ) (c : Dev nD)

/-- The product of row `r` with column `j`. -/
def dotAt (x0 : Vec Ideal S1024x2048 .bf16) (x1 : Vec Ideal S2048x1024 .bf16) (r j : Fin 1024) : EReal := ∑ k : Fin 2048, x0 (ix2 r k) * x1 (ix2 k j)

/-- The rotated product at head `h`, lane `d`: the first sixteen lanes take their partner from sixteen lanes on, the others from
    sixteen lanes back. -/
def rotAt (x0 : Vec Ideal S1024x2048 .bf16) (x1 : Vec Ideal S2048x1024 .bf16) (x2 x3 : Vec Ideal S1024x128 .f32) (r : Fin 1024) (h : Fin 8) (d : Fin 128) : EReal :=
  dotAt x0 x1 r ⟨128 * h.val + d.val, by omega⟩ * x2 (ix2 r d)
    + (if d.val < 16 then dotAt x0 x1 r ⟨128 * h.val + (d.val + 128 - 112) % 128, by omega⟩
        else dotAt x0 x1 r ⟨128 * h.val + (d.val + 128 - 16) % 128, by omega⟩) * x3 (ix2 r d)

theorem lane_bit : ∀ d : Fin 128, IntOp.cmpi .slt (BitVec.ofNat 32 d.val) 16#32 = if d.val < 16 then 1#1 else 0#1 := by decide +kernel

theorem lane_select (d : Fin 128) (a b : EReal) :
    Scalar.select (IntOp.cmpi .slt (BitVec.ofNat 32 d.val) 16#32) a b = if d.val < 16 then a else b := by
  rw [lane_bit]
  split <;> rfl

variable (x0 : Vec Ideal S1024x2048 .bf16) (x1 : Vec Ideal S2048x1024 .bf16) (x2 x3 : Vec Ideal S1024x128 .f32)

theorem dot_at (r j : Fin 1024) : k0_pay2 (F := Ideal) x0 x1 (ix2 r j) = dotAt x0 x1 r j := by
  pointwise [k0_pay2, dotAt]

theorem ld0 : View.ld x0 r0_0 = x0 := View.ld_unit_zero (funext fun a => by fin_cases a <;> rfl) _ _
theorem ld1 : View.ld x1 r0_1 = x1 := View.ld_unit_zero (funext fun a => by fin_cases a <;> rfl) _ _
theorem ld2 : View.ld x2 r0_2 = x2 := View.ld_unit_zero (funext fun a => by fin_cases a <;> rfl) _ _

theorem piece0 (r : Fin 1024) (d : Fin 128) : k0_pay6 (View.ld x0 r0_0) (View.ld x1 r0_1) (View.ld x2 r0_2) (View.ld x3 r0_2) (ix2 r d) = rotAt x0 x1 x2 x3 r 0 d := by
  rw [ld0, ld1, ld2, ld2]
  pointwise [k0_pay6, k0_pay5, k0_pay4, k0_pay3, rotAt, dot_at, lane_select]

theorem piece1 (r : Fin 1024) (d : Fin 128) : k0_pay7 (View.ld x0 r0_0) (View.ld x1 r0_1) (View.ld x2 r0_2) (View.ld x3 r0_2) (ix2 r d) = rotAt x0 x1 x2 x3 r 1 d := by
  rw [ld0, ld1, ld2, ld2]
  pointwise [k0_pay7, k0_pay8, k0_pay5, k0_pay4, k0_pay3, rotAt, dot_at, lane_select]

theorem piece2 (r : Fin 1024) (d : Fin 128) : k0_pay11 (k0_pay9 (View.ld x0 r0_0) (View.ld x1 r0_1) (View.ld x2 r0_2)) (k0_pay10 (View.ld x0 r0_0) (View.ld x1 r0_1) (View.ld x3 r0_2)) (ix2 r d) = rotAt x0 x1 x2 x3 r 2 d := by
  rw [ld0, ld1, ld2, ld2]
  pointwise [k0_pay11, k0_pay10, k0_pay9, k0_pay8, k0_pay5, k0_pay4, k0_pay3, rotAt, dot_at, lane_select]

theorem piece3 (r : Fin 1024) (d : Fin 128) : k0_pay12 (k0_pay16 x0 x1 x2 x3) (k0_pay17 x0 x1 x2 x3) (k0_pay18 x0 x1 x2 x3) (k0_pay19 x0 x1 x2 x3) (ix2 r d) = rotAt x0 x1 x2 x3 r 3 d := by
  unfold k0_pay19 k0_pay18 k0_pay17 k0_pay16
  rw [ld0, ld1, ld2, ld2]
  pointwise [k0_pay12, k0_pay5, k0_pay4, k0_pay3, rotAt, dot_at, lane_select]

theorem piece4 (r : Fin 1024) (d : Fin 128) : k0_pay13 (k0_pay16 x0 x1 x2 x3) (k0_pay17 x0 x1 x2 x3) (k0_pay18 x0 x1 x2 x3) (k0_pay19 x0 x1 x2 x3) (ix2 r d) = rotAt x0 x1 x2 x3 r 4 d := by
  unfold k0_pay19 k0_pay18 k0_pay17 k0_pay16
  rw [ld0, ld1, ld2, ld2]
  pointwise [k0_pay13, k0_pay5, k0_pay4, k0_pay3, rotAt, dot_at, lane_select]

theorem piece5 (r : Fin 1024) (d : Fin 128) : k0_pay14 (k0_pay16 x0 x1 x2 x3) (k0_pay17 x0 x1 x2 x3) (k0_pay18 x0 x1 x2 x3) (k0_pay19 x0 x1 x2 x3) (ix2 r d) = rotAt x0 x1 x2 x3 r 5 d := by
  unfold k0_pay19 k0_pay18 k0_pay17 k0_pay16
  rw [ld0, ld1, ld2, ld2]
  pointwise [k0_pay14, k0_pay5, k0_pay4, k0_pay3, rotAt, dot_at, lane_select]

theorem piece6 (r : Fin 1024) (d : Fin 128) : k0_pay15 (k0_pay16 x0 x1 x2 x3) (k0_pay17 x0 x1 x2 x3) (k0_pay18 x0 x1 x2 x3) (k0_pay19 x0 x1 x2 x3) (ix2 r d) = rotAt x0 x1 x2 x3 r 6 d := by
  unfold k0_pay19 k0_pay18 k0_pay17 k0_pay16
  rw [ld0, ld1, ld2, ld2]
  pointwise [k0_pay15, k0_pay5, k0_pay4, k0_pay3, rotAt, dot_at, lane_select]

theorem piece7 (r : Fin 1024) (d : Fin 128) : k0_pay1 (k0_pay16 x0 x1 x2 x3) (k0_pay17 x0 x1 x2 x3) (k0_pay18 x0 x1 x2 x3) (k0_pay19 x0 x1 x2 x3) (ix2 r d) = rotAt x0 x1 x2 x3 r 7 d := by
  unfold k0_pay19 k0_pay18 k0_pay17 k0_pay16
  rw [ld0, ld1, ld2, ld2]
  pointwise [k0_pay1, k0_pay5, k0_pay4, k0_pay3, rotAt, dot_at, lane_select]

/-- A function of row, head and lane, at an index of the tile. -/
def atHead (f : Fin 1024 → Fin 8 → Fin 128 → EReal) (y : S1024x1024.Idx) : Elt Ideal .bf16 :=
  f (y 0) ⟨(y 1).val / 128, by have : (y 1).val < 1024 := (y 1).isLt; omega⟩ ⟨(y 1).val % 128, by omega⟩

theorem atHead_eq (f : Fin 1024 → Fin 8 → Fin 128 → EReal) (y : S1024x1024.Idx) (r : Fin 1024) (h : Fin 8) (d : Fin 128)
    (h0 : (y 0).val = r.val) (h1 : (y 1).val = 128 * h.val + d.val) : atHead f y = f r h d := by
  have e0 : y 0 = r := Fin.ext h0
  have e1 : (⟨(y 1).val / 128, by omega⟩ : Fin 8) = h := Fin.ext (by show (y 1).val / 128 = h.val; omega)
  have e2 : (⟨(y 1).val % 128, by omega⟩ : Fin 128) = d := Fin.ext (by show (y 1).val % 128 = d.val; omega)
  exact congr (congr (congrArg f e0) e1) e2

/-- A store of one head, as a piece of the tile. -/
theorem atHead_piece (f : Fin 1024 → Fin 8 → Fin 128 → EReal) (h : Fin 8) (o : Nat) (ho : o = 128 * h.val)
    (inb : ∀ a, (![0, o] : Fin 2 → Nat) a + S1024x128.size a ≤ S1024x1024.size a) (w : Vec Ideal S1024x128 .bf16)
    (hw : ∀ r d, w (ix2 r d) = f r h d) (x : S1024x128.Idx) :
    w x = atHead f ((Rect.unit (s := S1024x1024) ![0, o] S1024x128.size inb).emb x) := by
  have e : w x = f (x 0) h (x 1) := (congrArg w (eq_ix2 x)).trans (hw (x 0) (x 1))
  rw [atHead_eq f _ (x 0) h (x 1) (by show 0 + 1 * (x 0).val = (x 0).val; rw [Nat.one_mul, Nat.zero_add])
    (by show o + 1 * (x 1).val = _; rw [Nat.one_mul, ho])]
  exact e

/-- The eight stores into the tile's buffer, as one function. -/
theorem out_eq : out0_4 (F := Ideal) x0 x1 x2 x3 = atHead (rotAt x0 x1 x2 x3) := by
  funext y
  refine View.canon_append_of_piecesOf (Val := Elt Ideal) (atHead (rotAt x0 x1 x2 x3)) [] _
    ?_ y (cover0_4 _ _ _ _ _ _ _ _ y)
  exact ⟨fun x => atHead_piece _ 7 896 rfl inb_S1024x1024_S1024x128_0_896 _ (piece7 x0 x1 x2 x3) x,
    fun x => atHead_piece _ 6 768 rfl inb_S1024x1024_S1024x128_0_768 _ (piece6 x0 x1 x2 x3) x,
    fun x => atHead_piece _ 5 640 rfl inb_S1024x1024_S1024x128_0_640 _ (piece5 x0 x1 x2 x3) x,
    fun x => atHead_piece _ 4 512 rfl inb_S1024x1024_S1024x128_0_512 _ (piece4 x0 x1 x2 x3) x,
    fun x => atHead_piece _ 3 384 rfl inb_S1024x1024_S1024x128_0_384 _ (piece3 x0 x1 x2 x3) x,
    fun x => atHead_piece _ 2 256 rfl inb_S1024x1024_S1024x128_0_256 _ (piece2 x0 x1 x2 x3) x,
    fun x => atHead_piece _ 1 128 rfl inb_S1024x1024_S1024x128_0_128 _ (piece1 x0 x1 x2 x3) x,
    fun x => atHead_piece _ 0 0 rfl inb_S1024x1024_S1024x128_0_0 _ (piece0 x0 x1 x2 x3) x, trivial⟩

/-! ## The arrays the launch takes -/

/-- The tokens as rows. -/
def rows (x : FVec Ideal S4x4096x2048 .f32) : FVec Ideal S16384x2048 .bf16 :=
  truncf .bf16 (shapeCast S16384x2048 x shapeCasts_S4x4096x2048_S16384x2048) bitsLt_bf16_f32

/-- The weights as the launch takes them. -/
def weights (w : FVec Ideal S2048x8192 .f32) : FVec Ideal S2048x8192 .bf16 := truncf .bf16 w bitsLt_bf16_f32

/-- One sequence's table of a head's lanes, for every sequence. -/
def everySeq (t : FVec Ideal S4096x128 .f32) : FVec Ideal S16384x128 .f32 :=
  shapeCast S16384x128 (broadcastInDim S4x4096x1x128 ![0, 1, 2, 3] bcast_S1x4096x1x128_S4x4096x1x128_0_1_2_3
    (shapeCast S1x4096x1x128 t shapeCasts_S4096x128_S1x4096x1x128)) shapeCasts_S4x4096x1x128_S16384x128

/-- The factors of a lane itself. -/
def cosTab (t : FVec Ideal S4096x16 .f32) : FVec Ideal S4096x128 .f32 :=
  concatenate S4096x128 1 [⟨S4096x16, t⟩, ⟨S4096x16, t⟩, ⟨S4096x96, broadcastInDim S4096x96 ![] bcast_S_S4096x96 (constant S_ .f32 0x3F800000#32)⟩]
    concatenates_S4096x16_S4096x16_S4096x96_S4096x128_d1

/-- The factors of a lane's partner. -/
def sinTab (t : FVec Ideal S4096x16 .f32) : FVec Ideal S4096x128 .f32 :=
  concatenate S4096x128 1 [⟨S4096x16, Host.negf t⟩, ⟨S4096x16, t⟩, ⟨S4096x96, broadcastInDim S4096x96 ![] bcast_S_S4096x96 (constant S_ .f32 0x00000000#32)⟩]
    concatenates_S4096x16_S4096x16_S4096x96_S4096x128_d1

theorem V_x : V m c main_v1 = rows (m ((c : Thread nD τ).loc main_arg0)) := by
  unfold V
  after_reads_simp
  rfl

theorem V_w : V m c main_v30 = weights (m ((c : Thread nD τ).loc main_arg1)) := by
  unfold V
  after_reads_simp
  rfl

theorem V_cos : V m c main_v26 = everySeq (cosTab (val_main_v18 (F := Ideal))) := by
  unfold V
  after_reads_simp
  rfl

theorem V_sin : V m c main_v29 = everySeq (sinTab (val_main_v20 (F := Ideal))) := by
  unfold V
  after_reads_simp
  rfl

theorem everySeq_at (t : FVec Ideal S4096x128 .f32) (n : Fin 16384) (d : Fin 128) :
    everySeq t (ix2 n d) = t (ix2 (⟨n.val % 4096, by omega⟩ : Fin 4096) d) := by
  pointwise [everySeq]

theorem cos_at (t : FVec Ideal S4096x16 .f32) (n : Fin 4096) (d : Fin 128) :
    cosTab t (ix2 n d) = if h : d.val < 16 then t (ix2 n (⟨d.val, h⟩ : Fin 16)) else if h : d.val - 16 < 16 then t (ix2 n (⟨d.val - 16, h⟩ : Fin 16)) else 1 := by
  pointwise [cosTab]

theorem sin_at (t : FVec Ideal S4096x16 .f32) (n : Fin 4096) (d : Fin 128) :
    sinTab t (ix2 n d) = if h : d.val < 16 then -t (ix2 n (⟨d.val, h⟩ : Fin 16)) else if h : d.val - 16 < 16 then t (ix2 n (⟨d.val - 16, h⟩ : Fin 16)) else 0 := by
  pointwise [sinTab]

/-- The product of token `n` with column `j` of the queries. -/
def queryAt (x : FVec Ideal S4x4096x2048 .f32) (w : FVec Ideal S2048x8192 .f32) (n : Fin 16384) (j : Fin 1024) : EReal :=
  ∑ k : Fin 2048, x (ix3 (⟨n.val / 4096, by omega⟩ : Fin 4) (⟨n.val % 4096, by omega⟩ : Fin 4096) k) * w (ix2 k (⟨j.val, by omega⟩ : Fin 8192))

theorem queryAt_congr (x : FVec Ideal S4x4096x2048 .f32) (w : FVec Ideal S2048x8192 .f32) (n : Fin 16384) (j j' : Nat) (hj : j < 1024) (e : j = j') :
    queryAt x w n ⟨j, hj⟩ = queryAt x w n ⟨j', e ▸ hj⟩ := by subst e; rfl

theorem ref_at (x : FVec Ideal S4x4096x2048 .f32) (w : FVec Ideal S2048x8192 .f32) (n : Fin 16384) (h : Fin 8) (d : Fin 128) :
    val_main_v37 (F := Ideal) x w (ix2 n (⟨128 * h.val + d.val, by omega⟩ : Fin 1024)) =
      if h16 : d.val < 16 then
        queryAt x w n ⟨h.val * 128 + d.val, by omega⟩ * val_main_v18 (F := Ideal) (ix2 (⟨n.val % 4096, by omega⟩ : Fin 4096) (⟨d.val, h16⟩ : Fin 16))
          - queryAt x w n ⟨h.val * 128 + (16 + d.val), by omega⟩ * val_main_v20 (F := Ideal) (ix2 (⟨n.val % 4096, by omega⟩ : Fin 4096) (⟨d.val, h16⟩ : Fin 16))
      else if h32 : d.val - 16 < 16 then
        queryAt x w n ⟨h.val * 128 + (16 + (d.val - 16)), by omega⟩ * val_main_v18 (F := Ideal) (ix2 (⟨n.val % 4096, by omega⟩ : Fin 4096) (⟨d.val - 16, h32⟩ : Fin 16))
          + queryAt x w n ⟨h.val * 128 + (d.val - 16), by omega⟩ * val_main_v20 (F := Ideal) (ix2 (⟨n.val % 4096, by omega⟩ : Fin 4096) (⟨d.val - 16, h32⟩ : Fin 16))
      else queryAt x w n ⟨h.val * 128 + (32 + (d.val - 16 - 16)), by omega⟩ := by
  pointwise [val_main_v37, val_main_v36, val_main_v35, val_main_v34, val_main_v33, val_main_v32, val_main_v31, val_main_v30, val_main_v29, val_main_v28, val_main_v27, val_main_v26, val_main_v25,
    val_main_v24, val_main_v23, val_main_v22, val_main_v21, val_main_v19, val_main_v2, val_main_v1, val_main_v0, queryAt]

/-- One tile's element is the rotated projection's, from the tile's rows, columns and factors. -/
theorem tile_eq (x : FVec Ideal S4x4096x2048 .f32) (w : FVec Ideal S2048x8192 .f32) (r : Fin 1024) (h : Fin 8) (d : Fin 128) (n : Fin 16384)
    (hx : ∀ k : Fin 2048, x0 (ix2 r k) = rows x (ix2 n k))
    (hw : ∀ (k : Fin 2048) (j : Fin 1024), x1 (ix2 k j) = weights w (ix2 k (⟨j.val, by omega⟩ : Fin 8192)))
    (hc : ∀ d : Fin 128, x2 (ix2 r d) = everySeq (cosTab (val_main_v18 (F := Ideal))) (ix2 n d))
    (hs : ∀ d : Fin 128, x3 (ix2 r d) = everySeq (sinTab (val_main_v20 (F := Ideal))) (ix2 n d)) :
    rotAt x0 x1 x2 x3 r h d = val_main_v37 (F := Ideal) x w (ix2 n (⟨128 * h.val + d.val, by omega⟩ : Fin 1024)) := by
  have hk (j : Fin 1024) : dotAt x0 x1 r j = queryAt x w n j :=
    Finset.sum_congr rfl fun k _ => by rw [hx, hw]; pointwise [rows, weights]
  rw [ref_at, rotAt, hc, hs, everySeq_at, everySeq_at, cos_at, sin_at]
  simp only [hk]
  by_cases h16 : d.val < 16
  · simp only [dif_pos h16, if_pos h16]
    rw [mul_neg, ← sub_eq_add_neg, queryAt_congr x w n (128 * h.val + d.val) (h.val * 128 + d.val) _ (by omega),
      queryAt_congr x w n (128 * h.val + (d.val + 128 - 112) % 128) (h.val * 128 + (16 + d.val)) _ (by omega)]
  · simp only [dif_neg h16, if_neg h16]
    by_cases h32 : d.val - 16 < 16
    · simp only [dif_pos h32]
      rw [queryAt_congr x w n (128 * h.val + d.val) (h.val * 128 + (16 + (d.val - 16))) _ (by omega),
        queryAt_congr x w n (128 * h.val + (d.val + 128 - 16) % 128) (h.val * 128 + (d.val - 16)) _ (by omega)]
    · simp only [dif_neg h32]
      rw [mul_one, mul_zero, add_zero, queryAt_congr x w n (128 * h.val + d.val) (h.val * 128 + (32 + (d.val - 16 - 16))) _ (by omega)]

/-- The tiles run down the rows; the columns are the queries' block of the weights. -/
theorem tiles : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem value : (dats (F := Ideal) m 0 c).arrAt 4 cfg0.N
    = val_main_v37 (F := Ideal) (m ((c : Thread nD τ).loc main_arg0)) (m ((c : Thread nD τ).loc main_arg1)) := by
  refine (dats (F := Ideal) m 0 c).arrAt_eq_of_covers 4 _ (by decide +kernel) fun t hf y => ?_
  blk_simp
  rw [after0_4]
  have e0 := fun t => (tiles t).1
  have e1 := fun t => (tiles t).2.1
  have e2 := fun t => (tiles t).2.2.1
  have e3 := fun t => (tiles t).2.2.2.1
  have e4 := fun t => (tiles t).2.2.2.2
  obtain ⟨r, j, rfl⟩ : ∃ (r : Fin 1024) (j : Fin 1024), y = ix2 r j := ⟨y 0, y 1, eq_ix2 y⟩
  obtain ⟨h, d, hj⟩ : ∃ (h : Fin 8) (d : Fin 128), j = (⟨128 * h.val + d.val, by omega⟩ : Fin 1024) :=
    ⟨⟨j.val / 128, by omega⟩, ⟨j.val % 128, by omega⟩, Fin.ext (by show j.val = 128 * (j.val / 128) + j.val % 128; omega)⟩
  have ht : t.val < 16 := t.isLt
  have hy : ((cfg0.win 4).blk t).view.emb (ix2 r j) = (ix2 (⟨t.val * 1024 + r.val, by omega⟩ : Fin 16384) j : S16384x1024.Idx) := by
    blk_ext [e4]
  have hx (k : Fin 2048) : iblk m c 0 t (ix2 r k) = V m c main_v1 (ix2 (⟨t.val * 1024 + r.val, by omega⟩ : Fin 16384) k) := by
    blk_ext [iblk, e0]
  have hw (k : Fin 2048) (j : Fin 1024) : iblk m c 1 t (ix2 k j) = V m c main_v30 (ix2 k (⟨j.val, by omega⟩ : Fin 8192)) := by
    blk_ext [iblk, e1]
  have hc (d : Fin 128) : iblk m c 2 t (ix2 r d) = V m c main_v26 (ix2 (⟨t.val * 1024 + r.val, by omega⟩ : Fin 16384) d) := by
    blk_ext [iblk, e2]
  have hs (d : Fin 128) : iblk m c 3 t (ix2 r d) = V m c main_v29 (ix2 (⟨t.val * 1024 + r.val, by omega⟩ : Fin 16384) d) := by
    blk_ext [iblk, e3]
  rw [hy]
  rw [V_x] at hx
  rw [V_w] at hw
  rw [V_cos] at hc
  rw [V_sin] at hs
  rw [out_eq, atHead_eq _ _ r h d rfl (by rw [hj]; rfl), hj]
  exact tile_eq _ _ _ _ _ _ r h d _ hx hw hc hs

theorem frame_ref : Cert.quiescent_QProjRefIdeal (hQProjRefIdeal := Cert.QProjRefIdeal.Gen.facts) := fun m g _ =>
  (θ_run (Cert.QProjRefIdeal.defs (F := Ideal)) _ _).mono
    (fun r h => ⟨fun c => (h c).2, Idealize.ShloMosaic.sem_eq_zero_of_no_sems (by decide) r.2⟩)
    (Cert.QProjRefIdeal.Value.run (F := Ideal) m g)

theorem algebraic : Cert.algebraic_QProjIdeal_QProjRefIdeal (hQProjIdeal := Cert.QProjIdeal.Gen.facts)
    (hQProjRefIdeal := Cert.QProjRefIdeal.Gen.facts) := by
  intro m g m' g' _ hargs
  refine ⟨fun c => val_main_v37 (F := Ideal) (m (c.tc.loc main_arg0)) (m (c.tc.loc main_arg1)),
    (θ_run (Cert.QProjIdeal.defs (F := Ideal)) _ _).mono (fun r h c => ⟨(h c).1.trans (value m c), (h c).2⟩)
      (Cert.QProjIdeal.Value.run_blocks (F := Ideal) m g),
    (θ_run (Cert.QProjRefIdeal.defs (F := Ideal)) _ _).mono (fun r h c => ⟨(h c).1.trans ?_, (h c).2⟩)
      (Cert.QProjRefIdeal.Value.run (F := Ideal) m' g')⟩
  obtain ⟨a0, a1⟩ := hargs c
  rw [val_main_v37_eq, a0, a1]

end Cert.Proof.QProj

end
-- ==== Proof.MixRows.lean ====
/-
  One token of the branch mix and the first layer norm, as functions of rows, and the launch's tile and the reference as these.
-/
module

public import proofs.«01_k».proof.Defs
public import proofs.«01_k».proof.Proof.Gen.MixIdeal.Value
public import proofs.«01_k».proof.Proof.Gen.MixRefIdeal.Run
public import proofs.«01_k».proof.Proof.Gen.MixRefIdeal.Read
public import Idealize.ShloMosaic.Lib.StableHlo.RunRead
public import Idealize.ShloMosaic.Lib.Pipeline.ValueKit
public import Idealize.ShloMosaic.Lib.Pointwise

@[expose] public section

set_option maxRecDepth 16384

noncomputable section

namespace Cert.Proof.Mix

open Cert.MixIdeal Cert.MixIdeal.Gen
open Idealize.ShloMosaic Idealize.ShloMosaic.TcCoe Idealize.SL.Sem Idealize.ShloMosaic.StableHlo
open Cert.MixRefIdeal.Read

/-! ## A token's row -/

/-- The logistic function. -/
def sigm (x : EReal) : EReal := Ideal.div 1 (1 + Ideal.exp (-x))

/-- A row times a matrix's column. -/
def rowDot {K N : Nat} (a : Fin K → EReal) (w : Fin K → Fin N → EReal) (j : Fin N) : EReal := ∑ k, a k * w k j

/-- The gated sum of the two branches. -/
def mixRow (z a : Fin 1024 → EReal) (ga gb : Fin 2048 → EReal) (wv wg wu : Fin 1024 → Fin 2048 → EReal) (j : Fin 2048) : EReal :=
  sigm (ga j) * (rowDot z wv j * sigm (rowDot z wg j)) + sigm (gb j) * rowDot a wu j

/-- The residual sum before the norm. -/
def resRow (x mix : Fin 2048 → EReal) (wo : Fin 2048 → Fin 2048 → EReal) (j : Fin 2048) : EReal :=
  Ideal.ofBits .f32 0x3F9837F0#32 * x j + rowDot mix wo j

/-- A row less its mean. -/
def centred (r : Fin 2048 → EReal) (j : Fin 2048) : EReal := r j - Ideal.div (∑ k, r k) (Ideal.ofBits .f32 0x45000000#32)

/-- The layer norm of a row. -/
def normRow (r g b : Fin 2048 → EReal) (j : Fin 2048) : EReal :=
  centred r j * Ideal.rsqrt (Ideal.div (∑ k, centred r k * centred r k) (Ideal.ofBits .f32 0x45000000#32) + Ideal.ofBits .f32 0x3727C5AC#32) * g j + b j

/-! ## The tile -/

theorem attn_at (v0 : Vec Ideal S256x1024 .bf16) (v1 : Vec Ideal S1024x2048 .bf16) (r : Fin 256) (j : Fin 2048) :
    k0_pay2 (F := Ideal) v0 v1 (ix2 r j) = rowDot (fun k => v0 (ix2 r k)) (fun k j => v1 (ix2 k j)) j := by
  pointwise [k0_pay2, rowDot]

theorem ssm_at (v0 : Vec Ideal S256x1024 .bf16) (v1 v2 : Vec Ideal S1024x2048 .bf16) (v3 : Vec Ideal S256x2048 .f32) (r : Fin 256) (j : Fin 2048) :
    k0_pay3 (F := Ideal) v0 v1 v2 v3 (ix2 r j) = sigm (v3 (ix2 r j))
      * (rowDot (fun k => v0 (ix2 r k)) (fun k j => v1 (ix2 k j)) j * sigm (rowDot (fun k => v0 (ix2 r k)) (fun k j => v2 (ix2 k j)) j)) := by
  pointwise [k0_pay3, rowDot, sigm]
  simp only [zero_sub]

theorem gate_at (v0 : Vec Ideal S256x2048 .f32) (r : Fin 256) (j : Fin 2048) :
    k0_pay4 (F := Ideal) v0 (ix2 r j) = 1 + Ideal.exp (-v0 (ix2 r j)) := by
  pointwise [k0_pay4]
  simp only [zero_sub]

theorem norm_at (v0 v1 v2 v3 : Vec Ideal S256x2048 .f32) (v4 : Vec Ideal S2048x2048 .bf16) (v5 v6 : Vec Ideal S1x2048 .f32) (r : Fin 256) (j : Fin 2048) :
    k0_pay5 (F := Ideal) v0 v1 v2 v3 v4 v5 v6 (ix2 r j) =
      normRow (resRow (fun k => v3 (ix2 r k)) (fun k => v1 (ix2 r k) + Ideal.div 1 (v2 (ix2 r k)) * v0 (ix2 r k)) (fun k j => v4 (ix2 k j)))
        (fun j => v5 (ix2 0 j)) (fun j => v6 (ix2 0 j)) j := by
  pointwise [k0_pay5, normRow, centred, resRow, rowDot]

theorem zeros : (![0, 0] : Fin 2 → Nat) = fun _ => 0 := funext fun a => by fin_cases a <;> rfl

/-- The tile's element as the token's. -/
theorem out_at (x0 x1 : Vec Ideal S256x1024 .bf16) (x2 x3 x4 : Vec Ideal S256x2048 .f32) (x5 x6 x7 : Vec Ideal S1024x2048 .bf16)
    (x8 : Vec Ideal S2048x2048 .bf16) (x9 x10 : Vec Ideal S1x2048 .f32) (x11 : Vec Ideal S2048x128 .bf16) (x12 : Vec Ideal S1x128 .f32)
    (r : Fin 256) (j : Fin 2048) :
    out0_13 (F := Ideal) x0 x1 x2 x3 x4 x5 x6 x7 x8 x9 x10 x11 x12 (ix2 r j) =
      normRow (resRow (fun k => x4 (ix2 r k)) (mixRow (fun k => x0 (ix2 r k)) (fun k => x1 (ix2 r k)) (fun k => x2 (ix2 r k)) (fun k => x3 (ix2 r k))
        (fun k j => x5 (ix2 k j)) (fun k j => x6 (ix2 k j)) (fun k j => x7 (ix2 k j))) (fun k j => x8 (ix2 k j)))
        (fun j => x9 (ix2 0 j)) (fun j => x10 (ix2 0 j)) j := by
  unfold out0_13 k0_pay26 k0_pay27 k0_pay28
  rw [View.canon_unit_zero zeros]
  have l0 (b : Vec Ideal S256x1024 .bf16) : View.ld b r0_0 = b := View.ld_unit_zero zeros _ _
  have l1 (b : Vec Ideal S1024x2048 .bf16) : View.ld b r0_1 = b := View.ld_unit_zero zeros _ _
  have l2 (b : Vec Ideal S256x2048 .f32) : View.ld b r0_2 = b := View.ld_unit_zero zeros _ _
  have l3 (b : Vec Ideal S2048x2048 .bf16) : View.ld b r0_3 = b := View.ld_unit_zero zeros _ _
  have l4 (b : Vec Ideal S1x2048 .f32) : View.ld b r0_4 = b := View.ld_unit_zero zeros _ _
  rw [l0 x0, l0 x1, l1 x5, l1 x6, l1 x7, l2 x2, l2 x3, l2 x4, l3 x8, l4 x9, l4 x10, norm_at]
  simp only [attn_at, ssm_at, gate_at]
  rfl

/-! ## The reference -/

theorem ref_mix (x0 x1 : FVec Ideal S16384x1024 .bf16) (x2 x3 : FVec Ideal S16384x2048 .f32) (x5 x6 x7 : FVec Ideal S1024x2048 .f32) (n : Fin 16384) (j : Fin 2048) :
    val_main_v26 (F := Ideal) x0 x1 x2 x3 x5 x6 x7 (ix2 n j) = mixRow (fun k => x0 (ix2 n k)) (fun k => x1 (ix2 n k)) (fun k => x2 (ix2 n k))
      (fun k => x3 (ix2 n k)) (fun k j => x5 (ix2 k j)) (fun k j => x6 (ix2 k j)) (fun k j => x7 (ix2 k j)) j := by
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, mixRow, sigm, rowDot]

theorem ref_res (x0 x1 : FVec Ideal S16384x1024 .bf16) (x2 x3 : FVec Ideal S16384x2048 .f32) (x4 : FVec Ideal S4x4096x2048 .f32)
    (x5 x6 x7 : FVec Ideal S1024x2048 .f32) (x8 : FVec Ideal S2048x2048 .f32) (n : Fin 16384) (j : Fin 2048) :
    val_main_v31 (F := Ideal) x0 x1 x2 x3 x4 x5 x6 x7 x8 (ix2 n j) =
      resRow (fun k => x4 (ix3 (⟨n.val / 4096, by omega⟩ : Fin 4) (⟨n.val % 4096, by omega⟩ : Fin 4096) k))
        (fun k => val_main_v26 (F := Ideal) x0 x1 x2 x3 x5 x6 x7 (ix2 n k)) (fun k j => x8 (ix2 k j)) j := by
  pointwise [val_main_v31, val_main_v30, val_main_v29, val_main_v28, val_main_v27, val_main_cst_5, resRow, rowDot]

theorem ref_centred (x0 x1 : FVec Ideal S16384x1024 .bf16) (x2 x3 : FVec Ideal S16384x2048 .f32) (x4 : FVec Ideal S4x4096x2048 .f32)
    (x5 x6 x7 : FVec Ideal S1024x2048 .f32) (x8 : FVec Ideal S2048x2048 .f32) (n : Fin 16384) (j : Fin 2048) :
    val_main_v37 (F := Ideal) x0 x1 x2 x3 x4 x5 x6 x7 x8 (ix2 n j) =
      centred (fun k => val_main_v31 (F := Ideal) x0 x1 x2 x3 x4 x5 x6 x7 x8 (ix2 n k)) j := by
  pointwise [val_main_v37, val_main_v36, val_main_v35, val_main_v34, val_main_v33, val_main_v32, val_main_cst_6, val_main_cst_7, centred]

theorem ref_norm (x0 x1 : FVec Ideal S16384x1024 .bf16) (x2 x3 : FVec Ideal S16384x2048 .f32) (x4 : FVec Ideal S4x4096x2048 .f32)
    (x5 x6 x7 : FVec Ideal S1024x2048 .f32) (x8 : FVec Ideal S2048x2048 .f32) (x9 x10 : FVec Ideal S2048 .f32) (n : Fin 16384) (j : Fin 2048) :
    val_main_v53 (F := Ideal) x0 x1 x2 x3 x4 x5 x6 x7 x8 x9 x10 (ix2 n j) =
      normRow (fun k => val_main_v31 (F := Ideal) x0 x1 x2 x3 x4 x5 x6 x7 x8 (ix2 n k)) (fun k => x9 (ix1 k)) (fun k => x10 (ix1 k)) j := by
  pointwise [val_main_v53, val_main_v52, val_main_v51, val_main_v50, val_main_v49, val_main_v48, val_main_v47, val_main_v46, val_main_v45, val_main_v44,
    val_main_v43, val_main_v42, val_main_v41, val_main_v40, val_main_v39, val_main_v38, val_main_cst_8, val_main_cst_9, val_main_cst_10, ref_centred, normRow]

/-- The reference's element as the token's. -/
theorem ref_at (x0 x1 : FVec Ideal S16384x1024 .bf16) (x2 x3 : FVec Ideal S16384x2048 .f32) (x4 : FVec Ideal S4x4096x2048 .f32)
    (x5 x6 x7 : FVec Ideal S1024x2048 .f32) (x8 : FVec Ideal S2048x2048 .f32) (x9 x10 : FVec Ideal S2048 .f32) (n : Fin 16384) (j : Fin 2048) :
    val_main_v53 (F := Ideal) x0 x1 x2 x3 x4 x5 x6 x7 x8 x9 x10 (ix2 n j) =
      normRow (resRow (fun k => x4 (ix3 (⟨n.val / 4096, by omega⟩ : Fin 4) (⟨n.val % 4096, by omega⟩ : Fin 4096) k))
        (mixRow (fun k => x0 (ix2 n k)) (fun k => x1 (ix2 n k)) (fun k => x2 (ix2 n k)) (fun k => x3 (ix2 n k))
          (fun k j => x5 (ix2 k j)) (fun k j => x6 (ix2 k j)) (fun k j => x7 (ix2 k j))) (fun k j => x8 (ix2 k j)))
        (fun k => x9 (ix1 k)) (fun k => x10 (ix1 k)) j := by
  rw [ref_norm]
  simp only [ref_res, ref_mix]

end Cert.Proof.Mix

end
-- ==== Proof.Mix.lean ====
/-
  The branch mix and the first layer norm of the prompt tokens: each of the launch's row tiles holds the normed rows of its own
  tokens, so the array holds the reference's.
-/
module

public import proofs.«01_k».proof.Proof.MixRows

@[expose] public section

set_option maxRecDepth 16384

noncomputable section

namespace Cert.Proof.Mix

open Cert.MixIdeal Cert.MixIdeal.Gen
open Idealize.ShloMosaic Idealize.ShloMosaic.TcCoe Idealize.SL.Sem Idealize.ShloMosaic.StableHlo
open Cert.MixRefIdeal.Read

variable (m : (ℓ : Loc nD τ sig) → Buf (Elt Ideal) ℓ) (c : Dev nD)

/-! ## The arrays the launch takes -/

/-- The tokens as rows. -/
def rows (x : FVec Ideal S4x4096x2048 .f32) : FVec Ideal S16384x2048 .f32 := shapeCast S16384x2048 x shapeCasts_S4x4096x2048_S16384x2048

/-- A branch's weights as the launch takes them. -/
def narrow (w : FVec Ideal S1024x2048 .f32) : FVec Ideal S1024x2048 .bf16 := truncf .bf16 w bitsLt_bf16_f32

/-- The output weights as the launch takes them. -/
def narrowOut (w : FVec Ideal S2048x2048 .f32) : FVec Ideal S2048x2048 .bf16 := truncf .bf16 w bitsLt_bf16_f32

/-- A scale or shift of the norm as a row. -/
def asRow (g : FVec Ideal S2048 .f32) : FVec Ideal S1x2048 .f32 := shapeCast S1x2048 g shapeCasts_S2048_S1x2048

theorem V_z : V m c main_arg0 = m ((c : Thread nD τ).loc main_arg0) := by unfold V; after_reads_simp
theorem V_a : V m c main_arg1 = m ((c : Thread nD τ).loc main_arg1) := by unfold V; after_reads_simp
theorem V_ga : V m c main_arg2 = m ((c : Thread nD τ).loc main_arg2) := by unfold V; after_reads_simp
theorem V_gb : V m c main_arg3 = m ((c : Thread nD τ).loc main_arg3) := by unfold V; after_reads_simp
theorem V_x : V m c main_v15 = rows (m ((c : Thread nD τ).loc main_arg4)) := by unfold V; after_reads_simp; rfl
theorem V_wv : V m c main_v9 = narrow (m ((c : Thread nD τ).loc main_arg5)) := by unfold V; after_reads_simp; rfl
theorem V_wg : V m c main_v10 = narrow (m ((c : Thread nD τ).loc main_arg6)) := by unfold V; after_reads_simp; rfl
theorem V_wu : V m c main_v11 = narrow (m ((c : Thread nD τ).loc main_arg7)) := by unfold V; after_reads_simp; rfl
theorem V_wo : V m c main_v12 = narrowOut (m ((c : Thread nD τ).loc main_arg8)) := by unfold V; after_reads_simp; rfl
theorem V_g : V m c main_v13 = asRow (m ((c : Thread nD τ).loc main_arg9)) := by unfold V; after_reads_simp; rfl
theorem V_b : V m c main_v14 = asRow (m ((c : Thread nD τ).loc main_arg10)) := by unfold V; after_reads_simp; rfl

/-! ## The tiles -/

/-- The token windows run down the rows; the weight windows are whole. -/
theorem tiles : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_13.index t = ![t.val, 0] :=
  (by decide +kernel : ∀ t : Fin grid0.N, _)

theorem whole : ∀ t : Fin cfg0.N, win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

theorem tile_eq (X0 X1 : FVec Ideal S16384x1024 .bf16) (X2 X3 : FVec Ideal S16384x2048 .f32) (X4 : FVec Ideal S4x4096x2048 .f32)
    (X5 X6 X7 : FVec Ideal S1024x2048 .f32) (X8 : FVec Ideal S2048x2048 .f32) (X9 X10 : FVec Ideal S2048 .f32)
    (x0 x1 : Vec Ideal S256x1024 .bf16) (x2 x3 x4 : Vec Ideal S256x2048 .f32) (x5 x6 x7 : Vec Ideal S1024x2048 .bf16)
    (x8 : Vec Ideal S2048x2048 .bf16) (x9 x10 : Vec Ideal S1x2048 .f32) (x11 : Vec Ideal S2048x128 .bf16) (x12 : Vec Ideal S1x128 .f32)
    (n : Fin 16384) (r : Fin 256) (j : Fin 2048)
    (h0 : ∀ k : Fin 1024, x0 (ix2 r k) = X0 (ix2 n k)) (h1 : ∀ k : Fin 1024, x1 (ix2 r k) = X1 (ix2 n k))
    (h2 : ∀ k : Fin 2048, x2 (ix2 r k) = X2 (ix2 n k)) (h3 : ∀ k : Fin 2048, x3 (ix2 r k) = X3 (ix2 n k))
    (h4 : ∀ k : Fin 2048, x4 (ix2 r k) = rows X4 (ix2 n k))
    (h5 : ∀ (k : Fin 1024) (j : Fin 2048), x5 (ix2 k j) = narrow X5 (ix2 k j)) (h6 : ∀ (k : Fin 1024) (j : Fin 2048), x6 (ix2 k j) = narrow X6 (ix2 k j))
    (h7 : ∀ (k : Fin 1024) (j : Fin 2048), x7 (ix2 k j) = narrow X7 (ix2 k j)) (h8 : ∀ (k j : Fin 2048), x8 (ix2 k j) = narrowOut X8 (ix2 k j))
    (h9 : ∀ j : Fin 2048, x9 (ix2 0 j) = asRow X9 (ix2 0 j)) (h10 : ∀ j : Fin 2048, x10 (ix2 0 j) = asRow X10 (ix2 0 j)) :
    out0_13 (F := Ideal) x0 x1 x2 x3 x4 x5 x6 x7 x8 x9 x10 x11 x12 (ix2 r j) = val_main_v53 (F := Ideal) X0 X1 X2 X3 X4 X5 X6 X7 X8 X9 X10 (ix2 n j) := by
  have e4 (k : Fin 2048) : rows X4 (ix2 n k) = X4 (ix3 (⟨n.val / 4096, by omega⟩ : Fin 4) (⟨n.val % 4096, by omega⟩ : Fin 4096) k) := by
    pointwise [rows]
  have e9 (g : FVec Ideal S2048 .f32) (k : Fin 2048) : asRow g (ix2 0 k) = g (ix1 k) := by
    pointwise [asRow]
  rw [out_at, ref_at]
  simp only [h0, h1, h2, h3, h4, h5, h6, h7, h8, h9, h10, e4, e9]
  rfl

/-- The row of the token at row `r` of tile `t`. -/
abbrev row (t : Fin cfg0.N) (r : Fin 256) : Fin 16384 := ⟨t.val * 256 + r.val, by have : t.val < 64 := t.isLt; omega⟩

theorem blk0 (t : Fin cfg0.N) (r : Fin 256) (k : Fin 1024) : iblk m c 0 t (ix2 r k) = V m c main_arg0 (ix2 (row t r) k) := by
  have e := fun t => (tiles t).1
  blk_ext [iblk, e]

theorem blk1 (t : Fin cfg0.N) (r : Fin 256) (k : Fin 1024) : iblk m c 1 t (ix2 r k) = V m c main_arg1 (ix2 (row t r) k) := by
  have e := fun t => (tiles t).2.1
  blk_ext [iblk, e]

theorem blk2 (t : Fin cfg0.N) (r : Fin 256) (k : Fin 2048) : iblk m c 2 t (ix2 r k) = V m c main_arg2 (ix2 (row t r) k) := by
  have e := fun t => (tiles t).2.2.1
  blk_ext [iblk, e]

theorem blk3 (t : Fin cfg0.N) (r : Fin 256) (k : Fin 2048) : iblk m c 3 t (ix2 r k) = V m c main_arg3 (ix2 (row t r) k) := by
  have e := fun t => (tiles t).2.2.2.1
  blk_ext [iblk, e]

theorem blk4 (t : Fin cfg0.N) (r : Fin 256) (k : Fin 2048) : iblk m c 4 t (ix2 r k) = V m c main_v15 (ix2 (row t r) k) := by
  have e := fun t => (tiles t).2.2.2.2.1
  blk_ext [iblk, e]

theorem blk5 (t : Fin cfg0.N) (k : Fin 1024) (j : Fin 2048) : iblk m c 5 t (ix2 k j) = V m c main_v9 (ix2 k j) := by
  have e := fun t => (whole t).1
  blk_ext [iblk, e]

theorem blk6 (t : Fin cfg0.N) (k : Fin 1024) (j : Fin 2048) : iblk m c 6 t (ix2 k j) = V m c main_v10 (ix2 k j) := by
  have e := fun t => (whole t).2.1
  blk_ext [iblk, e]

theorem blk7 (t : Fin cfg0.N) (k : Fin 1024) (j : Fin 2048) : iblk m c 7 t (ix2 k j) = V m c main_v11 (ix2 k j) := by
  have e := fun t => (whole t).2.2.1
  blk_ext [iblk, e]

theorem blk8 (t : Fin cfg0.N) (k j : Fin 2048) : iblk m c 8 t (ix2 k j) = V m c main_v12 (ix2 k j) := by
  have e := fun t => (whole t).2.2.2.1
  blk_ext [iblk, e]

theorem blk9 (t : Fin cfg0.N) (j : Fin 2048) : iblk m c 9 t (ix2 (0 : Fin 1) j) = V m c main_v13 (ix2 (0 : Fin 1) j) := by
  have e := fun t => (whole t).2.2.2.2.1
  blk_ext [iblk, e]

theorem blk10 (t : Fin cfg0.N) (j : Fin 2048) : iblk m c 10 t (ix2 (0 : Fin 1) j) = V m c main_v14 (ix2 (0 : Fin 1) j) := by
  have e := fun t => (whole t).2.2.2.2.2
  blk_ext [iblk, e]

theorem value : (dats (F := Ideal) m 0 c).arrAt 13 cfg0.N
    = val_main_v53 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) := by
  refine (dats (F := Ideal) m 0 c).arrAt_eq_of_covers 13 _ (by decide +kernel) fun t hf y => ?_
  blk_simp
  rw [after0_13]
  have e13 := fun t => (tiles t).2.2.2.2.2
  obtain ⟨r, j, rfl⟩ : ∃ (r : Fin 256) (j : Fin 2048), y = ix2 r j := ⟨y 0, y 1, eq_ix2 y⟩
  have hy : ((cfg0.win 13).blk t).view.emb (ix2 r j) = (ix2 (row t r) j : S16384x2048.Idx) := by
    blk_ext [e13]
  rw [hy]
  exact tile_eq _ _ _ _ _ _ _ _ _ _ _ _ _ _ _ _ _ _ _ _ _ _ _ _ _ r j
    (fun k => by rw [blk0, V_z])
    (fun k => by rw [blk1, V_a])
    (fun k => by rw [blk2, V_ga])
    (fun k => by rw [blk3, V_gb])
    (fun k => by rw [blk4, V_x])
    (fun k j => by rw [blk5, V_wv])
    (fun k j => by rw [blk6, V_wg])
    (fun k j => by rw [blk7, V_wu])
    (fun k j => by rw [blk8, V_wo])
    (fun k => by rw [blk9, V_g])
    (fun k => by rw [blk10, V_b])

theorem frame_ref : Cert.quiescent_MixRefIdeal (hMixRefIdeal := Cert.MixRefIdeal.Gen.facts) := fun m g _ =>
  (θ_run (Cert.MixRefIdeal.defs (F := Ideal)) _ _).mono
    (fun r h => ⟨fun c => (h c).2, Idealize.ShloMosaic.sem_eq_zero_of_no_sems (by decide) r.2⟩)
    (Cert.MixRefIdeal.Value.run (F := Ideal) m g)

theorem algebraic : Cert.algebraic_MixIdeal_MixRefIdeal (hMixIdeal := Cert.MixIdeal.Gen.facts)
    (hMixRefIdeal := Cert.MixRefIdeal.Gen.facts) := by
  intro m g m' g' _ hargs
  refine ⟨fun c => val_main_v53 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8))
      (m (c.tc.loc main_arg9)) (m (c.tc.loc main_arg10)),
    (θ_run (Cert.MixIdeal.defs (F := Ideal)) _ _).mono (fun r h c => ⟨(h c).1.trans (value m c), (h c).2.2⟩)
      (Cert.MixIdeal.Value.run_blocks (F := Ideal) m g),
    (θ_run (Cert.MixRefIdeal.defs (F := Ideal)) _ _).mono (fun r h c => ⟨(h c).1.trans ?_, (h c).2⟩)
      (Cert.MixRefIdeal.Value.run (F := Ideal) m' g')⟩
  obtain ⟨a0, a1, a2, a3, a4, a5, a6, a7, a8, a9, a10, _⟩ := hargs c
  rw [val_main_v53_eq, a0, a1, a2, a3, a4, a5, a6, a7, a8, a9, a10]

end Cert.Proof.Mix

end
-- ==== Proof.DownIdealRun.lean ====
/-
  The down products' body: the loop that looks for the next block of another expert, the weights' transfer left in flight
  from one grid point to a later one, and what the body leaves at a point.
-/
module

public import proofs.«01_k».proof.Proof.Gen.DownIdeal.Launch
public import proofs.«01_k».proof.Proof.Gen.DownIdeal.Loops
public import Idealize.ShloMosaic.Lib.Pipeline.FrameBody
public import Idealize.ShloMosaic.Lib.Ring
public import Idealize.ShloMosaic.Lib.Transfers
public import Idealize.ShloMosaic.Lib.Tactic
public import Idealize.ShloMosaic.Lib.WordCmp
public import Idealize.ShloMosaic.Lib.VecWindow

@[expose] public section

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's resources beside the transfers' counters. -/
local notation "𝕄" => MT nD τ sig Unit (Elt F) ℕ (Pipeline.UD sig nD τ) ℕ

/-! ## The operands -/

abbrev tbE : Memref sig .tc .smem S161 .i32 := Memref.whole main_arg0
abbrev tbN : Memref sig .tc .smem S1 .i32 := Memref.whole main_arg1
abbrev hbW : Memref sig .tc .hbm S32x2048x2048 .f32 := Memref.whole main_arg3
abbrev scL : Memref sig .tc .vmem S1x2048x2048 .f32 := Memref.whole cc0_scratch0
abbrev scB : Memref sig .tc .vmem S1x2048x2048 .bf16 := Memref.whole cc0_scratch1

abbrev MBuf (c : Dev nD) {sp : Space} {S : Shape} {e : EltTy} (M : Memref sig .tc sp S e) : Type := Buf (Elt F) (M.view.loc (c : Thread nD τ))
/-- A table's half share. -/
abbrev tbPt (c : Dev nD) {S : Shape} {e : EltTy} (M : Memref sig .tc .smem S e) (f : MBuf (F := F) c M) : sProp 𝕄 :=
  M.view.loc (c : Thread nD τ) ↦{fullShare.right} f
/-- A whole buffer. -/
abbrev hbPt (c : Dev nD) {sp : Space} {S : Shape} {e : EltTy} (M : Memref sig .tc sp S e) (f : MBuf (F := F) c M) : sProp 𝕄 :=
  M.view.loc (c : Thread nD τ) ↦{fullShare} f

/-- Expert `e`'s down weights, as the transfers name them. -/
abbrev wsl (e : BitVec 32) (h : ∀ a, (k0_off5 e) a + S1x2048x2048.size a ≤ S32x2048x2048.size a) : Memref sig .tc .hbm S2048x2048 .f32 :=
  (hbW.slice (Rect.unit (s := S32x2048x2048) (k0_off5 e) S1x2048x2048.size h) (fun _ => rfl)).squeeze S2048x2048 squeezes_S1x2048x2048_S2048x2048
/-- The buffer they land in. -/
abbrev lsl : Memref sig .tc .vmem S2048x2048 .f32 :=
  (scL.slice (Rect.unit (s := S1x2048x2048) ![0, 0, 0] S1x2048x2048.size inb_S1x2048x2048_S1x2048x2048_0_0_0) (fun _ => rfl)).squeeze S2048x2048 squeezes_S1x2048x2048_S2048x2048

/-- What the landing buffer holds once expert `e`'s weights are there. -/
abbrev landed (c : Dev nD) (w : MBuf (F := F) c hbW) (f : MBuf (F := F) c scL) (e : BitVec 32)
    (h : ∀ a, (k0_off5 e) a + S1x2048x2048.size a ≤ S32x2048x2048.size a) : MBuf (F := F) c scL :=
  View.write (Elt F) lsl.view f (ReadAs.same.apply ((wsl e h).view.read (Elt F) w)) Finset.univ

/-! ## The loop -/

/-- The word of the blocks' experts at offsets `o`. -/
abbrev wordAt (c : Dev nD) (X : MBuf (F := F) c tbE) (o : Fin 1 → ℕ) (h : ∀ a, o a + S1.size a ≤ S161.size a) : BitVec 32 :=
  (tbE.access (Rect.unit (s := S161) o S1.size h)).read (Elt F) X (Shape.Idx.first (numel1_S1.symm ▸ Nat.one_pos))

/-- One trip: the block found so far, or this one. -/
def trip (i v0 v8 w : BitVec 32) (k : ℕ) (acc : BitVec 32) : BitVec 32 :=
  Scalar.select (Scalar.andi (Scalar.andi (Scalar.cmpi .sgt (Scalar.subi 160#32 (Scf.iv 0#32 1#32 k)) i) (Scalar.cmpi .slt (Scalar.subi 160#32 (Scf.iv 0#32 1#32 k)) v0)) (Scalar.cmpi .ne w v8))
    (Scalar.subi 160#32 (Scf.iv 0#32 1#32 k)) acc

/-- The next block of another expert, as the loop finds it from the last block down. -/
def next (c : Dev nD) (X : MBuf (F := F) c tbE) (i v0 v8 : BitVec 32) : ℕ → BitVec 32
  | 0 => v0
  | k + 1 => if h : k < k0_t1_loop.trips then trip i v0 v8 (wordAt c X (k0_off6 ⟨k, h⟩) (k0_off6_inb ⟨k, h⟩)) k (next c X i v0 v8 k) else next c X i v0 v8 k

set_option warn.classDefReducibility false in
@[sl_loop] def loopNext (c : Dev nD) (E : Set ℕ) (i : grid0.Coords) (arg3 : Memref sig .tc .vmem S512x2048 .bf16) (harg3 : arg3.IsWhole) (arg4 : Memref sig .tc .vmem S1x1x2048 .f32) (harg4 : arg4.IsWhole) (arg6 : Memref sig .tc .vmem S512x2048 .f32) (harg6 : arg6.IsWhole) (arg0 : BitVec 32) (v0 v8 : Elt F .i32) (X : MBuf (F := F) c tbE) :
    LoopInvTy_k0_t1 (F := F) Unit ℕ (Pipeline.UD sig nD τ) ℕ Variants.none c none E i tbE (Memref.isWhole_whole _) tbN (Memref.isWhole_whole _) arg3 harg3 arg4 harg4 hbW (Memref.isWhole_whole _) arg6 harg6 scL (Memref.isWhole_whole _) scB (Memref.isWhole_whole _) cc0_scratch2 arg0 v0 v8 v0 where
  inv k acc := iprop(tbPt c tbE X ∗ ⌜acc = next c X arg0 v0 v8 k⌝)
  step k acc := by
    iintro ⟨HT, %hacc⟩
    subst hacc
    unfold k0_t1_body
    sl_exec
    sl_step
    isplitl [HT]; · iexact HT
    ipureintro
    rw [next, dif_pos k.isLt]
    delta loopNext.sl.v63
    unfold trip
    rfl

/-! ## What the transfers leave -/

/-- Expert `e`'s weights as the landing buffer's shape has them. -/
abbrev wread (c : Dev nD) (w : MBuf (F := F) c hbW) (e : BitVec 32) (h : ∀ a, (k0_off5 e) a + S1x2048x2048.size a ≤ S32x2048x2048.size a) : Vec F S1x2048x2048 .f32 :=
  (hbW.access (Rect.unit (s := S32x2048x2048) (k0_off5 e) S1x2048x2048.size h)).read (Elt F) w

/-- A write, through one reshape, of what another view's same reshape reads leaves what that view reads. -/
theorem read_reshape_write {κ κ' : Kind} {sp sp' : Space} {s s' : Shape} {e : EltTy} (v : View sig κ sp s e) (u : View sig κ' sp' s e) (h : s'.numel = s.numel)
    (f : v.ty.Contents (Elt F)) (w : u.ty.Contents (Elt F)) :
    v.read (Elt F) ((v.reshape s' h).write (Elt F) f ((u.reshape s' h).read (Elt F) w) Finset.univ) = u.read (Elt F) w := by
  funext y
  have k := congrFun (View.read_write_univ (v := v.reshape s' h) (Val := Elt F) f ((u.reshape s' h).read (Elt F) w)) ((Shape.reshapeEquiv h).symm y)
  have e1 : ∀ g : v.ty.Contents (Elt F), (v.reshape s' h).read (Elt F) g ((Shape.reshapeEquiv h).symm y) = v.read (Elt F) g y := fun g => by
    show v.read (Elt F) g (Shape.reshapeEquiv h ((Shape.reshapeEquiv h).symm y)) = _
    rw [Equiv.apply_symm_apply]
  have e2 : (u.reshape s' h).read (Elt F) w ((Shape.reshapeEquiv h).symm y) = u.read (Elt F) w y := by
    show u.read (Elt F) w (Shape.reshapeEquiv h ((Shape.reshapeEquiv h).symm y)) = _
    rw [Equiv.apply_symm_apply]
  rw [e1, e2] at k
  exact k

/-- The landing buffer, loaded whole after a transfer, holds the expert's weights whatever it held. -/
theorem landed_read (c : Dev nD) (w : MBuf (F := F) c hbW) (f : MBuf (F := F) c scL) (e : BitVec 32) (h) :
    scL.view.read (Elt F) (landed c w f e h) = wread c w e h := by
  rw [← View.readAt_full scL.view _ inb_S1x2048x2048_S1x2048x2048_0_0_0]
  exact read_reshape_write (scL.view.slice (Rect.unit (s := S1x2048x2048) ![0, 0, 0] S1x2048x2048.size inb_S1x2048x2048_S1x2048x2048_0_0_0))
    (hbW.view.slice (Rect.unit (s := S32x2048x2048) (k0_off5 e) S1x2048x2048.size h)) (squeezes_S1x2048x2048_S2048x2048).numel_eq f w

/-- A transfer of expert `e`'s weights under way, and what it leaves of the weights. -/
abbrev flying (c : Dev nD) (w : MBuf (F := F) c hbW) (f : MBuf (F := F) c scL) (e : BitVec 32)
    (h : ∀ a, (k0_off5 e) a + S1x2048x2048.size a ≤ S32x2048x2048.size a) : sProp 𝕄 :=
  Transfers.Flight (countersEmb (U := Pipeline.UD sig nD τ)) (c : Thread nD τ) (.dma 6) () 524288
    iprop(hbPt c scL (landed c w f e h) ∗ (hbW.view.loc (c : Thread nD τ) ↦[(wsl e h).view.set]{fullShare} w))
abbrev rest (c : Dev nD) (w : MBuf (F := F) c hbW) (e : BitVec 32)
    (h : ∀ a, (k0_off5 e) a + S1x2048x2048.size a ≤ S32x2048x2048.size a) : sProp 𝕄 :=
  hbW.view.loc (c : Thread nD τ) ↦[Finset.univ \ (wsl e h).view.set]{fullShare} w

/-- Nothing under way; -/
def Idle (c : Dev nD) (w : MBuf (F := F) c hbW) : sProp 𝕄 :=
  iprop((∃ l, hbPt c scL l) ∗ semVal ((c : Thread nD τ), SemLoc.dma 6) 0 ∗ hbPt c hbW w)
/-- expert `e`'s weights under way. -/
def Flying (c : Dev nD) (w : MBuf (F := F) c hbW) (e : BitVec 32) (h : ∀ a, (k0_off5 e) a + S1x2048x2048.size a ≤ S32x2048x2048.size a) : sProp 𝕄 :=
  iprop(∃ f, flying c w f e h ∗ rest c w e h)

/-! ## The body -/

/-- The word of the blocks in use. -/
abbrev used (c : Dev nD) (N : MBuf (F := F) c tbN) : BitVec 32 :=
  (tbN.access (Rect.unit (s := S1) ![0] S1.size inb_S1_S1_0)).read (Elt F) N (Shape.Idx.first (numel1_S1.symm ▸ Nat.one_pos))

/-- The kernel at a point, at its operands. -/
abbrev body (i : grid0.Coords) (arg3 : Memref sig .tc .vmem S512x2048 .bf16) (harg3 : arg3.IsWhole) (arg4 : Memref sig .tc .vmem S1x1x2048 .f32) (harg4 : arg4.IsWhole) (arg6 : Memref sig .tc .vmem S512x2048 .f32) (harg6 : arg6.IsWhole) :
    Prog (TpuEff nD τ sig (Elt F) Λ₀ .tc) PUnit :=
  cc0_moe_down i tbE (Memref.isWhole_whole _) tbN (Memref.isWhole_whole _) arg3 harg3 arg4 harg4 hbW (Memref.isWhole_whole _) arg6 harg6 scL (Memref.isWhole_whole _) scB (Memref.isWhole_whole _) cc0_scratch2

section Body

variable (c : Dev nD) (i : grid0.Coords) (arg3 : Memref sig .tc .vmem S512x2048 .bf16) (harg3 : arg3.IsWhole) (arg4 : Memref sig .tc .vmem S1x1x2048 .f32) (harg4 : arg4.IsWhole) (arg6 : Memref sig .tc .vmem S512x2048 .f32) (harg6 : arg6.IsWhole)
  (X : MBuf (F := F) c tbE) (N : MBuf (F := F) c tbN) (x : Vec F S512x2048 .bf16) (b : Vec F S1x1x2048 .f32) (w : MBuf (F := F) c hbW) (g : MBuf (F := F) c scB)

/-- Block `i`'s expert, and the one before its. -/
abbrev here (c : Dev nD) (i : grid0.Coords) (X : MBuf (F := F) c tbE) : BitVec 32 := wordAt c X (k0_off2 i) (k0_off2_inb i)
abbrev prev (c : Dev nD) (i : grid0.Coords) (X : MBuf (F := F) c tbE) : BitVec 32 := wordAt c X (k0_off3 i) (k0_off3_inb i)

attribute [local irreducible] next

/-- The block the loop finds, and its expert. -/
abbrev found (c : Dev nD) (i : grid0.Coords) (X : MBuf (F := F) c tbE) (N : MBuf (F := F) c tbN) : BitVec 32 :=
  next c X (BitVec.ofNat 32 (i 0).val) (used c N) (here c i X) k0_t1_loop.trips
abbrev there (c : Dev nD) (i : grid0.Coords) (X : MBuf (F := F) c tbE) (N : MBuf (F := F) c tbN) (h7 : ∀ a, (k0_off7 (found c i X N)) a + S1.size a ≤ S161.size a) : BitVec 32 :=
  wordAt c X (k0_off7 (found c i X N)) h7

/-- Expert `e` has weights. -/
abbrev Has (e : BitVec 32) : Prop := ∀ a, (k0_off5 e) a + S1x2048x2048.size a ≤ S32x2048x2048.size a

/-- A block past the ones in use: zeros. -/
theorem run_unused (h1 : ¬ k0_cond1 i (used c N) = 1#1) (h6 : k0_cond6 i (used c N) = 1#1) (Q : PUnit → sProp 𝕄) :
    iprop(tbPt c tbN N ∗ (∃ d, owns (c : Thread nD τ) arg6 fullShare d) ∗ (iprop(tbPt c tbN N ∗ owns (c : Thread nD τ) arg6 fullShare (k0_pay3 (F := F))) -∗ Q ⟨⟩))
      ⊢ wp frame (wpE (defs₀ (F := F)) Variants.none (c : Thread nD τ) none) Set.univ (body i arg3 harg3 arg4 harg4 arg6 harg6) Q := by
  unfold owns
  iintro ⟨HN, ⟨%d, %o, -, HO⟩, Hk⟩
  simp only [body, cc0_moe_down_eq_skeleton]; unfold cc0_moe_down_skel
  sl_exec
  sl_step
  iapply Hk
  isplitl [HN]; · iexact HN
  iexists _; isplitr
  swap; · iexact HO
  ipureintro; exact View.read_writes_full _ _ _ _ []

/-- A block of the expert before it: the product with the weights at hand. -/
theorem run_same (h1 : k0_cond1 i (used c N) = 1#1) (h2 : ¬ k0_cond2 i (here c i X) (prev c i X) = 1#1) (h6 : ¬ k0_cond6 i (used c N) = 1#1)
    (he : Has (here c i X)) (Q : PUnit → sProp 𝕄) :
    iprop(tbPt c tbE X ∗ tbPt c tbN N ∗ owns (c : Thread nD τ) arg3 fullShare x ∗ owns (c : Thread nD τ) arg4 fullShare b ∗ (∃ d, owns (c : Thread nD τ) arg6 fullShare d) ∗ hbPt c scB g
        ∗ (iprop(tbPt c tbE X ∗ tbPt c tbN N ∗ owns (c : Thread nD τ) arg3 fullShare x ∗ owns (c : Thread nD τ) arg4 fullShare b ∗ owns (c : Thread nD τ) arg6 fullShare (k0_pay2 x (scB.view.read (Elt F) g) b) ∗ hbPt c scB g) -∗ Q ⟨⟩))
      ⊢ wp frame (wpE (defs₀ (F := F)) Variants.none (c : Thread nD τ) none) Set.univ (body i arg3 harg3 arg4 harg4 arg6 harg6) Q := by
  unfold owns
  iintro ⟨HE, HN, ⟨%f0, %hf0, H0⟩, ⟨%f1, %hf1, H1⟩, ⟨%d, %o, -, HO⟩, HG, Hk⟩
  subst hf0 hf1
  simp only [body, cc0_moe_down_eq_skeleton]; unfold cc0_moe_down_skel
  sl_exec (disch := first | (unfold k0_chk1; exact ⟨fun _ _ _ => he, fun _ _ => he⟩) | sl_exact h2 | sl_exact h6)
  sl_step
  iapply Hk
  isplitl [HE]; · iexact HE
  isplitl [HN]; · iexact HN
  isplitl [H0]
  · iexists _; isplitr
    swap; · iexact H0
    ipureintro; rfl
  isplitl [H1]
  · iexists _; isplitr
    swap; · iexact H1
    ipureintro; rfl
  isplitl [HO]
  · iexists _; isplitr
    swap; · iexact HO
    ipureintro; rw [View.read_writes_full, View.readAt_full, View.readAt_full, View.readAt_full]
  iexact HG

set_option sl_exec.dischHeartbeats 20000 in
/-- The first block, another expert's in use behind it. -/
theorem run_start (h1 : k0_cond1 i (used c N) = 1#1) (h2 : k0_cond2 i (here c i X) (prev c i X) = 1#1) (h3 : k0_cond3 i = 1#1) (h6 : ¬ k0_cond6 i (used c N) = 1#1)
    (he : Has (here c i X)) (h5 : ¬ k0_cond5 (used c N) (found c i X N) = 1#1)
    (h4 : k0_cond4 (used c N) (found c i X N) = 1#1) (h7 : ∀ a, (k0_off7 (found c i X N)) a + S1.size a ≤ S161.size a) (ht : Has (there c i X N h7)) (Q : PUnit → sProp 𝕄) :
    iprop(tbPt c tbE X ∗ tbPt c tbN N ∗ owns (c : Thread nD τ) arg3 fullShare x ∗ owns (c : Thread nD τ) arg4 fullShare b ∗ (∃ d, owns (c : Thread nD τ) arg6 fullShare d) ∗ (∃ g, hbPt c scB g) ∗ Idle c w ∗ (∃ W, owes (c : Thread nD τ) 0 W)
        ∗ (iprop(tbPt c tbE X ∗ tbPt c tbN N ∗ owns (c : Thread nD τ) arg3 fullShare x ∗ owns (c : Thread nD τ) arg4 fullShare b ∗ owns (c : Thread nD τ) arg6 fullShare (k0_pay2 x (k0_pay1 (wread c w _ he)) b)
            ∗ (∃ g, hbPt c scB g ∗ ⌜scB.view.read (Elt F) g = k0_pay1 (wread c w _ he)⌝) ∗ Flying c w _ ht ∗ (∃ W, owes (c : Thread nD τ) 0 W)) -∗ Q ⟨⟩))
      ⊢ wp frame (wpE (defs₀ (F := F)) Variants.none (c : Thread nD τ) none) Set.univ (body i arg3 harg3 arg4 harg4 arg6 harg6) Q := by
  unfold owns Idle Flying
  iintro ⟨HE, HN, ⟨%f0, %hf0, H0⟩, ⟨%f1, %hf1, H1⟩, ⟨%d, %o, -, HO⟩, ⟨%g, HG⟩, ⟨⟨%l, HL⟩, HS, HW⟩, ⟨%W, Howe⟩, Hk⟩
  subst hf0 hf1
  have h0 : used c N = next c X (BitVec.ofNat 32 (i 0).val) (used c N) (here c i X) 0 := by rw [next]
  simp only [body, cc0_moe_down_eq_skeleton]; unfold cc0_moe_down_skel
  sl_exec (disch := first | (unfold k0_chk1; exact ⟨fun _ _ _ => he, fun _ _ => he⟩) | (unfold k0_chk2; exact fun _ _ _ => h7) | (unfold k0_chk3; exact fun _ _ _ => ht) | sl_exact h2 | sl_exact h3 | sl_exact h6 | sl_exact h4 | sl_exact h5)
  sl_step
  iapply Hk
  isplitl [HE]; · iexact HE
  isplitl [HN]; · iexact HN
  isplitl [H0]
  · iexists _; isplitr
    swap; · iexact H0
    ipureintro; rfl
  isplitl [H1]
  · iexists _; isplitr
    swap; · iexact H1
    ipureintro; rfl
  isplitl [HO]
  · iexists _; isplitr
    swap; · iexact HO
    ipureintro; rw [View.read_writes_full, View.readAt_full, View.readAt_full]
    delta run_start.sl.v19 run_start.sl.HG_1 run_start.sl.v37
    rw [View.readCov_full, View.readAt_full]
    exact congrArg (fun v => k0_pay2 _ (k0_pay1 v) _) (landed_read c w l _ he)
  isplitl [HG]
  · iexists _; isplitl [HG]; · iexact HG
    ipureintro
    delta run_start.sl.HG_1 run_start.sl.v37
    refine (View.read_writes_full _ _ _ _ []).trans ?_
    rw [View.readAt_full]
    exact congrArg k0_pay1 (landed_read c w l _ he)
  isplitl [HS HW]
  · iexists _
    isplitl [HS]; · iexact HS
    iexact HW
  iexists _; iexact Howe

set_option sl_exec.dischHeartbeats 20000 in
/-- The first block of a later expert, another expert's in use behind it. -/
theorem run_next (h1 : k0_cond1 i (used c N) = 1#1) (h2 : k0_cond2 i (here c i X) (prev c i X) = 1#1) (h3 : ¬ k0_cond3 i = 1#1) (h6 : ¬ k0_cond6 i (used c N) = 1#1)
    (he : Has (here c i X)) (h5 : ¬ k0_cond5 (used c N) (found c i X N) = 1#1)
    (h4 : k0_cond4 (used c N) (found c i X N) = 1#1) (h7 : ∀ a, (k0_off7 (found c i X N)) a + S1.size a ≤ S161.size a) (ht : Has (there c i X N h7)) (Q : PUnit → sProp 𝕄) :
    iprop(tbPt c tbE X ∗ tbPt c tbN N ∗ owns (c : Thread nD τ) arg3 fullShare x ∗ owns (c : Thread nD τ) arg4 fullShare b ∗ (∃ d, owns (c : Thread nD τ) arg6 fullShare d) ∗ (∃ g, hbPt c scB g) ∗ Flying c w _ he ∗ (∃ W, owes (c : Thread nD τ) 0 W)
        ∗ (iprop(tbPt c tbE X ∗ tbPt c tbN N ∗ owns (c : Thread nD τ) arg3 fullShare x ∗ owns (c : Thread nD τ) arg4 fullShare b ∗ owns (c : Thread nD τ) arg6 fullShare (k0_pay2 x (k0_pay1 (wread c w _ he)) b)
            ∗ (∃ g, hbPt c scB g ∗ ⌜scB.view.read (Elt F) g = k0_pay1 (wread c w _ he)⌝) ∗ Flying c w _ ht ∗ (∃ W, owes (c : Thread nD τ) 0 W)) -∗ Q ⟨⟩))
      ⊢ wp frame (wpE (defs₀ (F := F)) Variants.none (c : Thread nD τ) none) Set.univ (body i arg3 harg3 arg4 harg4 arg6 harg6) Q := by
  unfold owns Flying
  iintro ⟨HE, HN, ⟨%f0, %hf0, H0⟩, ⟨%f1, %hf1, H1⟩, ⟨%d, %o, -, HO⟩, ⟨%g, HG⟩, ⟨%l, HS, HW⟩, ⟨%W, Howe⟩, Hk⟩
  subst hf0 hf1
  have h0 : used c N = next c X (BitVec.ofNat 32 (i 0).val) (used c N) (here c i X) 0 := by rw [next]
  simp only [body, cc0_moe_down_eq_skeleton]; unfold cc0_moe_down_skel
  sl_exec (disch := first | (unfold k0_chk1; exact ⟨fun _ _ _ => he, fun _ _ => he⟩) | (unfold k0_chk2; exact fun _ _ _ => h7) | (unfold k0_chk3; exact fun _ _ _ => ht) | sl_exact h2 | sl_exact h3 | sl_exact h6 | sl_exact h4 | sl_exact h5)
  sl_step
  iapply Hk
  isplitl [HE]; · iexact HE
  isplitl [HN]; · iexact HN
  isplitl [H0]
  · iexists _; isplitr
    swap; · iexact H0
    ipureintro; rfl
  isplitl [H1]
  · iexists _; isplitr
    swap; · iexact H1
    ipureintro; rfl
  isplitl [HO]
  · iexists _; isplitr
    swap; · iexact HO
    ipureintro; rw [View.read_writes_full, View.readAt_full, View.readAt_full]
    delta run_next.sl.v19 run_next.sl.HG_1
    rw [View.readCov_full, View.readAt_full]
    exact congrArg (fun v => k0_pay2 _ (k0_pay1 v) _) (landed_read c w l _ he)
  isplitl [HG]
  · iexists _; isplitl [HG]; · iexact HG
    ipureintro
    delta run_next.sl.HG_1
    refine (View.read_writes_full _ _ _ _ []).trans ?_
    rw [View.readAt_full]
    exact congrArg k0_pay1 (landed_read c w l _ he)
  isplitl [HS HW]
  · iexists _
    isplitl [HS]; · iexact HS
    iexact HW
  iexists _; iexact Howe

set_option sl_exec.dischHeartbeats 20000 in
/-- The first block, no other expert's in use behind it. -/
theorem run_start_last (h1 : k0_cond1 i (used c N) = 1#1) (h2 : k0_cond2 i (here c i X) (prev c i X) = 1#1) (h3 : k0_cond3 i = 1#1) (h6 : ¬ k0_cond6 i (used c N) = 1#1)
    (he : Has (here c i X)) (h5 : ¬ k0_cond5 (used c N) (found c i X N) = 1#1)
    (h4 : ¬ k0_cond4 (used c N) (found c i X N) = 1#1) (Q : PUnit → sProp 𝕄) :
    iprop(tbPt c tbE X ∗ tbPt c tbN N ∗ owns (c : Thread nD τ) arg3 fullShare x ∗ owns (c : Thread nD τ) arg4 fullShare b ∗ (∃ d, owns (c : Thread nD τ) arg6 fullShare d) ∗ (∃ g, hbPt c scB g) ∗ Idle c w ∗ (∃ W, owes (c : Thread nD τ) 0 W)
        ∗ (iprop(tbPt c tbE X ∗ tbPt c tbN N ∗ owns (c : Thread nD τ) arg3 fullShare x ∗ owns (c : Thread nD τ) arg4 fullShare b ∗ owns (c : Thread nD τ) arg6 fullShare (k0_pay2 x (k0_pay1 (wread c w _ he)) b)
            ∗ (∃ g, hbPt c scB g ∗ ⌜scB.view.read (Elt F) g = k0_pay1 (wread c w _ he)⌝) ∗ Idle c w ∗ (∃ W, owes (c : Thread nD τ) 0 W)) -∗ Q ⟨⟩))
      ⊢ wp frame (wpE (defs₀ (F := F)) Variants.none (c : Thread nD τ) none) Set.univ (body i arg3 harg3 arg4 harg4 arg6 harg6) Q := by
  unfold owns Idle
  iintro ⟨HE, HN, ⟨%f0, %hf0, H0⟩, ⟨%f1, %hf1, H1⟩, ⟨%d, %o, -, HO⟩, ⟨%g, HG⟩, ⟨⟨%l, HL⟩, HS, HW⟩, ⟨%W, Howe⟩, Hk⟩
  subst hf0 hf1
  have h0 : used c N = next c X (BitVec.ofNat 32 (i 0).val) (used c N) (here c i X) 0 := by rw [next]
  simp only [body, cc0_moe_down_eq_skeleton]; unfold cc0_moe_down_skel
  sl_exec (disch := first | (unfold k0_chk1; exact ⟨fun _ _ _ => he, fun _ _ => he⟩) | (unfold k0_chk2; exact fun _ _ h => absurd h h4) | sl_exact h2 | sl_exact h3 | sl_exact h6 | sl_exact h4 | sl_exact h5)
  sl_step
  iapply Hk
  isplitl [HE]; · iexact HE
  isplitl [HN]; · iexact HN
  isplitl [H0]
  · iexists _; isplitr
    swap; · iexact H0
    ipureintro; rfl
  isplitl [H1]
  · iexists _; isplitr
    swap; · iexact H1
    ipureintro; rfl
  isplitl [HO]
  · iexists _; isplitr
    swap; · iexact HO
    ipureintro; rw [View.read_writes_full, View.readAt_full, View.readAt_full]
    delta run_start_last.sl.v19 run_start_last.sl.HG_1 run_start_last.sl.v37
    rw [View.readCov_full, View.readAt_full]
    exact congrArg (fun v => k0_pay2 _ (k0_pay1 v) _) (landed_read c w l _ he)
  isplitl [HG]
  · iexists _; isplitl [HG]; · iexact HG
    ipureintro
    delta run_start_last.sl.HG_1 run_start_last.sl.v37
    refine (View.read_writes_full _ _ _ _ []).trans ?_
    rw [View.readAt_full]
    exact congrArg k0_pay1 (landed_read c w l _ he)
  isplitl [HL HS HW]
  · isplitl [HL]; · iexists _; iexact HL
    isplitl [HS]; · iexact HS
    iexact HW
  iexists _; iexact Howe

set_option sl_exec.dischHeartbeats 20000 in
/-- The first block of the last expert in use. -/
theorem run_next_last (h1 : k0_cond1 i (used c N) = 1#1) (h2 : k0_cond2 i (here c i X) (prev c i X) = 1#1) (h3 : ¬ k0_cond3 i = 1#1) (h6 : ¬ k0_cond6 i (used c N) = 1#1)
    (he : Has (here c i X)) (h5 : ¬ k0_cond5 (used c N) (found c i X N) = 1#1)
    (h4 : ¬ k0_cond4 (used c N) (found c i X N) = 1#1) (Q : PUnit → sProp 𝕄) :
    iprop(tbPt c tbE X ∗ tbPt c tbN N ∗ owns (c : Thread nD τ) arg3 fullShare x ∗ owns (c : Thread nD τ) arg4 fullShare b ∗ (∃ d, owns (c : Thread nD τ) arg6 fullShare d) ∗ (∃ g, hbPt c scB g) ∗ Flying c w _ he ∗ (∃ W, owes (c : Thread nD τ) 0 W)
        ∗ (iprop(tbPt c tbE X ∗ tbPt c tbN N ∗ owns (c : Thread nD τ) arg3 fullShare x ∗ owns (c : Thread nD τ) arg4 fullShare b ∗ owns (c : Thread nD τ) arg6 fullShare (k0_pay2 x (k0_pay1 (wread c w _ he)) b)
            ∗ (∃ g, hbPt c scB g ∗ ⌜scB.view.read (Elt F) g = k0_pay1 (wread c w _ he)⌝) ∗ Idle c w ∗ (∃ W, owes (c : Thread nD τ) 0 W)) -∗ Q ⟨⟩))
      ⊢ wp frame (wpE (defs₀ (F := F)) Variants.none (c : Thread nD τ) none) Set.univ (body i arg3 harg3 arg4 harg4 arg6 harg6) Q := by
  unfold owns Idle Flying
  iintro ⟨HE, HN, ⟨%f0, %hf0, H0⟩, ⟨%f1, %hf1, H1⟩, ⟨%d, %o, -, HO⟩, ⟨%g, HG⟩, ⟨%l, HS, HW⟩, ⟨%W, Howe⟩, Hk⟩
  subst hf0 hf1
  have h0 : used c N = next c X (BitVec.ofNat 32 (i 0).val) (used c N) (here c i X) 0 := by rw [next]
  simp only [body, cc0_moe_down_eq_skeleton]; unfold cc0_moe_down_skel
  sl_exec (disch := first | (unfold k0_chk1; exact ⟨fun _ _ _ => he, fun _ _ => he⟩) | (unfold k0_chk2; exact fun _ _ h => absurd h h4) | sl_exact h2 | sl_exact h3 | sl_exact h6 | sl_exact h4 | sl_exact h5)
  sl_step
  iapply Hk
  isplitl [HE]; · iexact HE
  isplitl [HN]; · iexact HN
  isplitl [H0]
  · iexists _; isplitr
    swap; · iexact H0
    ipureintro; rfl
  isplitl [H1]
  · iexists _; isplitr
    swap; · iexact H1
    ipureintro; rfl
  isplitl [HO]
  · iexists _; isplitr
    swap; · iexact HO
    ipureintro; rw [View.read_writes_full, View.readAt_full, View.readAt_full]
    delta run_next_last.sl.v19 run_next_last.sl.HG_1
    rw [View.readCov_full, View.readAt_full]
    exact congrArg (fun v => k0_pay2 _ (k0_pay1 v) _) (landed_read c w l _ he)
  isplitl [HG]
  · iexists _; isplitl [HG]; · iexact HG
    ipureintro
    delta run_next_last.sl.HG_1
    refine (View.read_writes_full _ _ _ _ []).trans ?_
    rw [View.readAt_full]
    exact congrArg k0_pay1 (landed_read c w l _ he)
  isplitl [HS_dst HS HW]
  · isplitl [HS_dst]; · iexists _; iexact HS_dst
    isplitl [HS]; · iexact HS
    iexact HW
  iexists _; iexact Howe

end Body

end Cert.DownIdeal.Hand

end
-- ==== Proof.DownIdealWords.lean ====
/-
  The down products' words: what the body's conditions and offsets say of a point, and the block the loop finds — the
  lowest one in use behind the point whose expert is another.
-/
module

public import proofs.«01_k».proof.Proof.DownIdealRun

@[expose] public section

noncomputable section

namespace Cert.DownIdeal.Hand

open Cert.DownIdeal Cert.DownIdeal.Gen
open Idealize.ShloMosaic Idealize.ShloMosaic.TcCoe

variable {F : FTy → Type} [FloatOps F]

theorem flag (p : BitVec 1) : Scalar.cmpi .ne (Scalar.extui p : BitVec 32) 0#32 = p := by revert p; decide
theorem flag_true (p : BitVec 1) : Scalar.andi p 1#1 = p := by revert p; decide
theorem flag_false (p : BitVec 1) : Scalar.andi p 0#1 = 0#1 := by revert p; decide
theorem flag_or (p q : BitVec 1) : Scalar.ori p q = 1#1 ↔ p = 1#1 ∨ q = 1#1 := by revert p q; decide
theorem flag_and (p q : BitVec 1) : Scalar.andi p q = 1#1 ↔ p = 1#1 ∧ q = 1#1 := by revert p q; decide
theorem slt_iff (a b : BitVec 32) : Scalar.cmpi .slt a b = 1#1 ↔ a.toInt < b.toInt := by
  unfold Scalar.cmpi; rw [WordCmp.cmpi_slt_eq, WordCmp.ofBool_decide_eq_one_iff]
theorem sgt_iff (a b : BitVec 32) : Scalar.cmpi .sgt a b = 1#1 ↔ b.toInt < a.toInt := by
  unfold Scalar.cmpi; rw [WordCmp.cmpi_sgt_eq, WordCmp.ofBool_decide_eq_one_iff]
theorem sge_iff (a b : BitVec 32) : Scalar.cmpi .sge a b = 1#1 ↔ b.toInt ≤ a.toInt := by
  unfold Scalar.cmpi; rw [WordCmp.cmpi_sge_eq, WordCmp.ofBool_decide_eq_one_iff]
theorem eq_iff (a b : BitVec 32) : Scalar.cmpi .eq a b = 1#1 ↔ a = b := by
  unfold Scalar.cmpi; rw [WordCmp.cmpi_eq_eq, WordCmp.ofBool_decide_eq_one_iff]
theorem ne_iff (a b : BitVec 32) : Scalar.cmpi .ne a b = 1#1 ↔ a ≠ b := by
  unfold Scalar.cmpi; rw [WordCmp.cmpi_ne_eq, WordCmp.ofBool_decide_eq_one_iff]
theorem toInt_small {n : ℕ} (h : n < 161) : (BitVec.ofNat 32 n).toInt = n := WordCmp.toInt_ofNat_of_lt (by omega)

theorem pt_lt (i : grid0.Coords) : (i 0).val < 161 := (i 0).isLt

/-- Block `j` is in use. -/
def U (n : BitVec 32) (j : ℕ) : Prop := (j : ℤ) < n.toInt
theorem U_mono {n : BitVec 32} {j k : ℕ} (h : U n j) (hk : k ≤ j) : U n k := by unfold U at *; omega

theorem cond1_iff (i : grid0.Coords) (n : BitVec 32) : k0_cond1 i n = 1#1 ↔ U n (i 0).val := by
  unfold k0_cond1 U; simp only [flag]; rw [slt_iff, toInt_small (pt_lt i)]
theorem cond6_iff (i : grid0.Coords) (n : BitVec 32) : k0_cond6 i n = 1#1 ↔ ¬ U n (i 0).val := by
  unfold k0_cond6 U; simp only [flag]; rw [sge_iff, toInt_small (pt_lt i)]; omega
theorem first_iff {n : ℕ} (h : n < 161) : BitVec.ofNat 32 n = 0#32 ↔ n = 0 := by
  rw [WordCmp.ofNat_eq_ofNat_iff (by omega) (by omega)]
theorem cond2_iff (i : grid0.Coords) (a b : BitVec 32) : k0_cond2 i a b = 1#1 ↔ (i 0).val = 0 ∨ a ≠ b := by
  unfold k0_cond2; simp only [flag]; rw [flag_or, eq_iff, ne_iff, first_iff (pt_lt i)]
theorem cond3_iff (i : grid0.Coords) : k0_cond3 i = 1#1 ↔ (i 0).val = 0 := by
  unfold k0_cond3; simp only [flag, flag_true]; rw [eq_iff, first_iff (pt_lt i)]
theorem cond4_iff (n v : BitVec 32) : k0_cond4 n v = 1#1 ↔ v.toInt < n.toInt := by
  unfold k0_cond4; simp only [flag]; rw [slt_iff]
theorem cond5_not (n v : BitVec 32) : ¬ k0_cond5 n v = 1#1 := by
  unfold k0_cond5; simp only [flag, flag_false]; decide

theorem off2_eq (i : grid0.Coords) : k0_off2 i = ![(i 0).val] := by
  unfold k0_off2 Scalar.indexCast; dsimp only; rw [WordCmp.toNat_ofNat_of_lt (by have := pt_lt i; omega)]
theorem off3_at : ∀ n : Fin 161, (Scalar.maxsi (Scalar.subi (BitVec.ofNat 32 n) 1#32) 0#32).toNat = n.val - 1 := by decide
theorem off3_eq (i : grid0.Coords) : k0_off3 i = ![(i 0).val - 1] := by
  unfold k0_off3 Scalar.indexCast; dsimp only; rw [off3_at ⟨(i 0).val, pt_lt i⟩]
theorem off7_at : ∀ n : Fin 161, (Scalar.minsi (BitVec.ofNat 32 n) 160#32).toNat = n.val := by decide
theorem off7_eq (j : ℕ) (h : j < 161) : k0_off7 (BitVec.ofNat 32 j) = ![j] := by
  unfold k0_off7 Scalar.indexCast; dsimp only; rw [off7_at ⟨j, h⟩]
theorem back_at : ∀ k : Fin 161, Scalar.subi 160#32 (Scf.iv 0#32 1#32 k.val) = BitVec.ofNat 32 (160 - k.val) := by decide
theorem trips_eq : k0_t1_loop.trips = 161 := by decide
theorem off6_eq (k : Fin k0_t1_loop.trips) : k0_off6 k = ![160 - k.val] := by
  have hk : k.val < 161 := trips_eq ▸ k.isLt
  unfold k0_off6 Scalar.indexCast; dsimp only
  rw [back_at ⟨k.val, hk⟩, WordCmp.toNat_ofNat_of_lt (by omega)]

/-- Block `j`'s expert. -/
def bel (c : Dev nD) (X : MBuf (F := F) c tbE) (j : ℕ) : BitVec 32 :=
  if h : ∀ a, (![j] : Fin 1 → ℕ) a + S1.size a ≤ S161.size a then wordAt c X ![j] h else 0#32

theorem wordAt_eq (c : Dev nD) (X : MBuf (F := F) c tbE) (o : Fin 1 → ℕ) (h) (j : ℕ) (e : o = ![j]) : wordAt c X o h = bel c X j := by
  subst e; unfold bel; rw [dif_pos h]

theorem here_eq (c : Dev nD) (i : grid0.Coords) (X : MBuf (F := F) c tbE) : here c i X = bel c X (i 0).val := wordAt_eq c X _ _ _ (off2_eq i)
theorem prev_eq (c : Dev nD) (i : grid0.Coords) (X : MBuf (F := F) c tbE) : prev c i X = bel c X ((i 0).val - 1) := wordAt_eq c X _ _ _ (off3_eq i)

/-- Block `j` is behind `i`, in use and another expert's. -/
def Other (c : Dev nD) (X : MBuf (F := F) c tbE) (n e : BitVec 32) (i j : ℕ) : Prop := i < j ∧ U n j ∧ bel c X j ≠ e

open scoped Classical in
theorem next_succ (c : Dev nD) (X : MBuf (F := F) c tbE) (i : ℕ) (hi : i < 161) (n e : BitVec 32) (k : ℕ) (hk : k < 161) :
    next c X (BitVec.ofNat 32 i) n e (k + 1) = if Other c X n e i (160 - k) then BitVec.ofNat 32 (160 - k) else next c X (BitVec.ofNat 32 i) n e k := by
  have hk' : k < k0_t1_loop.trips := by rw [trips_eq]; exact hk
  rw [next, dif_pos hk', wordAt_eq c X _ _ (160 - k) (off6_eq ⟨k, hk'⟩), trip, back_at ⟨k, hk⟩]
  unfold Scalar.select
  refine if_congr ?_ rfl rfl
  show Scalar.andi (Scalar.andi _ _) _ = 1#1 ↔ _
  rw [flag_and, flag_and, sgt_iff, slt_iff, ne_iff, toInt_small hi, toInt_small (show 160 - k < 161 by omega)]
  unfold Other U
  constructor
  · rintro ⟨⟨h1, h2⟩, h3⟩; exact ⟨by omega, h2, h3⟩
  · rintro ⟨h1, h2, h3⟩; exact ⟨⟨by omega, h2⟩, h3⟩

/-- The loop finds the lowest such block, -/
theorem next_spec (c : Dev nD) (X : MBuf (F := F) c tbE) (i : ℕ) (hi : i < 161) (n e : BitVec 32) (k : ℕ) (hk : k ≤ 161) :
    (next c X (BitVec.ofNat 32 i) n e k = n ∧ ∀ j, 161 - k ≤ j → j < 161 → ¬ Other c X n e i j)
      ∨ ∃ j, 161 - k ≤ j ∧ j < 161 ∧ Other c X n e i j ∧ next c X (BitVec.ofNat 32 i) n e k = BitVec.ofNat 32 j ∧ ∀ j', 161 - k ≤ j' → j' < j → ¬ Other c X n e i j' := by
  induction k with
  | zero => exact .inl ⟨by rw [next], fun j h h' => by omega⟩
  | succ k ih =>
    rw [next_succ c X i hi n e k (by omega)]
    by_cases ho : Other c X n e i (160 - k)
    · rw [if_pos ho]
      exact .inr ⟨160 - k, by omega, by omega, ho, rfl, fun j' h h' => by omega⟩
    · rw [if_neg ho]
      rcases ih (by omega) with ⟨h1, h2⟩ | ⟨j, h1, h2, h3, h4, h5⟩
      · refine .inl ⟨h1, fun j h h' => ?_⟩
        by_cases e : j = 160 - k
        · rw [e]; exact ho
        · exact h2 j (by omega) h'
      · refine .inr ⟨j, by omega, h2, h3, h4, fun j' h h' => ?_⟩
        by_cases e : j' = 160 - k
        · rw [e]; exact ho
        · exact h5 j' (by omega) h'

/-- or none. -/
theorem found_spec (c : Dev nD) (i : grid0.Coords) (X : MBuf (F := F) c tbE) (N : MBuf (F := F) c tbN) :
    (found c i X N = used c N ∧ ∀ j, (i 0).val < j → j < 161 → U (used c N) j → bel c X j = bel c X (i 0).val)
      ∨ ∃ j, (i 0).val < j ∧ j < 161 ∧ U (used c N) j ∧ bel c X j ≠ bel c X (i 0).val ∧ found c i X N = BitVec.ofNat 32 j
          ∧ ∀ j', (i 0).val < j' → j' < j → bel c X j' = bel c X (i 0).val := by
  have h := next_spec c X (i 0).val (pt_lt i) (used c N) (here c i X) 161 (le_refl _)
  rw [here_eq] at h
  have hf : found c i X N = next c X (BitVec.ofNat 32 (i 0).val) (used c N) (bel c X (i 0).val) 161 := by
    unfold found; rw [here_eq, trips_eq]
  rw [hf]
  rcases h with ⟨h1, h2⟩ | ⟨j, h1, h2, ⟨h3, h4, h5⟩, h6, h7⟩
  · refine .inl ⟨h1, fun j hj hj' hu => ?_⟩
    by_contra hne
    exact h2 j (by omega) hj' ⟨hj, hu, hne⟩
  · refine .inr ⟨j, h3, h2, h4, h5, h6, fun j' hj hj' => ?_⟩
    by_contra hne
    exact h7 j' (by omega) hj' ⟨hj, U_mono h4 hj'.le, hne⟩

end Cert.DownIdeal.Hand

end
-- ==== Proof.DownIdealStep.lean ====
/-
  The down products' invariant between points — which expert's weights are at hand and which are under way — and the
  body's step from one point to the next.
-/
module

public import proofs.«01_k».proof.Proof.DownIdealWords

@[expose] public section

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section

variable (c : Dev nD) (X : MBuf (F := F) c tbE) (N : MBuf (F := F) c tbN) (w : MBuf (F := F) c hbW) (hX : ∀ j, Has (bel c X j))

/-- Expert `j`'s block's weights, rounded, at hand. -/
def atHand (j : ℕ) : Vec F S1x2048x2048 .bf16 := k0_pay1 (wread c w (bel c X j) (hX j))

/-- Before point `t` the weights at hand are the last block's expert's, if it was in use; -/
def Hand (t : ℕ) : sProp 𝕄 :=
  iprop(∃ g, hbPt c scB g ∗ ⌜1 ≤ t → U (used c N) (t - 1) → scB.view.read (Elt F) g = atHand c X w hX (t - 1)⌝)

/-- nothing is under way and no other expert's block is in use from `t` on, or the next other expert's weights are. -/
def Way (t : ℕ) : sProp 𝕄 :=
  iprop((Idle c w ∗ ⌜t = 0 ∨ ∀ j, t ≤ j → j < 161 → U (used c N) j → bel c X j = bel c X (t - 1)⌝)
    ∨ (∃ j, Flying c w (bel c X j) (hX j) ∗ ⌜1 ≤ t ∧ t ≤ j ∧ j < 161 ∧ U (used c N) j ∧ bel c X j ≠ bel c X (t - 1) ∧ ∀ k, t ≤ k → k < j → bel c X k = bel c X (t - 1)⌝))

/-- The invariant before point `t`. -/
def Inv (t : ℕ) : sProp 𝕄 := iprop(tbPt c tbE X ∗ tbPt c tbN N ∗ Hand c X N w hX t ∗ Way c X N w hX t)

open scoped Classical in
/-- What the body leaves at point `t` of an activation block and a bias row. -/
def outv (t : ℕ) (x : Vec F S512x2048 .bf16) (b : Vec F S1x1x2048 .f32) : Vec F S512x2048 .f32 :=
  if U (used c N) t then k0_pay2 x (atHand c X w hX t) b else k0_pay3

theorem of_same {P Q : sProp 𝕄} (h : P = Q) : P ⊢ Q := by subst h; exact .rfl
theorem Flying_congr {e e' : BitVec 32} (h : Has e) (h' : Has e') (he : e = e') : (Flying c w e h : sProp 𝕄) = Flying c w e' h' := by subst he; rfl
theorem wread_congr {e e' : BitVec 32} (h : Has e) (h' : Has e') (he : e = e') : wread c w e h = wread c w e' h' := by subst he; rfl

/-- What is under way after the first block of an expert. -/
theorem after_none (t : ℕ) (h : ∀ j, t < j → j < 161 → U (used c N) j → bel c X j = bel c X t) : Idle c w ⊢ (Way c X N w hX (t + 1) : sProp 𝕄) := by
  unfold Way
  iintro H
  ileft
  isplitl [H]; · iexact H
  ipureintro
  exact .inr fun j hj hj' hu => h j (by omega) hj' hu
theorem after_some (t j : ℕ) (h1 : t < j) (h2 : j < 161) (h3 : U (used c N) j) (h4 : bel c X j ≠ bel c X t) (h5 : ∀ j', t < j' → j' < j → bel c X j' = bel c X t) :
    Flying c w (bel c X j) (hX j) ⊢ (Way c X N w hX (t + 1) : sProp 𝕄) := by
  unfold Way
  iintro H
  iright
  iexists j
  isplitl [H]; · iexact H
  ipureintro
  exact ⟨by omega, by omega, h2, h3, h4, fun k hk hk' => h5 k (by omega) hk'⟩

/-- What is under way after a block that starts no transfer. -/
theorem way_unused (t : ℕ) (hu : ¬ U (used c N) t) (h0 : t < 161) : (Way c X N w hX t : sProp 𝕄) ⊢ Way c X N w hX (t + 1) := by
  unfold Way
  iintro (⟨H, %h⟩ | ⟨%j, H, %h⟩)
  · ileft
    isplitl [H]; · iexact H
    ipureintro
    exact .inr fun j hj hj' hU => absurd (U_mono hU (by omega)) hu
  · exact absurd (U_mono h.2.2.2.1 h.2.1) hu
theorem way_same (t : ℕ) (h0 : t ≠ 0) (he : bel c X t = bel c X (t - 1)) : (Way c X N w hX t : sProp 𝕄) ⊢ Way c X N w hX (t + 1) := by
  unfold Way
  iintro (⟨H, %h⟩ | ⟨%j, H, %h⟩)
  · ileft
    isplitl [H]; · iexact H
    ipureintro
    refine .inr fun j hj hj' hU => ?_
    rcases h with h | h
    · exact absurd h h0
    · rw [Nat.add_sub_cancel, he]; exact h j (by omega) hj' hU
  · iright
    iexists j
    isplitl [H]; · iexact H
    ipureintro
    obtain ⟨h1, h2, h3, h4, h5, h6⟩ := h
    rw [Nat.add_sub_cancel, he]
    refine ⟨by omega, ?_, h3, h4, h5, fun k hk hk' => h6 k (by omega) hk'⟩
    rcases Nat.lt_or_ge t j with hl | hl
    · exact hl
    · exact absurd ((show j = t by omega) ▸ he) h5

theorem way_first (t : ℕ) (hU : U (used c N) t) (ht : t < 161) (he : t = 0 ∨ bel c X t ≠ bel c X (t - 1)) :
    (Way c X N w hX t : sProp 𝕄) ⊢ iprop((Idle c w ∗ ⌜t = 0⌝) ∨ (Flying c w (bel c X t) (hX t) ∗ ⌜t ≠ 0⌝)) := by
  unfold Way
  iintro (⟨H, %h⟩ | ⟨%j, H, %h⟩)
  · ileft
    isplitl [H]; · iexact H
    ipureintro
    rcases h with h | h
    · exact h
    · rcases he with he | he
      · exact he
      · exact absurd (h t (le_refl _) ht hU) he
  · obtain ⟨h1, h2, h3, h4, h5, h6⟩ := h
    obtain rfl : j = t := by
      rcases Nat.lt_or_ge t j with hl | hl
      · exact absurd (h6 t (le_refl _) hl) (he.resolve_left (by omega))
      · omega
    iright
    isplitl [H]; · iexact H
    ipureintro; omega

variable (i : grid0.Coords) (arg3 : Memref sig .tc .vmem S512x2048 .bf16) (harg3 : arg3.IsWhole) (arg4 : Memref sig .tc .vmem S1x1x2048 .f32) (harg4 : arg4.IsWhole) (arg6 : Memref sig .tc .vmem S512x2048 .f32) (harg6 : arg6.IsWhole)
  (x : Vec F S512x2048 .bf16) (b : Vec F S1x1x2048 .f32)

/-- An expert's first block: its weights are taken from the transfer, or fetched, and the next expert's set under way. -/
theorem step_first (hU : U (used c N) (i 0).val) (he : (i 0).val = 0 ∨ bel c X (i 0).val ≠ bel c X ((i 0).val - 1)) (Q : PUnit → sProp 𝕄) :
    iprop(Inv c X N w hX (i 0).val ∗ owns (c : Thread nD τ) arg3 fullShare x ∗ owns (c : Thread nD τ) arg4 fullShare b ∗ (∃ d, owns (c : Thread nD τ) arg6 fullShare d) ∗ (∃ W, owes (c : Thread nD τ) 0 W)
        ∗ (iprop(Inv c X N w hX ((i 0).val + 1) ∗ owns (c : Thread nD τ) arg3 fullShare x ∗ owns (c : Thread nD τ) arg4 fullShare b ∗ owns (c : Thread nD τ) arg6 fullShare (outv c X N w hX (i 0).val x b) ∗ (∃ W, owes (c : Thread nD τ) 0 W)) -∗ Q ⟨⟩))
      ⊢ wp frame (wpE (defs₀ (F := F)) Variants.none (c : Thread nD τ) none) Set.univ (body i arg3 harg3 arg4 harg4 arg6 harg6) Q := by
  have h1 := (cond1_iff i (used c N)).mpr hU
  have h2 : k0_cond2 i (here c i X) (prev c i X) = 1#1 := (cond2_iff i _ _).mpr (by rw [here_eq, prev_eq]; exact he)
  have h6 : ¬ k0_cond6 i (used c N) = 1#1 := fun h => (cond6_iff i _).mp h hU
  have hh : Has (here c i X) := by rw [here_eq]; exact hX _
  have hw : k0_pay1 (wread c w _ hh) = atHand c X w hX (i 0).val := congrArg k0_pay1 (wread_congr c w _ _ (here_eq c i X))
  have h5 := cond5_not (used c N) (found c i X N)
  have ho : outv c X N w hX (i 0).val x b = k0_pay2 x (atHand c X w hX (i 0).val) b := by unfold outv; rw [if_pos hU]
  rw [ho]
  have tail : ∀ R : sProp 𝕄, (R ⊢ Way c X N w hX ((i 0).val + 1)) →
      (iprop(tbPt c tbE X ∗ tbPt c tbN N ∗ owns (c : Thread nD τ) arg3 fullShare x ∗ owns (c : Thread nD τ) arg4 fullShare b ∗ owns (c : Thread nD τ) arg6 fullShare (k0_pay2 x (k0_pay1 (wread c w _ hh)) b)
            ∗ (∃ g, hbPt c scB g ∗ ⌜scB.view.read (Elt F) g = k0_pay1 (wread c w _ hh)⌝) ∗ R ∗ (∃ W, owes (c : Thread nD τ) 0 W))
        ⊢ iprop(iprop(tbPt c tbE X ∗ tbPt c tbN N ∗ Hand c X N w hX ((i 0).val + 1) ∗ Way c X N w hX ((i 0).val + 1)) ∗ owns (c : Thread nD τ) arg3 fullShare x ∗ owns (c : Thread nD τ) arg4 fullShare b
            ∗ owns (c : Thread nD τ) arg6 fullShare (k0_pay2 x (atHand c X w hX (i 0).val) b) ∗ (∃ W, owes (c : Thread nD τ) 0 W))) := fun R hR => by
    rw [hw]
    unfold Hand
    iintro ⟨HE, HN, H3, H4, H6, ⟨%g, HG, %hg⟩, HR, HO⟩
    isplitl [HE HN HG HR]
    · isplitl [HE]; · iexact HE
      isplitl [HN]; · iexact HN
      isplitl [HG]
      · iexists g
        isplitl [HG]; · iexact HG
        ipureintro; exact fun _ _ => hg
      iapply hR; iexact HR
    isplitl [H3]; · iexact H3
    isplitl [H4]; · iexact H4
    isplitl [H6]; · iexact H6
    iexact HO
  unfold Inv Hand
  iintro ⟨⟨HE, HN, ⟨%g, HG, -⟩, HW⟩, H3, H4, H6, HO, Hk⟩
  ihave HW' := way_first c X N w hX (i 0).val hU (pt_lt i) he $$ HW
  rcases found_spec c i X N with ⟨hf, hn⟩ | ⟨j, hj1, hj2, hj3, hj4, hf, hj5⟩
  · have h4 : ¬ k0_cond4 (used c N) (found c i X N) = 1#1 := by rw [cond4_iff, hf]; exact lt_irrefl _
    icases HW' with (⟨HW, %h0⟩ | ⟨HW, %h0⟩)
    · iapply (run_start_last c i arg3 harg3 arg4 harg4 arg6 harg6 X N x b w h1 h2 ((cond3_iff i).mpr h0) h6 hh h5 h4 Q)
      isplitl [HE]; · iexact HE
      isplitl [HN]; · iexact HN
      isplitl [H3]; · iexact H3
      isplitl [H4]; · iexact H4
      isplitl [H6]; · iexact H6
      isplitl [HG]; · iexists _; iexact HG
      isplitl [HW]; · iexact HW
      isplitl [HO]; · iexact HO
      iintro H
      iapply Hk
      iapply (tail _ (after_none c X N w hX _ hn))
      iexact H
    · iapply (run_next_last c i arg3 harg3 arg4 harg4 arg6 harg6 X N x b w h1 h2 (fun h => h0 ((cond3_iff i).mp h)) h6 hh h5 h4 Q)
      isplitl [HE]; · iexact HE
      isplitl [HN]; · iexact HN
      isplitl [H3]; · iexact H3
      isplitl [H4]; · iexact H4
      isplitl [H6]; · iexact H6
      isplitl [HG]; · iexists _; iexact HG
      isplitl [HW]; · iapply (of_same (Flying_congr c w (hX _) hh (here_eq c i X).symm)); iexact HW
      isplitl [HO]; · iexact HO
      iintro H
      iapply Hk
      iapply (tail _ (after_none c X N w hX _ hn))
      iexact H
  · have h4 : k0_cond4 (used c N) (found c i X N) = 1#1 := by rw [cond4_iff, hf, toInt_small hj2]; exact hj3
    have hoff : k0_off7 (found c i X N) = ![j] := by rw [hf]; exact off7_eq j hj2
    have h7 : ∀ a, (k0_off7 (found c i X N)) a + S1.size a ≤ S161.size a := by
      rw [hoff]; intro a; fin_cases a; show j + 1 ≤ 161; omega
    have hte : there c i X N h7 = bel c X j := wordAt_eq c X _ _ _ hoff
    have ht : Has (there c i X N h7) := by rw [hte]; exact hX j
    icases HW' with (⟨HW, %h0⟩ | ⟨HW, %h0⟩)
    · iapply (run_start c i arg3 harg3 arg4 harg4 arg6 harg6 X N x b w h1 h2 ((cond3_iff i).mpr h0) h6 hh h5 h4 h7 ht Q)
      isplitl [HE]; · iexact HE
      isplitl [HN]; · iexact HN
      isplitl [H3]; · iexact H3
      isplitl [H4]; · iexact H4
      isplitl [H6]; · iexact H6
      isplitl [HG]; · iexists _; iexact HG
      isplitl [HW]; · iexact HW
      isplitl [HO]; · iexact HO
      iintro H
      iapply Hk
      iapply (tail _ ((of_same (Flying_congr c w ht (hX j) hte)).trans (after_some c X N w hX _ j hj1 hj2 hj3 hj4 hj5)))
      iexact H
    · iapply (run_next c i arg3 harg3 arg4 harg4 arg6 harg6 X N x b w h1 h2 (fun h => h0 ((cond3_iff i).mp h)) h6 hh h5 h4 h7 ht Q)
      isplitl [HE]; · iexact HE
      isplitl [HN]; · iexact HN
      isplitl [H3]; · iexact H3
      isplitl [H4]; · iexact H4
      isplitl [H6]; · iexact H6
      isplitl [HG]; · iexists _; iexact HG
      isplitl [HW]; · iapply (of_same (Flying_congr c w (hX _) hh (here_eq c i X).symm)); iexact HW
      isplitl [HO]; · iexact HO
      iintro H
      iapply Hk
      iapply (tail _ ((of_same (Flying_congr c w ht (hX j) hte)).trans (after_some c X N w hX _ j hj1 hj2 hj3 hj4 hj5)))
      iexact H

/-- The body's step, at any point. -/
theorem step (Q : PUnit → sProp 𝕄) :
    iprop(Inv c X N w hX (i 0).val ∗ owns (c : Thread nD τ) arg3 fullShare x ∗ owns (c : Thread nD τ) arg4 fullShare b ∗ (∃ d, owns (c : Thread nD τ) arg6 fullShare d) ∗ (∃ W, owes (c : Thread nD τ) 0 W)
        ∗ (iprop(Inv c X N w hX ((i 0).val + 1) ∗ owns (c : Thread nD τ) arg3 fullShare x ∗ owns (c : Thread nD τ) arg4 fullShare b ∗ owns (c : Thread nD τ) arg6 fullShare (outv c X N w hX (i 0).val x b) ∗ (∃ W, owes (c : Thread nD τ) 0 W)) -∗ Q ⟨⟩))
      ⊢ wp frame (wpE (defs₀ (F := F)) Variants.none (c : Thread nD τ) none) Set.univ (body i arg3 harg3 arg4 harg4 arg6 harg6) Q := by
  by_cases hU : U (used c N) (i 0).val
  · by_cases he : (i 0).val = 0 ∨ bel c X (i 0).val ≠ bel c X ((i 0).val - 1)
    · exact step_first c X N w hX i arg3 harg3 arg4 harg4 arg6 harg6 x b hU he Q
    · obtain ⟨h0, he⟩ := not_or.mp he
      have he := not_not.mp he
      have h1 := (cond1_iff i (used c N)).mpr hU
      have h2 : ¬ k0_cond2 i (here c i X) (prev c i X) = 1#1 := fun h => by
        rw [cond2_iff, here_eq, prev_eq] at h
        rcases h with h | h
        · exact h0 h
        · exact h he
      have h6 : ¬ k0_cond6 i (used c N) = 1#1 := fun h => (cond6_iff i _).mp h hU
      have hh : Has (here c i X) := by rw [here_eq]; exact hX _
      have hat : atHand c X w hX (i 0).val = atHand c X w hX ((i 0).val - 1) := congrArg k0_pay1 (wread_congr c w _ _ he)
      have ho : outv c X N w hX (i 0).val x b = k0_pay2 x (atHand c X w hX (i 0).val) b := by unfold outv; rw [if_pos hU]
      rw [ho]
      unfold Inv Hand
      iintro ⟨⟨HE, HN, ⟨%g, HG, %hg⟩, HW⟩, H3, H4, H6, HO, Hk⟩
      have hg' := (hg (by omega) (U_mono hU (by omega))).trans hat.symm
      iapply (run_same c i arg3 harg3 arg4 harg4 arg6 harg6 X N x b g h1 h2 h6 hh Q)
      isplitl [HE]; · iexact HE
      isplitl [HN]; · iexact HN
      isplitl [H3]; · iexact H3
      isplitl [H4]; · iexact H4
      isplitl [H6]; · iexact H6
      isplitl [HG]; · iexact HG
      rw [hg']
      iintro ⟨HE, HN, H3, H4, H6, HG⟩
      iapply Hk
      isplitl [HE HN HG HW]
      · isplitl [HE]; · iexact HE
        isplitl [HN]; · iexact HN
        isplitl [HG]
        · iexists g
          isplitl [HG]; · iexact HG
          ipureintro; exact fun _ _ => hg'
        iapply (way_same c X N w hX (i 0).val h0 he); iexact HW
      isplitl [H3]; · iexact H3
      isplitl [H4]; · iexact H4
      isplitl [H6]; · iexact H6
      iexact HO
  · have h1 : ¬ k0_cond1 i (used c N) = 1#1 := fun h => hU ((cond1_iff i _).mp h)
    have h6 := (cond6_iff i (used c N)).mpr hU
    have ho : outv c X N w hX (i 0).val x b = k0_pay3 := by unfold outv; rw [if_neg hU]
    rw [ho]
    unfold Inv Hand
    iintro ⟨⟨HE, HN, ⟨%g, HG, -⟩, HW⟩, H3, H4, H6, HO, Hk⟩
    iapply (run_unused c i arg3 harg3 arg4 harg4 arg6 harg6 N h1 h6 Q)
    isplitl [HN]; · iexact HN
    isplitl [H6]; · iexact H6
    iintro ⟨HN, H6⟩
    iapply Hk
    isplitl [HE HN HG HW]
    · isplitl [HE]; · iexact HE
      isplitl [HN]; · iexact HN
      isplitl [HG]
      · iexists g
        isplitl [HG]; · iexact HG
        ipureintro; exact fun _ h => absurd h hU
      iapply (way_unused c X N w hX (i 0).val hU (pt_lt i)); iexact HW
    isplitl [H3]; · iexact H3
    isplitl [H4]; · iexact H4
    isplitl [H6]; · iexact H6
    iexact HO

/-- Nothing is under way at the end. -/
theorem way_end : (Way c X N w hX 161 : sProp 𝕄) ⊢ Idle c w := by
  unfold Way
  iintro (⟨H, -⟩ | ⟨%j, H, %h⟩)
  · iexact H
  · exact absurd h.2.1 (by have := h.2.2.1; omega)

end

end Cert.DownIdeal.Hand

end
-- ==== Proof.DownIdealFrame.lean ====
/-
  The down products' launch: the pipeline's proof data over the body's step, the run, and the frame. Everything is stated
  at any floats, for block tables whose windows lie in their arrays (`Ok`) and name experts there are (`HX`).
-/
module

public import proofs.«01_k».proof.Proof.DownIdealStep
public import Idealize.ShloMosaic.Lib.Pipeline.FrameBody

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Up to the region -/

/-- The buffers when the region is entered. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub fresh0 main_chain

/-- The one host operation writes the reshaped bias alone. -/
theorem V_of (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

/-- The tables. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every window's block is in its array; -/
abbrev Ok : Prop := ok0 (F := F) (tbl m)
/-- every block's expert has weights. -/
def HX : Prop := ∀ (c : Dev nD) (j : ℕ), Has (bel (F := F) c (tbl m 0) j)

abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = iprop(tbPt c tbE (tbl m 0) ∗ tbPt c tbN (tbl m 1)) := by
  unfold Pipeline.ΦT Pipeline.prefHeld
  rw [show (Finset.univ : Finset (Fin 2)) = insert (0 : Fin 2) {(1 : Fin 2)} from by decide, bigSep_insert (by decide), bigSep_singleton]
  rfl

/-- The body's own cell, and the one operand it reads in place. -/
abbrev osem0 : Fin 1 → SemLoc sig := fun j => (![SemLoc.dma 6] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0) := by
  rw [Pipeline.ownSems0_eq_of_list c osem0 [0] (by decide) (by decide)]; rfl
def H0 : Finset (Ref sig .tc) := {main_arg3}
theorem H0_sub : H0 ⊆ Pipeline.restRefsP sig pre0 spec0 := by decide
theorem hbmPts0_eq (c : Dev nD) : (bigSep H0 (fun b => ((c : Thread nD τ).loc b) ↦{fullShare} V m c b) : sProp 𝕄) = iprop(hbPt c hbW (V m c main_arg3)) := by
  rw [BI.bigSep_eq_bigSepL_of_eq [main_arg3] (by decide) (by decide)]; rfl
theorem PhiD0_eq (c : Dev nD) :
    (Pipeline.ΦD osem0 spec0 H0 (V m) c : sProp 𝕄)
      = iprop(iprop((∃ f, hbPt c scL f) ∗ (∃ f, hbPt c scB f)) ∗ (∃ r, prngReg c r)
          ∗ semVal ((c : Thread nD τ), SemLoc.dma 6) 0 ∗ hbPt c hbW (V m c main_arg3)) := by
  rw [Pipeline.ΦD_eq, scopedRest0_eq, ownSems00_eq, hbmPts0_eq]

/-! ## The windows' blocks and the proof data -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section Data

variable (hO : Ok m) (hX : HX m)

def dats (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => outv c (tbl m 0) (tbl m 1) (V m c main_arg3) (hX c) ((grid0.coords t) 0).val (iblk m hO c 0 t) (iblk m hO c 1 t)
  Φ t := iprop((∃ r, prngReg c r) ∗ Inv c (tbl m 0) (tbl m 1) (V m c main_arg3) (hX c) t.val)
  q _ := fullShare
  owed _ := 0

theorem A_eq (c : Dev nD) (w : Fin (cfgM m hO).W) : (dats m hO hX 0 c).A w = V m c (Pipeline.arrRef spec0 w) := by
  dsimp only [dats]
theorem after_0 (c : Dev nD) (t : Fin (cfgM m hO).N) : (dats m hO hX 0 c).after 0 t = iblk m hO c 0 t := by dsimp only [dats]; try rfl
theorem after_1 (c : Dev nD) (t : Fin (cfgM m hO).N) : (dats m hO hX 0 c).after 1 t = iblk m hO c 1 t := by dsimp only [dats]; try rfl
theorem after_2 (c : Dev nD) (t : Fin (cfgM m hO).N) : (dats m hO hX 0 c).after 2 t
    = outv c (tbl m 0) (tbl m 1) (V m c main_arg3) (hX c) ((grid0.coords t) 0).val (iblk m hO c 0 t) (iblk m hO c 1 t) := by dsimp only [dats]; try rfl
/-- An input's staging buffer holds its block. -/
theorem before_0 (c : Dev nD) (t : Fin (cfgM m hO).N) (d) : (dats m hO hX 0 c).before 0 t d = iblk m hO c 0 t :=
  ((dats m hO hX 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m hO).N) (d) : (dats m hO hX 0 c).before 1 t d = iblk m hO c 1 t :=
  ((dats m hO hX 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

abbrev ms0 (t : Fin (cfgM m hO).N) : Memref sig .tc .vmem S512x2048 .bf16 := spec0_0.stage ((cfgM m hO).slots t 0)
abbrev hs0 (t : Fin (cfgM m hO).N) : (ms0 m hO t).IsWhole := hstage0_0 (((cfgM m hO).slots t 0).cast nbuf0_0)
abbrev ms1 (t : Fin (cfgM m hO).N) : Memref sig .tc .vmem S1x1x2048 .f32 := spec0_1.stage ((cfgM m hO).slots t 1)
abbrev hs1 (t : Fin (cfgM m hO).N) : (ms1 m hO t).IsWhole := hstage0_1 (((cfgM m hO).slots t 1).cast nbuf0_1)
abbrev ms2 (t : Fin (cfgM m hO).N) : Memref sig .tc .vmem S512x2048 .f32 := spec0_2.stage ((cfgM m hO).slots t 2)
abbrev hs2 (t : Fin (cfgM m hO).N) : (ms2 m hO t).IsWhole := hstage0_2 (((cfgM m hO).slots t 2).cast nbuf0_2)
abbrev bodyAt (t : Fin (cfgM m hO).N) : Prog (TpuEff nD τ sig (Elt F) Λ₀ .tc) PUnit :=
  body (grid0.coords t) (ms0 m hO t) (hs0 m hO t) (ms1 m hO t) (hs1 m hO t) (ms2 m hO t) (hs2 m hO t)

def bodyPre (c : Dev nD) (t : Fin (cfgM m hO).N) : sProp 𝕄 :=
  iprop((dats m hO hX 0 c).Φ t.castSucc ∗ (dats m hO hX 0 c).owesAt () t.castSucc
    ∗ (∃ d, owns (c : Thread nD τ) (ms0 m hO t) fullShare ((dats m hO hX 0 c).before 0 t d))
    ∗ (∃ d, owns (c : Thread nD τ) (ms1 m hO t) fullShare ((dats m hO hX 0 c).before 1 t d))
    ∗ (∃ d, owns (c : Thread nD τ) (ms2 m hO t) fullShare ((dats m hO hX 0 c).before 2 t d)))
def bodyPost (c : Dev nD) (t : Fin (cfgM m hO).N) : sProp 𝕄 :=
  iprop((dats m hO hX 0 c).Φ t.succ ∗ (dats m hO hX 0 c).owesAt () t.succ
    ∗ owns (c : Thread nD τ) (ms0 m hO t) fullShare ((dats m hO hX 0 c).after 0 t)
    ∗ owns (c : Thread nD τ) (ms1 m hO t) fullShare ((dats m hO hX 0 c).after 1 t)
    ∗ owns (c : Thread nD τ) (ms2 m hO t) fullShare ((dats m hO hX 0 c).after 2 t))

theorem coords_val (t : Fin grid0.N) : ((grid0.coords t) 0).val = t.val := by
  have := lt_of_lt_of_eq t.isLt N_0
  show t.val / 1 % 161 = _
  omega

theorem sound_body (c : Dev nD) (t : Fin (cfgM m hO).N) :
    bodyPre m hO hX c t ⊢ wp frame (wpE (defs₀ (F := F)) Variants.none c none) Set.univ (bodyAt m hO t) (fun _ => bodyPost m hO hX c t) := by
  unfold bodyPre bodyPost
  simp only [before_0, before_1]
  rw [after_0, after_1, after_2]
  rw [show (dats m hO hX 0 c).Φ t.succ = iprop((∃ r, prngReg c r) ∗ Inv c (tbl m 0) (tbl m 1) (V m c main_arg3) (hX c) (((grid0.coords t) 0).val + 1)) from by rw [coords_val]; rfl,
    show (dats m hO hX 0 c).Φ t.castSucc = iprop((∃ r, prngReg c r) ∗ Inv c (tbl m 0) (tbl m 1) (V m c main_arg3) (hX c) ((grid0.coords t) 0).val) from by rw [coords_val]; rfl]
  unfold Dat.owesAt Pipeline.owesWithin
  rw [show (dats m hO hX 0 c).owed t.castSucc = 0 from rfl, show (dats m hO hX 0 c).owed t.succ = 0 from rfl]
  iintro ⟨⟨Hg, HI⟩, ⟨%W, -, HW⟩, ⟨%d0, H0⟩, ⟨%d1, H1⟩, ⟨%d2, H2⟩⟩
  iapply (step c (tbl m 0) (tbl m 1) (V m c main_arg3) (hX c) (grid0.coords t) _ _ _ _ _ _ (iblk m hO c 0 t) (iblk m hO c 1 t) _)
  isplitl [HI]; · iexact HI
  isplitl [H0]; · iexact H0
  isplitl [H1]; · iexact H1
  isplitl [H2]; · iexists _; iexact H2
  isplitl [HW]; · iexists _; iexact HW
  iintro ⟨HI, H0, H1, H2, ⟨%W', HW'⟩⟩
  isplitl [Hg HI]
  · isplitl [Hg]; · iexact Hg
    iexact HI
  isplitl [HW']
  · iexists W'; isplitr; · ipureintro; exact fun _ _ => Or.inl trivial
    iexact HW'
  isplitl [H0]; · iexact H0
  isplitl [H1]; · iexact H1
  iexact H2

theorem row (t : Fin (cfgM m hO).N) :
    defs₀ (F := F) .tc (cfgM m hO).body ((cfgM m hO).bodyArgs t ((cfgM m hO).slots t)) = bodyAt m hO t := by
  unfold defs₀; rw [Defs.onTc_tc]

/-- The result's block is stored at every point, by one branch or the other. -/
theorem never_idle (t : Fin (cfgM m hO).N) : (cfgM m hO).idle 2 ((cfgM m hO).grid.coords t) = false := by
  show (!(k0_cond1 (grid0.coords t) ((tbl m).atD 1 ![0]) == 1#1) && !(k0_cond6 (grid0.coords t) ((tbl m).atD 1 ![0]) == 1#1)) = false
  generalize (tbl m).atD 1 ![0] = n
  by_cases h : U n ((grid0.coords t) 0).val
  · rw [show k0_cond1 (grid0.coords t) n = 1#1 from (cond1_iff _ _).mpr h]; rfl
  · rw [show k0_cond6 (grid0.coords t) n = 1#1 from (cond6_iff _ _).mpr h]; exact Bool.and_false _

theorem body_obligation (c : Dev nD) : BodyObligation (dats (F := F) m hO hX 0 c) (defs₀ (F := F)) Variants.none () Set.univ := fun t => by
  rw [bigSep_W0, bigSep_W0, row m hO]
  refine triple_restated (sound_body m hO hX c t) rfl .rfl fun _ => ?_
  have h : idle0 (tbl m) 2 (((pcfg0 (F := F)).gridAt (tbl m)).coords t) = false := never_idle m hO t
  simp only [h]
  exact .rfl

theorem hin (c : Dev nD) : iprop(Pipeline.ΦD osem0 spec0 H0 (V m) c ∗ Pipeline.ΦT pre0 (tbl m) c) ⊢ (dats m hO hX 0 c).Φ 0 := by
  rw [PhiD0_eq, PhiT0_eq]
  show _ ⊢ iprop((∃ r, prngReg c r) ∗ Inv c (tbl m 0) (tbl m 1) (V m c main_arg3) (hX c) 0)
  unfold Inv Hand Way Idle
  iintro ⟨⟨⟨HL, ⟨%g, HB⟩⟩, Hg, HS, HW⟩, HE, HN⟩
  isplitl [Hg]; · iexact Hg
  isplitl [HE]; · iexact HE
  isplitl [HN]; · iexact HN
  isplitl [HB]
  · iexists g
    isplitl [HB]; · iexact HB
    ipureintro; exact fun h => absurd h (by omega)
  ileft
  isplitl [HL HS HW]
  · isplitl [HL]; · iexact HL
    isplitl [HS]; · iexact HS
    iexact HW
  ipureintro; exact .inl rfl

theorem hout (c : Dev nD) : (dats m hO hX 0 c).Φ (Fin.last (cfgM m hO).N) ⊢ Pipeline.ΦD osem0 spec0 H0 (V m) c := by
  rw [PhiD0_eq]
  rw [show (dats m hO hX 0 c).Φ (Fin.last (cfgM m hO).N) = iprop((∃ r, prngReg c r) ∗ Inv c (tbl m 0) (tbl m 1) (V m c main_arg3) (hX c) 161) from rfl]
  unfold Inv Hand
  iintro ⟨Hg, -, -, ⟨%g, HB, -⟩, HW⟩
  ihave HI := way_end c (tbl m 0) (tbl m 1) (V m c main_arg3) (hX c) $$ HW
  unfold Idle
  icases HI with ⟨HL, HS, HW⟩
  isplitl [HL HB]
  · isplitl [HL]; · iexact HL
    iexists g; iexact HB
  isplitl [Hg]; · iexact Hg
  isplitl [HS]; · iexact HS
  iexact HW

/-! ## The run and the frame -/

set_option backward.isDefEq.respectTransparency.types false in
theorem run_main : θ_run defs (onTc (τ := τ) (main (F := F))) (s₀ m ρ)
    (fun r => (Pipeline.FramePost (Pipeline.pin pcfgs fun _ => adm m hO) (dats m hO hX) 0 (V m)) r ∧ r.2.sem = fun _ => 0) :=
  Pipeline.θ_run_frameP_dma (Q' := _) pcfgs (fun _ => adm m hO) (dats m hO hX) (0 : Fin 1) launch0 osem0 defs₀ Variants.none ownSemFacts0 H0 H0_sub m ρ main
    (hbody := fun c => (body_obligation m hO hX c).loose) (hshare := fun c => (dats m hO hX 0 c).share_full fun _ => rfl)
    (howed := fun _ _ => rfl) (V := V m) (hmain := hmain m Variants.none) (hA := A_eq m hO hX) (hpf := V_pre m)
    (hin := hin m hO hX) (hout := hout m hO hX)

/-- Where the run ends: the arguments as they were, every counter zero, and the result's blocks written. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ (r.2.sem = fun _ => 0) ∧ ∀ c : Dev nD, r.2.mem ((c.tc : Thread nD τ).loc main_v1) = (dats m hO hX 0 c).arrAt 2 (cfgM m hO).N) :=
  (θ_run defs _ _).mono (fun _ h => ⟨fun c => ⟨((h.1 c).2 main_arg0 (Pipeline.mem_restRefs_of (win := spec0) main_arg0 (by decide) (by decide))).trans (V_of m c main_arg0 (by decide)),
      ((h.1 c).2 main_arg1 (Pipeline.mem_restRefs_of (win := spec0) main_arg1 (by decide) (by decide))).trans (V_of m c main_arg1 (by decide)),
      ((h.1 c).1 0).trans (((dats m hO hX 0 c).arrAt_in 0 rfl _).trans ((A_eq m hO hX c 0).trans (V_of m c main_arg2 (by decide)))),
      ((h.1 c).2 main_arg3 (Pipeline.mem_restRefs_of (win := spec0) main_arg3 (by decide) (by decide))).trans (V_of m c main_arg3 (by decide)),
      ((h.1 c).2 main_arg4 (Pipeline.mem_restRefs_of (win := spec0) main_arg4 (by decide) (by decide))).trans (V_of m c main_arg4 (by decide))⟩, h.2, fun c => (h.1 c).1 2⟩) (run_main m ρ hO hX)

end Data

end Cert.DownIdeal.Hand

end
-- ==== Proof.DownIdealPre.lean ====
/-
  What the precondition gives the down products: every word of the block table names an expert and a block is in use, so
  that every window's block lies in its array and every block's expert has weights.
-/
module

public import proofs.«01_k».proof.Proof.DownIdealFrame
public import proofs.«01_k».proof.Pre_in_range

@[expose] public section

set_option maxRecDepth 16384

noncomputable section

namespace Cert.DownIdeal.Hand

open Cert.DownIdeal Cert.DownIdeal.Gen
open Idealize.ShloMosaic Idealize.ShloMosaic.TcCoe

variable {F : FTy → Type} [FloatOps F]

/-- The block table's words are experts and at least one block is in use. -/
structure Ranged (X : S161.Idx → BitVec 32) (N : S1.Idx → BitVec 32) : Prop where
  lo : ∀ j, 0 ≤ (X j).toInt
  hi : ∀ j, (X j).toInt < 32
  use : ∀ j, 1 ≤ (N j).toInt

theorem ranged_of [Cert.Pre_in_range.Facts] (X : S161.Idx → BitVec 32) (N : S1.Idx → BitVec 32) (x2 : FVec F S82432x2048 .bf16) (x3 : FVec F S32x2048x2048 .f32)
    (x4 : FVec F S32x2048 .f32) (h : Cert.Pre_in_range.fn (F := F) X N x2 x3 x4 = fun _ => 1#1) : Ranged X N := by
  have key : ∀ j : S161.Idx, ∃ k : S1.Idx, 0 ≤ (X j).toInt ∧ (X j).toInt < 32 ∧ 1 ≤ (N k).toInt := fun j => by
    have hj := congrFun h j
    change Scalar.andi (Scalar.andi (Scalar.cmpi .sge (X j) 0#32) (Scalar.cmpi .slt (X j) 32#32)) (Scalar.cmpi .sge (N _) 1#32) = 1#1 at hj
    rw [flag_and, flag_and, sge_iff, slt_iff, sge_iff] at hj
    exact ⟨_, hj.1.1, hj.1.2, hj.2⟩
  refine ⟨fun j => (key j).elim fun _ h => h.1, fun j => (key j).elim fun _ h => h.2.1, fun j => ?_⟩
  obtain ⟨k, -, -, hk⟩ := key fun a => ⟨0, by obtain rfl : a = 0 := Subsingleton.elim _ _; decide⟩
  rwa [show j = k from funext fun a => by obtain rfl : a = 0 := Subsingleton.elim _ _; exact Subsingleton.elim (α := Fin 1) _ _]

theorem toNat_lt {e : BitVec 32} {n : ℕ} (h0 : 0 ≤ e.toInt) (h : e.toInt < n) : e.toNat < n := by
  have hc := BitVec.toInt_eq_toNat_cond e
  have hl := e.isLt
  split at hc <;> omega

theorem has_of {e : BitVec 32} (h : e.toNat < 32) : Has e := fun a => by
  match a with
  | ⟨0, _⟩ => show e.toNat + 1 ≤ 32; omega
  | ⟨1, _⟩ => exact Nat.le_refl _
  | ⟨2, _⟩ => exact Nat.le_refl _

/-- The word of block `j` of a table of experts. -/
theorem bel_lt (c : Dev nD) (X : MBuf (F := F) c tbE) (h : ∀ j : S161.Idx, 0 ≤ (X j : BitVec 32).toInt ∧ (X j : BitVec 32).toInt < 32) (j : ℕ) : (bel c X j).toNat < 32 := by
  unfold bel
  split
  · exact toNat_lt (h _).1 (h _).2
  · decide

/-- The activations' block of point `i` is the one of `i` or of the last block in use. -/
theorem min_at (i : ℕ) (hi : i < 161) (n : BitVec 32) (hn : 1 ≤ n.toInt) :
    (Scalar.minsi (BitVec.ofNat 32 i) (Scalar.subi n 1#32)).toNat = min i (n.toNat - 1) := by
  have hn' := BitVec.toInt_eq_toNat_cond n
  have hlt := n.isLt
  have hN : 1 ≤ n.toNat ∧ n.toNat < 2 ^ 31 := by split at hn' <;> omega
  have hs : (Scalar.subi n 1#32).toNat = n.toNat - 1 := by
    show (n - 1#32).toNat = _
    rw [BitVec.toNat_sub]; simp only [BitVec.toNat_ofNat]; omega
  have ht : (Scalar.subi n 1#32).toInt = ((n.toNat - 1 : ℕ) : ℤ) := by
    rw [BitVec.toInt_eq_toNat_cond, hs]; split <;> omega
  show (if (BitVec.ofNat 32 i).slt (Scalar.subi n 1#32) then BitVec.ofNat 32 i else Scalar.subi n 1#32).toNat = _
  have hb : (BitVec.ofNat 32 i).slt (Scalar.subi n 1#32) = true ↔ i < n.toNat - 1 := by
    rw [BitVec.slt_iff_toInt_lt, toInt_small hi, ht]; omega
  by_cases h : i < n.toNat - 1
  · rw [if_pos (hb.mpr h), WordCmp.toNat_ofNat_of_lt (by omega)]; omega
  · rw [if_neg (fun h' => h (hb.mp h')), hs]; omega

theorem ok0_of (pf : pre0.Contents (Elt F)) (h : Ranged (pf 0) (pf 1)) : ok0 pf := by
  refine ⟨fun i => ?_, fun i => ?_⟩
  · have hb : cc0_transform_0 inb_S1_S1_0 numel1_S1 pf i = ![min (i 0).val ((pf.at 1 (Rect.unit (s := S1) ![0] S1.size inb_S1_S1_0) numel1_S1 : BitVec 32).toNat - 1), 0] := by
      unfold cc0_transform_0
      exact congrArg (fun z => ![z, 0]) (min_at _ (pt_lt i) _ (h.use _))
    rw [hb]
    refine ⟨fun a => ?_, .inr (.inl (.inr ⟨by decide, rfl, .inl ⟨?_, ⟨256, rfl⟩⟩⟩))⟩
    · have := pt_lt i
      match a with
      | ⟨0, _⟩ => show (min (i 0).val _ + 1) * 512 ≤ 82432; omega
      | ⟨1, _⟩ => show (0 + 1) * 2048 ≤ 2048; omega
    · show 2 ∣ min (i 0).val _ * 512
      omega
  · have hb := toNat_lt (n := 32) (h.lo _) (h.hi ((Rect.unit (s := S161) ![(Scalar.indexCast (BitVec.ofNat 32 (i 0).val)).toNat] S1.size (k0_off1_inb i)).emb (Shape.Idx.first (numel1_S1.symm ▸ Nat.one_pos))))
    refine ⟨fun a => ?_, .inl rfl⟩
    match a with
    | ⟨0, _⟩ => exact (Nat.mul_one _).le.trans (Nat.succ_le_of_lt hb)
    | ⟨1, _⟩ => show (0 + 1) * 1 ≤ 1; omega
    | ⟨2, _⟩ => show (0 + 1) * 2048 ≤ 2048; omega

variable (m : (ℓ : Loc nD τ sig) → Buf (Elt F) ℓ)

theorem tbl_0 : tbl m 0 = m (((0 : Dev nD) : Thread nD τ).loc main_arg0) := V_of m 0 main_arg0 (by decide)
theorem tbl_1 : tbl m 1 = m (((0 : Dev nD) : Thread nD τ).loc main_arg1) := V_of m 0 main_arg1 (by decide)

theorem ranged [Cert.Pre_in_range.Facts] (h : ∀ c : Dev nD, Cert.Pre_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Ranged (tbl m 0) (tbl m 1) := by
  rw [tbl_0, tbl_1]
  exact ranged_of _ _ _ _ _ (h 0)

theorem ok_of (h : Ranged (tbl m 0) (tbl m 1)) : Ok m := ok0_of _ h
theorem hx_of (h : Ranged (tbl m 0) (tbl m 1)) : HX m := fun c j => has_of (bel_lt c _ (fun j => ⟨h.lo j, h.hi j⟩) j)

end Cert.DownIdeal.Hand

end
-- ==== Proof.DownFrame.lean ====
/-
  The down products at the machine's own floats: the two prints differ in their names alone, so the launch run at any
  floats is this one's.
-/
module

public import proofs.«01_k».proof.Defs
public import proofs.«01_k».proof.Proof.DownIdealPre
public import proofs.«01_k».proof.Proof.Gen.Down.Launch

@[expose] public section

set_option maxRecDepth 16384

noncomputable section

namespace Cert.Proof.Down

open Cert.DownIdeal.Hand
open Idealize.ShloMosaic Idealize.ShloMosaic.TcCoe Idealize.SL.Sem

variable [Cert.Pre_in_range.Facts]

/-- What the run leaves, beside the result. -/
theorem kept {F : FTy → Type} [FloatOps F] (m : (ℓ : Loc Cert.DownIdeal.nD Cert.DownIdeal.τ Cert.DownIdeal.sig) → Buf (Elt F) ℓ) (g : Dev Cert.DownIdeal.nD → PrngReg)
    (h : Ranged (tbl m 0) (tbl m 1)) :
    θ_run (Cert.DownIdeal.defs (F := F)) (onTc (τ := Cert.DownIdeal.τ) (Cert.DownIdeal.main (F := F))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0) :=
  (θ_run (Cert.DownIdeal.defs (F := F)) _ _).mono (fun _ h => ⟨h.1, h.2.1⟩) (ends m g (ok_of _ h) (hx_of _ h))

theorem frame_ideal : Cert.quiescent_DownIdeal (hDownIdeal := Cert.DownIdeal.Gen.facts) := fun m g h => kept m g (ranged _ h)

/-- The two prints' bodies are one, label by label; their pipelines and programs are, as they stand. -/
theorem body_eq : Cert.Down.defs₀ (F := Bits) = Cert.DownIdeal.defs₀ (F := Bits) := by
  unfold Cert.Down.defs₀ Cert.DownIdeal.defs₀
  refine congrArg Defs.onTc (funext fun l => funext fun a => ?_)
  match l, a with
  | 0, (t, s) => rfl
  | ⟨_ + 1, h⟩, _ => exact absurd h (Nat.not_lt.2 (Nat.le_add_left _ _))
theorem defs_eq : Cert.Down.defs (F := Bits) = Cert.DownIdeal.defs (F := Bits) := by
  unfold Cert.Down.defs Cert.DownIdeal.defs
  exact congrArg (Pipeline.defs (Cert.DownIdeal.pcfgs (F := Bits))) body_eq

theorem frame_bits : Cert.quiescent_Down (hDown := Cert.Down.Gen.facts) := fun m g h => by
  rw [defs_eq]
  exact kept (F := Bits) m g (ranged _ h)

end Cert.Proof.Down

end
-- ==== Proof.Down.lean ====
/-
  The down products: a block in use is its rows of activations times its expert's weights, plus that expert's bias, and a
  block past the ones in use is zeros; the blocks lie one after another.
-/
module

public import proofs.«01_k».proof.Proof.DownFrame
public import proofs.«01_k».proof.Proof.Gen.DownRefIdeal.Run
public import proofs.«01_k».proof.Proof.Gen.DownRefIdeal.Read
public import Idealize.ShloMosaic.Lib.StableHlo.RunRead
public import Idealize.ShloMosaic.Lib.Pipeline.ValueKit
public import Idealize.ShloMosaic.Lib.Pointwise

@[expose] public section

set_option maxRecDepth 16384

noncomputable section

namespace Cert.Proof.Down

open Cert.DownIdeal Cert.DownIdeal.Gen Cert.DownIdeal.Hand
open Idealize.ShloMosaic Idealize.ShloMosaic.TcCoe Idealize.SL.Sem Idealize.ShloMosaic.StableHlo
open Cert.DownRefIdeal.Read

/-! ## The reference at an index -/

section Ref

variable (x0 : S161.Idx → BitVec 32) (x1 : S1.Idx → BitVec 32) (x2 : FVec Ideal S82432x2048 .bf16) (x3 : FVec Ideal S32x2048x2048 .f32)
  (x4 : FVec Ideal S32x2048 .f32)

/-- A gather of an array's leading slices reads, at `(t, …)`, the slice the start index names, clamped. -/
theorem gather_bias (x : S32x2048.Idx → EReal) (s : IVec Cert.DownRefIdeal.S161x1 32) (t : Fin 161) (j : Fin 2048) :
    Host.gather Cert.DownRefIdeal.gather_S32x2048_S161x1_S161x2048_1_0_n_n_0_1_12048 x s (ix2 t j)
      = x (ix2 (⟨min (s (ix2 t (0 : Fin 1))).toInt.toNat 31, by omega⟩ : Fin 32) j) := by
  unfold Host.gather
  refine congrArg x (funext fun a => Fin.ext ?_)
  match a with
  | ⟨0, _⟩ =>
    refine congrArg (fun q => min (s q).toInt.toNat 31) (funext fun b => Fin.ext ?_)
    match b with
    | ⟨0, _⟩ => rfl
    | ⟨1, _⟩ => rfl
  | ⟨1, _⟩ => exact Nat.zero_add _

theorem gather_weights (x : S32x2048x2048.Idx → EReal) (s : IVec Cert.DownRefIdeal.S161x1 32) (t : Fin 161) (k j : Fin 2048) :
    Host.gather Cert.DownRefIdeal.gather_S32x2048x2048_S161x1_S161x2048x2048_12_0_n_n_0_1_120482048 x s (ix3 t k j)
      = x (ix3 (⟨min (s (ix2 t (0 : Fin 1))).toInt.toNat 31, by omega⟩ : Fin 32) k j) := by
  unfold Host.gather
  refine congrArg x (funext fun a => Fin.ext ?_)
  match a with
  | ⟨0, _⟩ =>
    refine congrArg (fun q => min (s q).toInt.toNat 31) (funext fun b => Fin.ext ?_)
    match b with
    | ⟨0, _⟩ => rfl
    | ⟨1, _⟩ => rfl
  | ⟨1, _⟩ => exact Nat.zero_add _
  | ⟨2, _⟩ => exact Nat.zero_add _

variable {x0 x1}

/-- Block `t`'s expert. -/
def expert (h : Ranged x0 x1) (t : Fin 161) : Fin 32 := ⟨(x0 (ix1 t)).toNat, toNat_lt (h.lo _) (h.hi _)⟩

/-- A word that is not negative is read as it is. -/
theorem wrap_eq (e : BitVec 32) (h : 0 ≤ e.toInt) (f : BitVec 32) : Scalar.select (Scalar.cmpi .slt e 0#32) f e = e := by
  unfold Scalar.select
  refine if_neg fun hc => ?_
  have := (slt_iff e 0#32).mp hc
  change e.toInt < 0 at this
  omega

theorem clamp_eq (h : Ranged x0 x1) (t : Fin 161) : min (x0 (ix1 t)).toInt.toNat 31 = (expert h t).val := by
  have := (expert h t).isLt
  have hc := BitVec.toInt_eq_toNat_cond (x0 (ix1 t))
  have hl := h.lo (ix1 t)
  have hn := (x0 (ix1 t)).isLt
  show _ = (x0 (ix1 t)).toNat
  change (x0 (ix1 t)).toNat < 32 at this
  split at hc <;> omega

theorem ref_weights (h : Ranged x0 x1) (t : Fin 161) (k j : Fin 2048) : val_main_v8 (F := Ideal) x0 x3 (ix3 t k j) = x3 (ix3 (expert h t) k j) := by
  unfold val_main_v8
  rw [gather_weights]
  refine congrArg (fun e => x3 (ix3 e k j)) (Fin.ext ?_)
  show min _ 31 = _
  rw [← clamp_eq h t]
  refine congrArg (fun e : BitVec 32 => min e.toInt.toNat 31) ?_
  rw [val_main_v7_apply, val_main_v6_apply, val_main_v3_apply, val_main_v2_apply]
  exact (wrap_eq _ (h.lo _) _).trans (congrArg x0 (funext fun a => Fin.ext (by obtain rfl : a = 0 := Subsingleton.elim _ _; rfl)))

theorem ref_bias (h : Ranged x0 x1) (t : Fin 161) (j : Fin 2048) : val_main_v16 (F := Ideal) x0 x4 (ix2 t j) = x4 (ix2 (expert h t) j) := by
  unfold val_main_v16
  rw [gather_bias]
  refine congrArg (fun e => x4 (ix2 e j)) (Fin.ext ?_)
  show min _ 31 = _
  rw [← clamp_eq h t]
  refine congrArg (fun e : BitVec 32 => min e.toInt.toNat 31) ?_
  rw [val_main_v15_apply, val_main_v14_apply, val_main_v11_apply, val_main_v10_apply]
  exact (wrap_eq _ (h.lo _) _).trans (congrArg x0 (funext fun a => Fin.ext (by obtain rfl : a = 0 := Subsingleton.elim _ _; rfl)))

/-- Row `r` of block `t`. -/
abbrev rowOf (t : Fin 161) (r : Fin 512) : Fin 82432 := ⟨t.val * 512 + r.val, by omega⟩

theorem ref_rows (t : Fin 161) (r : Fin 512) (k : Fin 2048) : val_main_v1 (F := Ideal) x2 (ix3 t r k) = x2 (ix2 (rowOf t r) k) := by
  rw [val_main_v1_apply, val_main_v0_apply]
  refine congrArg x2 (funext fun a => Fin.ext ?_)
  match a with
  | ⟨0, _⟩ => show ((t.val * 512 + r.val) * 2048 + k.val) / 2048 = t.val * 512 + r.val; omega
  | ⟨1, _⟩ => show ((t.val * 512 + r.val) * 2048 + k.val) % 2048 = k.val; omega

open scoped Classical in
/-- The reference at an element of block `t`. -/
theorem ref_eq (h : Ranged x0 x1) (t : Fin 161) (r : Fin 512) (j : Fin 2048) :
    val_main_v26 (F := Ideal) x0 x1 x2 x3 x4 (ix2 (rowOf t r) j)
      = if U (x1 (ix1 (0 : Fin 1))) t.val then (∑ k : Fin 2048, x2 (ix2 (rowOf t r) k) * x3 (ix3 (expert h t) k j)) + x4 (ix2 (expert h t) j) else 0 := by
  have hi : idx_main_v26 (ix2 (rowOf t r) j) = ix3 t r j := by
    refine funext fun a => Fin.ext ?_
    match a with
    | ⟨0, _⟩ => show ((t.val * 512 + r.val) * 2048 + j.val) / 1048576 = t.val; omega
    | ⟨1, _⟩ => show ((t.val * 512 + r.val) * 2048 + j.val) / 2048 % 512 = r.val; omega
    | ⟨2, _⟩ => show ((t.val * 512 + r.val) * 2048 + j.val) % 2048 = j.val; omega
  have h9 : val_main_v9 (F := Ideal) x0 x2 x3 (ix3 t r j) = ∑ k : Fin 2048, x2 (ix2 (rowOf t r) k) * x3 (ix3 (expert h t) k j) := by
    rw [val_main_v9_apply]
    refine Finset.sum_congr rfl fun k _ => ?_
    rw [← ref_rows x2 t r k, ← ref_weights x3 h t k j]
    refine congrArg₂ (fun p q => val_main_v1 (F := Ideal) x2 p * val_main_v8 (F := Ideal) x0 x3 q) (funext fun a => ?_) (funext fun a => ?_)
    · match a with
      | ⟨0, _⟩ => rfl
      | ⟨1, _⟩ => rfl
      | ⟨2, _⟩ => rfl
    · match a with
      | ⟨0, _⟩ => rfl
      | ⟨1, _⟩ => rfl
      | ⟨2, _⟩ => rfl
  have h18 : val_main_v18 (F := Ideal) x0 x4 (ix3 t r j) = x4 (ix2 (expert h t) j) := by
    rw [val_main_v18_apply, val_main_v17_apply, ← ref_bias x4 h t j]
    refine congrArg (val_main_v16 (F := Ideal) x0 x4) (funext fun a => ?_)
    match a with
    | ⟨0, _⟩ => rfl
    | ⟨1, _⟩ => rfl
  have hu : val_main_call0_v1 (F := Ideal) x1 (ix3 t r j) = 1#1 ↔ U (x1 (ix1 (0 : Fin 1))) t.val := by
    rw [val_main_call0_v1_apply, val_main_v24_apply, val_main_v23_apply, val_main_v20_apply, val_main_v22_apply]
    have hone : val_main_v21 (F := Ideal) x1 (idx_main_v22 (idx_main_v24 (idx_main_call0_v1 (ix3 t r j)))) = x1 (ix1 (0 : Fin 1)) := by
      unfold val_main_v21 shapeCast
      exact congrArg x1 (funext fun a => by obtain rfl : a = 0 := Subsingleton.elim _ _; exact Subsingleton.elim (α := Fin 1) _ _)
    rw [hone]
    refine (slt_iff _ _).trans ?_
    rw [toInt_small (show (idx_main_v24 (idx_main_call0_v1 (ix3 t r j)) 0).val < 161 from t.isLt)]
    exact Iff.rfl
  rw [val_main_v26_apply, hi, val_main_v25_apply, val_main_v19_apply, h9, h18]
  unfold Scalar.select
  refine if_congr hu rfl ?_
  rw [val_main_call0_v2_apply]
  exact Ideal.ofBits_zero .f32

end Ref

/-! ## The launch at an index -/

/-- An element of a block in use, -/
theorem used_eq (x : Vec Ideal S512x2048 .bf16) (w : Vec Ideal S1x2048x2048 .f32) (b : Vec Ideal S1x1x2048 .f32) (r : Fin 512) (j : Fin 2048) :
    k0_pay2 (F := Ideal) x (k0_pay1 w) b (ix2 r j) = (∑ k : Fin 2048, x (ix2 r k) * w (ix3 (0 : Fin 1) k j)) + b (ix3 (0 : Fin 1) (0 : Fin 1) j) := by
  pointwise [k0_pay2, k0_pay1]

/-- and of one that is not. -/
theorem unused_eq (i : S512x2048.Idx) : k0_pay3 (F := Ideal) i = 0 := by
  unfold k0_pay3
  exact Ideal.ofBits_zero .f32

theorem one_eq (q q' : S1.Idx) : q = q' := funext fun a => match a with | ⟨0, _⟩ => Subsingleton.elim (α := Fin 1) _ _
theorem ix1_of (q : S161.Idx) (t : Fin 161) (h : (q (0 : Fin 1)).val = t.val) : q = ix1 t := funext fun a => match a with | ⟨0, _⟩ => Fin.ext h
theorem at_rc (y : S512x2048.Idx) : ∃ (r : Fin 512) (j : Fin 2048), y = ix2 r j := ⟨y 0, y 1, eq_ix2 y⟩
theorem row_of_reshaped (y : FVec Ideal S32x2048 .f32) (e : Fin 32) (j : Fin 2048) :
    shapeCast S32x1x2048 y shapeCasts_S32x2048_S32x1x2048 (ix3 e (0 : Fin 1) j) = y (ix2 e j) := by
  refine shapeCast_apply y shapeCasts_S32x2048_S32x1x2048 _ _ ?_
  rw [Shape.rowMajor_val_three, Shape.rowMajor_val_two]
  show e.val * 2048 + j.val = (e.val * 1 + 0) * 2048 + j.val
  omega

theorem times_congr (a : EReal) (w : S32x2048x2048.Idx → EReal) (p q : Fin 32) (h : p.val = q.val) (k j : Fin 2048) :
    a * w (ix3 p k j) = a * w (ix3 q k j) := by rw [Fin.ext h]

section Kernel

variable (m : (ℓ : Loc nD τ sig) → Buf (Elt Ideal) ℓ) (c : Dev nD) (hO : Ok m) (hX : HX m)

theorem V_bias : V m c main_v0 = shapeCast S32x1x2048 (m ((c : Thread nD τ).loc main_arg4)) shapeCasts_S32x2048_S32x1x2048 := by
  unfold V
  after_reads_simp
  rfl

/-- The result's blocks lie one after another, -/
theorem out_index (t : Fin (cfgM m hO).N) : ((cfgM m hO).win 2).index t = ![t.val, 0] := by
  have ht := lt_of_lt_of_eq t.isLt N_0
  show cc0_transform_3 (grid0.coords t) = _
  unfold cc0_transform_3
  dsimp only
  rw [coords_val, WordCmp.toNat_ofNat_of_lt (by omega)]
  rfl

/-- and fill it. -/
theorem covers : ((cfgM m hO).win 2).Covers := by
  refine ⟨fun a => ?_, fun β => ?_⟩
  · match a with
    | ⟨0, _⟩ => show 0 < 512; omega
    | ⟨1, _⟩ => show 0 < 2048; omega
  have h0 : (β (0 : Fin 2)).val < 161 := lt_of_lt_of_eq (β (0 : Fin 2)).isLt (show (82432 + 512 - 1) / 512 = 161 from rfl)
  have h1 : (β (1 : Fin 2)).val < 1 := lt_of_lt_of_eq (β (1 : Fin 2)).isLt (show (2048 + 2048 - 1) / 2048 = 1 from rfl)
  have hN : (β (0 : Fin 2)).val < (cfgM m hO).grid.N := lt_of_lt_of_eq h0 N_0.symm
  refine ⟨⟨(β (0 : Fin 2)).val, hN⟩, ?_, fun a => ⟨?_, .inl ?_⟩⟩
  · unfold Pipeline.Window.flush
    rw [Bool.and_eq_true, Bool.or_eq_true, decide_eq_true_iff, decide_eq_true_iff]
    refine ⟨rfl, ?_⟩
    by_cases h : (β (0 : Fin 2)).val + 1 < (cfgM m hO).grid.N
    · refine .inr ⟨h, fun he => ?_⟩
      rw [out_index, out_index] at he
      have := congrFun he (0 : Fin 2)
      change (β (0 : Fin 2)).val + 1 = (β (0 : Fin 2)).val at this
      omega
    · exact .inl (by show (β (0 : Fin 2)).val + 1 = _; omega)
  · rw [out_index]
    match a with
    | ⟨0, _⟩ => rfl
    | ⟨1, _⟩ => show 0 = (β (1 : Fin 2)).val; omega
  · match a with
    | ⟨0, _⟩ => rfl
    | ⟨1, _⟩ => rfl

/-! What the tables' words say. -/

abbrev tabE : S161.Idx → BitVec 32 := tbl m 0
abbrev tabN : S1.Idx → BitVec 32 := tbl m 1

theorem used_at : used c (tbl m 1) = (tabN m) (ix1 (0 : Fin 1)) :=
  congrArg (tabN m) (one_eq _ _)

theorem bel_at (t : Fin 161) : bel c (tbl m 0) t.val = (tabE m) (ix1 t) := by
  have h : ∀ a, (![t.val] : Fin 1 → ℕ) a + S1.size a ≤ S161.size a := fun a => by
    obtain rfl : a = 0 := Subsingleton.elim _ _
    exact Nat.succ_le_of_lt t.isLt
  unfold bel
  rw [dif_pos h]
  exact congrArg (tabE m) (ix1_of _ _ (Nat.add_zero _))

/-- The weights of expert `e`. -/
theorem wread_at (w : MBuf (F := Ideal) c hbW) (e : BitVec 32) (h : Has e) (he : e.toNat < 32) (k j : Fin 2048) :
    wread c w e h (ix3 (0 : Fin 1) k j) = (w : S32x2048x2048.Idx → EReal) (ix3 (⟨e.toNat, he⟩ : Fin 32) k j) := by
  refine congrArg (w : S32x2048x2048.Idx → EReal) (funext fun a => Fin.ext ?_)
  match a with
  | ⟨0, _⟩ => show e.toNat + 1 * 0 = e.toNat; omega
  | ⟨1, _⟩ => show 0 + 1 * k.val = k.val; omega
  | ⟨2, _⟩ => show 0 + 1 * j.val = j.val; omega

/-- The activations of a block in use are its own rows, -/
theorem act_at (hR : Ranged (tabE m) (tabN m)) (t : Fin (cfgM m hO).N) (u : Fin 161) (hu : u.val = t.val) (h : U ((tabN m) (ix1 (0 : Fin 1))) t.val) (r : Fin 512) (k : Fin 2048) :
    iblk m hO c 0 t (ix2 r k) = m ((c : Thread nD τ).loc main_arg2) (ix2 (rowOf u r) k) := by
  have hi : ((cfgM m hO).win 0).index t = ![t.val, 0] := by
    have ht := lt_of_lt_of_eq t.isLt N_0
    show cc0_transform_0 inb_S1_S1_0 numel1_S1 (tbl m) (grid0.coords t) = _
    unfold cc0_transform_0
    refine congrArg (fun z => ![z, 0]) ((min_at _ (pt_lt _) _ (hR.use _)).trans ?_)
    rw [coords_val]
    have hu := hR.use (ix1 (0 : Fin 1))
    have hc := BitVec.toInt_eq_toNat_cond ((tabN m) (ix1 (0 : Fin 1)))
    have hb := ((tabN m) (ix1 (0 : Fin 1))).isLt
    unfold U at h
    have hx : ∀ q : S1.Idx, t.val ≤ (tabN m q).toNat - 1 := fun q => by
      rw [one_eq q (ix1 (0 : Fin 1))]
      split at hc <;> omega
    exact Nat.min_eq_left (hx _)
  have hv : iblk m hO c 0 t (ix2 r k) = V m c main_arg2 (ix2 (rowOf u r) k) := by
    blk_ext [iblk, hi]
  rw [hv, V_of m c main_arg2 (by decide)]

/-- and the bias is its expert's. -/
theorem bias_at (hR : Ranged (tabE m) (tabN m)) (t : Fin (cfgM m hO).N) (u : Fin 161) (hu : u.val = t.val) (j : Fin 2048) :
    iblk m hO c 1 t (ix3 (0 : Fin 1) (0 : Fin 1) j) = m ((c : Thread nD τ).loc main_arg4) (ix2 (expert hR u) j) := by
  have hi : ((cfgM m hO).win 1).index t = ![(expert hR u).val, 0, 0] := by
    have ht := lt_of_lt_of_eq t.isLt N_0
    show cc0_transform_1 k0_off1_inb numel1_S1 (tbl m) (grid0.coords t) = ![(tabE m (ix1 u)).toNat, 0, 0]
    unfold cc0_transform_1
    refine congrArg (fun z : BitVec 32 => ![z.toNat, 0, 0]) (congrArg (tabE m) (ix1_of _ u ?_))
    show (BitVec.ofNat 32 ((grid0.coords t) 0).val).toNat + 1 * 0 = u.val
    rw [coords_val, WordCmp.toNat_ofNat_of_lt (by omega)]
    omega
  have hv : iblk m hO c 1 t (ix3 (0 : Fin 1) (0 : Fin 1) j) = V m c main_v0 (ix3 (expert hR u) (0 : Fin 1) j) := by
    blk_ext [iblk, hi]
  rw [hv, V_bias]
  exact row_of_reshaped _ _ _

/-- The array holds the reference's. -/
theorem value (hR : Ranged (tabE m) (tabN m)) : (dats (F := Ideal) m hO hX 0 c).arrAt 2 (cfgM m hO).N
    = val_main_v26 (F := Ideal) (tbl m 0) (tbl m 1) (m ((c : Thread nD τ).loc main_arg2)) (m ((c : Thread nD τ).loc main_arg3)) (m ((c : Thread nD τ).loc main_arg4)) := by
  refine (dats (F := Ideal) m hO hX 0 c).arrAt_eq_of_covers 2 _ (covers m hO) fun t hf y => ?_
  blk_simp
  rw [after_2]
  obtain ⟨r, j, rfl⟩ := at_rc y
  have ht := lt_of_lt_of_eq t.isLt N_0
  obtain ⟨u, hu⟩ : ∃ u : Fin 161, u.val = t.val := ⟨⟨t.val, ht⟩, rfl⟩
  have e2 := out_index m hO
  have hy : (((cfgM m hO).win 2).blk t).view.emb (ix2 r j) = (ix2 (rowOf u r) j : S82432x2048.Idx) := by
    blk_ext [e2]
  rw [hy, coords_val, ref_eq _ _ _ hR u r j]
  unfold outv
  rw [used_at, hu]
  by_cases hU : U ((tabN m) (ix1 (0 : Fin 1))) t.val
  · rw [if_pos hU, if_pos hU]
    unfold atHand
    refine (used_eq _ _ _ r j).trans ?_
    refine congrArg₂ (· + ·) (Finset.sum_congr rfl fun k _ => ?_) (bias_at m c hO hR t u hu j)
    have he : bel c (tbl m 0) t.val = tabE m (ix1 u) := hu ▸ bel_at m c u
    have hl : (bel c (tbl m 0) t.val).toNat < 32 := by rw [he]; exact (expert hR u).isLt
    rw [act_at m c hO hR t u hu hU r k, wread_at c _ _ _ hl, V_of m c main_arg3 (by decide)]
    have hv : (bel c (tbl m 0) t.val).toNat = (tabE m (ix1 u)).toNat := congrArg BitVec.toNat he
    exact times_congr _ _ _ (expert hR u) hv k j
  · rw [if_neg hU, if_neg hU]
    exact unused_eq _

end Kernel

variable [Cert.Pre_in_range.Facts]

theorem frame_ref : Cert.quiescent_DownRefIdeal (hDownRefIdeal := Cert.DownRefIdeal.Gen.facts) := fun m g _ =>
  (θ_run (Cert.DownRefIdeal.defs (F := Ideal)) _ _).mono
    (fun r h => ⟨fun c => (h c).2, Idealize.ShloMosaic.sem_eq_zero_of_no_sems (by decide) r.2⟩)
    (Cert.DownRefIdeal.Value.run (F := Ideal) m g)

theorem algebraic : Cert.algebraic_DownIdeal_DownRefIdeal (hDownIdeal := Cert.DownIdeal.Gen.facts)
    (hDownRefIdeal := Cert.DownRefIdeal.Gen.facts) := by
  intro m g m' g' hp hargs
  have hR := ranged m hp
  refine ⟨fun c => val_main_v26 (F := Ideal) (m (c.tc.loc main_arg0)) (m (c.tc.loc main_arg1)) (m (c.tc.loc main_arg2)) (m (c.tc.loc main_arg3)) (m (c.tc.loc main_arg4)),
    (θ_run (Cert.DownIdeal.defs (F := Ideal)) _ _).mono (fun r h c => ⟨(h.2.2 c).trans ?_, h.1 c⟩)
      (ends (F := Ideal) m g (ok_of _ hR) (hx_of _ hR)),
    (θ_run (Cert.DownRefIdeal.defs (F := Ideal)) _ _).mono (fun r h c => ⟨(h c).1.trans ?_, (h c).2⟩)
      (Cert.DownRefIdeal.Value.run (F := Ideal) m' g')⟩
  · obtain rfl : c = 0 := Subsingleton.elim _ _
    refine (value m 0 (ok_of _ hR) (hx_of _ hR) hR).trans ?_
    rw [tbl_0, tbl_1]
  · obtain ⟨a0, a1, a2, a3, a4⟩ := hargs c
    rw [val_main_v26_eq, a0, a1, a2, a3, a4]

end Cert.Proof.Down

end
-- ==== Proof.GateIdealRun.lean ====
/-
  The gate and up products' body: the loop that looks for the next block of another expert, the weights' two transfers left in flight
  from one grid point to a later one, and what the body leaves at a point.
-/
module

public import proofs.«01_k».proof.Proof.Gen.GateIdeal.Launch
public import proofs.«01_k».proof.Proof.Gen.GateIdeal.Loops
public import Idealize.ShloMosaic.Lib.Pipeline.FrameBody
public import Idealize.ShloMosaic.Lib.Ring
public import Idealize.ShloMosaic.Lib.Transfers
public import Idealize.ShloMosaic.Lib.Tactic
public import Idealize.ShloMosaic.Lib.WordCmp
public import Idealize.ShloMosaic.Lib.VecWindow

@[expose] public section

noncomputable section

namespace Cert.GateIdeal.Hand

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's resources beside the transfers' counters. -/
local notation "𝕄" => MT nD τ sig Unit (Elt F) ℕ (Pipeline.UD sig nD τ) ℕ

/-! ## The operands -/

abbrev tbE : Memref sig .tc .smem S161 .i32 := Memref.whole main_arg0
abbrev tbN : Memref sig .tc .smem S1 .i32 := Memref.whole main_arg1
abbrev hbG : Memref sig .tc .hbm S32x2048x2048 .f32 := Memref.whole main_arg3
abbrev hbU : Memref sig .tc .hbm S32x2048x2048 .f32 := Memref.whole main_arg5
abbrev scL : Memref sig .tc .vmem S2x2048x1024 .f32 := Memref.whole cc0_scratch0
abbrev scB : Memref sig .tc .vmem S2x2048x1024 .bf16 := Memref.whole cc0_scratch1

abbrev MBuf (c : Dev nD) {sp : Space} {S : Shape} {e : EltTy} (M : Memref sig .tc sp S e) : Type := Buf (Elt F) (M.view.loc (c : Thread nD τ))
/-- A table's half share. -/
abbrev tbPt (c : Dev nD) {S : Shape} {e : EltTy} (M : Memref sig .tc .smem S e) (f : MBuf (F := F) c M) : sProp 𝕄 :=
  M.view.loc (c : Thread nD τ) ↦{fullShare.right} f
/-- A whole buffer. -/
abbrev hbPt (c : Dev nD) {sp : Space} {S : Shape} {e : EltTy} (M : Memref sig .tc sp S e) (f : MBuf (F := F) c M) : sProp 𝕄 :=
  M.view.loc (c : Thread nD τ) ↦{fullShare} f

/-! ## The loop -/

/-- The word of the blocks' experts at offsets `o`. -/
abbrev wordAt (c : Dev nD) (X : MBuf (F := F) c tbE) (o : Fin 1 → ℕ) (h : ∀ a, o a + S1.size a ≤ S161.size a) : BitVec 32 :=
  (tbE.access (Rect.unit (s := S161) o S1.size h)).read (Elt F) X (Shape.Idx.first (numel1_S1.symm ▸ Nat.one_pos))

/-- One trip: the block found so far, or this one. -/
def trip (i v0 v8 w : BitVec 32) (k : ℕ) (acc : BitVec 32) : BitVec 32 :=
  Scalar.select (Scalar.andi (Scalar.andi (Scalar.cmpi .sgt (Scalar.subi 160#32 (Scf.iv 0#32 1#32 k)) i) (Scalar.cmpi .slt (Scalar.subi 160#32 (Scf.iv 0#32 1#32 k)) v0)) (Scalar.cmpi .ne w v8))
    (Scalar.subi 160#32 (Scf.iv 0#32 1#32 k)) acc

/-- The next block of another expert, as the loop finds it from the last block down. -/
def next (c : Dev nD) (X : MBuf (F := F) c tbE) (i v0 v8 : BitVec 32) : ℕ → BitVec 32
  | 0 => v0
  | k + 1 => if h : k < k0_t1_loop.trips then trip i v0 v8 (wordAt c X (k0_off6 ⟨k, h⟩) (k0_off6_inb ⟨k, h⟩)) k (next c X i v0 v8 k) else next c X i v0 v8 k

set_option warn.classDefReducibility false in
@[sl_loop] def loopNext (c : Dev nD) (E : Set ℕ) (i : grid0.Coords) (arg4 : Memref sig .tc .vmem S512x2048 .f32) (harg4 : arg4.IsWhole) (arg5 : Memref sig .tc .vmem S1x1x1024 .f32) (harg5 : arg5.IsWhole) (arg6 : Memref sig .tc .vmem S1x1x1024 .f32) (harg6 : arg6.IsWhole) (arg9 : Memref sig .tc .vmem S512x1024 .bf16) (harg9 : arg9.IsWhole) (arg0 arg1 : BitVec 32) (v0 : Elt F .i32) (h1 : k0_cond1 i v0 = 1#1) (v8 : Elt F .i32) (X : MBuf (F := F) c tbE) :
    LoopInvTy_k0_t1 (F := F) Unit ℕ (Pipeline.UD sig nD τ) ℕ Variants.none c none E i tbE (Memref.isWhole_whole _) tbN (Memref.isWhole_whole _) arg4 harg4 arg5 harg5 arg6 harg6 hbG (Memref.isWhole_whole _) hbU (Memref.isWhole_whole _) arg9 harg9 scL (Memref.isWhole_whole _) scB (Memref.isWhole_whole _) cc0_scratch2 arg0 arg1 v0 h1 v8 v0 where
  inv k acc := iprop(tbPt c tbE X ∗ ⌜acc = next c X arg1 v0 v8 k⌝)
  step k acc := by
    iintro ⟨HT, %hacc⟩
    subst hacc
    unfold k0_t1_body
    sl_exec
    sl_step
    isplitl [HT]; · iexact HT
    ipureintro
    rw [next, dif_pos k.isLt]
    delta loopNext.sl.v108
    unfold trip
    rfl

/-! ## The transfers -/

/-- Offsets of a slab of an expert's weights, in the weights. -/
abbrev Has (o : Fin 3 → ℕ) : Prop := ∀ a, o a + S1x2048x1024.size a ≤ S32x2048x2048.size a

/-- A slab of one kind of weights, as the transfers name it. -/
abbrev wsl (W : Memref sig .tc .hbm S32x2048x2048 .f32) (o : Fin 3 → ℕ) (h : Has o) : Memref sig .tc .hbm S2048x1024 .f32 :=
  (W.slice (Rect.unit (s := S32x2048x2048) o S1x2048x1024.size h) (fun _ => rfl)).squeeze S2048x1024 squeezes_S1x2048x1024_S2048x1024
/-- The two halves of the landing buffer. -/
abbrev lsl0 : Memref sig .tc .vmem S2048x1024 .f32 :=
  (scL.slice (Rect.unit (s := S2x2048x1024) ![0, 0, 0] S1x2048x1024.size inb_S2x2048x1024_S1x2048x1024_0_0_0) (fun _ => rfl)).squeeze S2048x1024 squeezes_S1x2048x1024_S2048x1024
abbrev lsl1 : Memref sig .tc .vmem S2048x1024 .f32 :=
  (scL.slice (Rect.unit (s := S2x2048x1024) ![1, 0, 0] S1x2048x1024.size inb_S2x2048x1024_S1x2048x1024_1_0_0) (fun _ => rfl)).squeeze S2048x1024 squeezes_S1x2048x1024_S2048x1024

/-- The two halves' rectangles. -/
abbrev hr0 : Rect S2x2048x1024 := Rect.unit (s := S2x2048x1024) ![0, 0, 0] S1x2048x1024.size inb_S2x2048x1024_S1x2048x1024_0_0_0
abbrev hr1 : Rect S2x2048x1024 := Rect.unit (s := S2x2048x1024) ![1, 0, 0] S1x2048x1024.size inb_S2x2048x1024_S1x2048x1024_1_0_0

/-- A slab of expert's weights, as the landing buffer's halves have it. -/
abbrev wread (c : Dev nD) (W : Memref sig .tc .hbm S32x2048x2048 .f32) (w : MBuf (F := F) c W) (o : Fin 3 → ℕ) (h : Has o) : Vec F S1x2048x1024 .f32 :=
  (W.access (Rect.unit (s := S32x2048x2048) o S1x2048x1024.size h)).read (Elt F) w

/-- A write, through one reshape, of what another view's same reshape reads leaves what that view reads. -/
theorem read_reshape_write {κ κ' : Kind} {sp sp' : Space} {s s' : Shape} {e : EltTy} (v : View sig κ sp s e) (u : View sig κ' sp' s e) (h : s'.numel = s.numel)
    (f : v.ty.Contents (Elt F)) (w : u.ty.Contents (Elt F)) :
    v.read (Elt F) ((v.reshape s' h).write (Elt F) f ((u.reshape s' h).read (Elt F) w) Finset.univ) = u.read (Elt F) w := by
  have back : ∀ (κ : Kind) (sp : Space) (v : View sig κ sp s e) (g : v.ty.Contents (Elt F)) (y : s.Idx),
      (v.reshape s' h).read (Elt F) g ((Shape.reshapeEquiv h).symm y) = v.read (Elt F) g y := fun κ sp v g y => by
    show v.read (Elt F) g (Shape.reshapeEquiv h ((Shape.reshapeEquiv h).symm y)) = _
    rw [Equiv.apply_symm_apply]
  funext y
  have k := congrFun (View.read_write_univ (v := v.reshape s' h) (Val := Elt F) f ((u.reshape s' h).read (Elt F) w)) ((Shape.reshapeEquiv h).symm y)
  rw [back, back] at k
  exact k

/-- What a landed slab leaves of a half of the landing buffer. -/
abbrev landed0 (c : Dev nD) (w : MBuf (F := F) c hbG) (l : MBuf (F := F) c scL) (o : Fin 3 → ℕ) (h : Has o) : MBuf (F := F) c scL :=
  lsl0.view.write (Elt F) l ((wsl hbG o h).view.read (Elt F) w) Finset.univ
abbrev landed1 (c : Dev nD) (w : MBuf (F := F) c hbU) (l : MBuf (F := F) c scL) (o : Fin 3 → ℕ) (h : Has o) : MBuf (F := F) c scL :=
  lsl1.view.write (Elt F) l ((wsl hbU o h).view.read (Elt F) w) Finset.univ
theorem landed0_read (c : Dev nD) (w : MBuf (F := F) c hbG) (l : MBuf (F := F) c scL) (o : Fin 3 → ℕ) (h : Has o) :
    scL.view.readAt (Elt F) hr0.toLoadRect (landed0 c w l o h) = wread c hbG w o h :=
  read_reshape_write (scL.view.slice hr0) (hbG.view.slice (Rect.unit (s := S32x2048x2048) o S1x2048x1024.size h)) (squeezes_S1x2048x1024_S2048x1024).numel_eq l w
theorem landed1_read (c : Dev nD) (w : MBuf (F := F) c hbU) (l : MBuf (F := F) c scL) (o : Fin 3 → ℕ) (h : Has o) :
    scL.view.readAt (Elt F) hr1.toLoadRect (landed1 c w l o h) = wread c hbU w o h :=
  read_reshape_write (scL.view.slice hr1) (hbU.view.slice (Rect.unit (s := S32x2048x2048) o S1x2048x1024.size h)) (squeezes_S1x2048x1024_S2048x1024).numel_eq l w

/-- Both halves of the rounded weights' buffer, written, hold what was written. -/
theorem halves_read (c : Dev nD) (f : MBuf (F := F) c scB) (w0 w1 : Vec F S1x2048x1024 .bf16) :
    scB.view.readAt (Elt F) hr0.toLoadRect (scB.view.writes (Elt F) f [⟨hr1, w1⟩, ⟨hr0, w0⟩]) = w0
      ∧ scB.view.readAt (Elt F) hr1.toLoadRect (scB.view.writes (Elt F) f [⟨hr1, w1⟩, ⟨hr0, w0⟩]) = w1 := by
  refine ⟨funext fun y => ?_, funext fun y => View.read_writes_cons_emb scB.view f hr1 w1 _ y⟩
  refine (View.read_writes_cons_miss_of_axis scB.view f ⟨hr1, w1⟩ _ (hr0.emb y) (0 : Fin 3) 1 1 rfl rfl rfl (.inl ?_)).trans
    (View.read_writes_cons_emb scB.view f hr0 w0 _ y)
  have h : (y (0 : Fin 3)).val < 1 := (y (0 : Fin 3)).isLt
  show 0 + 1 * (y (0 : Fin 3)).val < 1
  omega

/-- Nothing under way; -/
def Idle (c : Dev nD) (wg : MBuf (F := F) c hbG) (wu : MBuf (F := F) c hbU) : sProp 𝕄 :=
  iprop((∃ l, scL.view.loc (c : Thread nD τ) ↦[scL.view.setOn hr0.set]{fullShare} l) ∗ (∃ l, scL.view.loc (c : Thread nD τ) ↦[scL.view.setOn hr1.set]{fullShare} l)
    ∗ semVal ((c : Thread nD τ), SemLoc.dma 8) 0 ∗ semVal ((c : Thread nD τ), SemLoc.dma 9) 0 ∗ hbPt c hbG wg ∗ hbPt c hbU wu)
/-- the slabs at offsets `o` under way, each into its half. -/
def Flying (c : Dev nD) (wg : MBuf (F := F) c hbG) (wu : MBuf (F := F) c hbU) (o : Fin 3 → ℕ) (h : Has o) : sProp 𝕄 :=
  iprop((∃ l, Transfers.Flight (countersEmb (U := Pipeline.UD sig nD τ)) (c : Thread nD τ) (.dma 8) () 262144
        iprop((scL.view.loc (c : Thread nD τ) ↦[scL.view.setOn hr0.set]{fullShare} landed0 c wg l o h) ∗ (hbG.view.loc (c : Thread nD τ) ↦[(wsl hbG o h).view.set]{fullShare} wg)))
    ∗ (∃ l, Transfers.Flight (countersEmb (U := Pipeline.UD sig nD τ)) (c : Thread nD τ) (.dma 9) () 262144
        iprop((scL.view.loc (c : Thread nD τ) ↦[scL.view.setOn hr1.set]{fullShare} landed1 c wu l o h) ∗ (hbU.view.loc (c : Thread nD τ) ↦[(wsl hbU o h).view.set]{fullShare} wu)))
    ∗ (hbG.view.loc (c : Thread nD τ) ↦[Finset.univ \ (wsl hbG o h).view.set]{fullShare} wg) ∗ (hbU.view.loc (c : Thread nD τ) ↦[Finset.univ \ (wsl hbU o h).view.set]{fullShare} wu))

/-! ## The body -/

/-- The word of the blocks in use. -/
abbrev used (c : Dev nD) (N : MBuf (F := F) c tbN) : BitVec 32 :=
  (tbN.access (Rect.unit (s := S1) ![0] S1.size inb_S1_S1_0)).read (Elt F) N (Shape.Idx.first (numel1_S1.symm ▸ Nat.one_pos))

/-- The kernel at a point, at its operands. -/
abbrev body (i : grid0.Coords) (arg4 : Memref sig .tc .vmem S512x2048 .f32) (harg4 : arg4.IsWhole) (arg5 : Memref sig .tc .vmem S1x1x1024 .f32) (harg5 : arg5.IsWhole) (arg6 : Memref sig .tc .vmem S1x1x1024 .f32) (harg6 : arg6.IsWhole) (arg9 : Memref sig .tc .vmem S512x1024 .bf16) (harg9 : arg9.IsWhole) :
    Prog (TpuEff nD τ sig (Elt F) Λ₀ .tc) PUnit :=
  cc0_moe_gate_up i tbE (Memref.isWhole_whole _) tbN (Memref.isWhole_whole _) arg4 harg4 arg5 harg5 arg6 harg6 hbG (Memref.isWhole_whole _) hbU (Memref.isWhole_whole _) arg9 harg9 scL (Memref.isWhole_whole _) scB (Memref.isWhole_whole _) cc0_scratch2

section Body

variable (c : Dev nD) (i : grid0.Coords) (arg4 : Memref sig .tc .vmem S512x2048 .f32) (harg4 : arg4.IsWhole) (arg5 : Memref sig .tc .vmem S1x1x1024 .f32) (harg5 : arg5.IsWhole) (arg6 : Memref sig .tc .vmem S1x1x1024 .f32) (harg6 : arg6.IsWhole) (arg9 : Memref sig .tc .vmem S512x1024 .bf16) (harg9 : arg9.IsWhole)
  (X : MBuf (F := F) c tbE) (N : MBuf (F := F) c tbN) (x : Vec F S512x2048 .f32) (bg bu : Vec F S1x1x1024 .f32) (wg : MBuf (F := F) c hbG) (wu : MBuf (F := F) c hbU) (g : MBuf (F := F) c scB)

/-- Block `i`'s expert, and the one before its. -/
abbrev here (c : Dev nD) (i : grid0.Coords) (X : MBuf (F := F) c tbE) : BitVec 32 := wordAt c X (k0_off2 i) (k0_off2_inb i)
abbrev prev (c : Dev nD) (i : grid0.Coords) (X : MBuf (F := F) c tbE) : BitVec 32 := wordAt c X (k0_off3 i) (k0_off3_inb i)

attribute [local irreducible] next

/-- The block the loop finds, and its expert. -/
abbrev found (c : Dev nD) (i : grid0.Coords) (X : MBuf (F := F) c tbE) (N : MBuf (F := F) c tbN) : BitVec 32 :=
  next c X (BitVec.ofNat 32 (i 1).val) (used c N) (here c i X) k0_t1_loop.trips
abbrev there (c : Dev nD) (i : grid0.Coords) (X : MBuf (F := F) c tbE) (N : MBuf (F := F) c tbN) (h7 : ∀ a, (k0_off7 (found c i X N)) a + S1.size a ≤ S161.size a) : BitVec 32 :=
  wordAt c X (k0_off7 (found c i X N)) h7

/-- A block's result of its rows, the two slabs and the two bias rows. -/
abbrev outp (x : Vec F S512x2048 .f32) (w0 w1 : Vec F S1x2048x1024 .bf16) (bg bu : Vec F S1x1x1024 .f32) : Vec F S512x1024 .bf16 :=
  k0_pay1 (k0_pay7 x w0 bg) (k0_pay8 x w1 bu) k0_pay9

/-- What a block in use starts from, beside `R`, and what it leaves, the slabs at hand being `w0` and `w1`. -/
def Before (R : sProp 𝕄) : sProp 𝕄 :=
  iprop(tbPt c tbE X ∗ tbPt c tbN N ∗ owns (c : Thread nD τ) arg4 fullShare x ∗ owns (c : Thread nD τ) arg5 fullShare bg ∗ owns (c : Thread nD τ) arg6 fullShare bu
    ∗ (∃ d, owns (c : Thread nD τ) arg9 fullShare d) ∗ (∃ g, hbPt c scB g) ∗ R ∗ (∃ W, owes (c : Thread nD τ) 0 W))
def After (w0 w1 : Vec F S1x2048x1024 .bf16) (R : sProp 𝕄) : sProp 𝕄 :=
  iprop(tbPt c tbE X ∗ tbPt c tbN N ∗ owns (c : Thread nD τ) arg4 fullShare x ∗ owns (c : Thread nD τ) arg5 fullShare bg ∗ owns (c : Thread nD τ) arg6 fullShare bu
    ∗ owns (c : Thread nD τ) arg9 fullShare (outp x w0 w1 bg bu)
    ∗ (∃ g, hbPt c scB g ∗ ⌜scB.view.readAt (Elt F) hr0.toLoadRect g = w0 ∧ scB.view.readAt (Elt F) hr1.toLoadRect g = w1⌝) ∗ R ∗ (∃ W, owes (c : Thread nD τ) 0 W))

/-- The buffers as the body leaves them. -/
theorem after_of (f0 : arg4.view.ty.Contents (Elt F)) (f1 : arg5.view.ty.Contents (Elt F)) (f2 : arg6.view.ty.Contents (Elt F)) (o : arg9.view.ty.Contents (Elt F))
    (w0 w1 : Vec F S1x2048x1024 .bf16) (R : sProp 𝕄) (W : Waits sig Unit) (g : MBuf (F := F) c scB) :
    iprop(tbPt c tbE X ∗ tbPt c tbN N ∗ (arg4.view.loc (c : Thread nD τ) ↦[arg4.view.set]{fullShare} f0) ∗ (arg5.view.loc (c : Thread nD τ) ↦[arg5.view.set]{fullShare} f1)
        ∗ (arg6.view.loc (c : Thread nD τ) ↦[arg6.view.set]{fullShare} f2) ∗ (arg9.view.loc (c : Thread nD τ) ↦[arg9.view.set]{fullShare} o) ∗ hbPt c scB g ∗ R ∗ owes (c : Thread nD τ) 0 W
        ∗ ⌜arg9.view.read (Elt F) o = outp (arg4.view.read (Elt F) f0) w0 w1 (arg5.view.read (Elt F) f1) (arg6.view.read (Elt F) f2)
          ∧ scB.view.readAt (Elt F) hr0.toLoadRect g = w0 ∧ scB.view.readAt (Elt F) hr1.toLoadRect g = w1⌝)
      ⊢ After c arg4 arg5 arg6 arg9 X N (arg4.view.read (Elt F) f0) (arg5.view.read (Elt F) f1) (arg6.view.read (Elt F) f2) w0 w1 R := by
  unfold After owns
  iintro ⟨HE, HN, H0, H1, H2, HO, HG, HR, Howe, %hv⟩
  isplitl [HE]; · iexact HE
  isplitl [HN]; · iexact HN
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [HO]
  · iexists _; isplitr
    swap; · iexact HO
    ipureintro; exact hv.1
  isplitl [HG]
  · iexists g; isplitl [HG]; · iexact HG
    ipureintro; exact hv.2
  isplitl [HR]; · iexact HR
  iexists W; iexact Howe

/-- A block past the ones in use: zeros. -/
theorem run_unused (h1 : ¬ k0_cond1 i (used c N) = 1#1) (h6 : k0_cond6 i (used c N) = 1#1) (Q : PUnit → sProp 𝕄) :
    iprop(tbPt c tbN N ∗ (∃ d, owns (c : Thread nD τ) arg9 fullShare d) ∗ (iprop(tbPt c tbN N ∗ owns (c : Thread nD τ) arg9 fullShare (k0_pay2 (F := F))) -∗ Q ⟨⟩))
      ⊢ wp frame (wpE (defs₀ (F := F)) Variants.none (c : Thread nD τ) none) Set.univ (body i arg4 harg4 arg5 harg5 arg6 harg6 arg9 harg9) Q := by
  unfold owns
  iintro ⟨HN, ⟨%d, %o, -, HO⟩, Hk⟩
  simp only [body, cc0_moe_gate_up_eq_skeleton]; unfold cc0_moe_gate_up_skel
  sl_exec
  sl_step
  iapply Hk
  isplitl [HN]; · iexact HN
  iexists _; isplitr
  swap; · iexact HO
  ipureintro; exact View.read_writes_full _ _ _ _ []

/-- The word of the first block. -/
abbrev front (c : Dev nD) (X : MBuf (F := F) c tbE) : BitVec 32 := wordAt c X ![0] inb_S161_S1_0

set_option maxHeartbeats 1000000 in
set_option sl_exec.dischHeartbeats 20000 in
/-- The very first block, another expert's in use behind it. -/
theorem run_start (h1 : k0_cond1 i (used c N) = 1#1) (h2 : k0_cond2 i (here c i X) (prev c i X) = 1#1) (h3 : k0_cond3 i = 1#1) (h6 : ¬ k0_cond6 i (used c N) = 1#1)
    (he : Has (k0_off5 i (here c i X))) (h5 : ¬ k0_cond5 i (used c N) (found c i X N) = 1#1)
    (h4 : k0_cond4 (used c N) (found c i X N) = 1#1) (h7 : ∀ a, (k0_off7 (found c i X N)) a + S1.size a ≤ S161.size a) (ht : Has (k0_off8 i (there c i X N h7))) (Q : PUnit → sProp 𝕄) :
    iprop(Before c arg4 arg5 arg6 arg9 X N x bg bu (Idle c wg wu)
        ∗ (After c arg4 arg5 arg6 arg9 X N x bg bu (k0_pay3 (wread c hbG wg _ he)) (k0_pay5 (k0_pay4 (wread c hbU wu _ he))) (Flying c wg wu _ ht) -∗ Q ⟨⟩))
      ⊢ wp frame (wpE (defs₀ (F := F)) Variants.none (c : Thread nD τ) none) Set.univ (body i arg4 harg4 arg5 harg5 arg6 harg6 arg9 harg9) Q := by
  simp only [body, cc0_moe_gate_up_eq_skeleton]; unfold cc0_moe_gate_up_skel
  unfold Before Idle owns hr0 hr1
  iintro ⟨⟨HE, HN, ⟨%f0, %hf0, H0⟩, ⟨%f1, %hf1, H1⟩, ⟨%f2, %hf2, H2⟩, ⟨%d, %o, -, HO⟩, ⟨%g, HG⟩, ⟨⟨%l, HL⟩, ⟨%l', HM⟩, HS, HT, HW, HU⟩, ⟨%W, Howe⟩⟩, Hk⟩
  subst hf0 hf1 hf2
  have h0 : used c N = next c X (BitVec.ofNat 32 (i 1).val) (used c N) (here c i X) 0 := by rw [next]
  sl_exec (disch := first | (unfold k0_chk1; exact ⟨fun _ _ _ => he, fun _ _ => he⟩) | (unfold k0_chk2; exact fun _ _ _ => h7) | (unfold k0_chk3; exact fun _ _ _ => ht) | sl_exact h2 | sl_exact h3 | sl_exact h6 | sl_exact h4 | sl_exact h5)
  sl_step
  iapply Hk
  iapply (after_of c arg4 arg5 arg6 arg9 X N f0 f1 f2 _ _ _ _ _ _)
  isplitl [HE]; · iexact HE
  isplitl [HN]; · iexact HN
  isplitl [H0]; · iexact H0
  isplitl [H1]; · iexact H1
  isplitl [H2]; · iexact H2
  isplitl [HO]; · iexact HO
  isplitl [HG]; · iexact HG
  isplitl [HS HT HW HU]
  · unfold Flying
    isplitl [HS]; · iexists _; iexact HS
    isplitl [HT]; · iexists _; iexact HT
    isplitl [HW]; · iexact HW
    iexact HU
  isplitl [Howe]; · iexact Howe
  ipureintro
  have hA : run_start.sl.v74 c i X N wg h1 h2 h3 he l = wread c hbG wg _ he := by
    delta run_start.sl.v74 run_start.sl.dma3; exact landed0_read c wg l _ he
  have hB : run_start.sl.r_3 c i X N wu h1 h2 h3 he l' = k0_pay4 (wread c hbU wu _ he) := by
    delta run_start.sl.r_3 run_start.sl.v80; refine congrArg _ ?_
    delta run_start.sl.dma3_1; exact landed1_read c wu l' _ he
  have hG := halves_read (F := F) c scB.view.junk (k0_pay3 (run_start.sl.v74 c i X N wg h1 h2 h3 he l)) (k0_pay5 (run_start.sl.r_3 c i X N wu h1 h2 h3 he l'))
  have hC : run_start.sl.v20 c i X N wg wu h1 h2 h3 he l l' = k0_pay3 (wread c hbG wg _ he) := by
    delta run_start.sl.v20 run_start.sl.HG_2; exact hG.1.trans (congrArg _ hA)
  have hD : run_start.sl.v27 c i X N wg wu h1 h2 h3 he l l' = k0_pay5 (k0_pay4 (wread c hbU wu _ he)) := by
    delta run_start.sl.v27 run_start.sl.HG_2; exact hG.2.trans (congrArg _ hB)
  delta run_start.sl.HG_2
  refine ⟨?_, hG.1.trans (congrArg _ hA), hG.2.trans (congrArg _ hB)⟩
  rw [View.read_writes_full]
  delta run_start.sl.r_5 run_start.sl.r_6
  rw [hC, hD, View.readAt_full, View.readAt_full, View.readAt_full]

set_option maxHeartbeats 1000000 in
set_option sl_exec.dischHeartbeats 20000 in
/-- The very first block, no other expert's in use behind it: the next slab of the first expert's follows. -/
theorem run_start_over (h1 : k0_cond1 i (used c N) = 1#1) (h2 : k0_cond2 i (here c i X) (prev c i X) = 1#1) (h3 : k0_cond3 i = 1#1) (h6 : ¬ k0_cond6 i (used c N) = 1#1)
    (he : Has (k0_off5 i (here c i X))) (h5 : k0_cond5 i (used c N) (found c i X N) = 1#1)
    (h4 : ¬ k0_cond4 (used c N) (found c i X N) = 1#1) (ht : Has (k0_off9 i (front c X))) (Q : PUnit → sProp 𝕄) :
    iprop(Before c arg4 arg5 arg6 arg9 X N x bg bu (Idle c wg wu)
        ∗ (After c arg4 arg5 arg6 arg9 X N x bg bu (k0_pay3 (wread c hbG wg _ he)) (k0_pay5 (k0_pay4 (wread c hbU wu _ he))) (Flying c wg wu _ ht) -∗ Q ⟨⟩))
      ⊢ wp frame (wpE (defs₀ (F := F)) Variants.none (c : Thread nD τ) none) Set.univ (body i arg4 harg4 arg5 harg5 arg6 harg6 arg9 harg9) Q := by
  simp only [body, cc0_moe_gate_up_eq_skeleton]; unfold cc0_moe_gate_up_skel
  unfold Before Idle owns hr0 hr1
  iintro ⟨⟨HE, HN, ⟨%f0, %hf0, H0⟩, ⟨%f1, %hf1, H1⟩, ⟨%f2, %hf2, H2⟩, ⟨%d, %o, -, HO⟩, ⟨%g, HG⟩, ⟨⟨%l, HL⟩, ⟨%l', HM⟩, HS, HT, HW, HU⟩, ⟨%W, Howe⟩⟩, Hk⟩
  subst hf0 hf1 hf2
  have h0 : used c N = next c X (BitVec.ofNat 32 (i 1).val) (used c N) (here c i X) 0 := by rw [next]
  sl_exec (disch := first | (unfold k0_chk1; exact ⟨fun _ _ _ => he, fun _ _ => he⟩) | (unfold k0_chk2; exact fun _ _ h => absurd h h4) | (unfold k0_chk4; exact fun _ _ _ => ht) | sl_exact h2 | sl_exact h3 | sl_exact h6 | sl_exact h4 | sl_exact h5)
  sl_step
  iapply Hk
  iapply (after_of c arg4 arg5 arg6 arg9 X N f0 f1 f2 _ _ _ _ _ _)
  isplitl [HE]; · iexact HE
  isplitl [HN]; · iexact HN
  isplitl [H0]; · iexact H0
  isplitl [H1]; · iexact H1
  isplitl [H2]; · iexact H2
  isplitl [HO]; · iexact HO
  isplitl [HG]; · iexact HG
  isplitl [HS HT HW HU]
  · unfold Flying
    isplitl [HS]; · iexists _; iexact HS
    isplitl [HT]; · iexists _; iexact HT
    isplitl [HW]; · iexact HW
    iexact HU
  isplitl [Howe]; · iexact Howe
  ipureintro
  have hA : run_start_over.sl.v74 c i X N wg h1 h2 h3 he l = wread c hbG wg _ he := by
    delta run_start_over.sl.v74 run_start_over.sl.dma3; exact landed0_read c wg l _ he
  have hB : run_start_over.sl.r_3 c i X N wu h1 h2 h3 he l' = k0_pay4 (wread c hbU wu _ he) := by
    delta run_start_over.sl.r_3 run_start_over.sl.v80; refine congrArg _ ?_
    delta run_start_over.sl.dma3_1; exact landed1_read c wu l' _ he
  have hG := halves_read (F := F) c scB.view.junk (k0_pay3 (run_start_over.sl.v74 c i X N wg h1 h2 h3 he l)) (k0_pay5 (run_start_over.sl.r_3 c i X N wu h1 h2 h3 he l'))
  have hC : run_start_over.sl.v20 c i X N wg wu h1 h2 h3 he l l' = k0_pay3 (wread c hbG wg _ he) := by
    delta run_start_over.sl.v20 run_start_over.sl.HG_2; exact hG.1.trans (congrArg _ hA)
  have hD : run_start_over.sl.v27 c i X N wg wu h1 h2 h3 he l l' = k0_pay5 (k0_pay4 (wread c hbU wu _ he)) := by
    delta run_start_over.sl.v27 run_start_over.sl.HG_2; exact hG.2.trans (congrArg _ hB)
  delta run_start_over.sl.HG_2
  refine ⟨?_, hG.1.trans (congrArg _ hA), hG.2.trans (congrArg _ hB)⟩
  rw [View.read_writes_full]
  delta run_start_over.sl.r_5 run_start_over.sl.r_6
  rw [hC, hD, View.readAt_full, View.readAt_full, View.readAt_full]

set_option maxHeartbeats 1000000 in
set_option sl_exec.dischHeartbeats 20000 in
/-- The first block of a later expert, another expert's in use behind it. -/
theorem run_next (h1 : k0_cond1 i (used c N) = 1#1) (h2 : k0_cond2 i (here c i X) (prev c i X) = 1#1) (h3 : ¬ k0_cond3 i = 1#1) (h6 : ¬ k0_cond6 i (used c N) = 1#1)
    (he : Has (k0_off5 i (here c i X))) (h5 : ¬ k0_cond5 i (used c N) (found c i X N) = 1#1)
    (h4 : k0_cond4 (used c N) (found c i X N) = 1#1) (h7 : ∀ a, (k0_off7 (found c i X N)) a + S1.size a ≤ S161.size a) (ht : Has (k0_off8 i (there c i X N h7))) (Q : PUnit → sProp 𝕄) :
    iprop(Before c arg4 arg5 arg6 arg9 X N x bg bu (Flying c wg wu _ he)
        ∗ (After c arg4 arg5 arg6 arg9 X N x bg bu (k0_pay3 (wread c hbG wg _ he)) (k0_pay5 (k0_pay4 (wread c hbU wu _ he))) (Flying c wg wu _ ht) -∗ Q ⟨⟩))
      ⊢ wp frame (wpE (defs₀ (F := F)) Variants.none (c : Thread nD τ) none) Set.univ (body i arg4 harg4 arg5 harg5 arg6 harg6 arg9 harg9) Q := by
  simp only [body, cc0_moe_gate_up_eq_skeleton]; unfold cc0_moe_gate_up_skel
  unfold Before Flying owns hr0 hr1
  iintro ⟨⟨HE, HN, ⟨%f0, %hf0, H0⟩, ⟨%f1, %hf1, H1⟩, ⟨%f2, %hf2, H2⟩, ⟨%d, %o, -, HO⟩, ⟨%g, HG⟩, ⟨⟨%l, HS⟩, ⟨%l', HT⟩, HW, HU⟩, ⟨%W, Howe⟩⟩, Hk⟩
  subst hf0 hf1 hf2
  have h0 : used c N = next c X (BitVec.ofNat 32 (i 1).val) (used c N) (here c i X) 0 := by rw [next]
  sl_exec (disch := first | (unfold k0_chk1; exact ⟨fun _ _ _ => he, fun _ _ => he⟩) | (unfold k0_chk2; exact fun _ _ _ => h7) | (unfold k0_chk3; exact fun _ _ _ => ht) | sl_exact h2 | sl_exact h3 | sl_exact h6 | sl_exact h4 | sl_exact h5)
  sl_step
  iapply Hk
  iapply (after_of c arg4 arg5 arg6 arg9 X N f0 f1 f2 _ _ _ _ _ _)
  isplitl [HE]; · iexact HE
  isplitl [HN]; · iexact HN
  isplitl [H0]; · iexact H0
  isplitl [H1]; · iexact H1
  isplitl [H2]; · iexact H2
  isplitl [HO]; · iexact HO
  isplitl [HG]; · iexact HG
  isplitl [HS HT HW HU]
  · isplitl [HS]; · iexists _; iexact HS
    isplitl [HT]; · iexists _; iexact HT
    isplitl [HW]; · iexact HW
    iexact HU
  isplitl [Howe]; · iexact Howe
  ipureintro
  have hA := landed0_read c wg l _ he
  have hB : run_next.sl.r_3 c i X wu he l' = k0_pay4 (wread c hbU wu _ he) := by
    delta run_next.sl.r_3; exact congrArg _ (landed1_read c wu l' _ he)
  have hG := halves_read (F := F) c scB.view.junk (k0_pay3 (scL.view.readAt (Elt F) hr0.toLoadRect (landed0 c wg l _ he))) (k0_pay5 (run_next.sl.r_3 c i X wu he l'))
  have hC : run_next.sl.v20 c i X wg wu he l l' = k0_pay3 (wread c hbG wg _ he) := by
    delta run_next.sl.v20 run_next.sl.HG_2; exact hG.1.trans (congrArg _ hA)
  have hD : run_next.sl.v27 c i X wg wu he l l' = k0_pay5 (k0_pay4 (wread c hbU wu _ he)) := by
    delta run_next.sl.v27 run_next.sl.HG_2; exact hG.2.trans (congrArg _ hB)
  delta run_next.sl.HG_2
  refine ⟨?_, hG.1.trans (congrArg _ hA), hG.2.trans (congrArg _ hB)⟩
  rw [View.read_writes_full]
  delta run_next.sl.r_5 run_next.sl.r_6
  rw [hC, hD, View.readAt_full, View.readAt_full, View.readAt_full]

set_option maxHeartbeats 1000000 in
set_option sl_exec.dischHeartbeats 20000 in
/-- The first block of the last expert in use, another slab to come. -/
theorem run_next_over (h1 : k0_cond1 i (used c N) = 1#1) (h2 : k0_cond2 i (here c i X) (prev c i X) = 1#1) (h3 : ¬ k0_cond3 i = 1#1) (h6 : ¬ k0_cond6 i (used c N) = 1#1)
    (he : Has (k0_off5 i (here c i X))) (h5 : k0_cond5 i (used c N) (found c i X N) = 1#1)
    (h4 : ¬ k0_cond4 (used c N) (found c i X N) = 1#1) (ht : Has (k0_off9 i (front c X))) (Q : PUnit → sProp 𝕄) :
    iprop(Before c arg4 arg5 arg6 arg9 X N x bg bu (Flying c wg wu _ he)
        ∗ (After c arg4 arg5 arg6 arg9 X N x bg bu (k0_pay3 (wread c hbG wg _ he)) (k0_pay5 (k0_pay4 (wread c hbU wu _ he))) (Flying c wg wu _ ht) -∗ Q ⟨⟩))
      ⊢ wp frame (wpE (defs₀ (F := F)) Variants.none (c : Thread nD τ) none) Set.univ (body i arg4 harg4 arg5 harg5 arg6 harg6 arg9 harg9) Q := by
  simp only [body, cc0_moe_gate_up_eq_skeleton]; unfold cc0_moe_gate_up_skel
  unfold Before Flying owns hr0 hr1
  iintro ⟨⟨HE, HN, ⟨%f0, %hf0, H0⟩, ⟨%f1, %hf1, H1⟩, ⟨%f2, %hf2, H2⟩, ⟨%d, %o, -, HO⟩, ⟨%g, HG⟩, ⟨⟨%l, HS⟩, ⟨%l', HT⟩, HW, HU⟩, ⟨%W, Howe⟩⟩, Hk⟩
  subst hf0 hf1 hf2
  have h0 : used c N = next c X (BitVec.ofNat 32 (i 1).val) (used c N) (here c i X) 0 := by rw [next]
  sl_exec (disch := first | (unfold k0_chk1; exact ⟨fun _ _ _ => he, fun _ _ => he⟩) | (unfold k0_chk2; exact fun _ _ h => absurd h h4) | (unfold k0_chk4; exact fun _ _ _ => ht) | sl_exact h2 | sl_exact h3 | sl_exact h6 | sl_exact h4 | sl_exact h5)
  sl_step
  iapply Hk
  iapply (after_of c arg4 arg5 arg6 arg9 X N f0 f1 f2 _ _ _ _ _ _)
  isplitl [HE]; · iexact HE
  isplitl [HN]; · iexact HN
  isplitl [H0]; · iexact H0
  isplitl [H1]; · iexact H1
  isplitl [H2]; · iexact H2
  isplitl [HO]; · iexact HO
  isplitl [HG]; · iexact HG
  isplitl [HS HT HW HU]
  · isplitl [HS]; · iexists _; iexact HS
    isplitl [HT]; · iexists _; iexact HT
    isplitl [HW]; · iexact HW
    iexact HU
  isplitl [Howe]; · iexact Howe
  ipureintro
  have hA := landed0_read c wg l _ he
  have hB : run_next_over.sl.r_3 c i X wu he l' = k0_pay4 (wread c hbU wu _ he) := by
    delta run_next_over.sl.r_3; exact congrArg _ (landed1_read c wu l' _ he)
  have hG := halves_read (F := F) c scB.view.junk (k0_pay3 (scL.view.readAt (Elt F) hr0.toLoadRect (landed0 c wg l _ he))) (k0_pay5 (run_next_over.sl.r_3 c i X wu he l'))
  have hC : run_next_over.sl.v20 c i X wg wu he l l' = k0_pay3 (wread c hbG wg _ he) := by
    delta run_next_over.sl.v20 run_next_over.sl.HG_2; exact hG.1.trans (congrArg _ hA)
  have hD : run_next_over.sl.v27 c i X wg wu he l l' = k0_pay5 (k0_pay4 (wread c hbU wu _ he)) := by
    delta run_next_over.sl.v27 run_next_over.sl.HG_2; exact hG.2.trans (congrArg _ hB)
  delta run_next_over.sl.HG_2
  refine ⟨?_, hG.1.trans (congrArg _ hA), hG.2.trans (congrArg _ hB)⟩
  rw [View.read_writes_full]
  delta run_next_over.sl.r_5 run_next_over.sl.r_6
  rw [hC, hD, View.readAt_full, View.readAt_full, View.readAt_full]

set_option maxHeartbeats 1000000 in
set_option sl_exec.dischHeartbeats 20000 in
/-- The first block of the last expert in use, at the last slab. -/
theorem run_next_last (h1 : k0_cond1 i (used c N) = 1#1) (h2 : k0_cond2 i (here c i X) (prev c i X) = 1#1) (h3 : ¬ k0_cond3 i = 1#1) (h6 : ¬ k0_cond6 i (used c N) = 1#1)
    (he : Has (k0_off5 i (here c i X))) (h5 : ¬ k0_cond5 i (used c N) (found c i X N) = 1#1)
    (h4 : ¬ k0_cond4 (used c N) (found c i X N) = 1#1) (Q : PUnit → sProp 𝕄) :
    iprop(Before c arg4 arg5 arg6 arg9 X N x bg bu (Flying c wg wu _ he)
        ∗ (After c arg4 arg5 arg6 arg9 X N x bg bu (k0_pay3 (wread c hbG wg _ he)) (k0_pay5 (k0_pay4 (wread c hbU wu _ he))) (Idle c wg wu) -∗ Q ⟨⟩))
      ⊢ wp frame (wpE (defs₀ (F := F)) Variants.none (c : Thread nD τ) none) Set.univ (body i arg4 harg4 arg5 harg5 arg6 harg6 arg9 harg9) Q := by
  simp only [body, cc0_moe_gate_up_eq_skeleton]; unfold cc0_moe_gate_up_skel
  unfold Before Flying Idle owns hr0 hr1
  iintro ⟨⟨HE, HN, ⟨%f0, %hf0, H0⟩, ⟨%f1, %hf1, H1⟩, ⟨%f2, %hf2, H2⟩, ⟨%d, %o, -, HO⟩, ⟨%g, HG⟩, ⟨⟨%l, HS⟩, ⟨%l', HT⟩, HW, HU⟩, ⟨%W, Howe⟩⟩, Hk⟩
  subst hf0 hf1 hf2
  have h0 : used c N = next c X (BitVec.ofNat 32 (i 1).val) (used c N) (here c i X) 0 := by rw [next]
  sl_exec (disch := first | (unfold k0_chk1; exact ⟨fun _ _ _ => he, fun _ _ => he⟩) | (unfold k0_chk2; exact fun _ _ h => absurd h h4) | sl_exact h2 | sl_exact h3 | sl_exact h6 | sl_exact h4 | sl_exact h5)
  sl_step
  iapply Hk
  iapply (after_of c arg4 arg5 arg6 arg9 X N f0 f1 f2 _ _ _ _ _ _)
  isplitl [HE]; · iexact HE
  isplitl [HN]; · iexact HN
  isplitl [H0]; · iexact H0
  isplitl [H1]; · iexact H1
  isplitl [H2]; · iexact H2
  isplitl [HO]; · iexact HO
  isplitl [HG]; · iexact HG
  isplitl [HS_dst HT_dst HS HT HW HU]
  · isplitl [HS_dst]; · iexists _; iexact HS_dst
    isplitl [HT_dst]; · iexists _; iexact HT_dst
    isplitl [HS]; · iexact HS
    isplitl [HT]; · iexact HT
    isplitl [HW]; · iexact HW
    iexact HU
  isplitl [Howe]; · iexact Howe
  ipureintro
  have hA := landed0_read c wg l _ he
  have hB : run_next_last.sl.r_3 c i X wu he l' = k0_pay4 (wread c hbU wu _ he) := by
    delta run_next_last.sl.r_3; exact congrArg _ (landed1_read c wu l' _ he)
  have hG := halves_read (F := F) c scB.view.junk (k0_pay3 (scL.view.readAt (Elt F) hr0.toLoadRect (landed0 c wg l _ he))) (k0_pay5 (run_next_last.sl.r_3 c i X wu he l'))
  have hC : run_next_last.sl.v20 c i X wg wu he l l' = k0_pay3 (wread c hbG wg _ he) := by
    delta run_next_last.sl.v20 run_next_last.sl.HG_2; exact hG.1.trans (congrArg _ hA)
  have hD : run_next_last.sl.v27 c i X wg wu he l l' = k0_pay5 (k0_pay4 (wread c hbU wu _ he)) := by
    delta run_next_last.sl.v27 run_next_last.sl.HG_2; exact hG.2.trans (congrArg _ hB)
  delta run_next_last.sl.HG_2
  refine ⟨?_, hG.1.trans (congrArg _ hA), hG.2.trans (congrArg _ hB)⟩
  rw [View.read_writes_full]
  delta run_next_last.sl.r_4 run_next_last.sl.r_5
  rw [hC, hD, View.readAt_full, View.readAt_full, View.readAt_full]

/-- A block of the expert before's, its slabs at hand. -/
theorem run_same (h1 : k0_cond1 i (used c N) = 1#1) (h2 : ¬ k0_cond2 i (here c i X) (prev c i X) = 1#1) (h6 : ¬ k0_cond6 i (used c N) = 1#1)
    (w0 w1 : Vec F S1x2048x1024 .bf16) (h0 : scB.view.readAt (Elt F) hr0.toLoadRect g = w0) (h1' : scB.view.readAt (Elt F) hr1.toLoadRect g = w1) (R : sProp 𝕄) (W : Waits sig Unit) (Q : PUnit → sProp 𝕄) :
    iprop(tbPt c tbE X ∗ tbPt c tbN N ∗ owns (c : Thread nD τ) arg4 fullShare x ∗ owns (c : Thread nD τ) arg5 fullShare bg ∗ owns (c : Thread nD τ) arg6 fullShare bu
        ∗ (∃ d, owns (c : Thread nD τ) arg9 fullShare d) ∗ hbPt c scB g ∗ R ∗ owes (c : Thread nD τ) 0 W
        ∗ (After c arg4 arg5 arg6 arg9 X N x bg bu w0 w1 R -∗ Q ⟨⟩))
      ⊢ wp frame (wpE (defs₀ (F := F)) Variants.none (c : Thread nD τ) none) Set.univ (body i arg4 harg4 arg5 harg5 arg6 harg6 arg9 harg9) Q := by
  simp only [body, cc0_moe_gate_up_eq_skeleton]; unfold cc0_moe_gate_up_skel
  unfold owns
  iintro ⟨HE, HN, ⟨%f0, %hf0, H0⟩, ⟨%f1, %hf1, H1⟩, ⟨%f2, %hf2, H2⟩, ⟨%d, %o, -, HO⟩, HG, HR, Howe, Hk⟩
  subst hf0 hf1 hf2
  sl_exec (disch := first | (unfold k0_chk1; exact ⟨fun _ h => absurd h h2, fun _ h => absurd h h2⟩) | sl_exact h2 | sl_exact h6)
  sl_step
  iapply Hk
  iapply (after_of c arg4 arg5 arg6 arg9 X N f0 f1 f2 _ _ _ R W g)
  isplitl [HE]; · iexact HE
  isplitl [HN]; · iexact HN
  isplitl [H0]; · iexact H0
  isplitl [H1]; · iexact H1
  isplitl [H2]; · iexact H2
  isplitl [HO]; · iexact HO
  isplitl [HG]; · iexact HG
  isplitl [HR]; · iexact HR
  isplitl [Howe]; · iexact Howe
  ipureintro
  refine ⟨?_, h0, h1'⟩
  rw [View.read_writes_full]
  delta run_same.sl.r_3 run_same.sl.r_4
  rw [View.readAt_full, View.readAt_full, View.readAt_full]

end Body

end Cert.GateIdeal.Hand

end
-- ==== Proof.GateIdealWords.lean ====
/-
  The gate and up products' words: what the body's conditions and offsets say of a point, and the block the loop finds — the
  lowest one in use behind the point whose expert is another.
-/
module

public import proofs.«01_k».proof.Proof.GateIdealRun
public import proofs.«01_k».proof.Proof.DownIdealWords

@[expose] public section

noncomputable section

namespace Cert.GateIdeal.Hand

open Cert.GateIdeal Cert.GateIdeal.Gen
open Cert.DownIdeal.Hand (flag flag_true flag_false flag_or flag_and slt_iff sgt_iff sge_iff eq_iff ne_iff toInt_small U U_mono first_iff off3_at off7_at back_at)
open Idealize.ShloMosaic Idealize.ShloMosaic.TcCoe

variable {F : FTy → Type} [FloatOps F]

theorem pt_lt (i : grid0.Coords) : (i 1).val < 161 := (i 1).isLt

theorem cond1_iff (i : grid0.Coords) (n : BitVec 32) : k0_cond1 i n = 1#1 ↔ U n (i 1).val := by
  unfold k0_cond1 U; simp only [flag]; rw [slt_iff, toInt_small (pt_lt i)]
theorem cond6_iff (i : grid0.Coords) (n : BitVec 32) : k0_cond6 i n = 1#1 ↔ ¬ U n (i 1).val := by
  unfold k0_cond6 U; simp only [flag]; rw [sge_iff, toInt_small (pt_lt i)]; omega
theorem cond2_iff (i : grid0.Coords) (a b : BitVec 32) : k0_cond2 i a b = 1#1 ↔ (i 1).val = 0 ∨ a ≠ b := by
  unfold k0_cond2; simp only [flag]; rw [flag_or, eq_iff, ne_iff, first_iff (pt_lt i)]
theorem slab_lt (i : grid0.Coords) : (i 0).val < 2 := (i 0).isLt
theorem cond3_iff (i : grid0.Coords) : k0_cond3 i = 1#1 ↔ (i 1).val = 0 ∧ (i 0).val = 0 := by
  unfold k0_cond3; simp only [flag]
  rw [flag_and, eq_iff, eq_iff, first_iff (pt_lt i), first_iff (by have := slab_lt i; omega)]
theorem cond4_iff (n v : BitVec 32) : k0_cond4 n v = 1#1 ↔ v.toInt < n.toInt := by
  unfold k0_cond4; simp only [flag]; rw [slt_iff]
theorem slab_next : ∀ f : Fin 2, Scalar.cmpi .slt (Scalar.addi (BitVec.ofNat 32 f.val) 1#32) 2#32 = 1#1 ↔ f.val = 0 := by decide
theorem cond5_iff (i : grid0.Coords) (n v : BitVec 32) : k0_cond5 i n v = 1#1 ↔ n.toInt ≤ v.toInt ∧ (i 0).val = 0 := by
  unfold k0_cond5; simp only [flag]
  rw [flag_and, sge_iff, slab_next ⟨(i 0).val, slab_lt i⟩]

/-- The offsets of an expert's slab `f`. -/
abbrev wo (f : ℕ) (e : BitVec 32) : Fin 3 → ℕ := ![e.toNat, 0, f * 1024]
theorem slab_at : ∀ f : Fin 2, (Scalar.muli (BitVec.ofNat 32 f.val) 1024#32).toNat = f.val * 1024 := by decide
theorem slab_after : ∀ f : Fin 2, (Scalar.muli (Scalar.addi (BitVec.ofNat 32 f.val) 1#32) 1024#32).toNat = (f.val + 1) * 1024 := by decide
theorem off5_eq (i : grid0.Coords) (e : BitVec 32) : k0_off5 i e = wo (i 0).val e := by
  unfold k0_off5; dsimp only; rw [slab_at ⟨(i 0).val, slab_lt i⟩]
theorem off8_eq (i : grid0.Coords) (e : BitVec 32) : k0_off8 i e = wo (i 0).val e := by
  unfold k0_off8; dsimp only; rw [slab_at ⟨(i 0).val, slab_lt i⟩]
theorem off9_eq (i : grid0.Coords) (e : BitVec 32) : k0_off9 i e = wo ((i 0).val + 1) e := by
  unfold k0_off9; dsimp only; rw [slab_after ⟨(i 0).val, slab_lt i⟩]
theorem off2_eq (i : grid0.Coords) : k0_off2 i = ![(i 1).val] := by
  unfold k0_off2 Scalar.indexCast; dsimp only; rw [WordCmp.toNat_ofNat_of_lt (by have := pt_lt i; omega)]
theorem off3_eq (i : grid0.Coords) : k0_off3 i = ![(i 1).val - 1] := by
  unfold k0_off3 Scalar.indexCast; dsimp only; rw [off3_at ⟨(i 1).val, pt_lt i⟩]
theorem off7_eq (j : ℕ) (h : j < 161) : k0_off7 (BitVec.ofNat 32 j) = ![j] := by
  unfold k0_off7 Scalar.indexCast; dsimp only; rw [off7_at ⟨j, h⟩]
theorem trips_eq : k0_t1_loop.trips = 161 := by decide
theorem off6_eq (k : Fin k0_t1_loop.trips) : k0_off6 k = ![160 - k.val] := by
  have hk : k.val < 161 := trips_eq ▸ k.isLt
  unfold k0_off6 Scalar.indexCast; dsimp only
  rw [back_at ⟨k.val, hk⟩, WordCmp.toNat_ofNat_of_lt (by omega)]

/-- Block `j`'s expert. -/
def bel (c : Dev nD) (X : MBuf (F := F) c tbE) (j : ℕ) : BitVec 32 :=
  if h : ∀ a, (![j] : Fin 1 → ℕ) a + S1.size a ≤ S161.size a then wordAt c X ![j] h else 0#32

theorem wordAt_eq (c : Dev nD) (X : MBuf (F := F) c tbE) (o : Fin 1 → ℕ) (h) (j : ℕ) (e : o = ![j]) : wordAt c X o h = bel c X j := by
  subst e; unfold bel; rw [dif_pos h]

theorem here_eq (c : Dev nD) (i : grid0.Coords) (X : MBuf (F := F) c tbE) : here c i X = bel c X (i 1).val := wordAt_eq c X _ _ _ (off2_eq i)
theorem front_eq (c : Dev nD) (X : MBuf (F := F) c tbE) : front c X = bel c X 0 := wordAt_eq c X _ _ _ rfl
theorem prev_eq (c : Dev nD) (i : grid0.Coords) (X : MBuf (F := F) c tbE) : prev c i X = bel c X ((i 1).val - 1) := wordAt_eq c X _ _ _ (off3_eq i)

/-- Block `j` is behind `i`, in use and another expert's. -/
def Other (c : Dev nD) (X : MBuf (F := F) c tbE) (n e : BitVec 32) (i j : ℕ) : Prop := i < j ∧ U n j ∧ bel c X j ≠ e

open scoped Classical in
theorem next_succ (c : Dev nD) (X : MBuf (F := F) c tbE) (i : ℕ) (hi : i < 161) (n e : BitVec 32) (k : ℕ) (hk : k < 161) :
    next c X (BitVec.ofNat 32 i) n e (k + 1) = if Other c X n e i (160 - k) then BitVec.ofNat 32 (160 - k) else next c X (BitVec.ofNat 32 i) n e k := by
  have hk' : k < k0_t1_loop.trips := by rw [trips_eq]; exact hk
  rw [next, dif_pos hk', wordAt_eq c X _ _ (160 - k) (off6_eq ⟨k, hk'⟩), trip, back_at ⟨k, hk⟩]
  unfold Scalar.select
  refine if_congr ?_ rfl rfl
  show Scalar.andi (Scalar.andi _ _) _ = 1#1 ↔ _
  rw [flag_and, flag_and, sgt_iff, slt_iff, ne_iff, toInt_small hi, toInt_small (show 160 - k < 161 by omega)]
  unfold Other U
  constructor
  · rintro ⟨⟨h1, h2⟩, h3⟩; exact ⟨by omega, h2, h3⟩
  · rintro ⟨h1, h2, h3⟩; exact ⟨⟨by omega, h2⟩, h3⟩

/-- The loop finds the lowest such block, -/
theorem next_spec (c : Dev nD) (X : MBuf (F := F) c tbE) (i : ℕ) (hi : i < 161) (n e : BitVec 32) (k : ℕ) (hk : k ≤ 161) :
    (next c X (BitVec.ofNat 32 i) n e k = n ∧ ∀ j, 161 - k ≤ j → j < 161 → ¬ Other c X n e i j)
      ∨ ∃ j, 161 - k ≤ j ∧ j < 161 ∧ Other c X n e i j ∧ next c X (BitVec.ofNat 32 i) n e k = BitVec.ofNat 32 j ∧ ∀ j', 161 - k ≤ j' → j' < j → ¬ Other c X n e i j' := by
  induction k with
  | zero => exact .inl ⟨by rw [next], fun j h h' => by omega⟩
  | succ k ih =>
    rw [next_succ c X i hi n e k (by omega)]
    by_cases ho : Other c X n e i (160 - k)
    · rw [if_pos ho]
      exact .inr ⟨160 - k, by omega, by omega, ho, rfl, fun j' h h' => by omega⟩
    · rw [if_neg ho]
      rcases ih (by omega) with ⟨h1, h2⟩ | ⟨j, h1, h2, h3, h4, h5⟩
      · refine .inl ⟨h1, fun j h h' => ?_⟩
        by_cases e : j = 160 - k
        · rw [e]; exact ho
        · exact h2 j (by omega) h'
      · refine .inr ⟨j, by omega, h2, h3, h4, fun j' h h' => ?_⟩
        by_cases e : j' = 160 - k
        · rw [e]; exact ho
        · exact h5 j' (by omega) h'

/-- or none. -/
theorem found_spec (c : Dev nD) (i : grid0.Coords) (X : MBuf (F := F) c tbE) (N : MBuf (F := F) c tbN) :
    (found c i X N = used c N ∧ ∀ j, (i 1).val < j → j < 161 → U (used c N) j → bel c X j = bel c X (i 1).val)
      ∨ ∃ j, (i 1).val < j ∧ j < 161 ∧ U (used c N) j ∧ bel c X j ≠ bel c X (i 1).val ∧ found c i X N = BitVec.ofNat 32 j
          ∧ ∀ j', (i 1).val < j' → j' < j → bel c X j' = bel c X (i 1).val := by
  have h := next_spec c X (i 1).val (pt_lt i) (used c N) (here c i X) 161 (le_refl _)
  rw [here_eq] at h
  have hf : found c i X N = next c X (BitVec.ofNat 32 (i 1).val) (used c N) (bel c X (i 1).val) 161 := by
    unfold found; rw [here_eq, trips_eq]
  rw [hf]
  rcases h with ⟨h1, h2⟩ | ⟨j, h1, h2, ⟨h3, h4, h5⟩, h6, h7⟩
  · refine .inl ⟨h1, fun j hj hj' hu => ?_⟩
    by_contra hne
    exact h2 j (by omega) hj' ⟨hj, hu, hne⟩
  · refine .inr ⟨j, h3, h2, h4, h5, h6, fun j' hj hj' => ?_⟩
    by_contra hne
    exact h7 j' (by omega) hj' ⟨hj, U_mono h4 hj'.le, hne⟩

end Cert.GateIdeal.Hand

end
-- ==== Proof.GateIdealStep.lean ====
/-
  The gate and up products' invariant between points — which expert's slabs are at hand and which are under way — and the
  body's step from one point to the next.
-/
module

public import proofs.«01_k».proof.Proof.GateIdealWords

@[expose] public section

noncomputable section

namespace Cert.GateIdeal.Hand

open Cert.GateIdeal Cert.GateIdeal.Gen
open Cert.DownIdeal.Hand (toInt_small U U_mono off7_at)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section

/-- The offsets of the slab of point `p`'s block, the points running over a slab's blocks and then over the slabs. -/
abbrev off (c : Dev nD) (X : MBuf (F := F) c tbE) (p : ℕ) : Fin 3 → ℕ := wo (p / 161 % 2) (bel c X (p % 161))

variable (c : Dev nD) (X : MBuf (F := F) c tbE) (N : MBuf (F := F) c tbN) (wg : MBuf (F := F) c hbG) (wu : MBuf (F := F) c hbU) (hX : ∀ p, Has (off c X p))

/-- The slabs of point `p`'s block, rounded. -/
def slab0 (p : ℕ) : Vec F S1x2048x1024 .bf16 := k0_pay3 (wread c hbG wg (off c X p) (hX p))
def slab1 (p : ℕ) : Vec F S1x2048x1024 .bf16 := k0_pay5 (k0_pay4 (wread c hbU wu (off c X p) (hX p)))

/-- Point `p` needs slabs that the point before it did not. -/
def First (p : ℕ) : Prop := U (used c N) (p % 161) ∧ (p % 161 = 0 ∨ bel c X (p % 161) ≠ bel c X (p % 161 - 1))

/-- Before point `p` the slabs at hand are the last block's, if it was in use; -/
def Hand (p : ℕ) : sProp 𝕄 :=
  iprop(∃ g, hbPt c scB g ∗ ⌜p % 161 ≠ 0 → U (used c N) (p % 161 - 1) → scB.view.readAt (Elt F) hr0.toLoadRect g = slab0 c X wg hX (p - 1) ∧ scB.view.readAt (Elt F) hr1.toLoadRect g = slab1 c X wu hX (p - 1)⌝)

/-- nothing is under way and no other slabs are needed from `p` on, or the next ones needed are under way. -/
def Way (p : ℕ) : sProp 𝕄 :=
  iprop((Idle c wg wu ∗ ⌜p = 0 ∨ ∀ q, p ≤ q → q < 322 → ¬ First c X N q⌝)
    ∨ (∃ q, Flying c wg wu (off c X q) (hX q) ∗ ⌜1 ≤ p ∧ p ≤ q ∧ q < 322 ∧ First c X N q ∧ ∀ k, p ≤ k → k < q → ¬ First c X N k⌝))

/-- The invariant before point `p`. -/
def Inv (p : ℕ) : sProp 𝕄 := iprop(tbPt c tbE X ∗ tbPt c tbN N ∗ Hand c X N wg wu hX p ∗ Way c X N wg wu hX p)

open scoped Classical in
/-- What the body leaves at point `p` of a block of rows and the bias rows. -/
def outv (p : ℕ) (x : Vec F S512x2048 .f32) (bg bu : Vec F S1x1x1024 .f32) : Vec F S512x1024 .bf16 :=
  if U (used c N) (p % 161) then outp x (slab0 c X wg hX p) (slab1 c X wu hX p) bg bu else k0_pay2

theorem Flying_congr {o o' : Fin 3 → ℕ} (h : Has o) (h' : Has o') (e : o = o') : (Flying c wg wu o h : sProp 𝕄) = Flying c wg wu o' h' := by subst e; rfl
theorem wread_congr (W : Memref sig .tc .hbm S32x2048x2048 .f32) (w : MBuf (F := F) c W) {o o' : Fin 3 → ℕ} (h : Has o) (h' : Has o') (e : o = o') :
    wread c W w o h = wread c W w o' h' := by subst e; rfl

/-- What is under way after a point that needs slabs of its own, -/
theorem after_none (p : ℕ) (h : ∀ q, p < q → q < 322 → ¬ First c X N q) : Idle c wg wu ⊢ (Way c X N wg wu hX (p + 1) : sProp 𝕄) := by
  unfold Way
  iintro H
  ileft
  isplitl [H]; · iexact H
  ipureintro
  exact .inr fun q hq hq' => h q (by omega) hq'
theorem after_some (p q : ℕ) (h1 : p < q) (h2 : q < 322) (h3 : First c X N q) (h4 : ∀ k, p < k → k < q → ¬ First c X N k) :
    Flying c wg wu (off c X q) (hX q) ⊢ (Way c X N wg wu hX (p + 1) : sProp 𝕄) := by
  unfold Way
  iintro H
  iright
  iexists q
  isplitl [H]; · iexact H
  ipureintro
  exact ⟨by omega, by omega, h2, h3, fun k hk hk' => h4 k (by omega) hk'⟩

/-- and after one that does not. -/
theorem way_skip (p : ℕ) (hp : ¬ First c X N p) (h0 : p = 0 → ∀ q, ¬ First c X N q) : (Way c X N wg wu hX p : sProp 𝕄) ⊢ Way c X N wg wu hX (p + 1) := by
  unfold Way
  iintro (⟨H, %h⟩ | ⟨%q, H, %h⟩)
  · ileft
    isplitl [H]; · iexact H
    ipureintro
    refine .inr fun q hq hq' => ?_
    rcases h with h | h
    · exact h0 h q
    · exact h q (by omega) hq'
  · iright
    iexists q
    isplitl [H]; · iexact H
    ipureintro
    obtain ⟨h1, h2, h3, h4, h5⟩ := h
    refine ⟨by omega, ?_, h3, h4, fun k hk hk' => h5 k (by omega) hk'⟩
    rcases Nat.lt_or_ge p q with hl | hl
    · exact hl
    · exact absurd ((show q = p by omega) ▸ h4) hp

theorem way_first (p : ℕ) (hp : First c X N p) (hl : p < 322) :
    (Way c X N wg wu hX p : sProp 𝕄) ⊢ iprop((Idle c wg wu ∗ ⌜p = 0⌝) ∨ (Flying c wg wu (off c X p) (hX p) ∗ ⌜p ≠ 0⌝)) := by
  unfold Way
  iintro (⟨H, %h⟩ | ⟨%q, H, %h⟩)
  · ileft
    isplitl [H]; · iexact H
    ipureintro
    rcases h with h | h
    · exact h
    · exact absurd hp (h p (le_refl _) hl)
  · obtain ⟨h1, h2, h3, h4, h5⟩ := h
    obtain rfl : q = p := by
      rcases Nat.lt_or_ge p q with hl | hl
      · exact absurd hp (h5 p (le_refl _) hl)
      · omega
    iright
    isplitl [H]; · iexact H
    ipureintro; omega

/-- Nothing is under way at the end. -/
theorem way_end : (Way c X N wg wu hX 322 : sProp 𝕄) ⊢ Idle c wg wu := by
  unfold Way
  iintro (⟨H, -⟩ | ⟨%q, H, %h⟩)
  · iexact H
  · exact absurd h.2.1 (by have := h.2.2.1; omega)

variable (i : grid0.Coords) (arg4 : Memref sig .tc .vmem S512x2048 .f32) (harg4 : arg4.IsWhole) (arg5 : Memref sig .tc .vmem S1x1x1024 .f32) (harg5 : arg5.IsWhole) (arg6 : Memref sig .tc .vmem S1x1x1024 .f32) (harg6 : arg6.IsWhole) (arg9 : Memref sig .tc .vmem S512x1024 .bf16) (harg9 : arg9.IsWhole)
  (x : Vec F S512x2048 .f32) (bg bu : Vec F S1x1x1024 .f32)

/-- A point's place. -/
abbrev lin (i : grid0.Coords) : ℕ := (i 0).val * 161 + (i 1).val
theorem lin_mod (i : grid0.Coords) : lin i % 161 = (i 1).val := by have := pt_lt i; unfold lin; omega
theorem lin_div (i : grid0.Coords) : lin i / 161 % 2 = (i 0).val := by have := pt_lt i; have := slab_lt i; unfold lin; omega
theorem lin_lt (i : grid0.Coords) : lin i < 322 := by have := pt_lt i; have := slab_lt i; unfold lin; omega
theorem off_lin : k0_off5 i (here c i X) = off c X (lin i) := by rw [off5_eq, here_eq]; unfold off; rw [lin_mod, lin_div]

/-- Behind a point of one expert's, blocks of the same expert's or not in use need no other slabs. -/
theorem not_first (f a k : ℕ) (ha : a < k) (hk : k < 161) (h : ∀ j, a < j → j ≤ k → U (used c N) j → bel c X j = bel c X a) : ¬ First c X N (f * 161 + k) := by
  have hm : (f * 161 + k) % 161 = k := by omega
  unfold First; rw [hm]
  rintro ⟨hu, h0 | hne⟩
  · omega
  · refine hne ((h k ha (le_refl _) hu).trans ?_)
    rcases Nat.lt_or_ge a (k - 1) with hl | hl
    · exact (h (k - 1) hl (by omega) (U_mono hu (by omega))).symm
    · rw [show k - 1 = a by omega]

/-- A point needing slabs of its own: they are taken from the transfers, or fetched, and the next needed set under way. -/
theorem step_first (hF : First c X N (lin i)) (Q : PUnit → sProp 𝕄) :
    iprop(Inv c X N wg wu hX (lin i) ∗ owns (c : Thread nD τ) arg4 fullShare x ∗ owns (c : Thread nD τ) arg5 fullShare bg ∗ owns (c : Thread nD τ) arg6 fullShare bu ∗ (∃ d, owns (c : Thread nD τ) arg9 fullShare d) ∗ (∃ W, owes (c : Thread nD τ) 0 W)
        ∗ (iprop(Inv c X N wg wu hX (lin i + 1) ∗ owns (c : Thread nD τ) arg4 fullShare x ∗ owns (c : Thread nD τ) arg5 fullShare bg ∗ owns (c : Thread nD τ) arg6 fullShare bu ∗ owns (c : Thread nD τ) arg9 fullShare (outv c X N wg wu hX (lin i) x bg bu) ∗ (∃ W, owes (c : Thread nD τ) 0 W)) -∗ Q ⟨⟩))
      ⊢ wp frame (wpE (defs₀ (F := F)) Variants.none (c : Thread nD τ) none) Set.univ (body i arg4 harg4 arg5 harg5 arg6 harg6 arg9 harg9) Q := by
  have hF' := hF
  unfold First at hF'
  rw [lin_mod] at hF'
  obtain ⟨hU, he⟩ := hF'
  have h1 := (cond1_iff i (used c N)).mpr hU
  have h2 : k0_cond2 i (here c i X) (prev c i X) = 1#1 := (cond2_iff i _ _).mpr (by rw [here_eq, prev_eq]; exact he)
  have h6 : ¬ k0_cond6 i (used c N) = 1#1 := fun h => (cond6_iff i _).mp h hU
  have hh : Has (k0_off5 i (here c i X)) := by rw [off_lin]; exact hX _
  have hw0 : k0_pay3 (wread c hbG wg _ hh) = slab0 c X wg hX (lin i) := congrArg k0_pay3 (wread_congr c hbG wg _ _ (off_lin c X i))
  have hw1 : k0_pay5 (k0_pay4 (wread c hbU wu _ hh)) = slab1 c X wu hX (lin i) := congrArg (fun v => k0_pay5 (k0_pay4 v)) (wread_congr c hbU wu _ _ (off_lin c X i))
  have ho : outv c X N wg wu hX (lin i) x bg bu = outp x (slab0 c X wg hX (lin i)) (slab1 c X wu hX (lin i)) bg bu := by unfold outv; rw [if_pos (by rw [lin_mod]; exact hU)]
  rw [ho]
  have h3 : k0_cond3 i = 1#1 ↔ lin i = 0 := by rw [cond3_iff]; unfold lin; omega
  have tail : ∀ R : sProp 𝕄, (R ⊢ Way c X N wg wu hX (lin i + 1)) →
      (After c arg4 arg5 arg6 arg9 X N x bg bu (k0_pay3 (wread c hbG wg _ hh)) (k0_pay5 (k0_pay4 (wread c hbU wu _ hh))) R
        ⊢ iprop(iprop(tbPt c tbE X ∗ tbPt c tbN N ∗ Hand c X N wg wu hX (lin i + 1) ∗ Way c X N wg wu hX (lin i + 1)) ∗ owns (c : Thread nD τ) arg4 fullShare x ∗ owns (c : Thread nD τ) arg5 fullShare bg ∗ owns (c : Thread nD τ) arg6 fullShare bu
            ∗ owns (c : Thread nD τ) arg9 fullShare (outp x (slab0 c X wg hX (lin i)) (slab1 c X wu hX (lin i)) bg bu) ∗ (∃ W, owes (c : Thread nD τ) 0 W))) := fun R hR => by
    rw [hw0, hw1]
    unfold Hand After
    iintro ⟨HE, HN, H4, H5, H6, H9, ⟨%g, HG, %hg⟩, HR, HO⟩
    isplitl [HE HN HG HR]
    · isplitl [HE]; · iexact HE
      isplitl [HN]; · iexact HN
      isplitl [HG]
      · iexists g
        isplitl [HG]; · iexact HG
        ipureintro; exact fun _ _ => hg
      iapply hR; iexact HR
    isplitl [H4]; · iexact H4
    isplitl [H5]; · iexact H5
    isplitl [H6]; · iexact H6
    isplitl [H9]; · iexact H9
    iexact HO
  have enter : ∀ (g : MBuf (F := F) c scB) (R : sProp 𝕄), iprop(tbPt c tbE X ∗ tbPt c tbN N ∗ hbPt c scB g ∗ R ∗ owns (c : Thread nD τ) arg4 fullShare x ∗ owns (c : Thread nD τ) arg5 fullShare bg ∗ owns (c : Thread nD τ) arg6 fullShare bu ∗ (∃ d, owns (c : Thread nD τ) arg9 fullShare d) ∗ (∃ W, owes (c : Thread nD τ) 0 W))
      ⊢ Before c arg4 arg5 arg6 arg9 X N x bg bu R := fun g R => by
    unfold Before
    iintro ⟨HE, HN, HG, HR, H4, H5, H6, H9, HO⟩
    isplitl [HE]; · iexact HE
    isplitl [HN]; · iexact HN
    isplitl [H4]; · iexact H4
    isplitl [H5]; · iexact H5
    isplitl [H6]; · iexact H6
    isplitl [H9]; · iexact H9
    isplitl [HG]; · iexists _; iexact HG
    isplitl [HR]; · iexact HR
    iexact HO
  have way : (Flying c wg wu (off c X (lin i)) (hX (lin i)) : sProp 𝕄) = Flying c wg wu _ hh := Flying_congr c wg wu _ _ (off_lin c X i).symm
  unfold Inv Hand
  iintro ⟨⟨HE, HN, ⟨%g, HG, -⟩, HW⟩, H4, H5, H6, H9, HO, Hk⟩
  ihave HW' := way_first c X N wg wu hX (lin i) hF (lin_lt i) $$ HW
  rw [way]
  rcases found_spec c i X N with ⟨hf, hn⟩ | ⟨j, hj1, hj2, hj3, hj4, hf, hj5⟩
  · have h4 : ¬ k0_cond4 (used c N) (found c i X N) = 1#1 := by rw [cond4_iff, hf]; exact lt_irrefl _
    by_cases hf0 : (i 0).val = 0
    · have h5 : k0_cond5 i (used c N) (found c i X N) = 1#1 := (cond5_iff i _ _).mpr ⟨by rw [hf], hf0⟩
      have hoff : k0_off9 i (front c X) = off c X 161 := by rw [off9_eq, front_eq, hf0]
      have ht : Has (k0_off9 i (front c X)) := by rw [hoff]; exact hX _
      have hnext : First c X N 161 := ⟨U_mono hU (Nat.zero_le _), .inl rfl⟩
      have hbet : ∀ k, lin i < k → k < 161 → ¬ First c X N k := fun k hk hk' => by
        have := not_first c X N 0 (i 1).val k (by unfold lin at hk; omega) hk' (fun j hj hj' => hn j hj (by omega))
        rwa [Nat.zero_mul, Nat.zero_add] at this
      have hl : lin i < 161 := by have := pt_lt i; unfold lin; omega
      have hnw : (Flying c wg wu _ ht : sProp 𝕄) ⊢ Way c X N wg wu hX (lin i + 1) := by
        rw [Flying_congr c wg wu ht (hX 161) hoff]; exact after_some c X N wg wu hX _ 161 hl (by omega) hnext hbet
      icases HW' with (⟨HW, %h0⟩ | ⟨HW, %h0⟩)
      · iapply (run_start_over c i arg4 harg4 arg5 harg5 arg6 harg6 arg9 harg9 X N x bg bu wg wu h1 h2 (h3.mpr h0) h6 hh h5 h4 ht Q)
        isplitr [Hk]
        · iapply (enter _ _)
          isplitl [HE]; · iexact HE
          isplitl [HN]; · iexact HN
          isplitl [HG]; · iexact HG
          isplitl [HW]; · iexact HW
          isplitl [H4]; · iexact H4
          isplitl [H5]; · iexact H5
          isplitl [H6]; · iexact H6
          isplitl [H9]; · iexact H9
          iexact HO
        iintro H
        iapply Hk
        iapply (tail _ hnw)
        iexact H
      · iapply (run_next_over c i arg4 harg4 arg5 harg5 arg6 harg6 arg9 harg9 X N x bg bu wg wu h1 h2 (fun h => h0 (h3.mp h)) h6 hh h5 h4 ht Q)
        isplitr [Hk]
        · iapply (enter _ _)
          isplitl [HE]; · iexact HE
          isplitl [HN]; · iexact HN
          isplitl [HG]; · iexact HG
          isplitl [HW]; · iexact HW
          isplitl [H4]; · iexact H4
          isplitl [H5]; · iexact H5
          isplitl [H6]; · iexact H6
          isplitl [H9]; · iexact H9
          iexact HO
        iintro H
        iapply Hk
        iapply (tail _ hnw)
        iexact H
    · have h5 : ¬ k0_cond5 i (used c N) (found c i X N) = 1#1 := fun h => hf0 ((cond5_iff i _ _).mp h).2
      have hf1 : (i 0).val = 1 := by have := slab_lt i; omega
      have hbet : ∀ k, lin i < k → k < 322 → ¬ First c X N k := fun k hk hk' => by
        have := not_first c X N 1 (i 1).val (k - 161) (by unfold lin at hk; omega) (by omega) (fun j hj hj' => hn j hj (by omega))
        rwa [show 1 * 161 + (k - 161) = k by unfold lin at hk; omega] at this
      icases HW' with (⟨HW, %h0⟩ | ⟨HW, %h0⟩)
      · exact absurd h0 (by unfold lin; omega)
      · iapply (run_next_last c i arg4 harg4 arg5 harg5 arg6 harg6 arg9 harg9 X N x bg bu wg wu h1 h2 (fun h => h0 (h3.mp h)) h6 hh h5 h4 Q)
        isplitr [Hk]
        · iapply (enter _ _)
          isplitl [HE]; · iexact HE
          isplitl [HN]; · iexact HN
          isplitl [HG]; · iexact HG
          isplitl [HW]; · iexact HW
          isplitl [H4]; · iexact H4
          isplitl [H5]; · iexact H5
          isplitl [H6]; · iexact H6
          isplitl [H9]; · iexact H9
          iexact HO
        iintro H
        iapply Hk
        iapply (tail _ (after_none c X N wg wu hX _ hbet))
        iexact H
  · have h4 : k0_cond4 (used c N) (found c i X N) = 1#1 := by rw [cond4_iff, hf, toInt_small hj2]; exact hj3
    have h5 : ¬ k0_cond5 i (used c N) (found c i X N) = 1#1 := fun h => by
      have h' := ((cond5_iff i _ _).mp h).1
      have h'' := (cond4_iff _ _).mp h4
      omega
    have hoff7 : k0_off7 (found c i X N) = ![j] := by rw [hf]; exact off7_eq j hj2
    have h7 : ∀ a, (k0_off7 (found c i X N)) a + S1.size a ≤ S161.size a := by
      rw [hoff7]; intro a; fin_cases a; show j + 1 ≤ 161; omega
    have hte : there c i X N h7 = bel c X j := wordAt_eq c X _ _ _ hoff7
    have hq1 : ((i 0).val * 161 + j) % 161 = j := by omega
    have hoff : k0_off8 i (there c i X N h7) = off c X ((i 0).val * 161 + j) := by
      rw [off8_eq, hte]; unfold off; rw [hq1, show ((i 0).val * 161 + j) / 161 % 2 = (i 0).val by have := slab_lt i; omega]
    have ht : Has (k0_off8 i (there c i X N h7)) := by rw [hoff]; exact hX _
    have hnext : First c X N ((i 0).val * 161 + j) := by
      unfold First; rw [hq1]
      refine ⟨hj3, .inr ?_⟩
      rcases Nat.lt_or_ge (i 1).val (j - 1) with hl | hl
      · rw [hj5 (j - 1) hl (by omega)]; exact hj4
      · rw [show j - 1 = (i 1).val by omega]; exact hj4
    have hbet : ∀ k, lin i < k → k < (i 0).val * 161 + j → ¬ First c X N k := fun k hk hk' => by
      have := not_first c X N (i 0).val (i 1).val (k - (i 0).val * 161) (by unfold lin at hk; omega) (by omega) (fun j' hj hj' _ => hj5 j' hj (by omega))
      rwa [show (i 0).val * 161 + (k - (i 0).val * 161) = k by unfold lin at hk; omega] at this
    have hlt : (i 0).val * 161 + j < 322 := by have := slab_lt i; omega
    have hl : lin i < (i 0).val * 161 + j := by unfold lin; omega
    have hnw : (Flying c wg wu _ ht : sProp 𝕄) ⊢ Way c X N wg wu hX (lin i + 1) := by
      rw [Flying_congr c wg wu ht (hX _) hoff]; exact after_some c X N wg wu hX _ _ hl hlt hnext hbet
    icases HW' with (⟨HW, %h0⟩ | ⟨HW, %h0⟩)
    · iapply (run_start c i arg4 harg4 arg5 harg5 arg6 harg6 arg9 harg9 X N x bg bu wg wu h1 h2 (h3.mpr h0) h6 hh h5 h4 h7 ht Q)
      isplitr [Hk]
      · iapply (enter _ _)
        isplitl [HE]; · iexact HE
        isplitl [HN]; · iexact HN
        isplitl [HG]; · iexact HG
        isplitl [HW]; · iexact HW
        isplitl [H4]; · iexact H4
        isplitl [H5]; · iexact H5
        isplitl [H6]; · iexact H6
        isplitl [H9]; · iexact H9
        iexact HO
      iintro H
      iapply Hk
      iapply (tail _ hnw)
      iexact H
    · iapply (run_next c i arg4 harg4 arg5 harg5 arg6 harg6 arg9 harg9 X N x bg bu wg wu h1 h2 (fun h => h0 (h3.mp h)) h6 hh h5 h4 h7 ht Q)
      isplitr [Hk]
      · iapply (enter _ _)
        isplitl [HE]; · iexact HE
        isplitl [HN]; · iexact HN
        isplitl [HG]; · iexact HG
        isplitl [HW]; · iexact HW
        isplitl [H4]; · iexact H4
        isplitl [H5]; · iexact H5
        isplitl [H6]; · iexact H6
        isplitl [H9]; · iexact H9
        iexact HO
      iintro H
      iapply Hk
      iapply (tail _ hnw)
      iexact H

/-- The body's step, at any point. -/
theorem step (Q : PUnit → sProp 𝕄) :
    iprop(Inv c X N wg wu hX (lin i) ∗ owns (c : Thread nD τ) arg4 fullShare x ∗ owns (c : Thread nD τ) arg5 fullShare bg ∗ owns (c : Thread nD τ) arg6 fullShare bu ∗ (∃ d, owns (c : Thread nD τ) arg9 fullShare d) ∗ (∃ W, owes (c : Thread nD τ) 0 W)
        ∗ (iprop(Inv c X N wg wu hX (lin i + 1) ∗ owns (c : Thread nD τ) arg4 fullShare x ∗ owns (c : Thread nD τ) arg5 fullShare bg ∗ owns (c : Thread nD τ) arg6 fullShare bu ∗ owns (c : Thread nD τ) arg9 fullShare (outv c X N wg wu hX (lin i) x bg bu) ∗ (∃ W, owes (c : Thread nD τ) 0 W)) -∗ Q ⟨⟩))
      ⊢ wp frame (wpE (defs₀ (F := F)) Variants.none (c : Thread nD τ) none) Set.univ (body i arg4 harg4 arg5 harg5 arg6 harg6 arg9 harg9) Q := by
  by_cases hF : First c X N (lin i)
  · exact step_first c X N wg wu hX i arg4 harg4 arg5 harg5 arg6 harg6 arg9 harg9 x bg bu hF Q
  · have hz : lin i = 0 → ∀ q, ¬ First c X N q := fun h q hq => by
      refine hF ⟨?_, .inl ?_⟩
      · rw [h]; exact U_mono hq.1 (Nat.zero_le _)
      · rw [h]
    by_cases hU : U (used c N) (i 1).val
    · have hne : ¬ ((i 1).val = 0 ∨ bel c X (i 1).val ≠ bel c X ((i 1).val - 1)) := fun h => hF (by unfold First; rw [lin_mod]; exact ⟨hU, h⟩)
      obtain ⟨h0, he⟩ := not_or.mp hne
      have he := not_not.mp he
      have h1 := (cond1_iff i (used c N)).mpr hU
      have h2 : ¬ k0_cond2 i (here c i X) (prev c i X) = 1#1 := fun h => by
        rw [cond2_iff, here_eq, prev_eq] at h
        exact hne h
      have h6 : ¬ k0_cond6 i (used c N) = 1#1 := fun h => (cond6_iff i _).mp h hU
      have hoff : off c X (lin i - 1) = off c X (lin i) := by
        have hd := lin_div i
        have hm := lin_mod i
        unfold off
        rw [hm, hd, show (lin i - 1) % 161 = (i 1).val - 1 by have := pt_lt i; unfold lin; omega, show (lin i - 1) / 161 % 2 = (i 0).val by have := pt_lt i; have := slab_lt i; unfold lin; omega, he]
      have hat0 : slab0 c X wg hX (lin i - 1) = slab0 c X wg hX (lin i) := congrArg k0_pay3 (wread_congr c hbG wg _ _ hoff)
      have hat1 : slab1 c X wu hX (lin i - 1) = slab1 c X wu hX (lin i) := congrArg (fun v => k0_pay5 (k0_pay4 v)) (wread_congr c hbU wu _ _ hoff)
      have ho : outv c X N wg wu hX (lin i) x bg bu = outp x (slab0 c X wg hX (lin i)) (slab1 c X wu hX (lin i)) bg bu := by unfold outv; rw [if_pos (by rw [lin_mod]; exact hU)]
      rw [ho]
      unfold Inv Hand
      iintro ⟨⟨HE, HN, ⟨%g, HG, %hg⟩, HW⟩, H4, H5, H6, H9, ⟨%W, HO⟩, Hk⟩
      have hg' := hg (by rw [lin_mod]; exact h0) (by rw [lin_mod]; exact U_mono hU (by omega))
      rw [hat0, hat1] at hg'
      iapply (run_same c i arg4 harg4 arg5 harg5 arg6 harg6 arg9 harg9 X N x bg bu g h1 h2 h6 _ _ hg'.1 hg'.2 (Way c X N wg wu hX (lin i)) W Q)
      isplitl [HE]; · iexact HE
      isplitl [HN]; · iexact HN
      isplitl [H4]; · iexact H4
      isplitl [H5]; · iexact H5
      isplitl [H6]; · iexact H6
      isplitl [H9]; · iexact H9
      isplitl [HG]; · iexact HG
      isplitl [HW]; · iexact HW
      isplitl [HO]; · iexact HO
      unfold After
      iintro ⟨HE, HN, H4, H5, H6, H9, ⟨%g', HG, %hg'⟩, HW, HO⟩
      iapply Hk
      isplitl [HE HN HG HW]
      · isplitl [HE]; · iexact HE
        isplitl [HN]; · iexact HN
        isplitl [HG]
        · iexists g'
          isplitl [HG]; · iexact HG
          ipureintro; exact fun _ _ => hg'
        iapply (way_skip c X N wg wu hX (lin i) hF hz); iexact HW
      isplitl [H4]; · iexact H4
      isplitl [H5]; · iexact H5
      isplitl [H6]; · iexact H6
      isplitl [H9]; · iexact H9
      iexact HO
    · have h1 : ¬ k0_cond1 i (used c N) = 1#1 := fun h => hU ((cond1_iff i _).mp h)
      have h6 := (cond6_iff i (used c N)).mpr hU
      have ho : outv c X N wg wu hX (lin i) x bg bu = k0_pay2 := by unfold outv; rw [if_neg (by rw [lin_mod]; exact hU)]
      rw [ho]
      unfold Inv Hand
      iintro ⟨⟨HE, HN, ⟨%g, HG, -⟩, HW⟩, H4, H5, H6, H9, HO, Hk⟩
      iapply (run_unused c i arg4 harg4 arg5 harg5 arg6 harg6 arg9 harg9 N h1 h6 Q)
      isplitl [HN]; · iexact HN
      isplitl [H9]; · iexact H9
      iintro ⟨HN, H9⟩
      iapply Hk
      isplitl [HE HN HG HW]
      · isplitl [HE]; · iexact HE
        isplitl [HN]; · iexact HN
        isplitl [HG]
        · iexists g
          isplitl [HG]; · iexact HG
          ipureintro; intro hp hu
          refine absurd ?_ hU
          have hm := lin_mod i
          have hp' : (lin i + 1) % 161 - 1 = (i 1).val := by omega
          rwa [hp'] at hu
        iapply (way_skip c X N wg wu hX (lin i) hF hz); iexact HW
      isplitl [H4]; · iexact H4
      isplitl [H5]; · iexact H5
      isplitl [H6]; · iexact H6
      isplitl [H9]; · iexact H9
      iexact HO

end

end Cert.GateIdeal.Hand

end
-- ==== Proof.GateIdealFrame.lean ====
/-
  The gate and up products' launch: the pipeline's proof data over the body's step, the run, and the frame. Everything is stated
  at any floats, for block tables whose windows lie in their arrays (`Ok`) and name experts there are (`HX`).
-/
module

public import proofs.«01_k».proof.Proof.GateIdealStep
public import Idealize.ShloMosaic.Lib.Pipeline.FrameBody

@[expose] public section

set_option maxRecDepth 16384

noncomputable section

namespace Cert.GateIdeal.Hand

open Cert.GateIdeal Cert.GateIdeal.Gen
open Cert.DownIdeal.Hand (U)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Up to the region -/

/-- The buffers when the region is entered. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub fresh0 main_chain

/-- The host operations write the reshaped biases alone. -/
theorem V_of (c : Dev nD) (b : Ref sig .tc) (h : b ≠ main_v0) (h' : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h, StableHlo.devRef_ne_of_ne h'⟩))

/-- The tables. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every window's block is in its array; -/
abbrev Ok : Prop := ok0 (F := F) (tbl m)
/-- every block's expert has weights. -/
def HX : Prop := ∀ (c : Dev nD) (p : ℕ), Has (off (F := F) c (tbl m 0) p)

abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = iprop(tbPt c tbE (tbl m 0) ∗ tbPt c tbN (tbl m 1)) := by
  unfold Pipeline.ΦT Pipeline.prefHeld
  rw [show (Finset.univ : Finset (Fin 2)) = insert (0 : Fin 2) {(1 : Fin 2)} from by decide, bigSep_insert (by decide), bigSep_singleton]
  rfl

/-- The body's own cells, and the two operands it reads in place. -/
abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
def H0 : Finset (Ref sig .tc) := {main_arg3, main_arg5}
theorem H0_sub : H0 ⊆ Pipeline.restRefsP sig pre0 spec0 := by decide
theorem hbmPts0_eq (c : Dev nD) : (bigSep H0 (fun b => ((c : Thread nD τ).loc b) ↦{fullShare} V m c b) : sProp 𝕄) = iprop(hbPt c hbG (V m c main_arg3) ∗ hbPt c hbU (V m c main_arg5)) := by
  rw [BI.bigSep_eq_bigSepL_of_eq [main_arg3, main_arg5] (by decide) (by decide)]; rfl
theorem PhiD0_eq (c : Dev nD) :
    (Pipeline.ΦD osem0 spec0 H0 (V m) c : sProp 𝕄)
      = iprop(iprop((∃ f, hbPt c scL f) ∗ (∃ f, hbPt c scB f)) ∗ (∃ r, prngReg c r)
          ∗ (semVal ((c : Thread nD τ), SemLoc.dma 8) 0 ∗ semVal ((c : Thread nD τ), SemLoc.dma 9) 0) ∗ (hbPt c hbG (V m c main_arg3) ∗ hbPt c hbU (V m c main_arg5))) := by
  rw [Pipeline.ΦD_eq, scopedRest0_eq, ownSems00_eq, hbmPts0_eq]

/-! ## The windows' blocks and the proof data -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section Data

variable (hO : Ok m) (hX : HX m)

def dats (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outv c (tbl m 0) (tbl m 1) (V m c main_arg3) (V m c main_arg5) (hX c) (lin (grid0.coords t)) (iblk m hO c 0 t) (iblk m hO c 1 t) (iblk m hO c 2 t)
  Φ t := iprop((∃ r, prngReg c r) ∗ Inv c (tbl m 0) (tbl m 1) (V m c main_arg3) (V m c main_arg5) (hX c) t.val)
  q _ := fullShare
  owed _ := 0

theorem A_eq (c : Dev nD) (w : Fin (cfgM m hO).W) : (dats m hO hX 0 c).A w = V m c (Pipeline.arrRef spec0 w) := by
  dsimp only [dats]
theorem after_0 (c : Dev nD) (t : Fin (cfgM m hO).N) : (dats m hO hX 0 c).after 0 t = iblk m hO c 0 t := by dsimp only [dats]; try rfl
theorem after_1 (c : Dev nD) (t : Fin (cfgM m hO).N) : (dats m hO hX 0 c).after 1 t = iblk m hO c 1 t := by dsimp only [dats]; try rfl
theorem after_2 (c : Dev nD) (t : Fin (cfgM m hO).N) : (dats m hO hX 0 c).after 2 t = iblk m hO c 2 t := by dsimp only [dats]; try rfl
theorem after_3 (c : Dev nD) (t : Fin (cfgM m hO).N) : (dats m hO hX 0 c).after 3 t
    = outv c (tbl m 0) (tbl m 1) (V m c main_arg3) (V m c main_arg5) (hX c) (lin (grid0.coords t)) (iblk m hO c 0 t) (iblk m hO c 1 t) (iblk m hO c 2 t) := by dsimp only [dats]; try rfl
theorem Phi_eq (c : Dev nD) (t : Fin ((cfgM m hO).N + 1)) : (dats m hO hX 0 c).Φ t
    = iprop((∃ r, prngReg c r) ∗ Inv c (tbl m 0) (tbl m 1) (V m c main_arg3) (V m c main_arg5) (hX c) t.val) := by dsimp only [dats]
/-- An input's staging buffer holds its block. -/
theorem before_0 (c : Dev nD) (t : Fin (cfgM m hO).N) (d) : (dats m hO hX 0 c).before 0 t d = iblk m hO c 0 t :=
  ((dats m hO hX 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m hO).N) (d) : (dats m hO hX 0 c).before 1 t d = iblk m hO c 1 t :=
  ((dats m hO hX 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem before_2 (c : Dev nD) (t : Fin (cfgM m hO).N) (d) : (dats m hO hX 0 c).before 2 t d = iblk m hO c 2 t :=
  ((dats m hO hX 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

abbrev ms0 (t : Fin (cfgM m hO).N) : Memref sig .tc .vmem S512x2048 .f32 := spec0_0.stage ((cfgM m hO).slots t 0)
abbrev hs0 (t : Fin (cfgM m hO).N) : (ms0 m hO t).IsWhole := hstage0_0 (((cfgM m hO).slots t 0).cast nbuf0_0)
abbrev ms1 (t : Fin (cfgM m hO).N) : Memref sig .tc .vmem S1x1x1024 .f32 := spec0_1.stage ((cfgM m hO).slots t 1)
abbrev hs1 (t : Fin (cfgM m hO).N) : (ms1 m hO t).IsWhole := hstage0_1 (((cfgM m hO).slots t 1).cast nbuf0_1)
abbrev ms2 (t : Fin (cfgM m hO).N) : Memref sig .tc .vmem S1x1x1024 .f32 := spec0_2.stage ((cfgM m hO).slots t 2)
abbrev hs2 (t : Fin (cfgM m hO).N) : (ms2 m hO t).IsWhole := hstage0_2 (((cfgM m hO).slots t 2).cast nbuf0_2)
abbrev ms3 (t : Fin (cfgM m hO).N) : Memref sig .tc .vmem S512x1024 .bf16 := spec0_3.stage ((cfgM m hO).slots t 3)
abbrev hs3 (t : Fin (cfgM m hO).N) : (ms3 m hO t).IsWhole := hstage0_3 (((cfgM m hO).slots t 3).cast nbuf0_3)
abbrev bodyAt (t : Fin (cfgM m hO).N) : Prog (TpuEff nD τ sig (Elt F) Λ₀ .tc) PUnit :=
  body (grid0.coords t) (ms0 m hO t) (hs0 m hO t) (ms1 m hO t) (hs1 m hO t) (ms2 m hO t) (hs2 m hO t) (ms3 m hO t) (hs3 m hO t)

def bodyPre (c : Dev nD) (t : Fin (cfgM m hO).N) : sProp 𝕄 :=
  iprop((dats m hO hX 0 c).Φ t.castSucc ∗ (dats m hO hX 0 c).owesAt () t.castSucc
    ∗ (∃ d, owns (c : Thread nD τ) (ms0 m hO t) fullShare ((dats m hO hX 0 c).before 0 t d))
    ∗ (∃ d, owns (c : Thread nD τ) (ms1 m hO t) fullShare ((dats m hO hX 0 c).before 1 t d))
    ∗ (∃ d, owns (c : Thread nD τ) (ms2 m hO t) fullShare ((dats m hO hX 0 c).before 2 t d))
    ∗ (∃ d, owns (c : Thread nD τ) (ms3 m hO t) fullShare ((dats m hO hX 0 c).before 3 t d)))
def bodyPost (c : Dev nD) (t : Fin (cfgM m hO).N) : sProp 𝕄 :=
  iprop((dats m hO hX 0 c).Φ t.succ ∗ (dats m hO hX 0 c).owesAt () t.succ
    ∗ owns (c : Thread nD τ) (ms0 m hO t) fullShare ((dats m hO hX 0 c).after 0 t)
    ∗ owns (c : Thread nD τ) (ms1 m hO t) fullShare ((dats m hO hX 0 c).after 1 t)
    ∗ owns (c : Thread nD τ) (ms2 m hO t) fullShare ((dats m hO hX 0 c).after 2 t)
    ∗ owns (c : Thread nD τ) (ms3 m hO t) fullShare ((dats m hO hX 0 c).after 3 t))

theorem coords_val (t : Fin grid0.N) : lin (grid0.coords t) = t.val := by
  have := lt_of_lt_of_eq t.isLt N_0
  show t.val / 161 % 2 * 161 + t.val / 1 % 161 = _
  omega

theorem sound_body (c : Dev nD) (t : Fin (cfgM m hO).N) :
    bodyPre m hO hX c t ⊢ wp frame (wpE (defs₀ (F := F)) Variants.none c none) Set.univ (bodyAt m hO t) (fun _ => bodyPost m hO hX c t) := by
  unfold bodyPre bodyPost
  simp only [before_0, before_1, before_2]
  rw [after_0, after_1, after_2, after_3]
  have hl : lin (grid0.coords t) = t.val := coords_val t
  rw [Phi_eq, Phi_eq, Fin.val_succ, Fin.val_castSucc, ← hl]
  unfold Dat.owesAt Pipeline.owesWithin
  rw [show (dats m hO hX 0 c).owed t.castSucc = 0 from rfl, show (dats m hO hX 0 c).owed t.succ = 0 from rfl]
  iintro ⟨⟨Hg, HI⟩, ⟨%W, -, HW⟩, ⟨%d0, H0⟩, ⟨%d1, H1⟩, ⟨%d2, H2⟩, ⟨%d3, H3⟩⟩
  iapply (step c (tbl m 0) (tbl m 1) (V m c main_arg3) (V m c main_arg5) (hX c) (grid0.coords t) _ _ _ _ _ _ _ _ (iblk m hO c 0 t) (iblk m hO c 1 t) (iblk m hO c 2 t) _)
  isplitl [HI]; · iexact HI
  isplitl [H0]; · iexact H0
  isplitl [H1]; · iexact H1
  isplitl [H2]; · iexact H2
  isplitl [H3]; · iexists _; iexact H3
  isplitl [HW]; · iexists _; iexact HW
  iintro ⟨HI, H0, H1, H2, H3, ⟨%W', HW'⟩⟩
  isplitl [Hg HI]
  · isplitl [Hg]; · iexact Hg
    iexact HI
  isplitl [HW']
  · iexists W'; isplitr; · ipureintro; exact fun _ _ => Or.inl trivial
    iexact HW'
  isplitl [H0]; · iexact H0
  isplitl [H1]; · iexact H1
  isplitl [H2]; · iexact H2
  iexact H3

theorem row (t : Fin (cfgM m hO).N) :
    defs₀ (F := F) .tc (cfgM m hO).body ((cfgM m hO).bodyArgs t ((cfgM m hO).slots t)) = bodyAt m hO t := by
  unfold defs₀; rw [Defs.onTc_tc]

/-- The result's block is stored at every point, by one branch or the other. -/
theorem never_idle (pf : pre0.Contents (Elt F)) (i : grid0.Coords) : idle0 pf 3 i = false := by
  show (!(k0_cond1 i (pf.atD 1 ![0]) == 1#1) && !(k0_cond6 i (pf.atD 1 ![0]) == 1#1)) = false
  generalize pf.atD 1 ![0] = n
  by_cases h : U n (i 1).val
  · rw [show k0_cond1 i n = 1#1 from (cond1_iff _ _).mpr h]; rfl
  · rw [show k0_cond6 i n = 1#1 from (cond6_iff _ _).mpr h]; exact Bool.and_false _

theorem idle_3 (i : (cfgM m hO).grid.Coords) : (cfgM m hO).idle (3 : Fin 4) i = false := by
  rw [show (cfgM m hO).idle = idle0 (tbl m) from rfl]
  exact never_idle (tbl m) i

theorem body_obligation (c : Dev nD) : BodyObligation (dats (F := F) m hO hX 0 c) (defs₀ (F := F)) Variants.none () Set.univ := by
  intro t
  rw [bigSep_W0, bigSep_W0, row m hO]
  refine triple_restated (sound_body m hO hX c t) rfl .rfl fun _ => ?_
  unfold bodyPost
  cases h : (cfgM m hO).idle (3 : Fin 4) ((cfgM m hO).grid.coords t)
  · exact .rfl
  · rw [idle_3] at h
    exact absurd h Bool.false_ne_true

/-! ## The landing buffer's halves -/

/-- The halves' elements of the buffer. -/
abbrev half0 (c : Dev nD) : Finset (Idx (scL.view.loc (c : Thread nD τ))) := scL.view.setOn hr0.set
abbrev half1 (c : Dev nD) : Finset (Idx (scL.view.loc (c : Thread nD τ))) := scL.view.setOn hr1.set
theorem halves_disjoint (c : Dev nD) : Disjoint (half0 c) (half1 c) :=
  View.disjoint_setOn scL.view (LoadRect.disjoint_of_separated hr0.toLoadRect hr1.toLoadRect (0 : Fin 3) (.inl (.inr (by decide))))
theorem halves_univ : ∀ y : S2x2048x1024.Idx, y ∈ hr0.set ∨ y ∈ hr1.set := fun y => by
  have hy : (y (0 : Fin 3)).val < 2 := (y (0 : Fin 3)).isLt
  have h1 : (y (1 : Fin 3)).val < 2048 := (y (1 : Fin 3)).isLt
  have h2 : (y (2 : Fin 3)).val < 1024 := (y (2 : Fin 3)).isLt
  by_cases h : (y (0 : Fin 3)).val = 0
  · refine .inl (Rect.mem_set_unit.mpr fun a => ?_)
    match a with
    | ⟨0, _⟩ => exact ⟨Nat.zero_le _, show (y (0 : Fin 3)).val < 0 + 1 by omega⟩
    | ⟨1, _⟩ => exact ⟨Nat.zero_le _, show (y (1 : Fin 3)).val < 0 + 2048 by omega⟩
    | ⟨2, _⟩ => exact ⟨Nat.zero_le _, show (y (2 : Fin 3)).val < 0 + 1024 by omega⟩
  · refine .inr (Rect.mem_set_unit.mpr fun a => ?_)
    match a with
    | ⟨0, _⟩ => exact ⟨show 1 ≤ (y (0 : Fin 3)).val by omega, show (y (0 : Fin 3)).val < 1 + 1 by omega⟩
    | ⟨1, _⟩ => exact ⟨Nat.zero_le _, show (y (1 : Fin 3)).val < 0 + 2048 by omega⟩
    | ⟨2, _⟩ => exact ⟨Nat.zero_le _, show (y (2 : Fin 3)).val < 0 + 1024 by omega⟩
theorem halves_all (c : Dev nD) : half0 c ∪ half1 c = Finset.univ :=
  Finset.eq_univ_iff_forall.mpr fun y => Finset.mem_union.mpr
    ((halves_univ y).imp (View.mem_setOn (v := scL.view) (x := y)).mpr (View.mem_setOn (v := scL.view) (x := y)).mpr)

theorem split_halves (c : Dev nD) : (iprop(∃ f, hbPt (F := F) c scL f) : sProp 𝕄)
    ⊢ iprop((∃ l, scL.view.loc (c : Thread nD τ) ↦[half0 c]{fullShare} l) ∗ (∃ l, scL.view.loc (c : Thread nD τ) ↦[half1 c]{fullShare} l)) := by
  unfold hbPt
  rw [← halves_all c]
  iintro ⟨%f, H⟩
  ihave H' := (pointsTo_union (halves_disjoint c)).1 $$ H
  icases H' with ⟨HA, HB⟩
  isplitl [HA]; · iexists _; iexact HA
  iexists _; iexact HB
theorem join_halves (c : Dev nD) : (iprop((∃ l, scL.view.loc (c : Thread nD τ) ↦[half0 c]{fullShare} l) ∗ (∃ l, scL.view.loc (c : Thread nD τ) ↦[half1 c]{fullShare} l)) : sProp 𝕄)
    ⊢ iprop(∃ f, hbPt (F := F) c scL f) := by
  unfold hbPt
  rw [← halves_all c]
  iintro ⟨⟨%l, HA⟩, ⟨%l', HB⟩⟩
  iexists ((half1 c).piecewise l' l)
  iapply (pointsTo_join (halves_disjoint c))
  isplitl [HA]; · iexact HA
  iexact HB

theorem hin (c : Dev nD) : iprop(Pipeline.ΦD osem0 spec0 H0 (V m) c ∗ Pipeline.ΦT pre0 (tbl m) c) ⊢ (dats m hO hX 0 c).Φ 0 := by
  rw [PhiD0_eq, PhiT0_eq]
  show _ ⊢ iprop((∃ r, prngReg c r) ∗ Inv c (tbl m 0) (tbl m 1) (V m c main_arg3) (V m c main_arg5) (hX c) 0)
  unfold Inv Hand Way Idle
  iintro ⟨⟨⟨HL, ⟨%g, HB⟩⟩, Hg, ⟨HS, HT⟩, HW, HU⟩, HE, HN⟩
  isplitl [Hg]; · iexact Hg
  isplitl [HE]; · iexact HE
  isplitl [HN]; · iexact HN
  isplitl [HB]
  · iexists g
    isplitl [HB]; · iexact HB
    ipureintro; exact fun h => absurd rfl h
  ileft
  isplitl [HL HS HT HW HU]
  · ihave HL' := split_halves c $$ HL
    icases HL' with ⟨HL, HM⟩
    isplitl [HL]; · iexact HL
    isplitl [HM]; · iexact HM
    isplitl [HS]; · iexact HS
    isplitl [HT]; · iexact HT
    isplitl [HW]; · iexact HW
    iexact HU
  ipureintro; exact .inl rfl

theorem hout (c : Dev nD) : (dats m hO hX 0 c).Φ (Fin.last (cfgM m hO).N) ⊢ Pipeline.ΦD osem0 spec0 H0 (V m) c := by
  rw [PhiD0_eq]
  rw [show (dats m hO hX 0 c).Φ (Fin.last (cfgM m hO).N) = iprop((∃ r, prngReg c r) ∗ Inv c (tbl m 0) (tbl m 1) (V m c main_arg3) (V m c main_arg5) (hX c) 322) from rfl]
  unfold Inv Hand
  iintro ⟨Hg, -, -, ⟨%g, HB, -⟩, HW⟩
  ihave HI := way_end c (tbl m 0) (tbl m 1) (V m c main_arg3) (V m c main_arg5) (hX c) $$ HW
  unfold Idle
  icases HI with ⟨HL, HM, HS, HT, HW, HU⟩
  isplitl [HL HM HB]
  · isplitl [HL HM]
    · iapply (join_halves c)
      isplitl [HL]; · iexact HL
      iexact HM
    iexists g; iexact HB
  isplitl [Hg]; · iexact Hg
  isplitl [HS HT]
  · isplitl [HS]; · iexact HS
    iexact HT
  isplitl [HW]; · iexact HW
  iexact HU

/-! ## The run and the frame -/

set_option backward.isDefEq.respectTransparency.types false in
theorem run_main : θ_run defs (onTc (τ := τ) (main (F := F))) (s₀ m ρ)
    (fun r => (Pipeline.FramePost (Pipeline.pin pcfgs fun _ => adm m hO) (dats m hO hX) 0 (V m)) r ∧ r.2.sem = fun _ => 0) :=
  Pipeline.θ_run_frameP_dma (Q' := _) pcfgs (fun _ => adm m hO) (dats m hO hX) (0 : Fin 1) launch0 osem0 defs₀ Variants.none ownSemFacts0 H0 H0_sub m ρ main
    (hbody := fun c => (body_obligation m hO hX c).loose) (hshare := fun c => (dats m hO hX 0 c).share_full fun _ => rfl)
    (howed := fun _ _ => rfl) (V := V m) (hmain := hmain m Variants.none) (hA := A_eq m hO hX) (hpf := V_pre m)
    (hin := hin m hO hX) (hout := hout m hO hX)

/-- Where the run ends: the arguments as they were, every counter zero, and the result's blocks written. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ (r.2.sem = fun _ => 0) ∧ ∀ c : Dev nD, r.2.mem ((c.tc : Thread nD τ).loc main_v2) = (dats m hO hX 0 c).arrAt 3 (cfgM m hO).N) :=
  (θ_run defs _ _).mono (fun _ h => ⟨fun c => ⟨((h.1 c).2 main_arg0 (Pipeline.mem_restRefs_of (win := spec0) main_arg0 (by decide) (by decide))).trans (V_of m c main_arg0 (by decide) (by decide)),
      ((h.1 c).2 main_arg1 (Pipeline.mem_restRefs_of (win := spec0) main_arg1 (by decide) (by decide))).trans (V_of m c main_arg1 (by decide) (by decide)),
      ((h.1 c).1 0).trans (((dats m hO hX 0 c).arrAt_in 0 rfl _).trans ((A_eq m hO hX c 0).trans (V_of m c main_arg2 (by decide) (by decide)))),
      ((h.1 c).2 main_arg3 (Pipeline.mem_restRefs_of (win := spec0) main_arg3 (by decide) (by decide))).trans (V_of m c main_arg3 (by decide) (by decide)),
      ((h.1 c).2 main_arg4 (Pipeline.mem_restRefs_of (win := spec0) main_arg4 (by decide) (by decide))).trans (V_of m c main_arg4 (by decide) (by decide)),
      ((h.1 c).2 main_arg5 (Pipeline.mem_restRefs_of (win := spec0) main_arg5 (by decide) (by decide))).trans (V_of m c main_arg5 (by decide) (by decide)),
      ((h.1 c).2 main_arg6 (Pipeline.mem_restRefs_of (win := spec0) main_arg6 (by decide) (by decide))).trans (V_of m c main_arg6 (by decide) (by decide))⟩, h.2, fun c => (h.1 c).1 3⟩) (run_main m ρ hO hX)

end Data

end Cert.GateIdeal.Hand

end
-- ==== Proof.GateIdealPre.lean ====
/-
  What the precondition gives the gate and up products: every window's block lies in its array and every block's expert has
  its two slabs of weights.
-/
module

public import proofs.«01_k».proof.Proof.GateIdealFrame
public import proofs.«01_k».proof.Proof.DownIdealPre
public import proofs.«01_k».proof.Pre_in_range_gate

@[expose] public section

set_option maxRecDepth 16384

noncomputable section

namespace Cert.GateIdeal.Hand

open Cert.GateIdeal Cert.GateIdeal.Gen
open Cert.DownIdeal.Hand (Ranged toNat_lt min_at flag_and slt_iff sge_iff)
open Idealize.ShloMosaic Idealize.ShloMosaic.TcCoe

variable {F : FTy → Type} [FloatOps F]

theorem ranged_of [Cert.Pre_in_range_gate.Facts] (X : S161.Idx → BitVec 32) (N : S1.Idx → BitVec 32) (x2 : FVec F S82432x2048 .f32) (x3 : FVec F S32x2048x2048 .f32)
    (x4 : FVec F S32x2048 .f32) (x5 : FVec F S32x2048x2048 .f32) (x6 : FVec F S32x2048 .f32)
    (h : Cert.Pre_in_range_gate.fn (F := F) X N x2 x3 x4 x5 x6 = fun _ => 1#1) : Ranged X N := by
  have key : ∀ j : S161.Idx, ∃ k : S1.Idx, 0 ≤ (X j).toInt ∧ (X j).toInt < 32 ∧ 1 ≤ (N k).toInt := fun j => by
    have hj := congrFun h j
    change Scalar.andi (Scalar.andi (Scalar.cmpi .sge (X j) 0#32) (Scalar.cmpi .slt (X j) 32#32)) (Scalar.cmpi .sge (N _) 1#32) = 1#1 at hj
    rw [flag_and, flag_and, sge_iff, slt_iff, sge_iff] at hj
    exact ⟨_, hj.1.1, hj.1.2, hj.2⟩
  refine ⟨fun j => (key j).elim fun _ h => h.1, fun j => (key j).elim fun _ h => h.2.1, fun j => ?_⟩
  obtain ⟨k, -, -, hk⟩ := key fun a => ⟨0, by obtain rfl : a = 0 := Subsingleton.elim _ _; decide⟩
  rwa [show j = k from funext fun a => by obtain rfl : a = 0 := Subsingleton.elim _ _; exact Subsingleton.elim (α := Fin 1) _ _]

theorem has_of {e : BitVec 32} {f : ℕ} (h : e.toNat < 32) (hf : f < 2) : Has (wo f e) := fun a => by
  match a with
  | ⟨0, _⟩ => show e.toNat + 1 ≤ 32; omega
  | ⟨1, _⟩ => exact Nat.le_refl _
  | ⟨2, _⟩ => show f * 1024 + 1024 ≤ 2048; omega

/-- The word of block `j` of a table of experts. -/
theorem bel_lt (c : Dev nD) (X : MBuf (F := F) c tbE) (h : ∀ j : S161.Idx, 0 ≤ (X j : BitVec 32).toInt ∧ (X j : BitVec 32).toInt < 32) (j : ℕ) : (bel c X j).toNat < 32 := by
  unfold bel
  split
  · exact toNat_lt (h _).1 (h _).2
  · decide

/-- A bias row's half lies in the biases. -/
theorem half_in {e : BitVec 32} (h : e.toNat < 32) (i : grid0.Coords) :
    ∀ a, ((![e.toNat, 0, (BitVec.ofNat 32 (i 0).val).toNat] : Fin 3 → ℕ) a + 1) * S1x1x1024.size a ≤ S32x1x2048.size a := fun a => by
  have hs := slab_lt i
  have hf : (BitVec.ofNat 32 (i 0).val).toNat = (i 0).val := WordCmp.toNat_ofNat_of_lt (by omega)
  match a with
  | ⟨0, _⟩ => exact (Nat.mul_one _).le.trans (Nat.succ_le_of_lt h)
  | ⟨1, _⟩ => show (0 + 1) * 1 ≤ 1; omega
  | ⟨2, _⟩ => show ((BitVec.ofNat 32 (i 0).val).toNat + 1) * 1024 ≤ 2048; omega

theorem ok0_of (pf : pre0.Contents (Elt F)) (h : Ranged (pf 0) (pf 1)) : ok0 pf := by
  refine ⟨fun i => ?_, fun i => ?_, fun i => ?_⟩
  · have hb : cc0_transform_0 inb_S1_S1_0 numel1_S1 pf i = ![min (i 1).val ((pf.at 1 (Rect.unit (s := S1) ![0] S1.size inb_S1_S1_0) numel1_S1 : BitVec 32).toNat - 1), 0] := by
      unfold cc0_transform_0
      exact congrArg (fun z => ![z, 0]) (min_at _ (pt_lt i) _ (h.use _))
    rw [hb]
    refine ⟨fun a => ?_, .inl rfl⟩
    have := pt_lt i
    match a with
    | ⟨0, _⟩ => show (min (i 1).val _ + 1) * 512 ≤ 82432; omega
    | ⟨1, _⟩ => show (0 + 1) * 2048 ≤ 2048; omega
  · exact ⟨half_in (toNat_lt (n := 32) (h.lo _) (h.hi ((Rect.unit (s := S161) ![(Scalar.indexCast (BitVec.ofNat 32 (i 1).val)).toNat] S1.size (k0_off1_inb i)).emb (Shape.Idx.first (numel1_S1.symm ▸ Nat.one_pos))))) i, .inl rfl⟩
  · exact ⟨half_in (toNat_lt (n := 32) (h.lo _) (h.hi ((Rect.unit (s := S161) ![(Scalar.indexCast (BitVec.ofNat 32 (i 1).val)).toNat] S1.size (k0_off1_inb i)).emb (Shape.Idx.first (numel1_S1.symm ▸ Nat.one_pos))))) i, .inl rfl⟩

variable (m : (ℓ : Loc nD τ sig) → Buf (Elt F) ℓ)

theorem tbl_0 : tbl m 0 = m (((0 : Dev nD) : Thread nD τ).loc main_arg0) := V_of m 0 main_arg0 (by decide) (by decide)
theorem tbl_1 : tbl m 1 = m (((0 : Dev nD) : Thread nD τ).loc main_arg1) := V_of m 0 main_arg1 (by decide) (by decide)

theorem ranged [Cert.Pre_in_range_gate.Facts] (h : ∀ c : Dev nD, Cert.Pre_in_range_gate.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    Ranged (tbl m 0) (tbl m 1) := by
  rw [tbl_0, tbl_1]
  exact ranged_of _ _ _ _ _ _ _ (h 0)

theorem ok_of (h : Ranged (tbl m 0) (tbl m 1)) : Ok m := ok0_of _ h
theorem hx_of (h : Ranged (tbl m 0) (tbl m 1)) : HX m := fun c p =>
  has_of (bel_lt c _ (fun j => ⟨h.lo j, h.hi j⟩) _) (Nat.mod_lt _ (by omega))

end Cert.GateIdeal.Hand

end
-- ==== Proof.GateFrame.lean ====
/-
  The gate and up products at the machine's own floats: the two prints differ in their names alone, so the launch run at any
  floats is this one's.
-/
module

public import proofs.«01_k».proof.Defs
public import proofs.«01_k».proof.Proof.GateIdealPre
public import proofs.«01_k».proof.Proof.Gen.Gate.Launch

@[expose] public section

set_option maxRecDepth 16384

noncomputable section

namespace Cert.Proof.Gate

open Cert.GateIdeal.Hand
open Cert.DownIdeal.Hand (Ranged)
open Idealize.ShloMosaic Idealize.ShloMosaic.TcCoe Idealize.SL.Sem

variable [Cert.Pre_in_range_gate.Facts]

/-- What the run leaves, beside the result. -/
theorem kept {F : FTy → Type} [FloatOps F] (m : (ℓ : Loc Cert.GateIdeal.nD Cert.GateIdeal.τ Cert.GateIdeal.sig) → Buf (Elt F) ℓ) (g : Dev Cert.GateIdeal.nD → PrngReg)
    (h : Ranged (tbl m 0) (tbl m 1)) :
    θ_run (Cert.GateIdeal.defs (F := F)) (onTc (τ := Cert.GateIdeal.τ) (Cert.GateIdeal.main (F := F))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0) :=
  (θ_run (Cert.GateIdeal.defs (F := F)) _ _).mono (fun _ h => ⟨h.1, h.2.1⟩) (ends m g (ok_of _ h) (hx_of _ h))

theorem frame_ideal : Cert.quiescent_GateIdeal (hGateIdeal := Cert.GateIdeal.Gen.facts) := fun m g h => kept m g (ranged _ h)

/-- The two prints' bodies are one, label by label; their pipelines and programs are, as they stand. -/
theorem body_eq : Cert.Gate.defs₀ (F := Bits) = Cert.GateIdeal.defs₀ (F := Bits) := by
  unfold Cert.Gate.defs₀ Cert.GateIdeal.defs₀
  refine congrArg Defs.onTc (funext fun l => funext fun a => ?_)
  match l, a with
  | 0, (t, s) => rfl
  | ⟨_ + 1, h⟩, _ => exact absurd h (Nat.not_lt.2 (Nat.le_add_left _ _))
theorem defs_eq : Cert.Gate.defs (F := Bits) = Cert.GateIdeal.defs (F := Bits) := by
  unfold Cert.Gate.defs Cert.GateIdeal.defs
  exact congrArg (Pipeline.defs (Cert.GateIdeal.pcfgs (F := Bits))) body_eq

theorem frame_bits : Cert.quiescent_Gate (hGate := Cert.Gate.Gen.facts) := fun m g h => by
  rw [defs_eq]
  exact kept (F := Bits) m g (ranged _ h)

end Cert.Proof.Gate

end
-- ==== Proof.GateRef.lean ====
/-
  The gate and up products' reference at an index: a block in use is the limited gate's activation of its rows, and a block
  past the ones in use is zeros.
-/
module

public import proofs.«01_k».proof.Proof.Down
public import proofs.«01_k».proof.Proof.Gen.GateRefIdeal.Run
public import proofs.«01_k».proof.Proof.Gen.GateRefIdeal.Read

@[expose] public section

set_option maxRecDepth 16384

noncomputable section

namespace Cert.Proof.Gate

open Cert.GateRefIdeal
open Cert.DownIdeal.Hand (Ranged U slt_iff toInt_small)
open Cert.Proof.Down (gather_weights gather_bias expert clamp_eq wrap_eq rowOf)
open Idealize.ShloMosaic Idealize.ShloMosaic.TcCoe Idealize.SL.Sem Idealize.ShloMosaic.StableHlo
open Cert.GateRefIdeal.Read

/-- The gate, limited from above; -/
def limited (g : EReal) : EReal := min g (Ideal.ofBits .f32 0x40E00000#32)
/-- the other factor, limited from both sides; -/
def clipped (u : EReal) : EReal := min (Ideal.ofBits .f32 0x40E00000#32) (max (Ideal.ofBits .f32 0xC0E00000#32) u)
/-- and the activation of the two. -/
def glu (g u : EReal) : EReal :=
  (clipped u + 1) * (limited g * Ideal.div 1 (1 + Ideal.exp (-(Ideal.ofBits .f32 0x3FD9DB23#32 * limited g))))

variable {x0 : S161.Idx → BitVec 32} {x1 : S1.Idx → BitVec 32} (x2 : FVec Ideal S82432x2048 .f32) (w v : FVec Ideal S32x2048x2048 .f32)
  (b d : FVec Ideal S32x2048 .f32)

/-- The index a block's gathers start at is its expert's. -/
theorem start_eq (h : Ranged x0 x1) (t : Fin 161) : val_main_v6 (F := Ideal) x0 (ix2 t (0 : Fin 1)) = x0 (ix1 t) := by
  rw [val_main_v6_apply, val_main_v5_apply, val_main_v2_apply, val_main_v1_apply]
  exact (wrap_eq _ (h.lo _) _).trans (congrArg x0 (funext fun a => Fin.ext (by obtain rfl : a = 0 := Subsingleton.elim _ _; rfl)))

theorem ref_weights (h : Ranged x0 x1) (t : Fin 161) (k j : Fin 2048) : val_main_v7 (F := Ideal) x0 w (ix3 t k j) = w (ix3 (expert h t) k j) := by
  refine (gather_weights w (val_main_v6 (F := Ideal) x0) t k j).trans ?_
  refine congrArg (fun e => w (ix3 e k j)) (Fin.ext ?_)
  show min _ 31 = _
  rw [← clamp_eq h t, start_eq h t]

theorem ref_bias (h : Ranged x0 x1) (t : Fin 161) (j : Fin 2048) : val_main_v15 (F := Ideal) x0 b (ix2 t j) = b (ix2 (expert h t) j) := by
  refine (gather_bias b (val_main_v14 (F := Ideal) x0) t j).trans ?_
  refine congrArg (fun e => b (ix2 e j)) (Fin.ext ?_)
  show min _ 31 = _
  rw [← clamp_eq h t, ← start_eq h t]
  rfl

theorem ref_rows (t : Fin 161) (r : Fin 512) (k : Fin 2048) : val_main_v0 (F := Ideal) x2 (ix3 t r k) = x2 (ix2 (rowOf t r) k) := by
  rw [val_main_v0_apply]
  refine congrArg x2 (funext fun a => Fin.ext ?_)
  match a with
  | ⟨0, _⟩ => show ((t.val * 512 + r.val) * 2048 + k.val) / 2048 = t.val * 512 + r.val; omega
  | ⟨1, _⟩ => show ((t.val * 512 + r.val) * 2048 + k.val) % 2048 = k.val; omega

/-- A row of block `t` times its expert's weights, plus the bias: -/
theorem ref_lin (h : Ranged x0 x1) (t : Fin 161) (r : Fin 512) (j : Fin 2048) : val_main_v18 (F := Ideal) x0 x2 w b (ix3 t r j)
    = (∑ k : Fin 2048, x2 (ix2 (rowOf t r) k) * w (ix3 (expert h t) k j)) + b (ix2 (expert h t) j) := by
  have h8 : val_main_v8 (F := Ideal) x0 x2 w (ix3 t r j) = ∑ k : Fin 2048, x2 (ix2 (rowOf t r) k) * w (ix3 (expert h t) k j) := by
    rw [val_main_v8_apply]
    refine Finset.sum_congr rfl fun k _ => ?_
    rw [← ref_rows x2 t r k, ← ref_weights w h t k j]
    refine congrArg₂ (fun p q => val_main_v0 (F := Ideal) x2 p * val_main_v7 (F := Ideal) x0 w q) (funext fun a => ?_) (funext fun a => ?_)
    · match a with
      | ⟨0, _⟩ => rfl
      | ⟨1, _⟩ => rfl
      | ⟨2, _⟩ => rfl
    · match a with
      | ⟨0, _⟩ => rfl
      | ⟨1, _⟩ => rfl
      | ⟨2, _⟩ => rfl
  have h17 : val_main_v17 (F := Ideal) x0 b (ix3 t r j) = b (ix2 (expert h t) j) := by
    rw [val_main_v17_apply, val_main_v16_apply, ← ref_bias b h t j]
    refine congrArg (val_main_v15 (F := Ideal) x0 b) (funext fun a => ?_)
    match a with
    | ⟨0, _⟩ => rfl
    | ⟨1, _⟩ => rfl
  rw [val_main_v18_apply, h8, h17]
  rfl

/-- the up product is the same of its own weights. -/
theorem ref_up : val_main_v36 (F := Ideal) x0 x2 v d = val_main_v18 (F := Ideal) x0 x2 v d := rfl

theorem ref_act (i : S161x512x2048.Idx) : val_main_v51 (F := Ideal) x0 x2 w b v d i
    = glu (val_main_v18 (F := Ideal) x0 x2 w b i) (val_main_v18 (F := Ideal) x0 x2 v d i) := by
  rw [val_main_v51_apply, val_main_v50_apply, val_main_v49_apply, val_main_v48_apply, val_main_v47_apply, val_main_v46_apply, val_main_v45_apply,
    val_main_v44_apply, val_main_v43_apply, val_main_v42_apply, val_main_v41_apply, val_main_v40_apply, val_main_v39_apply, val_main_v38_apply,
    val_main_v37_apply, val_main_call0_v4_apply, val_main_call0_v3_apply, val_main_call0_v2_apply, val_main_call0_v1_apply, val_main_call0_v0_apply, ref_up,
    val_main_cst_apply, val_main_cst_7_apply, val_main_cst_8_apply, val_main_cst_9_apply, val_main_cst_10_apply, val_main_cst_11_apply, val_main_cst_12_apply]
  generalize val_main_v18 (F := Ideal) x0 x2 w b i = g
  generalize val_main_v18 (F := Ideal) x0 x2 v d i = u
  have h1 : (FloatOps.ofBits .f32 0x3F800000#32 : Ideal .f32) = (1 : EReal) := Ideal.ofBits_one_f32
  rw [h1]
  rfl

open scoped Classical in
/-- The reference at an element of block `t`. -/
theorem ref_eq (h : Ranged x0 x1) (t : Fin 161) (r : Fin 512) (j : Fin 2048) :
    val_main_v59 (F := Ideal) x0 x1 x2 w b v d (ix2 (rowOf t r) j)
      = if U (x1 (ix1 (0 : Fin 1))) t.val then
          glu ((∑ k : Fin 2048, x2 (ix2 (rowOf t r) k) * w (ix3 (expert h t) k j)) + b (ix2 (expert h t) j))
            ((∑ k : Fin 2048, x2 (ix2 (rowOf t r) k) * v (ix3 (expert h t) k j)) + d (ix2 (expert h t) j))
        else 0 := by
  have hi : idx_main_v58 (ix2 (rowOf t r) j) = ix3 t r j := by
    refine funext fun a => Fin.ext ?_
    match a with
    | ⟨0, _⟩ => show ((t.val * 512 + r.val) * 2048 + j.val) / 1048576 = t.val; omega
    | ⟨1, _⟩ => show ((t.val * 512 + r.val) * 2048 + j.val) / 2048 % 512 = r.val; omega
    | ⟨2, _⟩ => show ((t.val * 512 + r.val) * 2048 + j.val) % 2048 = j.val; omega
  have hu : val_main_call1_v1 (F := Ideal) x1 (ix3 t r j) = 1#1 ↔ U (x1 (ix1 (0 : Fin 1))) t.val := by
    rw [val_main_call1_v1_apply, val_main_v56_apply, val_main_v55_apply, val_main_v52_apply, val_main_v54_apply]
    have hone : val_main_v53 (F := Ideal) x1 (idx_main_v54 (idx_main_v56 (idx_main_call1_v1 (ix3 t r j)))) = x1 (ix1 (0 : Fin 1)) := by
      unfold val_main_v53 shapeCast
      exact congrArg x1 (funext fun a => by obtain rfl : a = 0 := Subsingleton.elim _ _; exact Subsingleton.elim (α := Fin 1) _ _)
    rw [hone]
    refine (slt_iff _ _).trans ?_
    rw [toInt_small (show (idx_main_v56 (idx_main_call1_v1 (ix3 t r j)) 0).val < 161 from t.isLt)]
    exact Iff.rfl
  refine (val_main_v58_apply (F := Ideal) x0 x1 x2 w b v d (ix2 (rowOf t r) j)).trans ?_
  rw [hi, val_main_v57_apply, ref_act, ref_lin x2 w b h, ref_lin x2 v d h]
  unfold Scalar.select
  refine if_congr hu rfl ?_
  rw [val_main_call1_v2_apply]
  exact Ideal.ofBits_zero .f32

end Cert.Proof.Gate

end
-- ==== Proof.Gate.lean ====
/-
  The gate and up products: a block in use is, in each half of the columns, its rows of activations times its expert's slabs,
  plus that expert's biases, limited and multiplied, and a block past the ones in use is zeros; the blocks' halves lie one
  beside another.
-/
module

public import proofs.«01_k».proof.Proof.GateFrame
public import proofs.«01_k».proof.Proof.GateRef
public import Idealize.ShloMosaic.Lib.StableHlo.RunRead
public import Idealize.ShloMosaic.Lib.Pipeline.ValueKit
public import Idealize.ShloMosaic.Lib.Pointwise

@[expose] public section

set_option maxRecDepth 16384

noncomputable section

namespace Cert.Proof.Gate

open Cert.GateIdeal Cert.GateIdeal.Gen Cert.GateIdeal.Hand
open Cert.DownIdeal.Hand (Ranged U min_at)
open Cert.Proof.Down (expert rowOf one_eq ix1_of)
open Idealize.ShloMosaic Idealize.ShloMosaic.TcCoe Idealize.SL.Sem Idealize.ShloMosaic.StableHlo
open Cert.GateRefIdeal.Read (val_main_v59 val_main_v59_eq)

/-! ## The launch at an index -/

/-- The gate's product of an element of a block in use, -/
theorem gate_eq (x : Vec Ideal S512x2048 .f32) (w : Vec Ideal S1x2048x1024 .f32) (b : Vec Ideal S1x1x1024 .f32) (r : Fin 512) (j : Fin 1024) :
    k0_pay7 (F := Ideal) x (k0_pay3 w) b (ix2 r j) = limited ((∑ k : Fin 2048, x (ix2 r k) * w (ix3 (0 : Fin 1) k j)) + b (ix3 (0 : Fin 1) (0 : Fin 1) j)) := by
  pointwise [k0_pay7, k0_pay6, k0_pay3, limited]

/-- the other one's, -/
theorem up_eq (x : Vec Ideal S512x2048 .f32) (w : Vec Ideal S1x2048x1024 .f32) (b : Vec Ideal S1x1x1024 .f32) (r : Fin 512) (j : Fin 1024) :
    k0_pay8 (F := Ideal) x (k0_pay5 (k0_pay4 w)) b (ix2 r j) = clipped ((∑ k : Fin 2048, x (ix2 r k) * w (ix3 (0 : Fin 1) k j)) + b (ix3 (0 : Fin 1) (0 : Fin 1) j)) := by
  pointwise [k0_pay8, k0_pay6, k0_pay5, k0_pay4, clipped]

theorem act_eq (g u : Vec Ideal S512x1024 .f32) (i : S512x1024.Idx) :
    k0_pay1 (F := Ideal) g u k0_pay9 i = (u i + 1) * (g i * Ideal.div 1 (1 + Ideal.exp (-(Ideal.ofBits .f32 0x3FD9DB23#32 * g i)))) := by
  pointwise [k0_pay1, k0_pay9]
  simp only [zero_sub]

/-- and the activation of the two; -/
theorem used_eq (x : Vec Ideal S512x2048 .f32) (w0 w1 : Vec Ideal S1x2048x1024 .f32) (bg bu : Vec Ideal S1x1x1024 .f32) (r : Fin 512) (j : Fin 1024) :
    outp (F := Ideal) x (k0_pay3 w0) (k0_pay5 (k0_pay4 w1)) bg bu (ix2 r j)
      = glu ((∑ k : Fin 2048, x (ix2 r k) * w0 (ix3 (0 : Fin 1) k j)) + bg (ix3 (0 : Fin 1) (0 : Fin 1) j))
          ((∑ k : Fin 2048, x (ix2 r k) * w1 (ix3 (0 : Fin 1) k j)) + bu (ix3 (0 : Fin 1) (0 : Fin 1) j)) := by
  unfold outp glu
  rw [act_eq, gate_eq, up_eq]

/-- an element of a block that is not. -/
theorem unused_eq (i : S512x1024.Idx) : k0_pay2 (F := Ideal) i = 0 := by
  unfold k0_pay2
  exact Ideal.ofBits_zero .bf16

theorem at_rc (y : S512x1024.Idx) : ∃ (r : Fin 512) (j : Fin 1024), y = ix2 r j := ⟨y 0, y 1, eq_ix2 y⟩
theorem row_of_reshaped (y : FVec Ideal S32x2048 .f32) (e : Fin 32) (j : Fin 2048) :
    shapeCast S32x1x2048 y shapeCasts_S32x2048_S32x1x2048 (ix3 e (0 : Fin 1) j) = y (ix2 e j) := by
  refine shapeCast_apply y shapeCasts_S32x2048_S32x1x2048 _ _ ?_
  rw [Shape.rowMajor_val_three, Shape.rowMajor_val_two]
  show e.val * 2048 + j.val = (e.val * 1 + 0) * 2048 + j.val
  omega

/-- Column `j` of half `f`. -/
abbrev colOf (f : Fin 2) (j : Fin 1024) : Fin 2048 := ⟨f.val * 1024 + j.val, by omega⟩

/-! ## The grid's points -/

theorem coord_0 (t : Fin grid0.N) : (grid0.coords t 0).val = t.val / 161 := by
  have := lt_of_lt_of_eq t.isLt N_0
  show t.val / 161 % 2 = _
  omega
theorem coord_1 (t : Fin grid0.N) : (grid0.coords t 1).val = t.val % 161 := by
  show t.val / 1 % 161 = _
  omega
theorem out_at (i : grid0.Coords) : cc0_transform_5 i = ![(i 1).val, (i 0).val] := by
  unfold cc0_transform_5
  dsimp only
  rw [WordCmp.toNat_ofNat_of_lt (by have := pt_lt i; omega), WordCmp.toNat_ofNat_of_lt (by have := slab_lt i; omega)]

section Kernel

variable (m : (ℓ : Loc nD τ sig) → Buf (Elt Ideal) ℓ) (c : Dev nD) (hO : Ok m) (hX : HX m)

theorem V_gate : V m c main_v0 = shapeCast S32x1x2048 (m ((c : Thread nD τ).loc main_arg4)) shapeCasts_S32x2048_S32x1x2048 := by
  unfold V
  after_reads_simp
  rfl
theorem V_up : V m c main_v1 = shapeCast S32x1x2048 (m ((c : Thread nD τ).loc main_arg6)) shapeCasts_S32x2048_S32x1x2048 := by
  unfold V
  after_reads_simp
  rfl

/-- The result's blocks lie one below another, a half of the columns after the other, -/
theorem out_index (t : Fin (cfgM m hO).N) : ((cfgM m hO).win 3).index t = ![t.val % 161, t.val / 161] := by
  have h := out_at (grid0.coords t)
  rw [coord_0, coord_1] at h
  exact h

/-- and fill it. -/
theorem covers : ((cfgM m hO).win 3).Covers := by
  refine ⟨fun a => ?_, fun β => ?_⟩
  · match a with
    | ⟨0, _⟩ => show 0 < 512; omega
    | ⟨1, _⟩ => show 0 < 1024; omega
  have h0 : (β (0 : Fin 2)).val < 161 := lt_of_lt_of_eq (β (0 : Fin 2)).isLt (show (82432 + 512 - 1) / 512 = 161 from rfl)
  have h1 : (β (1 : Fin 2)).val < 2 := lt_of_lt_of_eq (β (1 : Fin 2)).isLt (show (2048 + 1024 - 1) / 1024 = 2 from rfl)
  have hN : (β (1 : Fin 2)).val * 161 + (β (0 : Fin 2)).val < (cfgM m hO).grid.N := lt_of_lt_of_eq (by omega) N_0.symm
  refine ⟨⟨(β (1 : Fin 2)).val * 161 + (β (0 : Fin 2)).val, hN⟩, ?_, fun a => ⟨?_, .inl ?_⟩⟩
  · unfold Pipeline.Window.flush
    rw [Bool.and_eq_true, Bool.or_eq_true, decide_eq_true_iff, decide_eq_true_iff]
    refine ⟨rfl, ?_⟩
    by_cases h : (β (1 : Fin 2)).val * 161 + (β (0 : Fin 2)).val + 1 < (cfgM m hO).grid.N
    · refine .inr ⟨h, fun he => ?_⟩
      rw [out_index, out_index] at he
      have := congrFun he (0 : Fin 2)
      change ((β (1 : Fin 2)).val * 161 + (β (0 : Fin 2)).val + 1) % 161 = ((β (1 : Fin 2)).val * 161 + (β (0 : Fin 2)).val) % 161 at this
      omega
    · exact .inl (by show (β (1 : Fin 2)).val * 161 + (β (0 : Fin 2)).val + 1 = _; omega)
  · rw [out_index]
    match a with
    | ⟨0, _⟩ => show ((β (1 : Fin 2)).val * 161 + (β (0 : Fin 2)).val) % 161 = (β (0 : Fin 2)).val; omega
    | ⟨1, _⟩ => show ((β (1 : Fin 2)).val * 161 + (β (0 : Fin 2)).val) / 161 = (β (1 : Fin 2)).val; omega
  · match a with
    | ⟨0, _⟩ => rfl
    | ⟨1, _⟩ => rfl

/-! What the tables' words say. -/

abbrev tabE : S161.Idx → BitVec 32 := tbl m 0
abbrev tabN : S1.Idx → BitVec 32 := tbl m 1

theorem used_at : used c (tbl m 1) = (tabN m) (ix1 (0 : Fin 1)) :=
  congrArg (tabN m) (one_eq _ _)

theorem bel_at (u : Fin 161) : bel c (tbl m 0) u.val = (tabE m) (ix1 u) := by
  have h : ∀ a, (![u.val] : Fin 1 → ℕ) a + S1.size a ≤ S161.size a := fun a => by
    obtain rfl : a = 0 := Subsingleton.elim _ _
    exact Nat.succ_le_of_lt u.isLt
  unfold bel
  rw [dif_pos h]
  exact congrArg (tabE m) (ix1_of _ _ (Nat.add_zero _))

/-- The slab `f` of expert `e`'s weights, -/
theorem gate_read (w : MBuf (F := Ideal) c hbG) (e : BitVec 32) (f : Fin 2) (h : Has (wo f.val e)) (he : e.toNat < 32) (k : Fin 2048) (j : Fin 1024) :
    wread c hbG w (wo f.val e) h (ix3 (0 : Fin 1) k j) = (w : S32x2048x2048.Idx → EReal) (ix3 (⟨e.toNat, he⟩ : Fin 32) k (colOf f j)) := by
  refine congrArg (w : S32x2048x2048.Idx → EReal) (funext fun a => Fin.ext ?_)
  match a with
  | ⟨0, _⟩ => show e.toNat + 1 * 0 = e.toNat; omega
  | ⟨1, _⟩ => show 0 + 1 * k.val = k.val; omega
  | ⟨2, _⟩ => show f.val * 1024 + 1 * j.val = f.val * 1024 + j.val; omega

/-- either product's. -/
theorem up_read (w : MBuf (F := Ideal) c hbU) (e : BitVec 32) (f : Fin 2) (h : Has (wo f.val e)) (he : e.toNat < 32) (k : Fin 2048) (j : Fin 1024) :
    wread c hbU w (wo f.val e) h (ix3 (0 : Fin 1) k j) = (w : S32x2048x2048.Idx → EReal) (ix3 (⟨e.toNat, he⟩ : Fin 32) k (colOf f j)) :=
  gate_read c w e f h he k j

theorem rows_at (hR : Ranged (tabE m) (tabN m)) (i : grid0.Coords) (h : U ((tabN m) (ix1 (0 : Fin 1))) (i 1).val) :
    cc0_transform_0 inb_S1_S1_0 numel1_S1 (tbl m) i = ![(i 1).val, 0] := by
  unfold cc0_transform_0
  refine congrArg (fun z => ![z, 0]) ((min_at _ (pt_lt i) _ (hR.use _)).trans ?_)
  have hu := hR.use (ix1 (0 : Fin 1))
  have hc := BitVec.toInt_eq_toNat_cond ((tabN m) (ix1 (0 : Fin 1)))
  have hb := ((tabN m) (ix1 (0 : Fin 1))).isLt
  unfold U at h
  have hx : ∀ q : S1.Idx, (i 1).val ≤ (tabN m q).toNat - 1 := fun q => by
    rw [one_eq q (ix1 (0 : Fin 1))]
    split at hc <;> omega
  exact Nat.min_eq_left (hx _)

/-- The activations of a block in use are its own rows, -/
theorem act_at (hR : Ranged (tabE m) (tabN m)) (t : Fin (cfgM m hO).N) (u : Fin 161) (hu : u.val = t.val % 161) (h : U ((tabN m) (ix1 (0 : Fin 1))) u.val) (r : Fin 512) (k : Fin 2048) :
    iblk m hO c 0 t (ix2 r k) = m ((c : Thread nD τ).loc main_arg2) (ix2 (rowOf u r) k) := by
  have hi : ((cfgM m hO).win 0).index t = ![u.val, 0] := by
    have hc := coord_1 t
    have h' := rows_at m hR (grid0.coords t) (by rw [hc, ← hu]; exact h)
    rw [hc, ← hu] at h'
    exact h'
  have hv : iblk m hO c 0 t (ix2 r k) = V m c main_arg2 (ix2 (rowOf u r) k) := by
    blk_ext [iblk, hi]
  rw [hv, V_of m c main_arg2 (by decide) (by decide)]

theorem word_at (i : grid0.Coords) (u : Fin 161) (hu : u.val = (i 1).val) :
    cc0_transform_1 k0_off1_inb numel1_S1 (tbl m) i = ![(tabE m (ix1 u)).toNat, 0, (i 0).val] := by
  unfold cc0_transform_1
  dsimp only
  rw [WordCmp.toNat_ofNat_of_lt (show (i 0).val < 2 ^ 32 by have := slab_lt i; omega)]
  refine congrArg (fun z : BitVec 32 => ![z.toNat, 0, (i 0).val]) (congrArg (tabE m) (ix1_of _ u ?_))
  show (BitVec.ofNat 32 (i 1).val).toNat + 1 * 0 = u.val
  rw [WordCmp.toNat_ofNat_of_lt (by have := pt_lt i; omega)]
  omega

/-- and the biases are its expert's. -/
theorem gate_bias_at (hR : Ranged (tabE m) (tabN m)) (t : Fin (cfgM m hO).N) (u : Fin 161) (hu : u.val = t.val % 161) (f : Fin 2) (hf : f.val = t.val / 161) (j : Fin 1024) :
    iblk m hO c 1 t (ix3 (0 : Fin 1) (0 : Fin 1) j) = m ((c : Thread nD τ).loc main_arg4) (ix2 (expert hR u) (colOf f j)) := by
  have hi : ((cfgM m hO).win 1).index t = ![(expert hR u).val, 0, f.val] := by
    have h := word_at m (grid0.coords t) u (by rw [coord_1]; exact hu)
    rw [coord_0, ← hf] at h
    exact h
  have hv : iblk m hO c 1 t (ix3 (0 : Fin 1) (0 : Fin 1) j) = V m c main_v0 (ix3 (expert hR u) (0 : Fin 1) (colOf f j)) := by
    blk_ext [iblk, hi]
  rw [hv, V_gate]
  exact row_of_reshaped _ _ _
theorem up_bias_at (hR : Ranged (tabE m) (tabN m)) (t : Fin (cfgM m hO).N) (u : Fin 161) (hu : u.val = t.val % 161) (f : Fin 2) (hf : f.val = t.val / 161) (j : Fin 1024) :
    iblk m hO c 2 t (ix3 (0 : Fin 1) (0 : Fin 1) j) = m ((c : Thread nD τ).loc main_arg6) (ix2 (expert hR u) (colOf f j)) := by
  have hi : ((cfgM m hO).win 2).index t = ![(expert hR u).val, 0, f.val] := by
    have h := word_at m (grid0.coords t) u (by rw [coord_1]; exact hu)
    rw [coord_0, ← hf] at h
    exact h
  have hv : iblk m hO c 2 t (ix3 (0 : Fin 1) (0 : Fin 1) j) = V m c main_v1 (ix3 (expert hR u) (0 : Fin 1) (colOf f j)) := by
    blk_ext [iblk, hi]
  rw [hv, V_up]
  exact row_of_reshaped _ _ _

/-- A row of a block in use times a column of its slab. -/
theorem slabs_at (hR : Ranged (tabE m) (tabN m)) (p : ℕ) (u : Fin 161) (hu : u.val = p % 161) (f : Fin 2) (hf : f.val = p / 161 % 2)
    (wg : MBuf (F := Ideal) c hbG) (wu : MBuf (F := Ideal) c hbU) (k : Fin 2048) (j : Fin 1024) (h : Has (off (F := Ideal) c (tbl m 0) p)) :
    wread c hbG wg (off c (tbl m 0) p) h (ix3 (0 : Fin 1) k j) = (wg : S32x2048x2048.Idx → EReal) (ix3 (expert hR u) k (colOf f j))
      ∧ wread c hbU wu (off c (tbl m 0) p) h (ix3 (0 : Fin 1) k j) = (wu : S32x2048x2048.Idx → EReal) (ix3 (expert hR u) k (colOf f j)) := by
  have he : bel c (tbl m 0) (p % 161) = tabE m (ix1 u) := hu ▸ bel_at m c u
  have hl : (bel c (tbl m 0) (p % 161)).toNat < 32 := by rw [he]; exact (expert hR u).isLt
  have hn : (bel c (tbl m 0) (p % 161)).toNat = (tabE m (ix1 u)).toNat := congrArg BitVec.toNat he
  have hv : (⟨(bel c (tbl m 0) (p % 161)).toNat, hl⟩ : Fin 32) = expert hR u := Fin.ext hn
  have ho : off (F := Ideal) c (tbl m 0) p = wo f.val (bel c (tbl m 0) (p % 161)) := by rw [hf]
  have h' : Has (wo f.val (bel c (tbl m 0) (p % 161))) := ho ▸ h
  rw [← hv]
  exact ⟨(congrFun (wread_congr c hbG wg h h' ho) _).trans (gate_read c wg _ f h' hl k j),
    (congrFun (wread_congr c hbU wu h h' ho) _).trans (up_read c wu _ f h' hl k j)⟩

/-- The array holds the reference's. -/
theorem value (hR : Ranged (tabE m) (tabN m)) : (dats (F := Ideal) m hO hX 0 c).arrAt 3 (cfgM m hO).N
    = val_main_v59 (F := Ideal) (tbl m 0) (tbl m 1) (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats (F := Ideal) m hO hX 0 c).arrAt_eq_of_covers 3 _ (covers m hO) fun t hf y => ?_
  blk_simp
  rw [after_3]
  obtain ⟨r, j, rfl⟩ := at_rc y
  have ht := lt_of_lt_of_eq t.isLt N_0
  obtain ⟨u, hu⟩ : ∃ u : Fin 161, u.val = t.val % 161 := ⟨⟨t.val % 161, Nat.mod_lt _ (by omega)⟩, rfl⟩
  obtain ⟨f, hf⟩ : ∃ f : Fin 2, f.val = t.val / 161 := ⟨⟨t.val / 161, by omega⟩, rfl⟩
  have e3 : ((cfgM m hO).win 3).index t = ![u.val, f.val] := by rw [out_index, hu, hf]
  have hy : (((cfgM m hO).win 3).blk t).view.emb (ix2 r j) = (ix2 (rowOf u r) (colOf f j) : S82432x2048.Idx) := by
    blk_ext [e3]
  have hl : lin (grid0.coords t) = t.val := coords_val t
  rw [hy, hl, ref_eq _ _ _ _ _ hR u r (colOf f j)]
  unfold outv
  rw [used_at, ← hu]
  by_cases hU : U ((tabN m) (ix1 (0 : Fin 1))) u.val
  · rw [if_pos hU, if_pos hU]
    unfold slab0 slab1
    refine (used_eq _ _ _ _ _ r j).trans ?_
    have hs := fun k => slabs_at m c hR t.val u hu f (by omega) (V m c main_arg3) (V m c main_arg5) k j (hX c t.val)
    refine congrArg₂ glu (congrArg₂ (· + ·) (Finset.sum_congr rfl fun k _ => ?_) (gate_bias_at m c hO hR t u hu f hf j))
      (congrArg₂ (· + ·) (Finset.sum_congr rfl fun k _ => ?_) (up_bias_at m c hO hR t u hu f hf j))
    · rw [act_at m c hO hR t u hu hU r k, (hs k).1, V_of m c main_arg3 (by decide) (by decide)]
    · rw [act_at m c hO hR t u hu hU r k, (hs k).2, V_of m c main_arg5 (by decide) (by decide)]
  · rw [if_neg hU, if_neg hU]
    exact unused_eq _

end Kernel

variable [Cert.Pre_in_range_gate.Facts]

theorem frame_ref : Cert.quiescent_GateRefIdeal (hGateRefIdeal := Cert.GateRefIdeal.Gen.facts) := fun m g _ =>
  (θ_run (Cert.GateRefIdeal.defs (F := Ideal)) _ _).mono
    (fun r h => ⟨fun c => (h c).2, Idealize.ShloMosaic.sem_eq_zero_of_no_sems (by decide) r.2⟩)
    (Cert.GateRefIdeal.Value.run (F := Ideal) m g)

theorem algebraic : Cert.algebraic_GateIdeal_GateRefIdeal (hGateIdeal := Cert.GateIdeal.Gen.facts)
    (hGateRefIdeal := Cert.GateRefIdeal.Gen.facts) := by
  intro m g m' g' hp hargs
  have hR := ranged m hp
  refine ⟨fun c => val_main_v59 (F := Ideal) (m (c.tc.loc main_arg0)) (m (c.tc.loc main_arg1)) (m (c.tc.loc main_arg2)) (m (c.tc.loc main_arg3)) (m (c.tc.loc main_arg4))
      (m (c.tc.loc main_arg5)) (m (c.tc.loc main_arg6)),
    (θ_run (Cert.GateIdeal.defs (F := Ideal)) _ _).mono (fun r h c => ⟨(h.2.2 c).trans ?_, h.1 c⟩)
      (ends (F := Ideal) m g (ok_of _ hR) (hx_of _ hR)),
    (θ_run (Cert.GateRefIdeal.defs (F := Ideal)) _ _).mono (fun r h c => ⟨(h c).1.trans ?_, (h c).2⟩)
      (Cert.GateRefIdeal.Value.run (F := Ideal) m' g')⟩
  · obtain rfl : c = 0 := Subsingleton.elim _ _
    refine (value m 0 (ok_of _ hR) (hx_of _ hR) hR).trans ?_
    rw [tbl_0, tbl_1]
  · obtain ⟨a0, a1, a2, a3, a4, a5, a6⟩ := hargs c
    rw [val_main_v59_eq, a0, a1, a2, a3, a4, a5, a6]

end Cert.Proof.Gate

end
-- ==== Proof.lean ====
module

public import proofs.«01_k».proof.Defs
public import proofs.«01_k».proof.Proof.Gen.S5Step
public import proofs.«01_k».proof.Proof.Gen.S5Step.Skeleton
public import proofs.«01_k».proof.Proof.Gen.S5Step.Launch
public import proofs.«01_k».proof.Proof.Gen.S5Step.Points
public import proofs.«01_k».proof.Proof.Gen.S5Step.Frame
public import proofs.«01_k».proof.Proof.Gen.S5StepIdeal
public import proofs.«01_k».proof.Proof.Gen.S5StepIdeal.Skeleton
public import proofs.«01_k».proof.Proof.Gen.S5StepIdeal.Launch
public import proofs.«01_k».proof.Proof.Gen.S5StepIdeal.Points
public import proofs.«01_k».proof.Proof.Gen.S5StepIdeal.Frame
public import proofs.«01_k».proof.Proof.Gen.S5StepIdeal.Value
public import proofs.«01_k».proof.Proof.Gen.S5StepRefIdeal
public import proofs.«01_k».proof.Proof.Gen.S5StepRefIdeal.Run
public import proofs.«01_k».proof.Proof.Gen.S5StepRefIdeal.Read
public import proofs.«01_k».proof.Proof.Gen.KProj
public import proofs.«01_k».proof.Proof.Gen.KProj.Skeleton
public import proofs.«01_k».proof.Proof.Gen.KProj.Launch
public import proofs.«01_k».proof.Proof.Gen.KProj.Points
public import proofs.«01_k».proof.Proof.Gen.KProj.Frame
public import proofs.«01_k».proof.Proof.Gen.KProjIdeal
public import proofs.«01_k».proof.Proof.Gen.KProjIdeal.Skeleton
public import proofs.«01_k».proof.Proof.Gen.KProjIdeal.Launch
public import proofs.«01_k».proof.Proof.Gen.KProjIdeal.Points
public import proofs.«01_k».proof.Proof.Gen.KProjIdeal.Frame
public import proofs.«01_k».proof.Proof.Gen.KProjIdeal.Value
public import proofs.«01_k».proof.Proof.Gen.KProjRefIdeal
public import proofs.«01_k».proof.Proof.Gen.KProjRefIdeal.Run
public import proofs.«01_k».proof.Proof.Gen.KProjRefIdeal.Read
public import proofs.«01_k».proof.Proof.Gen.VProj
public import proofs.«01_k».proof.Proof.Gen.VProj.Skeleton
public import proofs.«01_k».proof.Proof.Gen.VProj.Launch
public import proofs.«01_k».proof.Proof.Gen.VProj.Points
public import proofs.«01_k».proof.Proof.Gen.VProj.Frame
public import proofs.«01_k».proof.Proof.Gen.VProjIdeal
public import proofs.«01_k».proof.Proof.Gen.VProjIdeal.Skeleton
public import proofs.«01_k».proof.Proof.Gen.VProjIdeal.Launch
public import proofs.«01_k».proof.Proof.Gen.VProjIdeal.Points
public import proofs.«01_k».proof.Proof.Gen.VProjIdeal.Frame
public import proofs.«01_k».proof.Proof.Gen.VProjIdeal.Value
public import proofs.«01_k».proof.Proof.Gen.VProjRefIdeal
public import proofs.«01_k».proof.Proof.Gen.VProjRefIdeal.Run
public import proofs.«01_k».proof.Proof.Gen.VProjRefIdeal.Read
public import proofs.«01_k».proof.Proof.Gen.KNew
public import proofs.«01_k».proof.Proof.Gen.KNew.Skeleton
public import proofs.«01_k».proof.Proof.Gen.KNew.Launch
public import proofs.«01_k».proof.Proof.Gen.KNew.Points
public import proofs.«01_k».proof.Proof.Gen.KNew.Frame
public import proofs.«01_k».proof.Proof.Gen.KNewIdeal
public import proofs.«01_k».proof.Proof.Gen.KNewIdeal.Skeleton
public import proofs.«01_k».proof.Proof.Gen.KNewIdeal.Launch
public import proofs.«01_k».proof.Proof.Gen.KNewIdeal.Points
public import proofs.«01_k».proof.Proof.Gen.KNewIdeal.Frame
public import proofs.«01_k».proof.Proof.Gen.KNewIdeal.Value
public import proofs.«01_k».proof.Proof.Gen.KNewRefIdeal
public import proofs.«01_k».proof.Proof.Gen.KNewRefIdeal.Run
public import proofs.«01_k».proof.Proof.Gen.KNewRefIdeal.Read
public import proofs.«01_k».proof.Proof.Gen.VNew
public import proofs.«01_k».proof.Proof.Gen.VNew.Skeleton
public import proofs.«01_k».proof.Proof.Gen.VNew.Launch
public import proofs.«01_k».proof.Proof.Gen.VNew.Points
public import proofs.«01_k».proof.Proof.Gen.VNew.Frame
public import proofs.«01_k».proof.Proof.Gen.VNewIdeal
public import proofs.«01_k».proof.Proof.Gen.VNewIdeal.Skeleton
public import proofs.«01_k».proof.Proof.Gen.VNewIdeal.Launch
public import proofs.«01_k».proof.Proof.Gen.VNewIdeal.Points
public import proofs.«01_k».proof.Proof.Gen.VNewIdeal.Frame
public import proofs.«01_k».proof.Proof.Gen.VNewIdeal.Value
public import proofs.«01_k».proof.Proof.Gen.VNewRefIdeal
public import proofs.«01_k».proof.Proof.Gen.VNewRefIdeal.Run
public import proofs.«01_k».proof.Proof.Gen.VNewRefIdeal.Read
public import proofs.«01_k».proof.Proof.Gen.UProj
public import proofs.«01_k».proof.Proof.Gen.UProj.Skeleton
public import proofs.«01_k».proof.Proof.Gen.UProj.Launch
public import proofs.«01_k».proof.Proof.Gen.UProj.Points
public import proofs.«01_k».proof.Proof.Gen.UProj.Frame
public import proofs.«01_k».proof.Proof.Gen.UProjIdeal
public import proofs.«01_k».proof.Proof.Gen.UProjIdeal.Skeleton
public import proofs.«01_k».proof.Proof.Gen.UProjIdeal.Launch
public import proofs.«01_k».proof.Proof.Gen.UProjIdeal.Points
public import proofs.«01_k».proof.Proof.Gen.UProjIdeal.Frame
public import proofs.«01_k».proof.Proof.Gen.UProjIdeal.Value
public import proofs.«01_k».proof.Proof.Gen.UProjRefIdeal
public import proofs.«01_k».proof.Proof.Gen.UProjRefIdeal.Run
public import proofs.«01_k».proof.Proof.Gen.UProjRefIdeal.Read
public import proofs.«01_k».proof.Proof.Gen.GaProj
public import proofs.«01_k».proof.Proof.Gen.GaProj.Skeleton
public import proofs.«01_k».proof.Proof.Gen.GaProj.Launch
public import proofs.«01_k».proof.Proof.Gen.GaProj.Points
public import proofs.«01_k».proof.Proof.Gen.GaProj.Frame
public import proofs.«01_k».proof.Proof.Gen.GaProjIdeal
public import proofs.«01_k».proof.Proof.Gen.GaProjIdeal.Skeleton
public import proofs.«01_k».proof.Proof.Gen.GaProjIdeal.Launch
public import proofs.«01_k».proof.Proof.Gen.GaProjIdeal.Points
public import proofs.«01_k».proof.Proof.Gen.GaProjIdeal.Frame
public import proofs.«01_k».proof.Proof.Gen.GaProjIdeal.Value
public import proofs.«01_k».proof.Proof.Gen.GaProjRefIdeal
public import proofs.«01_k».proof.Proof.Gen.GaProjRefIdeal.Run
public import proofs.«01_k».proof.Proof.Gen.GaProjRefIdeal.Read
public import proofs.«01_k».proof.Proof.Gen.GbProj
public import proofs.«01_k».proof.Proof.Gen.GbProj.Skeleton
public import proofs.«01_k».proof.Proof.Gen.GbProj.Launch
public import proofs.«01_k».proof.Proof.Gen.GbProj.Points
public import proofs.«01_k».proof.Proof.Gen.GbProj.Frame
public import proofs.«01_k».proof.Proof.Gen.GbProjIdeal
public import proofs.«01_k».proof.Proof.Gen.GbProjIdeal.Skeleton
public import proofs.«01_k».proof.Proof.Gen.GbProjIdeal.Launch
public import proofs.«01_k».proof.Proof.Gen.GbProjIdeal.Points
public import proofs.«01_k».proof.Proof.Gen.GbProjIdeal.Frame
public import proofs.«01_k».proof.Proof.Gen.GbProjIdeal.Value
public import proofs.«01_k».proof.Proof.Gen.GbProjRefIdeal
public import proofs.«01_k».proof.Proof.Gen.GbProjRefIdeal.Run
public import proofs.«01_k».proof.Proof.Gen.GbProjRefIdeal.Read
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.QProjRefIdeal
public import proofs.«01_k».proof.Proof.Gen.QProjRefIdeal.Run
public import proofs.«01_k».proof.Proof.Gen.QProjRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Down
public import proofs.«01_k».proof.Proof.Gen.DownIdeal
public import proofs.«01_k».proof.Proof.Gen.DownRefIdeal
public import proofs.«01_k».proof.Proof.Gen.DownRefIdeal.Run
public import proofs.«01_k».proof.Proof.Gen.DownRefIdeal.Read
public import proofs.«01_k».proof.Proof.Gen.Gate
public import proofs.«01_k».proof.Proof.Gen.GateIdeal
public import proofs.«01_k».proof.Proof.Gen.GateRefIdeal
public import proofs.«01_k».proof.Proof.Gen.GateRefIdeal.Run
public import proofs.«01_k».proof.Proof.Gen.GateRefIdeal.Read
public import proofs.«01_k».proof.Proof.StepClaims
public import proofs.«01_k».proof.Proof.KProj
public import proofs.«01_k».proof.Proof.VProj
public import proofs.«01_k».proof.Proof.KNew
public import proofs.«01_k».proof.Proof.VNew
public import proofs.«01_k».proof.Proof.UProj
public import proofs.«01_k».proof.Proof.GaProj
public import proofs.«01_k».proof.Proof.GbProj
public import proofs.«01_k».proof.Proof.QProj
public import proofs.«01_k».proof.Proof.Mix
public import proofs.«01_k».proof.Proof.Down
public import proofs.«01_k».proof.Proof.Gate
public import Idealize.ShloMosaic.Adequacy
public import Idealize.ShloMosaic.Init

@[expose] public section

noncomputable section

namespace Cert.Proof

theorem in_range_facts : Cert.Pre_in_range.Facts where
  bcast_S_S161 := by decide
  bcast_S_S1 := by decide
  bcast_S1_S161_0 := by decide

theorem in_range_gate_facts : Cert.Pre_in_range_gate.Facts where
  bcast_S_S161 := by decide
  bcast_S_S1 := by decide
  bcast_S1_S161_0 := by decide

theorem claim : Cert.Claim :=
  have := in_range_facts
  have := in_range_gate_facts
  ⟨
  Cert.S5Step.Gen.facts, Cert.S5StepIdeal.Gen.facts, Cert.S5StepRefIdeal.Gen.facts,
  Cert.KProj.Gen.facts, Cert.KProjIdeal.Gen.facts, Cert.KProjRefIdeal.Gen.facts,
  Cert.VProj.Gen.facts, Cert.VProjIdeal.Gen.facts, Cert.VProjRefIdeal.Gen.facts,
  Cert.KNew.Gen.facts, Cert.KNewIdeal.Gen.facts, Cert.KNewRefIdeal.Gen.facts,
  Cert.VNew.Gen.facts, Cert.VNewIdeal.Gen.facts, Cert.VNewRefIdeal.Gen.facts,
  Cert.UProj.Gen.facts, Cert.UProjIdeal.Gen.facts, Cert.UProjRefIdeal.Gen.facts,
  Cert.GaProj.Gen.facts, Cert.GaProjIdeal.Gen.facts, Cert.GaProjRefIdeal.Gen.facts,
  Cert.GbProj.Gen.facts, Cert.GbProjIdeal.Gen.facts, Cert.GbProjRefIdeal.Gen.facts,
  Cert.QProj.Gen.facts, Cert.QProjIdeal.Gen.facts, Cert.QProjRefIdeal.Gen.facts,
  Cert.Mix.Gen.facts, Cert.MixIdeal.Gen.facts, Cert.MixRefIdeal.Gen.facts,
  Cert.Down.Gen.facts, Cert.DownIdeal.Gen.facts, Cert.DownRefIdeal.Gen.facts,
  Cert.Gate.Gen.facts, Cert.GateIdeal.Gen.facts, Cert.GateRefIdeal.Gen.facts,
  in_range_facts, in_range_gate_facts,
  fun m g _ => Cert.S5Step.Gen.frame m g, fun m g _ => Cert.S5StepIdeal.Gen.frame m g, Step.frame_ref,
  fun m g _ => Cert.KProj.Gen.frame m g, fun m g _ => Cert.KProjIdeal.Gen.frame m g, KProj.frame_ref,
  fun m g _ => Cert.VProj.Gen.frame m g, fun m g _ => Cert.VProjIdeal.Gen.frame m g, VProj.frame_ref,
  fun m g _ => Cert.KNew.Gen.frame m g, fun m g _ => Cert.KNewIdeal.Gen.frame m g, KNew.frame_ref,
  fun m g _ => Cert.VNew.Gen.frame m g, fun m g _ => Cert.VNewIdeal.Gen.frame m g, VNew.frame_ref,
  fun m g _ => Cert.UProj.Gen.frame m g, fun m g _ => Cert.UProjIdeal.Gen.frame m g, UProj.frame_ref,
  fun m g _ => Cert.GaProj.Gen.frame m g, fun m g _ => Cert.GaProjIdeal.Gen.frame m g, GaProj.frame_ref,
  fun m g _ => Cert.GbProj.Gen.frame m g, fun m g _ => Cert.GbProjIdeal.Gen.frame m g, GbProj.frame_ref,
  fun m g _ => Cert.QProj.Gen.frame m g, fun m g _ => Cert.QProjIdeal.Gen.frame m g, QProj.frame_ref,
  fun m g _ => Cert.Mix.Gen.frame m g, fun m g _ => Cert.MixIdeal.Gen.frame m g, Mix.frame_ref,
  Down.frame_bits, Down.frame_ideal, Down.frame_ref,
  Gate.frame_bits, Gate.frame_ideal, Gate.frame_ref,
  trivial, Step.algebraic,
  trivial, KProj.algebraic,
  trivial, VProj.algebraic,
  trivial, KNew.algebraic,
  trivial, VNew.algebraic,
  trivial, UProj.algebraic,
  trivial, GaProj.algebraic,
  trivial, GbProj.algebraic,
  trivial, QProj.algebraic,
  trivial, Mix.algebraic,
  trivial, Down.algebraic,
  trivial, Gate.algebraic⟩

end Cert.Proof

end
